-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_RetFwd (m : (ℓ : Loc Cert.RetFwd.nD Cert.RetFwd.τ Cert.RetFwd.sig) → Buf (Elt Bits) ℓ) : Prop :=
  True

def Pre_RetFwdIdeal (m : (ℓ : Loc Cert.RetFwdIdeal.nD Cert.RetFwdIdeal.τ Cert.RetFwdIdeal.sig) → Buf (Elt Ideal) ℓ) : Prop :=
  True

def Pre_RetFwdRefIdeal (m : (ℓ : Loc Cert.RetFwdRefIdeal.nD Cert.RetFwdRefIdeal.τ Cert.RetFwdRefIdeal.sig) → Buf (Elt Ideal) ℓ) : Prop :=
  True

def Pre_RetBwd (m : (ℓ : Loc Cert.RetBwd.nD Cert.RetBwd.τ Cert.RetBwd.sig) → Buf (Elt Bits) ℓ) : Prop :=
  True

def Pre_RetBwdIdeal (m : (ℓ : Loc Cert.RetBwdIdeal.nD Cert.RetBwdIdeal.τ Cert.RetBwdIdeal.sig) → Buf (Elt Ideal) ℓ) : Prop :=
  True

def Pre_RetBwdRefIdeal (m : (ℓ : Loc Cert.RetBwdRefIdeal.nD Cert.RetBwdRefIdeal.τ Cert.RetBwdRefIdeal.sig) → Buf (Elt Ideal) ℓ) : Prop :=
  True

def Pre_S5Out (m : (ℓ : Loc Cert.S5Out.nD Cert.S5Out.τ Cert.S5Out.sig) → Buf (Elt Bits) ℓ) : Prop :=
  True

def Pre_S5OutIdeal (m : (ℓ : Loc Cert.S5OutIdeal.nD Cert.S5OutIdeal.τ Cert.S5OutIdeal.sig) → Buf (Elt Ideal) ℓ) : Prop :=
  True

def Pre_S5OutRefIdeal (m : (ℓ : Loc Cert.S5OutRefIdeal.nD Cert.S5OutRefIdeal.τ Cert.S5OutRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_HyLat (m : (ℓ : Loc Cert.HyLat.nD Cert.HyLat.τ Cert.HyLat.sig) → Buf (Elt Bits) ℓ) : Prop :=
  True

def Pre_HyLatIdeal (m : (ℓ : Loc Cert.HyLatIdeal.nD Cert.HyLatIdeal.τ Cert.HyLatIdeal.sig) → Buf (Elt Ideal) ℓ) : Prop :=
  True

def Pre_HyLatRefIdeal (m : (ℓ : Loc Cert.HyLatRefIdeal.nD Cert.HyLatRefIdeal.τ Cert.HyLatRefIdeal.sig) → Buf (Elt Ideal) ℓ) : Prop :=
  True

def Pre_HyCtx (m : (ℓ : Loc Cert.HyCtx.nD Cert.HyCtx.τ Cert.HyCtx.sig) → Buf (Elt Bits) ℓ) : Prop :=
  True

def Pre_HyCtxIdeal (m : (ℓ : Loc Cert.HyCtxIdeal.nD Cert.HyCtxIdeal.τ Cert.HyCtxIdeal.sig) → Buf (Elt Ideal) ℓ) : Prop :=
  True

def Pre_HyCtxRefIdeal (m : (ℓ : Loc Cert.HyCtxRefIdeal.nD Cert.HyCtxRefIdeal.τ Cert.HyCtxRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4))
      ∧ r.2.sem = fun _ => 0)

def quiescent_RetFwd [hRetFwd : Cert.RetFwd.Facts] : Prop :=
  ∀ (m : (ℓ : Loc Cert.RetFwd.nD Cert.RetFwd.τ Cert.RetFwd.sig) → Buf (Elt Bits) ℓ) (g : Dev Cert.RetFwd.nD → PrngReg), Pre_RetFwd m →
    θ_run (Cert.RetFwd.defs (F := Bits)) (onTc (τ := Cert.RetFwd.τ) (Cert.RetFwd.main (F := Bits))) ⟨m, fun _ => 0, g⟩ (fun r => (∀ c : Dev Cert.RetFwd.nD,
      r.2.mem ((c.tc : Thread Cert.RetFwd.nD Cert.RetFwd.τ).loc Cert.RetFwd.main_arg0) = m ((c.tc : Thread Cert.RetFwd.nD Cert.RetFwd.τ).loc Cert.RetFwd.main_arg0)
      ∧ r.2.mem ((c.tc : Thread Cert.RetFwd.nD Cert.RetFwd.τ).loc Cert.RetFwd.main_arg1) = m ((c.tc : Thread Cert.RetFwd.nD Cert.RetFwd.τ).loc Cert.RetFwd.main_arg1)
      ∧ r.2.mem ((c.tc : Thread Cert.RetFwd.nD Cert.RetFwd.τ).loc Cert.RetFwd.main_arg2) = m ((c.tc : Thread Cert.RetFwd.nD Cert.RetFwd.τ).loc Cert.RetFwd.main_arg2)
      ∧ r.2.mem ((c.tc : Thread Cert.RetFwd.nD Cert.RetFwd.τ).loc Cert.RetFwd.main_arg3) = m ((c.tc : Thread Cert.RetFwd.nD Cert.RetFwd.τ).loc Cert.RetFwd.main_arg3))
      ∧ r.2.sem = fun _ => 0)

def quiescent_RetFwdIdeal [hRetFwdIdeal : Cert.RetFwdIdeal.Facts] : Prop :=
  ∀ (m : (ℓ : Loc Cert.RetFwdIdeal.nD Cert.RetFwdIdeal.τ Cert.RetFwdIdeal.sig) → Buf (Elt Ideal) ℓ) (g : Dev Cert.RetFwdIdeal.nD → PrngReg), Pre_RetFwdIdeal m →
    θ_run (Cert.RetFwdIdeal.defs (F := Ideal)) (onTc (τ := Cert.RetFwdIdeal.τ) (Cert.RetFwdIdeal.main (F := Ideal))) ⟨m, fun _ => 0, g⟩ (fun r => (∀ c : Dev Cert.RetFwdIdeal.nD,
      r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0)
      ∧ r.2.mem ((c.tc : Thread Cert.RetFwdIdeal.nD Cert.RetFwdIdeal.τ).loc Cert.RetFwdIdeal.main_arg1) = m ((c.tc : Thread Cert.RetFwdIdeal.nD Cert.RetFwdIdeal.τ).loc Cert.RetFwdIdeal.main_arg1)
      ∧ r.2.mem ((c.tc : Thread Cert.RetFwdIdeal.nD Cert.RetFwdIdeal.τ).loc Cert.RetFwdIdeal.main_arg2) = m ((c.tc : Thread Cert.RetFwdIdeal.nD Cert.RetFwdIdeal.τ).loc Cert.RetFwdIdeal.main_arg2)
      ∧ r.2.mem ((c.tc : Thread Cert.RetFwdIdeal.nD Cert.RetFwdIdeal.τ).loc Cert.RetFwdIdeal.main_arg3) = m ((c.tc : Thread Cert.RetFwdIdeal.nD Cert.RetFwdIdeal.τ).loc Cert.RetFwdIdeal.main_arg3))
      ∧ r.2.sem = fun _ => 0)

def quiescent_RetFwdRefIdeal [hRetFwdRefIdeal : Cert.RetFwdRefIdeal.Facts] : Prop :=
  ∀ (m : (ℓ : Loc Cert.RetFwdRefIdeal.nD Cert.RetFwdRefIdeal.τ Cert.RetFwdRefIdeal.sig) → Buf (Elt Ideal) ℓ) (g : Dev Cert.RetFwdRefIdeal.nD → PrngReg), Pre_RetFwdRefIdeal m →
    θ_run (Cert.RetFwdRefIdeal.defs (F := Ideal)) (onTc (τ := Cert.RetFwdRefIdeal.τ) (Cert.RetFwdRefIdeal.main (F := Ideal))) ⟨m, fun _ => 0, g⟩ (fun r => (∀ c : Dev Cert.RetFwdRefIdeal.nD,
      r.2.mem ((c.tc : Thread Cert.RetFwdRefIdeal.nD Cert.RetFwdRefIdeal.τ).loc Cert.RetFwdRefIdeal.main_arg0) = m ((c.tc : Thread Cert.RetFwdRefIdeal.nD Cert.RetFwdRefIdeal.τ).loc Cert.RetFwdRefIdeal.main_arg0)
      ∧ r.2.mem ((c.tc : Thread Cert.RetFwdRefIdeal.nD Cert.RetFwdRefIdeal.τ).loc Cert.RetFwdRefIdeal.main_arg1) = m ((c.tc : Thread Cert.RetFwdRefIdeal.nD Cert.RetFwdRefIdeal.τ).loc Cert.RetFwdRefIdeal.main_arg1)
      ∧ r.2.mem ((c.tc : Thread Cert.RetFwdRefIdeal.nD Cert.RetFwdRefIdeal.τ).loc Cert.RetFwdRefIdeal.main_arg2) = m ((c.tc : Thread Cert.RetFwdRefIdeal.nD Cert.RetFwdRefIdeal.τ).loc Cert.RetFwdRefIdeal.main_arg2)
      ∧ r.2.mem ((c.tc : Thread Cert.RetFwdRefIdeal.nD Cert.RetFwdRefIdeal.τ).loc Cert.RetFwdRefIdeal.main_arg3) = m ((c.tc : Thread Cert.RetFwdRefIdeal.nD Cert.RetFwdRefIdeal.τ).loc Cert.RetFwdRefIdeal.main_arg3))
      ∧ r.2.sem = fun _ => 0)

def quiescent_RetBwd [hRetBwd : Cert.RetBwd.Facts] : Prop :=
  ∀ (m : (ℓ : Loc Cert.RetBwd.nD Cert.RetBwd.τ Cert.RetBwd.sig) → Buf (Elt Bits) ℓ) (g : Dev Cert.RetBwd.nD → PrngReg), Pre_RetBwd m →
    θ_run (Cert.RetBwd.defs (F := Bits)) (onTc (τ := Cert.RetBwd.τ) (Cert.RetBwd.main (F := Bits))) ⟨m, fun _ => 0, g⟩ (fun r => (∀ c : Dev Cert.RetBwd.nD,
      r.2.mem ((c.tc : Thread Cert.RetBwd.nD Cert.RetBwd.τ).loc Cert.RetBwd.main_arg0) = m ((c.tc : Thread Cert.RetBwd.nD Cert.RetBwd.τ).loc Cert.RetBwd.main_arg0)
      ∧ r.2.mem ((c.tc : Thread Cert.RetBwd.nD Cert.RetBwd.τ).loc Cert.RetBwd.main_arg1) = m ((c.tc : Thread Cert.RetBwd.nD Cert.RetBwd.τ).loc Cert.RetBwd.main_arg1)
      ∧ r.2.mem ((c.tc : Thread Cert.RetBwd.nD Cert.RetBwd.τ).loc Cert.RetBwd.main_arg2) = m ((c.tc : Thread Cert.RetBwd.nD Cert.RetBwd.τ).loc Cert.RetBwd.main_arg2)
      ∧ r.2.mem ((c.tc : Thread Cert.RetBwd.nD Cert.RetBwd.τ).loc Cert.RetBwd.main_arg3) = m ((c.tc : Thread Cert.RetBwd.nD Cert.RetBwd.τ).loc Cert.RetBwd.main_arg3)
      ∧ r.2.mem ((c.tc : Thread Cert.RetBwd.nD Cert.RetBwd.τ).loc Cert.RetBwd.main_arg4) = m ((c.tc : Thread Cert.RetBwd.nD Cert.RetBwd.τ).loc Cert.RetBwd.main_arg4)
      ∧ r.2.mem ((c.tc : Thread Cert.RetBwd.nD Cert.RetBwd.τ).loc Cert.RetBwd.main_arg5) = m ((c.tc : Thread Cert.RetBwd.nD Cert.RetBwd.τ).loc Cert.RetBwd.main_arg5))
      ∧ r.2.sem = fun _ => 0)

def quiescent_RetBwdIdeal [hRetBwdIdeal : Cert.RetBwdIdeal.Facts] : Prop :=
  ∀ (m : (ℓ : Loc Cert.RetBwdIdeal.nD Cert.RetBwdIdeal.τ Cert.RetBwdIdeal.sig) → Buf (Elt Ideal) ℓ) (g : Dev Cert.RetBwdIdeal.nD → PrngReg), Pre_RetBwdIdeal m →
    θ_run (Cert.RetBwdIdeal.defs (F := Ideal)) (onTc (τ := Cert.RetBwdIdeal.τ) (Cert.RetBwdIdeal.main (F := Ideal))) ⟨m, fun _ => 0, g⟩ (fun r => (∀ c : Dev Cert.RetBwdIdeal.nD,
      r.2.mem ((c.tc : Thread Cert.RetBwdIdeal.nD Cert.RetBwdIdeal.τ).loc Cert.RetBwdIdeal.main_arg0) = m ((c.tc : Thread Cert.RetBwdIdeal.nD Cert.RetBwdIdeal.τ).loc Cert.RetBwdIdeal.main_arg0)
      ∧ r.2.mem ((c.tc : Thread Cert.RetBwdIdeal.nD Cert.RetBwdIdeal.τ).loc Cert.RetBwdIdeal.main_arg1) = m ((c.tc : Thread Cert.RetBwdIdeal.nD Cert.RetBwdIdeal.τ).loc Cert.RetBwdIdeal.main_arg1)
      ∧ r.2.mem ((c.tc : Thread Cert.RetBwdIdeal.nD Cert.RetBwdIdeal.τ).loc Cert.RetBwdIdeal.main_arg2) = m ((c.tc : Thread Cert.RetBwdIdeal.nD Cert.RetBwdIdeal.τ).loc Cert.RetBwdIdeal.main_arg2)
      ∧ r.2.mem ((c.tc : Thread Cert.RetBwdIdeal.nD Cert.RetBwdIdeal.τ).loc Cert.RetBwdIdeal.main_arg3) = m ((c.tc : Thread Cert.RetBwdIdeal.nD Cert.RetBwdIdeal.τ).loc Cert.RetBwdIdeal.main_arg3)
      ∧ r.2.mem ((c.tc : Thread Cert.RetBwdIdeal.nD Cert.RetBwdIdeal.τ).loc Cert.RetBwdIdeal.main_arg4) = m ((c.tc : Thread Cert.RetBwdIdeal.nD Cert.RetBwdIdeal.τ).loc Cert.RetBwdIdeal.main_arg4)
      ∧ r.2.mem ((c.tc : Thread Cert.RetBwdIdeal.nD Cert.RetBwdIdeal.τ).loc Cert.RetBwdIdeal.main_arg5) = m ((c.tc : Thread Cert.RetBwdIdeal.nD Cert.RetBwdIdeal.τ).loc Cert.RetBwdIdeal.main_arg5))
      ∧ r.2.sem = fun _ => 0)

def quiescent_RetBwdRefIdeal [hRetBwdRefIdeal : Cert.RetBwdRefIdeal.Facts] : Prop :=
  ∀ (m : (ℓ : Loc Cert.RetBwdRefIdeal.nD Cert.RetBwdRefIdeal.τ Cert.RetBwdRefIdeal.sig) → Buf (Elt Ideal) ℓ) (g : Dev Cert.RetBwdRefIdeal.nD → PrngReg), Pre_RetBwdRefIdeal m →
    θ_run (Cert.RetBwdRefIdeal.defs (F := Ideal)) (onTc (τ := Cert.RetBwdRefIdeal.τ) (Cert.RetBwdRefIdeal.main (F := Ideal))) ⟨m, fun _ => 0, g⟩ (fun r => (∀ c : Dev Cert.RetBwdRefIdeal.nD,
      r.2.mem ((c.tc : Thread Cert.RetBwdRefIdeal.nD Cert.RetBwdRefIdeal.τ).loc Cert.RetBwdRefIdeal.main_arg0) = m ((c.tc : Thread Cert.RetBwdRefIdeal.nD Cert.RetBwdRefIdeal.τ).loc Cert.RetBwdRefIdeal.main_arg0)
      ∧ r.2.mem ((c.tc : Thread Cert.RetBwdRefIdeal.nD Cert.RetBwdRefIdeal.τ).loc Cert.RetBwdRefIdeal.main_arg1) = m ((c.tc : Thread Cert.RetBwdRefIdeal.nD Cert.RetBwdRefIdeal.τ).loc Cert.RetBwdRefIdeal.main_arg1)
      ∧ r.2.mem ((c.tc : Thread Cert.RetBwdRefIdeal.nD Cert.RetBwdRefIdeal.τ).loc Cert.RetBwdRefIdeal.main_arg2) = m ((c.tc : Thread Cert.RetBwdRefIdeal.nD Cert.RetBwdRefIdeal.τ).loc Cert.RetBwdRefIdeal.main_arg2)
      ∧ r.2.mem ((c.tc : Thread Cert.RetBwdRefIdeal.nD Cert.RetBwdRefIdeal.τ).loc Cert.RetBwdRefIdeal.main_arg3) = m ((c.tc : Thread Cert.RetBwdRefIdeal.nD Cert.RetBwdRefIdeal.τ).loc Cert.RetBwdRefIdeal.main_arg3)
      ∧ r.2.mem ((c.tc : Thread Cert.RetBwdRefIdeal.nD Cert.RetBwdRefIdeal.τ).loc Cert.RetBwdRefIdeal.main_arg4) = m ((c.tc : Thread Cert.RetBwdRefIdeal.nD Cert.RetBwdRefIdeal.τ).loc Cert.RetBwdRefIdeal.main_arg4)
      ∧ r.2.mem ((c.tc : Thread Cert.RetBwdRefIdeal.nD Cert.RetBwdRefIdeal.τ).loc Cert.RetBwdRefIdeal.main_arg5) = m ((c.tc : Thread Cert.RetBwdRefIdeal.nD Cert.RetBwdRefIdeal.τ).loc Cert.RetBwdRefIdeal.main_arg5))
      ∧ r.2.sem = fun _ => 0)

def quiescent_S5Out [hS5Out : Cert.S5Out.Facts] : Prop :=
  ∀ (m : (ℓ : Loc Cert.S5Out.nD Cert.S5Out.τ Cert.S5Out.sig) → Buf (Elt Bits) ℓ) (g : Dev Cert.S5Out.nD → PrngReg), Pre_S5Out m →
    θ_run (Cert.S5Out.defs (F := Bits)) (onTc (τ := Cert.S5Out.τ) (Cert.S5Out.main (F := Bits))) ⟨m, fun _ => 0, g⟩ (fun r => (∀ c : Dev Cert.S5Out.nD,
      r.2.mem ((c.tc : Thread Cert.S5Out.nD Cert.S5Out.τ).loc Cert.S5Out.main_arg0) = m ((c.tc : Thread Cert.S5Out.nD Cert.S5Out.τ).loc Cert.S5Out.main_arg0)
      ∧ r.2.mem ((c.tc : Thread Cert.S5Out.nD Cert.S5Out.τ).loc Cert.S5Out.main_arg1) = m ((c.tc : Thread Cert.S5Out.nD Cert.S5Out.τ).loc Cert.S5Out.main_arg1)
      ∧ r.2.mem ((c.tc : Thread Cert.S5Out.nD Cert.S5Out.τ).loc Cert.S5Out.main_arg2) = m ((c.tc : Thread Cert.S5Out.nD Cert.S5Out.τ).loc Cert.S5Out.main_arg2)
      ∧ r.2.mem ((c.tc : Thread Cert.S5Out.nD Cert.S5Out.τ).loc Cert.S5Out.main_arg3) = m ((c.tc : Thread Cert.S5Out.nD Cert.S5Out.τ).loc Cert.S5Out.main_arg3)
      ∧ r.2.mem ((c.tc : Thread Cert.S5Out.nD Cert.S5Out.τ).loc Cert.S5Out.main_arg4) = m ((c.tc : Thread Cert.S5Out.nD Cert.S5Out.τ).loc Cert.S5Out.main_arg4)
      ∧ r.2.mem ((c.tc : Thread Cert.S5Out.nD Cert.S5Out.τ).loc Cert.S5Out.main_arg5) = m ((c.tc : Thread Cert.S5Out.nD Cert.S5Out.τ).loc Cert.S5Out.main_arg5))
      ∧ r.2.sem = fun _ => 0)

def quiescent_S5OutIdeal [hS5OutIdeal : Cert.S5OutIdeal.Facts] : Prop :=
  ∀ (m : (ℓ : Loc Cert.S5OutIdeal.nD Cert.S5OutIdeal.τ Cert.S5OutIdeal.sig) → Buf (Elt Ideal) ℓ) (g : Dev Cert.S5OutIdeal.nD → PrngReg), Pre_S5OutIdeal m →
    θ_run (Cert.S5OutIdeal.defs (F := Ideal)) (onTc (τ := Cert.S5OutIdeal.τ) (Cert.S5OutIdeal.main (F := Ideal))) ⟨m, fun _ => 0, g⟩ (fun r => (∀ c : Dev Cert.S5OutIdeal.nD,
      r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
      ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
      ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2)
      ∧ r.2.mem ((c.tc : Thread Cert.S5OutIdeal.nD Cert.S5OutIdeal.τ).loc Cert.S5OutIdeal.main_arg3) = m ((c.tc : Thread Cert.S5OutIdeal.nD Cert.S5OutIdeal.τ).loc Cert.S5OutIdeal.main_arg3)
      ∧ r.2.mem ((c.tc : Thread Cert.S5OutIdeal.nD Cert.S5OutIdeal.τ).loc Cert.S5OutIdeal.main_arg4) = m ((c.tc : Thread Cert.S5OutIdeal.nD Cert.S5OutIdeal.τ).loc Cert.S5OutIdeal.main_arg4)
      ∧ r.2.mem ((c.tc : Thread Cert.S5OutIdeal.nD Cert.S5OutIdeal.τ).loc Cert.S5OutIdeal.main_arg5) = m ((c.tc : Thread Cert.S5OutIdeal.nD Cert.S5OutIdeal.τ).loc Cert.S5OutIdeal.main_arg5))
      ∧ r.2.sem = fun _ => 0)

def quiescent_S5OutRefIdeal [hS5OutRefIdeal : Cert.S5OutRefIdeal.Facts] : Prop :=
  ∀ (m : (ℓ : Loc Cert.S5OutRefIdeal.nD Cert.S5OutRefIdeal.τ Cert.S5OutRefIdeal.sig) → Buf (Elt Ideal) ℓ) (g : Dev Cert.S5OutRefIdeal.nD → PrngReg), Pre_S5OutRefIdeal m →
    θ_run (Cert.S5OutRefIdeal.defs (F := Ideal)) (onTc (τ := Cert.S5OutRefIdeal.τ) (Cert.S5OutRefIdeal.main (F := Ideal))) ⟨m, fun _ => 0, g⟩ (fun r => (∀ c : Dev Cert.S5OutRefIdeal.nD,
      r.2.mem ((c.tc : Thread Cert.S5OutRefIdeal.nD Cert.S5OutRefIdeal.τ).loc Cert.S5OutRefIdeal.main_arg0) = m ((c.tc : Thread Cert.S5OutRefIdeal.nD Cert.S5OutRefIdeal.τ).loc Cert.S5OutRefIdeal.main_arg0)
      ∧ r.2.mem ((c.tc : Thread Cert.S5OutRefIdeal.nD Cert.S5OutRefIdeal.τ).loc Cert.S5OutRefIdeal.main_arg1) = m ((c.tc : Thread Cert.S5OutRefIdeal.nD Cert.S5OutRefIdeal.τ).loc Cert.S5OutRefIdeal.main_arg1)
      ∧ r.2.mem ((c.tc : Thread Cert.S5OutRefIdeal.nD Cert.S5OutRefIdeal.τ).loc Cert.S5OutRefIdeal.main_arg2) = m ((c.tc : Thread Cert.S5OutRefIdeal.nD Cert.S5OutRefIdeal.τ).loc Cert.S5OutRefIdeal.main_arg2)
      ∧ r.2.mem ((c.tc : Thread Cert.S5OutRefIdeal.nD Cert.S5OutRefIdeal.τ).loc Cert.S5OutRefIdeal.main_arg3) = m ((c.tc : Thread Cert.S5OutRefIdeal.nD Cert.S5OutRefIdeal.τ).loc Cert.S5OutRefIdeal.main_arg3)
      ∧ r.2.mem ((c.tc : Thread Cert.S5OutRefIdeal.nD Cert.S5OutRefIdeal.τ).loc Cert.S5OutRefIdeal.main_arg4) = m ((c.tc : Thread Cert.S5OutRefIdeal.nD Cert.S5OutRefIdeal.τ).loc Cert.S5OutRefIdeal.main_arg4)
      ∧ r.2.mem ((c.tc : Thread Cert.S5OutRefIdeal.nD Cert.S5OutRefIdeal.τ).loc Cert.S5OutRefIdeal.main_arg5) = m ((c.tc : Thread Cert.S5OutRefIdeal.nD Cert.S5OutRefIdeal.τ).loc Cert.S5OutRefIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_HyLat [hHyLat : Cert.HyLat.Facts] : Prop :=
  ∀ (m : (ℓ : Loc Cert.HyLat.nD Cert.HyLat.τ Cert.HyLat.sig) → Buf (Elt Bits) ℓ) (g : Dev Cert.HyLat.nD → PrngReg), Pre_HyLat m →
    θ_run (Cert.HyLat.defs (F := Bits)) (onTc (τ := Cert.HyLat.τ) (Cert.HyLat.main (F := Bits))) ⟨m, fun _ => 0, g⟩ (fun r => (∀ c : Dev Cert.HyLat.nD,
      r.2.mem ((c.tc : Thread Cert.HyLat.nD Cert.HyLat.τ).loc Cert.HyLat.main_arg0) = m ((c.tc : Thread Cert.HyLat.nD Cert.HyLat.τ).loc Cert.HyLat.main_arg0)
      ∧ r.2.mem ((c.tc : Thread Cert.HyLat.nD Cert.HyLat.τ).loc Cert.HyLat.main_arg1) = m ((c.tc : Thread Cert.HyLat.nD Cert.HyLat.τ).loc Cert.HyLat.main_arg1)
      ∧ r.2.mem ((c.tc : Thread Cert.HyLat.nD Cert.HyLat.τ).loc Cert.HyLat.main_arg2) = m ((c.tc : Thread Cert.HyLat.nD Cert.HyLat.τ).loc Cert.HyLat.main_arg2))
      ∧ r.2.sem = fun _ => 0)

def quiescent_HyLatIdeal [hHyLatIdeal : Cert.HyLatIdeal.Facts] : Prop :=
  ∀ (m : (ℓ : Loc Cert.HyLatIdeal.nD Cert.HyLatIdeal.τ Cert.HyLatIdeal.sig) → Buf (Elt Ideal) ℓ) (g : Dev Cert.HyLatIdeal.nD → PrngReg), Pre_HyLatIdeal m →
    θ_run (Cert.HyLatIdeal.defs (F := Ideal)) (onTc (τ := Cert.HyLatIdeal.τ) (Cert.HyLatIdeal.main (F := Ideal))) ⟨m, fun _ => 0, g⟩ (fun r => (∀ c : Dev Cert.HyLatIdeal.nD,
      r.2.mem ((c.tc : Thread Cert.HyLatIdeal.nD Cert.HyLatIdeal.τ).loc Cert.HyLatIdeal.main_arg0) = m ((c.tc : Thread Cert.HyLatIdeal.nD Cert.HyLatIdeal.τ).loc Cert.HyLatIdeal.main_arg0)
      ∧ r.2.mem ((c.tc : Thread Cert.HyLatIdeal.nD Cert.HyLatIdeal.τ).loc Cert.HyLatIdeal.main_arg1) = m ((c.tc : Thread Cert.HyLatIdeal.nD Cert.HyLatIdeal.τ).loc Cert.HyLatIdeal.main_arg1)
      ∧ r.2.mem ((c.tc : Thread Cert.HyLatIdeal.nD Cert.HyLatIdeal.τ).loc Cert.HyLatIdeal.main_arg2) = m ((c.tc : Thread Cert.HyLatIdeal.nD Cert.HyLatIdeal.τ).loc Cert.HyLatIdeal.main_arg2))
      ∧ r.2.sem = fun _ => 0)

def quiescent_HyLatRefIdeal [hHyLatRefIdeal : Cert.HyLatRefIdeal.Facts] : Prop :=
  ∀ (m : (ℓ : Loc Cert.HyLatRefIdeal.nD Cert.HyLatRefIdeal.τ Cert.HyLatRefIdeal.sig) → Buf (Elt Ideal) ℓ) (g : Dev Cert.HyLatRefIdeal.nD → PrngReg), Pre_HyLatRefIdeal m →
    θ_run (Cert.HyLatRefIdeal.defs (F := Ideal)) (onTc (τ := Cert.HyLatRefIdeal.τ) (Cert.HyLatRefIdeal.main (F := Ideal))) ⟨m, fun _ => 0, g⟩ (fun r => (∀ c : Dev Cert.HyLatRefIdeal.nD,
      r.2.mem ((c.tc : Thread Cert.HyLatRefIdeal.nD Cert.HyLatRefIdeal.τ).loc Cert.HyLatRefIdeal.main_arg0) = m ((c.tc : Thread Cert.HyLatRefIdeal.nD Cert.HyLatRefIdeal.τ).loc Cert.HyLatRefIdeal.main_arg0)
      ∧ r.2.mem ((c.tc : Thread Cert.HyLatRefIdeal.nD Cert.HyLatRefIdeal.τ).loc Cert.HyLatRefIdeal.main_arg1) = m ((c.tc : Thread Cert.HyLatRefIdeal.nD Cert.HyLatRefIdeal.τ).loc Cert.HyLatRefIdeal.main_arg1)
      ∧ r.2.mem ((c.tc : Thread Cert.HyLatRefIdeal.nD Cert.HyLatRefIdeal.τ).loc Cert.HyLatRefIdeal.main_arg2) = m ((c.tc : Thread Cert.HyLatRefIdeal.nD Cert.HyLatRefIdeal.τ).loc Cert.HyLatRefIdeal.main_arg2))
      ∧ r.2.sem = fun _ => 0)

def quiescent_HyCtx [hHyCtx : Cert.HyCtx.Facts] : Prop :=
  ∀ (m : (ℓ : Loc Cert.HyCtx.nD Cert.HyCtx.τ Cert.HyCtx.sig) → Buf (Elt Bits) ℓ) (g : Dev Cert.HyCtx.nD → PrngReg), Pre_HyCtx m →
    θ_run (Cert.HyCtx.defs (F := Bits)) (onTc (τ := Cert.HyCtx.τ) (Cert.HyCtx.main (F := Bits))) ⟨m, fun _ => 0, g⟩ (fun r => (∀ c : Dev Cert.HyCtx.nD,
      r.2.mem ((c.tc : Thread Cert.HyCtx.nD Cert.HyCtx.τ).loc Cert.HyCtx.main_arg0) = m ((c.tc : Thread Cert.HyCtx.nD Cert.HyCtx.τ).loc Cert.HyCtx.main_arg0)
      ∧ r.2.mem ((c.tc : Thread Cert.HyCtx.nD Cert.HyCtx.τ).loc Cert.HyCtx.main_arg1) = m ((c.tc : Thread Cert.HyCtx.nD Cert.HyCtx.τ).loc Cert.HyCtx.main_arg1)
      ∧ r.2.mem ((c.tc : Thread Cert.HyCtx.nD Cert.HyCtx.τ).loc Cert.HyCtx.main_arg2) = m ((c.tc : Thread Cert.HyCtx.nD Cert.HyCtx.τ).loc Cert.HyCtx.main_arg2))
      ∧ r.2.sem = fun _ => 0)

def quiescent_HyCtxIdeal [hHyCtxIdeal : Cert.HyCtxIdeal.Facts] : Prop :=
  ∀ (m : (ℓ : Loc Cert.HyCtxIdeal.nD Cert.HyCtxIdeal.τ Cert.HyCtxIdeal.sig) → Buf (Elt Ideal) ℓ) (g : Dev Cert.HyCtxIdeal.nD → PrngReg), Pre_HyCtxIdeal m →
    θ_run (Cert.HyCtxIdeal.defs (F := Ideal)) (onTc (τ := Cert.HyCtxIdeal.τ) (Cert.HyCtxIdeal.main (F := Ideal))) ⟨m, fun _ => 0, g⟩ (fun r => (∀ c : Dev Cert.HyCtxIdeal.nD,
      r.2.mem ((c.tc : Thread Cert.HyCtxIdeal.nD Cert.HyCtxIdeal.τ).loc Cert.HyCtxIdeal.main_arg0) = m ((c.tc : Thread Cert.HyCtxIdeal.nD Cert.HyCtxIdeal.τ).loc Cert.HyCtxIdeal.main_arg0)
      ∧ r.2.mem ((c.tc : Thread Cert.HyCtxIdeal.nD Cert.HyCtxIdeal.τ).loc Cert.HyCtxIdeal.main_arg1) = m ((c.tc : Thread Cert.HyCtxIdeal.nD Cert.HyCtxIdeal.τ).loc Cert.HyCtxIdeal.main_arg1)
      ∧ r.2.mem ((c.tc : Thread Cert.HyCtxIdeal.nD Cert.HyCtxIdeal.τ).loc Cert.HyCtxIdeal.main_arg2) = m ((c.tc : Thread Cert.HyCtxIdeal.nD Cert.HyCtxIdeal.τ).loc Cert.HyCtxIdeal.main_arg2))
      ∧ r.2.sem = fun _ => 0)

def quiescent_HyCtxRefIdeal [hHyCtxRefIdeal : Cert.HyCtxRefIdeal.Facts] : Prop :=
  ∀ (m : (ℓ : Loc Cert.HyCtxRefIdeal.nD Cert.HyCtxRefIdeal.τ Cert.HyCtxRefIdeal.sig) → Buf (Elt Ideal) ℓ) (g : Dev Cert.HyCtxRefIdeal.nD → PrngReg), Pre_HyCtxRefIdeal m →
    θ_run (Cert.HyCtxRefIdeal.defs (F := Ideal)) (onTc (τ := Cert.HyCtxRefIdeal.τ) (Cert.HyCtxRefIdeal.main (F := Ideal))) ⟨m, fun _ => 0, g⟩ (fun r => (∀ c : Dev Cert.HyCtxRefIdeal.nD,
      r.2.mem ((c.tc : Thread Cert.HyCtxRefIdeal.nD Cert.HyCtxRefIdeal.τ).loc Cert.HyCtxRefIdeal.main_arg0) = m ((c.tc : Thread Cert.HyCtxRefIdeal.nD Cert.HyCtxRefIdeal.τ).loc Cert.HyCtxRefIdeal.main_arg0)
      ∧ r.2.mem ((c.tc : Thread Cert.HyCtxRefIdeal.nD Cert.HyCtxRefIdeal.τ).loc Cert.HyCtxRefIdeal.main_arg1) = m ((c.tc : Thread Cert.HyCtxRefIdeal.nD Cert.HyCtxRefIdeal.τ).loc Cert.HyCtxRefIdeal.main_arg1)
      ∧ r.2.mem ((c.tc : Thread Cert.HyCtxRefIdeal.nD Cert.HyCtxRefIdeal.τ).loc Cert.HyCtxRefIdeal.main_arg2) = m ((c.tc : Thread Cert.HyCtxRefIdeal.nD Cert.HyCtxRefIdeal.τ).loc Cert.HyCtxRefIdeal.main_arg2))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v72) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v1) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v39) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v84) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)) →
    ∃ (v0 : (c : Dev Cert.OutprojIdeal.nD) → Buf (Elt Ideal) ((c.tc : Thread Cert.OutprojIdeal.nD Cert.OutprojIdeal.τ).loc Cert.OutprojIdeal.main_v1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v1) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v27) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4))

def preserves_RetFwd_RetFwdIdeal : Prop :=
  True

def algebraic_RetFwdIdeal_RetFwdRefIdeal [hRetFwdIdeal : Cert.RetFwdIdeal.Facts] [hRetFwdRefIdeal : Cert.RetFwdRefIdeal.Facts] : Prop :=
  ∀ (m : (ℓ : Loc Cert.RetFwdIdeal.nD Cert.RetFwdIdeal.τ Cert.RetFwdIdeal.sig) → Buf (Elt Ideal) ℓ) (g : Dev Cert.RetFwdIdeal.nD → PrngReg)
    (m' : (ℓ : Loc Cert.RetFwdRefIdeal.nD Cert.RetFwdRefIdeal.τ Cert.RetFwdRefIdeal.sig) → Buf (Elt Ideal) ℓ) (g' : Dev Cert.RetFwdRefIdeal.nD → PrngReg), Pre_RetFwdIdeal m →
    (∀ c : Dev Cert.RetFwdIdeal.nD,
      m' ((c.tc : Thread Cert.RetFwdRefIdeal.nD Cert.RetFwdRefIdeal.τ).loc Cert.RetFwdRefIdeal.main_arg0) = m ((c.tc : Thread Cert.RetFwdIdeal.nD Cert.RetFwdIdeal.τ).loc Cert.RetFwdIdeal.main_arg0)
      ∧ m' ((c.tc : Thread Cert.RetFwdRefIdeal.nD Cert.RetFwdRefIdeal.τ).loc Cert.RetFwdRefIdeal.main_arg1) = m ((c.tc : Thread Cert.RetFwdIdeal.nD Cert.RetFwdIdeal.τ).loc Cert.RetFwdIdeal.main_arg1)
      ∧ m' ((c.tc : Thread Cert.RetFwdRefIdeal.nD Cert.RetFwdRefIdeal.τ).loc Cert.RetFwdRefIdeal.main_arg2) = m ((c.tc : Thread Cert.RetFwdIdeal.nD Cert.RetFwdIdeal.τ).loc Cert.RetFwdIdeal.main_arg2)
      ∧ m' ((c.tc : Thread Cert.RetFwdRefIdeal.nD Cert.RetFwdRefIdeal.τ).loc Cert.RetFwdRefIdeal.main_arg3) = m ((c.tc : Thread Cert.RetFwdIdeal.nD Cert.RetFwdIdeal.τ).loc Cert.RetFwdIdeal.main_arg3)) →
    ∃ (v0 : (c : Dev Cert.RetFwdIdeal.nD) → Buf (Elt Ideal) ((c.tc : Thread Cert.RetFwdIdeal.nD Cert.RetFwdIdeal.τ).loc Cert.RetFwdIdeal.main_v9)),
      θ_run (Cert.RetFwdIdeal.defs (F := Ideal)) (onTc (τ := Cert.RetFwdIdeal.τ) (Cert.RetFwdIdeal.main (F := Ideal))) ⟨m, fun _ => 0, g⟩ (fun r => ∀ c : Dev Cert.RetFwdIdeal.nD,
          r.2.mem ((c.tc : Thread Cert.RetFwdIdeal.nD Cert.RetFwdIdeal.τ).loc Cert.RetFwdIdeal.main_v9) = v0 c
          ∧ r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0)
          ∧ r.2.mem ((c.tc : Thread Cert.RetFwdIdeal.nD Cert.RetFwdIdeal.τ).loc Cert.RetFwdIdeal.main_arg1) = m ((c.tc : Thread Cert.RetFwdIdeal.nD Cert.RetFwdIdeal.τ).loc Cert.RetFwdIdeal.main_arg1)
          ∧ r.2.mem ((c.tc : Thread Cert.RetFwdIdeal.nD Cert.RetFwdIdeal.τ).loc Cert.RetFwdIdeal.main_arg2) = m ((c.tc : Thread Cert.RetFwdIdeal.nD Cert.RetFwdIdeal.τ).loc Cert.RetFwdIdeal.main_arg2)
          ∧ r.2.mem ((c.tc : Thread Cert.RetFwdIdeal.nD Cert.RetFwdIdeal.τ).loc Cert.RetFwdIdeal.main_arg3) = m ((c.tc : Thread Cert.RetFwdIdeal.nD Cert.RetFwdIdeal.τ).loc Cert.RetFwdIdeal.main_arg3))
      ∧ θ_run (Cert.RetFwdRefIdeal.defs (F := Ideal)) (onTc (τ := Cert.RetFwdRefIdeal.τ) (Cert.RetFwdRefIdeal.main (F := Ideal))) ⟨m', fun _ => 0, g'⟩ (fun r => ∀ c : Dev Cert.RetFwdRefIdeal.nD,
          r.2.mem ((c.tc : Thread Cert.RetFwdRefIdeal.nD Cert.RetFwdRefIdeal.τ).loc Cert.RetFwdRefIdeal.main_v127) = v0 c
          ∧ r.2.mem ((c.tc : Thread Cert.RetFwdRefIdeal.nD Cert.RetFwdRefIdeal.τ).loc Cert.RetFwdRefIdeal.main_arg0) = m' ((c.tc : Thread Cert.RetFwdRefIdeal.nD Cert.RetFwdRefIdeal.τ).loc Cert.RetFwdRefIdeal.main_arg0)
          ∧ r.2.mem ((c.tc : Thread Cert.RetFwdRefIdeal.nD Cert.RetFwdRefIdeal.τ).loc Cert.RetFwdRefIdeal.main_arg1) = m' ((c.tc : Thread Cert.RetFwdRefIdeal.nD Cert.RetFwdRefIdeal.τ).loc Cert.RetFwdRefIdeal.main_arg1)
          ∧ r.2.mem ((c.tc : Thread Cert.RetFwdRefIdeal.nD Cert.RetFwdRefIdeal.τ).loc Cert.RetFwdRefIdeal.main_arg2) = m' ((c.tc : Thread Cert.RetFwdRefIdeal.nD Cert.RetFwdRefIdeal.τ).loc Cert.RetFwdRefIdeal.main_arg2)
          ∧ r.2.mem ((c.tc : Thread Cert.RetFwdRefIdeal.nD Cert.RetFwdRefIdeal.τ).loc Cert.RetFwdRefIdeal.main_arg3) = m' ((c.tc : Thread Cert.RetFwdRefIdeal.nD Cert.RetFwdRefIdeal.τ).loc Cert.RetFwdRefIdeal.main_arg3))

def preserves_RetBwd_RetBwdIdeal : Prop :=
  True

def algebraic_RetBwdIdeal_RetBwdRefIdeal [hRetBwdIdeal : Cert.RetBwdIdeal.Facts] [hRetBwdRefIdeal : Cert.RetBwdRefIdeal.Facts] : Prop :=
  ∀ (m : (ℓ : Loc Cert.RetBwdIdeal.nD Cert.RetBwdIdeal.τ Cert.RetBwdIdeal.sig) → Buf (Elt Ideal) ℓ) (g : Dev Cert.RetBwdIdeal.nD → PrngReg)
    (m' : (ℓ : Loc Cert.RetBwdRefIdeal.nD Cert.RetBwdRefIdeal.τ Cert.RetBwdRefIdeal.sig) → Buf (Elt Ideal) ℓ) (g' : Dev Cert.RetBwdRefIdeal.nD → PrngReg), Pre_RetBwdIdeal m →
    (∀ c : Dev Cert.RetBwdIdeal.nD,
      m' ((c.tc : Thread Cert.RetBwdRefIdeal.nD Cert.RetBwdRefIdeal.τ).loc Cert.RetBwdRefIdeal.main_arg0) = m ((c.tc : Thread Cert.RetBwdIdeal.nD Cert.RetBwdIdeal.τ).loc Cert.RetBwdIdeal.main_arg0)
      ∧ m' ((c.tc : Thread Cert.RetBwdRefIdeal.nD Cert.RetBwdRefIdeal.τ).loc Cert.RetBwdRefIdeal.main_arg1) = m ((c.tc : Thread Cert.RetBwdIdeal.nD Cert.RetBwdIdeal.τ).loc Cert.RetBwdIdeal.main_arg1)
      ∧ m' ((c.tc : Thread Cert.RetBwdRefIdeal.nD Cert.RetBwdRefIdeal.τ).loc Cert.RetBwdRefIdeal.main_arg2) = m ((c.tc : Thread Cert.RetBwdIdeal.nD Cert.RetBwdIdeal.τ).loc Cert.RetBwdIdeal.main_arg2)
      ∧ m' ((c.tc : Thread Cert.RetBwdRefIdeal.nD Cert.RetBwdRefIdeal.τ).loc Cert.RetBwdRefIdeal.main_arg3) = m ((c.tc : Thread Cert.RetBwdIdeal.nD Cert.RetBwdIdeal.τ).loc Cert.RetBwdIdeal.main_arg3)
      ∧ m' ((c.tc : Thread Cert.RetBwdRefIdeal.nD Cert.RetBwdRefIdeal.τ).loc Cert.RetBwdRefIdeal.main_arg4) = m ((c.tc : Thread Cert.RetBwdIdeal.nD Cert.RetBwdIdeal.τ).loc Cert.RetBwdIdeal.main_arg4)
      ∧ m' ((c.tc : Thread Cert.RetBwdRefIdeal.nD Cert.RetBwdRefIdeal.τ).loc Cert.RetBwdRefIdeal.main_arg5) = m ((c.tc : Thread Cert.RetBwdIdeal.nD Cert.RetBwdIdeal.τ).loc Cert.RetBwdIdeal.main_arg5)) →
    ∃ (v0 : (c : Dev Cert.RetBwdIdeal.nD) → Buf (Elt Ideal) ((c.tc : Thread Cert.RetBwdIdeal.nD Cert.RetBwdIdeal.τ).loc Cert.RetBwdIdeal.main_v10)),
      θ_run (Cert.RetBwdIdeal.defs (F := Ideal)) (onTc (τ := Cert.RetBwdIdeal.τ) (Cert.RetBwdIdeal.main (F := Ideal))) ⟨m, fun _ => 0, g⟩ (fun r => ∀ c : Dev Cert.RetBwdIdeal.nD,
          r.2.mem ((c.tc : Thread Cert.RetBwdIdeal.nD Cert.RetBwdIdeal.τ).loc Cert.RetBwdIdeal.main_v10) = v0 c
          ∧ r.2.mem ((c.tc : Thread Cert.RetBwdIdeal.nD Cert.RetBwdIdeal.τ).loc Cert.RetBwdIdeal.main_arg0) = m ((c.tc : Thread Cert.RetBwdIdeal.nD Cert.RetBwdIdeal.τ).loc Cert.RetBwdIdeal.main_arg0)
          ∧ r.2.mem ((c.tc : Thread Cert.RetBwdIdeal.nD Cert.RetBwdIdeal.τ).loc Cert.RetBwdIdeal.main_arg1) = m ((c.tc : Thread Cert.RetBwdIdeal.nD Cert.RetBwdIdeal.τ).loc Cert.RetBwdIdeal.main_arg1)
          ∧ r.2.mem ((c.tc : Thread Cert.RetBwdIdeal.nD Cert.RetBwdIdeal.τ).loc Cert.RetBwdIdeal.main_arg2) = m ((c.tc : Thread Cert.RetBwdIdeal.nD Cert.RetBwdIdeal.τ).loc Cert.RetBwdIdeal.main_arg2)
          ∧ r.2.mem ((c.tc : Thread Cert.RetBwdIdeal.nD Cert.RetBwdIdeal.τ).loc Cert.RetBwdIdeal.main_arg3) = m ((c.tc : Thread Cert.RetBwdIdeal.nD Cert.RetBwdIdeal.τ).loc Cert.RetBwdIdeal.main_arg3)
          ∧ r.2.mem ((c.tc : Thread Cert.RetBwdIdeal.nD Cert.RetBwdIdeal.τ).loc Cert.RetBwdIdeal.main_arg4) = m ((c.tc : Thread Cert.RetBwdIdeal.nD Cert.RetBwdIdeal.τ).loc Cert.RetBwdIdeal.main_arg4)
          ∧ r.2.mem ((c.tc : Thread Cert.RetBwdIdeal.nD Cert.RetBwdIdeal.τ).loc Cert.RetBwdIdeal.main_arg5) = m ((c.tc : Thread Cert.RetBwdIdeal.nD Cert.RetBwdIdeal.τ).loc Cert.RetBwdIdeal.main_arg5))
      ∧ θ_run (Cert.RetBwdRefIdeal.defs (F := Ideal)) (onTc (τ := Cert.RetBwdRefIdeal.τ) (Cert.RetBwdRefIdeal.main (F := Ideal))) ⟨m', fun _ => 0, g'⟩ (fun r => ∀ c : Dev Cert.RetBwdRefIdeal.nD,
          r.2.mem ((c.tc : Thread Cert.RetBwdRefIdeal.nD Cert.RetBwdRefIdeal.τ).loc Cert.RetBwdRefIdeal.main_v163) = v0 c
          ∧ r.2.mem ((c.tc : Thread Cert.RetBwdRefIdeal.nD Cert.RetBwdRefIdeal.τ).loc Cert.RetBwdRefIdeal.main_arg0) = m' ((c.tc : Thread Cert.RetBwdRefIdeal.nD Cert.RetBwdRefIdeal.τ).loc Cert.RetBwdRefIdeal.main_arg0)
          ∧ r.2.mem ((c.tc : Thread Cert.RetBwdRefIdeal.nD Cert.RetBwdRefIdeal.τ).loc Cert.RetBwdRefIdeal.main_arg1) = m' ((c.tc : Thread Cert.RetBwdRefIdeal.nD Cert.RetBwdRefIdeal.τ).loc Cert.RetBwdRefIdeal.main_arg1)
          ∧ r.2.mem ((c.tc : Thread Cert.RetBwdRefIdeal.nD Cert.RetBwdRefIdeal.τ).loc Cert.RetBwdRefIdeal.main_arg2) = m' ((c.tc : Thread Cert.RetBwdRefIdeal.nD Cert.RetBwdRefIdeal.τ).loc Cert.RetBwdRefIdeal.main_arg2)
          ∧ r.2.mem ((c.tc : Thread Cert.RetBwdRefIdeal.nD Cert.RetBwdRefIdeal.τ).loc Cert.RetBwdRefIdeal.main_arg3) = m' ((c.tc : Thread Cert.RetBwdRefIdeal.nD Cert.RetBwdRefIdeal.τ).loc Cert.RetBwdRefIdeal.main_arg3)
          ∧ r.2.mem ((c.tc : Thread Cert.RetBwdRefIdeal.nD Cert.RetBwdRefIdeal.τ).loc Cert.RetBwdRefIdeal.main_arg4) = m' ((c.tc : Thread Cert.RetBwdRefIdeal.nD Cert.RetBwdRefIdeal.τ).loc Cert.RetBwdRefIdeal.main_arg4)
          ∧ r.2.mem ((c.tc : Thread Cert.RetBwdRefIdeal.nD Cert.RetBwdRefIdeal.τ).loc Cert.RetBwdRefIdeal.main_arg5) = m' ((c.tc : Thread Cert.RetBwdRefIdeal.nD Cert.RetBwdRefIdeal.τ).loc Cert.RetBwdRefIdeal.main_arg5))

def preserves_S5Out_S5OutIdeal : Prop :=
  True

def algebraic_S5OutIdeal_S5OutRefIdeal [hS5OutIdeal : Cert.S5OutIdeal.Facts] [hS5OutRefIdeal : Cert.S5OutRefIdeal.Facts] : Prop :=
  ∀ (m : (ℓ : Loc Cert.S5OutIdeal.nD Cert.S5OutIdeal.τ Cert.S5OutIdeal.sig) → Buf (Elt Ideal) ℓ) (g : Dev Cert.S5OutIdeal.nD → PrngReg)
    (m' : (ℓ : Loc Cert.S5OutRefIdeal.nD Cert.S5OutRefIdeal.τ Cert.S5OutRefIdeal.sig) → Buf (Elt Ideal) ℓ) (g' : Dev Cert.S5OutRefIdeal.nD → PrngReg), Pre_S5OutIdeal m →
    (∀ c : Dev Cert.S5OutIdeal.nD,
      m' ((c.tc : Thread Cert.S5OutRefIdeal.nD Cert.S5OutRefIdeal.τ).loc Cert.S5OutRefIdeal.main_arg0) = m ((c.tc : Thread Cert.S5OutIdeal.nD Cert.S5OutIdeal.τ).loc Cert.S5OutIdeal.main_arg0)
      ∧ m' ((c.tc : Thread Cert.S5OutRefIdeal.nD Cert.S5OutRefIdeal.τ).loc Cert.S5OutRefIdeal.main_arg1) = m ((c.tc : Thread Cert.S5OutIdeal.nD Cert.S5OutIdeal.τ).loc Cert.S5OutIdeal.main_arg1)
      ∧ m' ((c.tc : Thread Cert.S5OutRefIdeal.nD Cert.S5OutRefIdeal.τ).loc Cert.S5OutRefIdeal.main_arg2) = m ((c.tc : Thread Cert.S5OutIdeal.nD Cert.S5OutIdeal.τ).loc Cert.S5OutIdeal.main_arg2)
      ∧ m' ((c.tc : Thread Cert.S5OutRefIdeal.nD Cert.S5OutRefIdeal.τ).loc Cert.S5OutRefIdeal.main_arg3) = m ((c.tc : Thread Cert.S5OutIdeal.nD Cert.S5OutIdeal.τ).loc Cert.S5OutIdeal.main_arg3)
      ∧ m' ((c.tc : Thread Cert.S5OutRefIdeal.nD Cert.S5OutRefIdeal.τ).loc Cert.S5OutRefIdeal.main_arg4) = m ((c.tc : Thread Cert.S5OutIdeal.nD Cert.S5OutIdeal.τ).loc Cert.S5OutIdeal.main_arg4)
      ∧ m' ((c.tc : Thread Cert.S5OutRefIdeal.nD Cert.S5OutRefIdeal.τ).loc Cert.S5OutRefIdeal.main_arg5) = m ((c.tc : Thread Cert.S5OutIdeal.nD Cert.S5OutIdeal.τ).loc Cert.S5OutIdeal.main_arg5)) →
    ∃ (v0 : (c : Dev Cert.S5OutIdeal.nD) → Buf (Elt Ideal) ((c.tc : Thread Cert.S5OutIdeal.nD Cert.S5OutIdeal.τ).loc Cert.S5OutIdeal.main_v3)),
      θ_run (Cert.S5OutIdeal.defs (F := Ideal)) (onTc (τ := Cert.S5OutIdeal.τ) (Cert.S5OutIdeal.main (F := Ideal))) ⟨m, fun _ => 0, g⟩ (fun r => ∀ c : Dev Cert.S5OutIdeal.nD,
          r.2.mem ((c.tc : Thread Cert.S5OutIdeal.nD Cert.S5OutIdeal.τ).loc Cert.S5OutIdeal.main_v3) = v0 c
          ∧ r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
          ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
          ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2)
          ∧ r.2.mem ((c.tc : Thread Cert.S5OutIdeal.nD Cert.S5OutIdeal.τ).loc Cert.S5OutIdeal.main_arg3) = m ((c.tc : Thread Cert.S5OutIdeal.nD Cert.S5OutIdeal.τ).loc Cert.S5OutIdeal.main_arg3)
          ∧ r.2.mem ((c.tc : Thread Cert.S5OutIdeal.nD Cert.S5OutIdeal.τ).loc Cert.S5OutIdeal.main_arg4) = m ((c.tc : Thread Cert.S5OutIdeal.nD Cert.S5OutIdeal.τ).loc Cert.S5OutIdeal.main_arg4)
          ∧ r.2.mem ((c.tc : Thread Cert.S5OutIdeal.nD Cert.S5OutIdeal.τ).loc Cert.S5OutIdeal.main_arg5) = m ((c.tc : Thread Cert.S5OutIdeal.nD Cert.S5OutIdeal.τ).loc Cert.S5OutIdeal.main_arg5))
      ∧ θ_run (Cert.S5OutRefIdeal.defs (F := Ideal)) (onTc (τ := Cert.S5OutRefIdeal.τ) (Cert.S5OutRefIdeal.main (F := Ideal))) ⟨m', fun _ => 0, g'⟩ (fun r => ∀ c : Dev Cert.S5OutRefIdeal.nD,
          r.2.mem ((c.tc : Thread Cert.S5OutRefIdeal.nD Cert.S5OutRefIdeal.τ).loc Cert.S5OutRefIdeal.main_v29) = v0 c
          ∧ r.2.mem ((c.tc : Thread Cert.S5OutRefIdeal.nD Cert.S5OutRefIdeal.τ).loc Cert.S5OutRefIdeal.main_arg0) = m' ((c.tc : Thread Cert.S5OutRefIdeal.nD Cert.S5OutRefIdeal.τ).loc Cert.S5OutRefIdeal.main_arg0)
          ∧ r.2.mem ((c.tc : Thread Cert.S5OutRefIdeal.nD Cert.S5OutRefIdeal.τ).loc Cert.S5OutRefIdeal.main_arg1) = m' ((c.tc : Thread Cert.S5OutRefIdeal.nD Cert.S5OutRefIdeal.τ).loc Cert.S5OutRefIdeal.main_arg1)
          ∧ r.2.mem ((c.tc : Thread Cert.S5OutRefIdeal.nD Cert.S5OutRefIdeal.τ).loc Cert.S5OutRefIdeal.main_arg2) = m' ((c.tc : Thread Cert.S5OutRefIdeal.nD Cert.S5OutRefIdeal.τ).loc Cert.S5OutRefIdeal.main_arg2)
          ∧ r.2.mem ((c.tc : Thread Cert.S5OutRefIdeal.nD Cert.S5OutRefIdeal.τ).loc Cert.S5OutRefIdeal.main_arg3) = m' ((c.tc : Thread Cert.S5OutRefIdeal.nD Cert.S5OutRefIdeal.τ).loc Cert.S5OutRefIdeal.main_arg3)
          ∧ r.2.mem ((c.tc : Thread Cert.S5OutRefIdeal.nD Cert.S5OutRefIdeal.τ).loc Cert.S5OutRefIdeal.main_arg4) = m' ((c.tc : Thread Cert.S5OutRefIdeal.nD Cert.S5OutRefIdeal.τ).loc Cert.S5OutRefIdeal.main_arg4)
          ∧ r.2.mem ((c.tc : Thread Cert.S5OutRefIdeal.nD Cert.S5OutRefIdeal.τ).loc Cert.S5OutRefIdeal.main_arg5) = m' ((c.tc : Thread Cert.S5OutRefIdeal.nD Cert.S5OutRefIdeal.τ).loc Cert.S5OutRefIdeal.main_arg5))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_HyLat_HyLatIdeal : Prop :=
  True

def algebraic_HyLatIdeal_HyLatRefIdeal [hHyLatIdeal : Cert.HyLatIdeal.Facts] [hHyLatRefIdeal : Cert.HyLatRefIdeal.Facts] : Prop :=
  ∀ (m : (ℓ : Loc Cert.HyLatIdeal.nD Cert.HyLatIdeal.τ Cert.HyLatIdeal.sig) → Buf (Elt Ideal) ℓ) (g : Dev Cert.HyLatIdeal.nD → PrngReg)
    (m' : (ℓ : Loc Cert.HyLatRefIdeal.nD Cert.HyLatRefIdeal.τ Cert.HyLatRefIdeal.sig) → Buf (Elt Ideal) ℓ) (g' : Dev Cert.HyLatRefIdeal.nD → PrngReg), Pre_HyLatIdeal m →
    (∀ c : Dev Cert.HyLatIdeal.nD,
      m' ((c.tc : Thread Cert.HyLatRefIdeal.nD Cert.HyLatRefIdeal.τ).loc Cert.HyLatRefIdeal.main_arg0) = m ((c.tc : Thread Cert.HyLatIdeal.nD Cert.HyLatIdeal.τ).loc Cert.HyLatIdeal.main_arg0)
      ∧ m' ((c.tc : Thread Cert.HyLatRefIdeal.nD Cert.HyLatRefIdeal.τ).loc Cert.HyLatRefIdeal.main_arg1) = m ((c.tc : Thread Cert.HyLatIdeal.nD Cert.HyLatIdeal.τ).loc Cert.HyLatIdeal.main_arg1)
      ∧ m' ((c.tc : Thread Cert.HyLatRefIdeal.nD Cert.HyLatRefIdeal.τ).loc Cert.HyLatRefIdeal.main_arg2) = m ((c.tc : Thread Cert.HyLatIdeal.nD Cert.HyLatIdeal.τ).loc Cert.HyLatIdeal.main_arg2)) →
    ∃ (v0 : (c : Dev Cert.HyLatIdeal.nD) → Buf (Elt Ideal) ((c.tc : Thread Cert.HyLatIdeal.nD Cert.HyLatIdeal.τ).loc Cert.HyLatIdeal.main_v1)),
      θ_run (Cert.HyLatIdeal.defs (F := Ideal)) (onTc (τ := Cert.HyLatIdeal.τ) (Cert.HyLatIdeal.main (F := Ideal))) ⟨m, fun _ => 0, g⟩ (fun r => ∀ c : Dev Cert.HyLatIdeal.nD,
          r.2.mem ((c.tc : Thread Cert.HyLatIdeal.nD Cert.HyLatIdeal.τ).loc Cert.HyLatIdeal.main_v1) = v0 c
          ∧ r.2.mem ((c.tc : Thread Cert.HyLatIdeal.nD Cert.HyLatIdeal.τ).loc Cert.HyLatIdeal.main_arg0) = m ((c.tc : Thread Cert.HyLatIdeal.nD Cert.HyLatIdeal.τ).loc Cert.HyLatIdeal.main_arg0)
          ∧ r.2.mem ((c.tc : Thread Cert.HyLatIdeal.nD Cert.HyLatIdeal.τ).loc Cert.HyLatIdeal.main_arg1) = m ((c.tc : Thread Cert.HyLatIdeal.nD Cert.HyLatIdeal.τ).loc Cert.HyLatIdeal.main_arg1)
          ∧ r.2.mem ((c.tc : Thread Cert.HyLatIdeal.nD Cert.HyLatIdeal.τ).loc Cert.HyLatIdeal.main_arg2) = m ((c.tc : Thread Cert.HyLatIdeal.nD Cert.HyLatIdeal.τ).loc Cert.HyLatIdeal.main_arg2))
      ∧ θ_run (Cert.HyLatRefIdeal.defs (F := Ideal)) (onTc (τ := Cert.HyLatRefIdeal.τ) (Cert.HyLatRefIdeal.main (F := Ideal))) ⟨m', fun _ => 0, g'⟩ (fun r => ∀ c : Dev Cert.HyLatRefIdeal.nD,
          r.2.mem ((c.tc : Thread Cert.HyLatRefIdeal.nD Cert.HyLatRefIdeal.τ).loc Cert.HyLatRefIdeal.main_v32) = v0 c
          ∧ r.2.mem ((c.tc : Thread Cert.HyLatRefIdeal.nD Cert.HyLatRefIdeal.τ).loc Cert.HyLatRefIdeal.main_arg0) = m' ((c.tc : Thread Cert.HyLatRefIdeal.nD Cert.HyLatRefIdeal.τ).loc Cert.HyLatRefIdeal.main_arg0)
          ∧ r.2.mem ((c.tc : Thread Cert.HyLatRefIdeal.nD Cert.HyLatRefIdeal.τ).loc Cert.HyLatRefIdeal.main_arg1) = m' ((c.tc : Thread Cert.HyLatRefIdeal.nD Cert.HyLatRefIdeal.τ).loc Cert.HyLatRefIdeal.main_arg1)
          ∧ r.2.mem ((c.tc : Thread Cert.HyLatRefIdeal.nD Cert.HyLatRefIdeal.τ).loc Cert.HyLatRefIdeal.main_arg2) = m' ((c.tc : Thread Cert.HyLatRefIdeal.nD Cert.HyLatRefIdeal.τ).loc Cert.HyLatRefIdeal.main_arg2))

def preserves_HyCtx_HyCtxIdeal : Prop :=
  True

def algebraic_HyCtxIdeal_HyCtxRefIdeal [hHyCtxIdeal : Cert.HyCtxIdeal.Facts] [hHyCtxRefIdeal : Cert.HyCtxRefIdeal.Facts] : Prop :=
  ∀ (m : (ℓ : Loc Cert.HyCtxIdeal.nD Cert.HyCtxIdeal.τ Cert.HyCtxIdeal.sig) → Buf (Elt Ideal) ℓ) (g : Dev Cert.HyCtxIdeal.nD → PrngReg)
    (m' : (ℓ : Loc Cert.HyCtxRefIdeal.nD Cert.HyCtxRefIdeal.τ Cert.HyCtxRefIdeal.sig) → Buf (Elt Ideal) ℓ) (g' : Dev Cert.HyCtxRefIdeal.nD → PrngReg), Pre_HyCtxIdeal m →
    (∀ c : Dev Cert.HyCtxIdeal.nD,
      m' ((c.tc : Thread Cert.HyCtxRefIdeal.nD Cert.HyCtxRefIdeal.τ).loc Cert.HyCtxRefIdeal.main_arg0) = m ((c.tc : Thread Cert.HyCtxIdeal.nD Cert.HyCtxIdeal.τ).loc Cert.HyCtxIdeal.main_arg0)
      ∧ m' ((c.tc : Thread Cert.HyCtxRefIdeal.nD Cert.HyCtxRefIdeal.τ).loc Cert.HyCtxRefIdeal.main_arg1) = m ((c.tc : Thread Cert.HyCtxIdeal.nD Cert.HyCtxIdeal.τ).loc Cert.HyCtxIdeal.main_arg1)
      ∧ m' ((c.tc : Thread Cert.HyCtxRefIdeal.nD Cert.HyCtxRefIdeal.τ).loc Cert.HyCtxRefIdeal.main_arg2) = m ((c.tc : Thread Cert.HyCtxIdeal.nD Cert.HyCtxIdeal.τ).loc Cert.HyCtxIdeal.main_arg2)) →
    ∃ (v0 : (c : Dev Cert.HyCtxIdeal.nD) → Buf (Elt Ideal) ((c.tc : Thread Cert.HyCtxIdeal.nD Cert.HyCtxIdeal.τ).loc Cert.HyCtxIdeal.main_v1)),
      θ_run (Cert.HyCtxIdeal.defs (F := Ideal)) (onTc (τ := Cert.HyCtxIdeal.τ) (Cert.HyCtxIdeal.main (F := Ideal))) ⟨m, fun _ => 0, g⟩ (fun r => ∀ c : Dev Cert.HyCtxIdeal.nD,
          r.2.mem ((c.tc : Thread Cert.HyCtxIdeal.nD Cert.HyCtxIdeal.τ).loc Cert.HyCtxIdeal.main_v1) = v0 c
          ∧ r.2.mem ((c.tc : Thread Cert.HyCtxIdeal.nD Cert.HyCtxIdeal.τ).loc Cert.HyCtxIdeal.main_arg0) = m ((c.tc : Thread Cert.HyCtxIdeal.nD Cert.HyCtxIdeal.τ).loc Cert.HyCtxIdeal.main_arg0)
          ∧ r.2.mem ((c.tc : Thread Cert.HyCtxIdeal.nD Cert.HyCtxIdeal.τ).loc Cert.HyCtxIdeal.main_arg1) = m ((c.tc : Thread Cert.HyCtxIdeal.nD Cert.HyCtxIdeal.τ).loc Cert.HyCtxIdeal.main_arg1)
          ∧ r.2.mem ((c.tc : Thread Cert.HyCtxIdeal.nD Cert.HyCtxIdeal.τ).loc Cert.HyCtxIdeal.main_arg2) = m ((c.tc : Thread Cert.HyCtxIdeal.nD Cert.HyCtxIdeal.τ).loc Cert.HyCtxIdeal.main_arg2))
      ∧ θ_run (Cert.HyCtxRefIdeal.defs (F := Ideal)) (onTc (τ := Cert.HyCtxRefIdeal.τ) (Cert.HyCtxRefIdeal.main (F := Ideal))) ⟨m', fun _ => 0, g'⟩ (fun r => ∀ c : Dev Cert.HyCtxRefIdeal.nD,
          r.2.mem ((c.tc : Thread Cert.HyCtxRefIdeal.nD Cert.HyCtxRefIdeal.τ).loc Cert.HyCtxRefIdeal.main_v32) = v0 c
          ∧ r.2.mem ((c.tc : Thread Cert.HyCtxRefIdeal.nD Cert.HyCtxRefIdeal.τ).loc Cert.HyCtxRefIdeal.main_arg0) = m' ((c.tc : Thread Cert.HyCtxRefIdeal.nD Cert.HyCtxRefIdeal.τ).loc Cert.HyCtxRefIdeal.main_arg0)
          ∧ r.2.mem ((c.tc : Thread Cert.HyCtxRefIdeal.nD Cert.HyCtxRefIdeal.τ).loc Cert.HyCtxRefIdeal.main_arg1) = m' ((c.tc : Thread Cert.HyCtxRefIdeal.nD Cert.HyCtxRefIdeal.τ).loc Cert.HyCtxRefIdeal.main_arg1)
          ∧ r.2.mem ((c.tc : Thread Cert.HyCtxRefIdeal.nD Cert.HyCtxRefIdeal.τ).loc Cert.HyCtxRefIdeal.main_arg2) = m' ((c.tc : Thread Cert.HyCtxRefIdeal.nD Cert.HyCtxRefIdeal.τ).loc Cert.HyCtxRefIdeal.main_arg2))

def Claim : Prop :=
  ∃ (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hOutproj : Cert.Outproj.Facts) (hOutprojIdeal : Cert.OutprojIdeal.Facts) (hOutprojRefIdeal : Cert.OutprojRefIdeal.Facts) (hRetFwd : Cert.RetFwd.Facts) (hRetFwdIdeal : Cert.RetFwdIdeal.Facts) (hRetFwdRefIdeal : Cert.RetFwdRefIdeal.Facts) (hRetBwd : Cert.RetBwd.Facts) (hRetBwdIdeal : Cert.RetBwdIdeal.Facts) (hRetBwdRefIdeal : Cert.RetBwdRefIdeal.Facts) (hS5Out : Cert.S5Out.Facts) (hS5OutIdeal : Cert.S5OutIdeal.Facts) (hS5OutRefIdeal : Cert.S5OutRefIdeal.Facts) (hAda : Cert.Ada.Facts) (hAdaIdeal : Cert.AdaIdeal.Facts) (hAdaRefIdeal : Cert.AdaRefIdeal.Facts) (hHyLat : Cert.HyLat.Facts) (hHyLatIdeal : Cert.HyLatIdeal.Facts) (hHyLatRefIdeal : Cert.HyLatRefIdeal.Facts) (hHyCtx : Cert.HyCtx.Facts) (hHyCtxIdeal : Cert.HyCtxIdeal.Facts) (hHyCtxRefIdeal : Cert.HyCtxRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_RetFwd (hRetFwd := hRetFwd)
    ∧ quiescent_RetFwdIdeal (hRetFwdIdeal := hRetFwdIdeal)
    ∧ quiescent_RetFwdRefIdeal (hRetFwdRefIdeal := hRetFwdRefIdeal)
    ∧ quiescent_RetBwd (hRetBwd := hRetBwd)
    ∧ quiescent_RetBwdIdeal (hRetBwdIdeal := hRetBwdIdeal)
    ∧ quiescent_RetBwdRefIdeal (hRetBwdRefIdeal := hRetBwdRefIdeal)
    ∧ quiescent_S5Out (hS5Out := hS5Out)
    ∧ quiescent_S5OutIdeal (hS5OutIdeal := hS5OutIdeal)
    ∧ quiescent_S5OutRefIdeal (hS5OutRefIdeal := hS5OutRefIdeal)
    ∧ quiescent_Ada (hAda := hAda)
    ∧ quiescent_AdaIdeal (hAdaIdeal := hAdaIdeal)
    ∧ quiescent_AdaRefIdeal (hAdaRefIdeal := hAdaRefIdeal)
    ∧ quiescent_HyLat (hHyLat := hHyLat)
    ∧ quiescent_HyLatIdeal (hHyLatIdeal := hHyLatIdeal)
    ∧ quiescent_HyLatRefIdeal (hHyLatRefIdeal := hHyLatRefIdeal)
    ∧ quiescent_HyCtx (hHyCtx := hHyCtx)
    ∧ quiescent_HyCtxIdeal (hHyCtxIdeal := hHyCtxIdeal)
    ∧ quiescent_HyCtxRefIdeal (hHyCtxRefIdeal := hHyCtxRefIdeal)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_Outproj_OutprojIdeal
    ∧ algebraic_OutprojIdeal_OutprojRefIdeal (hOutprojIdeal := hOutprojIdeal) (hOutprojRefIdeal := hOutprojRefIdeal)
    ∧ preserves_RetFwd_RetFwdIdeal
    ∧ algebraic_RetFwdIdeal_RetFwdRefIdeal (hRetFwdIdeal := hRetFwdIdeal) (hRetFwdRefIdeal := hRetFwdRefIdeal)
    ∧ preserves_RetBwd_RetBwdIdeal
    ∧ algebraic_RetBwdIdeal_RetBwdRefIdeal (hRetBwdIdeal := hRetBwdIdeal) (hRetBwdRefIdeal := hRetBwdRefIdeal)
    ∧ preserves_S5Out_S5OutIdeal
    ∧ algebraic_S5OutIdeal_S5OutRefIdeal (hS5OutIdeal := hS5OutIdeal) (hS5OutRefIdeal := hS5OutRefIdeal)
    ∧ preserves_Ada_AdaIdeal
    ∧ algebraic_AdaIdeal_AdaRefIdeal (hAdaIdeal := hAdaIdeal) (hAdaRefIdeal := hAdaRefIdeal)
    ∧ preserves_HyLat_HyLatIdeal
    ∧ algebraic_HyLatIdeal_HyLatRefIdeal (hHyLatIdeal := hHyLatIdeal) (hHyLatRefIdeal := hHyLatRefIdeal)
    ∧ preserves_HyCtx_HyCtxIdeal
    ∧ algebraic_HyCtxIdeal_HyCtxRefIdeal (hHyCtxIdeal := hHyCtxIdeal) (hHyCtxRefIdeal := hHyCtxRefIdeal)
-- ==== Ffn.lean ====
abbrev S16896x2048 : Shape := ⟨2, ![16896, 2048]⟩
abbrev S3x9x2048 : Shape := ⟨3, ![3, 9, 2048]⟩
abbrev S6x2048 : Shape := ⟨2, ![6, 2048]⟩
abbrev S2048x5632 : Shape := ⟨2, ![2048, 5632]⟩
abbrev S5632x2048 : Shape := ⟨2, ![5632, 2048]⟩
abbrev S512x2048 : Shape := ⟨2, ![512, 2048]⟩
abbrev S1x9x2048 : Shape := ⟨3, ![1, 9, 2048]⟩
abbrev S2048x512 : Shape := ⟨2, ![2048, 512]⟩
abbrev S1x2048 : Shape := ⟨2, ![1, 2048]⟩
abbrev S512 : Shape := ⟨1, ![512]⟩
abbrev S512x1 : Shape := ⟨2, ![512, 1]⟩
abbrev S1x1x2048 : Shape := ⟨3, ![1, 1, 2048]⟩
abbrev S512x512 : Shape := ⟨2, ![512, 512]⟩

abbrev nBuf : Space → Nat
  | .hbm => 10
  | .vmem => 15
  | .smem => 0
  | _ => 0

abbrev bufTy : (tb : Table) → Fin (tcTables nBuf tb) → BufTy
  | .hbm, ⟨0, _⟩ => ⟨S16896x2048, .f32⟩
  | .hbm, ⟨1, _⟩ => ⟨S3x9x2048, .f32⟩
  | .hbm, ⟨2, _⟩ => ⟨S6x2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S16896x2048, .f32⟩
  | .local _ .vmem, ⟨0, _⟩ => ⟨S512x2048, .f32⟩
  | .local _ .vmem, ⟨1, _⟩ => ⟨S512x2048, .f32⟩
  | .local _ .vmem, ⟨2, _⟩ => ⟨S1x9x2048, .f32⟩
  | .local _ .vmem, ⟨3, _⟩ => ⟨S1x9x2048, .f32⟩
  | .local _ .vmem, ⟨4, _⟩ => ⟨S6x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![33, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16896x2048 : Shape := ⟨2, ![16896, 2048]⟩
abbrev S3x9x2048 : Shape := ⟨3, ![3, 9, 2048]⟩
abbrev S6x2048 : Shape := ⟨2, ![6, 2048]⟩
abbrev S2048x5632 : Shape := ⟨2, ![2048, 5632]⟩
abbrev S5632x2048 : Shape := ⟨2, ![5632, 2048]⟩
abbrev S1x1x2048 : Shape := ⟨3, ![1, 1, 2048]⟩
abbrev S2048 : Shape := ⟨1, ![2048]⟩
abbrev S8192x2048 : Shape := ⟨2, ![8192, 2048]⟩
abbrev S512x2048 : Shape := ⟨2, ![512, 2048]⟩
abbrev S_ : Shape := ⟨0, ![]⟩
abbrev S1x2048 : Shape := ⟨2, ![1, 2048]⟩
abbrev S16896 : Shape := ⟨1, ![16896]⟩
abbrev S16896x1 : Shape := ⟨2, ![16896, 1]⟩
abbrev S16896x5632 : Shape := ⟨2, ![16896, 5632]⟩

abbrev nBuf : Space → Nat
  | .hbm => 95
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S3x9x2048, .f32⟩
  | .hbm, ⟨2, _⟩ => ⟨S6x2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S1x1x2048, .f32⟩
  | .hbm, ⟨7, _⟩ => ⟨S2048, .f32⟩
  | .hbm, ⟨8, _⟩ => ⟨S8192x2048, .f32⟩
  | .hbm, ⟨9, _⟩ => ⟨S1x1x2048, .f32⟩
  | .hbm, ⟨10, _⟩ => ⟨S2048, .f32⟩
  | .hbm, ⟨11, _⟩ => ⟨S8192x2048, .f32⟩
  | .hbm, ⟨12, _⟩ => ⟨S1x1x2048, .f32⟩
  | .hbm, ⟨13, _⟩ => ⟨S2048, .f32⟩
  | .hbm, ⟨14, _⟩ => ⟨S512x2048, .f32⟩
  | .hbm, ⟨15, _⟩ => ⟨S16896x2048, .f32⟩
  | .hbm, ⟨16, _⟩ => ⟨S_, .f32⟩
  | .hbm, ⟨17, _⟩ => ⟨S16896x2048, .f32⟩
  | .hbm, ⟨18, _⟩ => ⟨S16896x2048, .f32⟩
  | .hbm, ⟨19, _⟩ => ⟨S1x2048, .f32⟩
  | .hbm, ⟨20, _⟩ => ⟨S2048, .f32⟩
  | .hbm, ⟨21, _⟩ => ⟨S1x1x2048, .f32⟩
  | .hbm, ⟨22, _⟩ => ⟨S2048, .f32⟩
  | .hbm, ⟨23, _⟩ => ⟨S8192x2048, .f32⟩
  | .hbm, ⟨24, _⟩ => ⟨S1x1x2048, .f32⟩
  | .hbm, ⟨25, _⟩ => ⟨S2048, .f32⟩
  | .hbm, ⟨26, _⟩ => ⟨S8192x2048, .f32⟩
  | .hbm, ⟨27, _⟩ => ⟨S1x1x2048, .f32⟩
  | .hbm, ⟨28, _⟩ => ⟨S2048, .f32⟩
  | .hbm, ⟨29, _⟩ => ⟨S512x2048, .f32⟩
  | .hbm, ⟨30, _⟩ => ⟨S16896x2048, .f32⟩
  | .hbm, ⟨31, _⟩ => ⟨S1x1x2048, .f32⟩
  | .hbm, ⟨32, _⟩ => ⟨S2048, .f32⟩
  | .hbm, ⟨33, _⟩ => ⟨S8192x2048, .f32⟩
  | .hbm, ⟨34, _⟩ => ⟨S1x1x2048, .f32⟩
  | .hbm, ⟨35, _⟩ => ⟨S2048, .f32⟩
  | .hbm, ⟨36, _⟩ => ⟨S8192x2048, .f32⟩
  | .hbm, ⟨37, _⟩ => ⟨S1x1x2048, .f32⟩
  | .hbm, ⟨38, _⟩ => ⟨S2048, .f32⟩
  | .hbm, ⟨39, _⟩ => ⟨S512x2048, .f32⟩
  | .hbm, ⟨40, _⟩ => ⟨S16896x2048, .f32⟩
  | .hbm, ⟨41, _⟩ => ⟨S16896x2048, .f32⟩
  | .hbm, ⟨42, _⟩ => ⟨S_, .f32⟩
  | .hbm, ⟨43, _⟩ => ⟨S16896, .f32⟩
  | .hbm, ⟨44, _⟩ => ⟨S16896x1, .f32⟩
  | .hbm, ⟨45, _⟩ => ⟨S_, .f32⟩
  | .hbm, ⟨46, _⟩ => ⟨S16896x1, .f32⟩
  | .hbm, ⟨47, _⟩ => ⟨S16896x1, .f32⟩
  | .hbm, ⟨48, _⟩ => ⟨S_, .f32⟩
  | .hbm, ⟨49, _⟩ => ⟨S16896x1, .f32⟩
  | .hbm, ⟨50, _⟩ => ⟨S16896x1, .f32⟩
  | .hbm, ⟨51, _⟩ => ⟨S16896x1, .f32⟩
  | .hbm, ⟨52, _⟩ => ⟨S16896x2048, .f32⟩
  | .hbm, ⟨53, _⟩ => ⟨S16896x2048, .f32⟩
  | .hbm, ⟨54, _⟩ => ⟨S1x2048, .f32⟩
  | .hbm, ⟨55, _⟩ => ⟨S16896x2048, .f32⟩
  | .hbm, ⟨56, _⟩ => ⟨S16896x2048, .f32⟩
  | .hbm, ⟨57, _⟩ => ⟨S_, .f32⟩
  | .hbm, ⟨58, _⟩ => ⟨S16896x2048, .f32⟩
  | .hbm, ⟨59, _⟩ => ⟨S16896x2048, .f32⟩
  | .hbm, ⟨60, _⟩ => ⟨S16896x2048, .f32⟩
  | .hbm, ⟨61, _⟩ => ⟨S16896x2048, .f32⟩
  | .hbm, ⟨62, _⟩ => ⟨S16896x5632, .f32⟩
  | .hbm, ⟨63, _⟩ => ⟨S16896x5632, .f32⟩
  | .hbm, ⟨64, _⟩ => ⟨S16896x5632, .f32⟩
  | .hbm, ⟨65, _⟩ => ⟨S_, .f32⟩
  | .hbm, ⟨66, _⟩ => ⟨S16896x5632, .f32⟩
  | .hbm, ⟨67, _⟩ => ⟨S16896x5632, .f32⟩
  | .hbm, ⟨68, _⟩ => ⟨S_, .f32⟩
  | .hbm, ⟨69, _⟩ => ⟨S16896x5632, .f32⟩
  | .hbm, ⟨70, _⟩ => ⟨S16896x5632, .f32⟩
  | .hbm, ⟨71, _⟩ => ⟨S16896x5632, .f32⟩
  | .hbm, ⟨72, _⟩ => ⟨S16896x5632, .f32⟩
  | .hbm, ⟨73, _⟩ => ⟨S16896x5632, .f32⟩
  | .hbm, ⟨74, _⟩ => ⟨S16896x2048, .f32⟩
  | .hbm, ⟨75, _⟩ => ⟨S1x2048, .f32⟩
  | .hbm, ⟨76, _⟩ => ⟨S2048, .f32⟩
  | .hbm, ⟨77, _⟩ => ⟨S16896x2048, .f32⟩
  | .hbm, ⟨78, _⟩ => ⟨S_, .f32⟩
  | .hbm, ⟨79, _⟩ => ⟨S16896, .f32⟩
  | .hbm, ⟨80, _⟩ => ⟨S16896x1, .f32⟩
  | .hbm, ⟨81, _⟩ => ⟨S_, .f32⟩
  | .hbm, ⟨82, _⟩ => ⟨S16896x1, .f32⟩
  | .hbm, ⟨83, _⟩ => ⟨S16896x1, .f32⟩
  | .hbm, ⟨84, _⟩ => ⟨S_, .f32⟩
  | .hbm, ⟨85, _⟩ => ⟨S16896x1, .f32⟩
  | .hbm, ⟨86, _⟩ => ⟨S16896x1, .f32⟩
  | .hbm, ⟨87, _⟩ => ⟨S16896x1, .f32⟩
  | .hbm, ⟨88, _⟩ => ⟨S16896x2048, .f32⟩
  | .hbm, ⟨89, _⟩ => ⟨S16896x2048, .f32⟩
  | .hbm, ⟨90, _⟩ => ⟨S1x2048, .f32⟩
  | .hbm, ⟨91, _⟩ => ⟨S16896x2048, .f32⟩
  | .hbm, ⟨92, _⟩ => ⟨S16896x2048, .f32⟩
  | .hbm, ⟨93, _⟩ => ⟨S16896x2048, .f32⟩
  | .hbm, ⟨94, _⟩ => ⟨S16896x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_0 : Ref sig .tc := ⟨.hbm, 42, rfl⟩
abbrev main_v35 : Ref sig .tc := ⟨.hbm, 43, rfl⟩
abbrev main_v36 : Ref sig .tc := ⟨.hbm, 44, rfl⟩
abbrev main_cst_1 : Ref sig .tc := ⟨.hbm, 45, rfl⟩
abbrev main_v37 : Ref sig .tc := ⟨.hbm, 46, rfl⟩
abbrev main_v38 : Ref sig .tc := ⟨.hbm, 47, rfl⟩
abbrev main_cst_2 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_3 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_4 : Ref sig .tc := ⟨.hbm, 78, rfl⟩
abbrev main_v59 : Ref sig .tc := ⟨.hbm, 79, rfl⟩
abbrev main_v60 : Ref sig .tc := ⟨.hbm, 80, rfl⟩
abbrev main_cst_5 : Ref sig .tc := ⟨.hbm, 81, rfl⟩
abbrev main_v61 : Ref sig .tc := ⟨.hbm, 82, rfl⟩
abbrev main_v62 : Ref sig .tc := ⟨.hbm, 83, rfl⟩
abbrev main_cst_6 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== Inproj.lean ====
abbrev S16896x2048 : Shape := ⟨2, ![16896, 2048]⟩
abbrev S3x9x2048 : Shape := ⟨3, ![3, 9, 2048]⟩
abbrev S6x2048 : Shape := ⟨2, ![6, 2048]⟩
abbrev S2048x10368 : Shape := ⟨2, ![2048, 10368]⟩
abbrev S16896x10368 : Shape := ⟨2, ![16896, 10368]⟩
abbrev S512x2048 : Shape := ⟨2, ![512, 2048]⟩
abbrev S1x9x2048 : Shape := ⟨3, ![1, 9, 2048]⟩
abbrev S2048x1152 : Shape := ⟨2, ![2048, 1152]⟩
abbrev S512x1152 : Shape := ⟨2, ![512, 1152]⟩
abbrev S1x2048 : Shape := ⟨2, ![1, 2048]⟩
abbrev S512 : Shape := ⟨1, ![512]⟩
abbrev S512x1 : Shape := ⟨2, ![512, 1]⟩
abbrev S1x1x2048 : Shape := ⟨3, ![1, 1, 2048]⟩

abbrev nBuf : Space → Nat
  | .hbm => 6
  | .vmem => 10
  | .smem => 0
  | _ => 0

abbrev bufTy : (tb : Table) → Fin (tcTables nBuf tb) → BufTy
  | .hbm, ⟨0, _⟩ => ⟨S16896x2048, .f32⟩
  | .hbm, ⟨1, _⟩ => ⟨S3x9x2048, .f32⟩
  | .hbm, ⟨2, _⟩ => ⟨S6x2048, .f32⟩
  | .hbm, ⟨3, _⟩ => ⟨S2048x10368, .f32⟩
  | .hbm, ⟨4, _⟩ => ⟨S2048x10368, .bf16⟩
  | .hbm, ⟨5, _⟩ => ⟨S16896x10368, .f32⟩
  | .local _ .vmem, ⟨0, _⟩ => ⟨S512x2048, .f32⟩
  | .local _ .vmem, ⟨1, _⟩ => ⟨S512x2048, .f32⟩
  | .local _ .vmem, ⟨2, _⟩ => ⟨S1x9x2048, .f32⟩
  | .local _ .vmem, ⟨3, _⟩ => ⟨S1x9x2048, .f32⟩
  | .local _ .vmem, ⟨4, _⟩ => ⟨S6x2048, .f32⟩
  | .local _ .vmem, ⟨5, _⟩ => ⟨S2048x1152, .bf16⟩
  | .local _ .vmem, ⟨6, _⟩ => ⟨S2048x1152, .bf16⟩
  | .local _ .vmem, ⟨7, _⟩ => ⟨S512x1152, .f32⟩
  | .local _ .vmem, ⟨8, _⟩ => ⟨S512x1152, .f32⟩
  | .local _ .vmem, ⟨9, _⟩ => ⟨S512x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![33, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InprojRefIdeal.lean ====
abbrev S16896x2048 : Shape := ⟨2, ![16896, 2048]⟩
abbrev S3x9x2048 : Shape := ⟨3, ![3, 9, 2048]⟩
abbrev S6x2048 : Shape := ⟨2, ![6, 2048]⟩
abbrev S2048x10368 : Shape := ⟨2, ![2048, 10368]⟩
abbrev S1x2048 : Shape := ⟨2, ![1, 2048]⟩
abbrev S2048 : Shape := ⟨1, ![2048]⟩
abbrev S1x1x2048 : Shape := ⟨3, ![1, 1, 2048]⟩
abbrev S8192x2048 : Shape := ⟨2, ![8192, 2048]⟩
abbrev S512x2048 : Shape := ⟨2, ![512, 2048]⟩
abbrev S_ : Shape := ⟨0, ![]⟩
abbrev S16896 : Shape := ⟨1, ![16896]⟩
abbrev S16896x1 : Shape := ⟨2, ![16896, 1]⟩
abbrev S16896x10368 : Shape := ⟨2, ![16896, 10368]⟩

abbrev nBuf : Space → Nat
  | .hbm => 48
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S3x9x2048, .f32⟩
  | .hbm, ⟨2, _⟩ => ⟨S6x2048, .f32⟩
  | .hbm, ⟨3, _⟩ => ⟨S2048x10368, .f32⟩
  | .hbm, ⟨4, _⟩ => ⟨S1x2048, .f32⟩
  | .hbm, ⟨5, _⟩ => ⟨S2048, .f32⟩
  | .hbm, ⟨6, _⟩ => ⟨S1x1x2048, .f32⟩
  | .hbm, ⟨7, _⟩ => ⟨S2048, .f32⟩
  | .hbm, ⟨8, _⟩ => ⟨S8192x2048, .f32⟩
  | .hbm, ⟨9, _⟩ => ⟨S1x1x2048, .f32⟩
  | .hbm, ⟨10, _⟩ => ⟨S2048, .f32⟩
  | .hbm, ⟨11, _⟩ => ⟨S8192x2048, .f32⟩
  | .hbm, ⟨12, _⟩ => ⟨S1x1x2048, .f32⟩
  | .hbm, ⟨13, _⟩ => ⟨S2048, .f32⟩
  | .hbm, ⟨14, _⟩ => ⟨S512x2048, .f32⟩
  | .hbm, ⟨15, _⟩ => ⟨S16896x2048, .f32⟩
  | .hbm, ⟨16, _⟩ => ⟨S1x1x2048, .f32⟩
  | .hbm, ⟨17, _⟩ => ⟨S2048, .f32⟩
  | .hbm, ⟨18, _⟩ => ⟨S8192x2048, .f32⟩
  | .hbm, ⟨19, _⟩ => ⟨S1x1x2048, .f32⟩
  | .hbm, ⟨20, _⟩ => ⟨S2048, .f32⟩
  | .hbm, ⟨21, _⟩ => ⟨S8192x2048, .f32⟩
  | .hbm, ⟨22, _⟩ => ⟨S1x1x2048, .f32⟩
  | .hbm, ⟨23, _⟩ => ⟨S2048, .f32⟩
  | .hbm, ⟨24, _⟩ => ⟨S512x2048, .f32⟩
  | .hbm, ⟨25, _⟩ => ⟨S16896x2048, .f32⟩
  | .hbm, ⟨26, _⟩ => ⟨S16896x2048, .f32⟩
  | .hbm, ⟨27, _⟩ => ⟨S_, .f32⟩
  | .hbm, ⟨28, _⟩ => ⟨S16896, .f32⟩
  | .hbm, ⟨29, _⟩ => ⟨S16896x1, .f32⟩
  | .hbm, ⟨30, _⟩ => ⟨S_, .f32⟩
  | .hbm, ⟨31, _⟩ => ⟨S16896x1, .f32⟩
  | .hbm, ⟨32, _⟩ => ⟨S16896x1, .f32⟩
  | .hbm, ⟨33, _⟩ => ⟨S_, .f32⟩
  | .hbm, ⟨34, _⟩ => ⟨S16896x1, .f32⟩
  | .hbm, ⟨35, _⟩ => ⟨S16896x1, .f32⟩
  | .hbm, ⟨36, _⟩ => ⟨S16896x1, .f32⟩
  | .hbm, ⟨37, _⟩ => ⟨S16896x2048, .f32⟩
  | .hbm, ⟨38, _⟩ => ⟨S16896x2048, .f32⟩
  | .hbm, ⟨39, _⟩ => ⟨S1x2048, .f32⟩
  | .hbm, ⟨40, _⟩ => ⟨S16896x2048, .f32⟩
  | .hbm, ⟨41, _⟩ => ⟨S16896x2048, .f32⟩
  | .hbm, ⟨42, _⟩ => ⟨S_, .f32⟩
  | .hbm, ⟨43, _⟩ => ⟨S16896x2048, .f32⟩
  | .hbm, ⟨44, _⟩ => ⟨S16896x2048, .f32⟩
  | .hbm, ⟨45, _⟩ => ⟨S16896x2048, .f32⟩
  | .hbm, ⟨46, _⟩ => ⟨S16896x2048, .f32⟩
  | .hbm, ⟨47, _⟩ => ⟨S16896x10368, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Merge.lean ====
abbrev S16896x2048 : Shape := ⟨2, ![16896, 2048]⟩
abbrev S3x9x2048 : Shape := ⟨3, ![3, 9, 2048]⟩
abbrev S6x2048 : Shape := ⟨2, ![6, 2048]⟩
abbrev S4x16896x1024 : Shape := ⟨3, ![4, 16896, 1024]⟩
abbrev S2048x8192 : Shape := ⟨2, ![2048, 8192]⟩
abbrev S8192 : Shape := ⟨1, ![8192]⟩
abbrev S4x1024x2048 : Shape := ⟨3, ![4, 1024, 2048]⟩
abbrev S1x8192 : Shape := ⟨2, ![1, 8192]⟩
abbrev S512x2048 : Shape := ⟨2, ![512, 2048]⟩
abbrev S1x9x2048 : Shape := ⟨3, ![1, 9, 2048]⟩
abbrev S1x512x1024 : Shape := ⟨3, ![1, 512, 1024]⟩
abbrev S2048x1024 : Shape := ⟨2, ![2048, 1024]⟩
abbrev S1x1024 : Shape := ⟨2, ![1, 1024]⟩
abbrev S1x1024x1024 : Shape := ⟨3, ![1, 1024, 1024]⟩
abbrev S512x1024 : Shape := ⟨2, ![512, 1024]⟩
abbrev S1x2048 : Shape := ⟨2, ![1, 2048]⟩
abbrev S512 : Shape := ⟨1, ![512]⟩
abbrev S512x1 : Shape := ⟨2, ![512, 1]⟩
abbrev S1x1x2048 : Shape := ⟨3, ![1, 1, 2048]⟩
abbrev S1024x1024 : Shape := ⟨2, ![1024, 1024]⟩

abbrev nBuf : Space → Nat
  | .hbm => 11
  | .vmem => 16
  | .smem => 0
  | _ => 0

abbrev bufTy : (tb : Table) → Fin (tcTables nBuf tb) → BufTy
  | .hbm, ⟨0, _⟩ => ⟨S16896x2048, .f32⟩
  | .hbm, ⟨1, _⟩ => ⟨S3x9x2048, .f32⟩
  | .hbm, ⟨2, _⟩ => ⟨S6x2048, .f32⟩
  | .hbm, ⟨3, _⟩ => ⟨S4x16896x1024, .f32⟩
  | .hbm, ⟨4, _⟩ => ⟨S2048x8192, .f32⟩
  | .hbm, ⟨5, _⟩ => ⟨S8192, .f32⟩
  | .hbm, ⟨6, _⟩ => ⟨S4x1024x2048, .f32⟩
  | .hbm, ⟨7, _⟩ => ⟨S2048x8192, .bf16⟩
  | .hbm, ⟨8, _⟩ => ⟨S4x1024x2048, .bf16⟩
  | .hbm, ⟨9, _⟩ => ⟨S1x8192, .f32⟩
  | .hbm, ⟨10, _⟩ => ⟨S16896x2048, .f32⟩
  | .local _ .vmem, ⟨0, _⟩ => ⟨S512x2048, .f32⟩
  | .local _ .vmem, ⟨1, _⟩ => ⟨S512x2048, .f32⟩
  | .local _ .vmem, ⟨2, _⟩ => ⟨S1x9x2048, .f32⟩
  | .local _ .vmem, ⟨3, _⟩ => ⟨S1x9x2048, .f32⟩
  | .local _ .vmem, ⟨4, _⟩ => ⟨S6x2048, .f32⟩
  | .local _ .vmem, ⟨5, _⟩ => ⟨S1x512x1024, .f32⟩
  | .local _ .vmem, ⟨6, _⟩ => ⟨S1x512x1024, .f32⟩
  | .local _ .vmem, ⟨7, _⟩ => ⟨S2048x1024, .bf16⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S1x1024x1024, .bf16⟩
  | .local _ .vmem, ⟨12, _⟩ => ⟨S1x1024x1024, .bf16⟩
  | .local _ .vmem, ⟨13, _⟩ => ⟨S512x1024, .f32⟩
  | .local _ .vmem, ⟨14, _⟩ => ⟨S512x1024, .f32⟩
  | .local _ .vmem, ⟨15, _⟩ => ⟨S512x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![33, 2, 4], ![false, false, false]⟩

def k0_cond2 (i : grid0.Coords) : BitVec 1 :=
  let arg2 : BitVec 32 := BitVec.ofNat 32 (i 2).val
  let c0_i32_14 : BitVec 32 := 0#32
  let v21 : BitVec 1 := Scalar.cmpi .eq arg2 c0_i32_14
  let v22 : BitVec 32 := Scalar.extui v21
  let c0_i32_15 : BitVec 32 := 0#32
  let v23 : BitVec 1 := Scalar.cmpi .ne v22 c0_i32_15
  v23

def k0_cond3 (i : grid0.Coords) : BitVec 1 :=
  let arg2 : BitVec 32 := BitVec.ofNat 32 (i 2).val
  let c0_i32_16 : BitVec 32 := 0#32
  let v24 : BitVec 1 := Scalar.cmpi .ne arg2 c0_i32_16
  let v25 : BitVec 32 := Scalar.extui v24
  let c0_i32_17 : BitVec 32 := 0#32
  let v26 : BitVec 1 := Scalar.cmpi .ne v25 c0_i32_17
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== MergeRefIdeal.lean ====
abbrev S16896x2048 : Shape := ⟨2, ![16896, 2048]⟩
abbrev S3x9x2048 : Shape := ⟨3, ![3, 9, 2048]⟩
abbrev S6x2048 : Shape := ⟨2, ![6, 2048]⟩
abbrev S4x16896x1024 : Shape := ⟨3, ![4, 16896, 1024]⟩
abbrev S2048x8192 : Shape := ⟨2, ![2048, 8192]⟩
abbrev S8192 : Shape := ⟨1, ![8192]⟩
abbrev S4x1024x2048 : Shape := ⟨3, ![4, 1024, 2048]⟩
abbrev S1x2048 : Shape := ⟨2, ![1, 2048]⟩
abbrev S2048 : Shape := ⟨1, ![2048]⟩
abbrev S1x1x2048 : Shape := ⟨3, ![1, 1, 2048]⟩
abbrev S8192x2048 : Shape := ⟨2, ![8192, 2048]⟩
abbrev S512x2048 : Shape := ⟨2, ![512, 2048]⟩
abbrev S_ : Shape := ⟨0, ![]⟩
abbrev S16896 : Shape := ⟨1, ![16896]⟩
abbrev S16896x1 : Shape := ⟨2, ![16896, 1]⟩
abbrev S16896x8192 : Shape := ⟨2, ![16896, 8192]⟩
abbrev S1x8192 : Shape := ⟨2, ![1, 8192]⟩
abbrev S16896x4x2048 : Shape := ⟨3, ![16896, 4, 2048]⟩
abbrev S16896x1x2048 : Shape := ⟨3, ![16896, 1, 2048]⟩
abbrev S1x16896x1024 : Shape := ⟨3, ![1, 16896, 1024]⟩
abbrev S16896x1024 : Shape := ⟨2, ![16896, 1024]⟩
abbrev S1x1024x2048 : Shape := ⟨3, ![1, 1024, 2048]⟩
abbrev S1024x2048 : Shape := ⟨2, ![1024, 2048]⟩

abbrev nBuf : Space → Nat
  | .hbm => 98
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S3x9x2048, .f32⟩
  | .hbm, ⟨2, _⟩ => ⟨S6x2048, .f32⟩
  | .hbm, ⟨3, _⟩ => ⟨S4x16896x1024, .f32⟩
  | .hbm, ⟨4, _⟩ => ⟨S2048x8192, .f32⟩
  | .hbm, ⟨5, _⟩ => ⟨S8192, .f32⟩
  | .hbm, ⟨6, _⟩ => ⟨S4x1024x2048, .f32⟩
  | .hbm, ⟨7, _⟩ => ⟨S1x2048, .f32⟩
  | .hbm, ⟨8, _⟩ => ⟨S2048, .f32⟩
  | .hbm, ⟨9, _⟩ => ⟨S1x1x2048, .f32⟩
  | .hbm, ⟨10, _⟩ => ⟨S2048, .f32⟩
  | .hbm, ⟨11, _⟩ => ⟨S8192x2048, .f32⟩
  | .hbm, ⟨12, _⟩ => ⟨S1x1x2048, .f32⟩
  | .hbm, ⟨13, _⟩ => ⟨S2048, .f32⟩
  | .hbm, ⟨14, _⟩ => ⟨S8192x2048, .f32⟩
  | .hbm, ⟨15, _⟩ => ⟨S1x1x2048, .f32⟩
  | .hbm, ⟨16, _⟩ => ⟨S2048, .f32⟩
  | .hbm, ⟨17, _⟩ => ⟨S512x2048, .f32⟩
  | .hbm, ⟨18, _⟩ => ⟨S16896x2048, .f32⟩
  | .hbm, ⟨19, _⟩ => ⟨S1x1x2048, .f32⟩
  | .hbm, ⟨20, _⟩ => ⟨S2048, .f32⟩
  | .hbm, ⟨21, _⟩ => ⟨S8192x2048, .f32⟩
  | .hbm, ⟨22, _⟩ => ⟨S1x1x2048, .f32⟩
  | .hbm, ⟨23, _⟩ => ⟨S2048, .f32⟩
  | .hbm, ⟨24, _⟩ => ⟨S8192x2048, .f32⟩
  | .hbm, ⟨25, _⟩ => ⟨S1x1x2048, .f32⟩
  | .hbm, ⟨26, _⟩ => ⟨S2048, .f32⟩
  | .hbm, ⟨27, _⟩ => ⟨S512x2048, .f32⟩
  | .hbm, ⟨28, _⟩ => ⟨S16896x2048, .f32⟩
  | .hbm, ⟨29, _⟩ => ⟨S16896x2048, .f32⟩
  | .hbm, ⟨30, _⟩ => ⟨S_, .f32⟩
  | .hbm, ⟨31, _⟩ => ⟨S16896, .f32⟩
  | .hbm, ⟨32, _⟩ => ⟨S16896x1, .f32⟩
  | .hbm, ⟨33, _⟩ => ⟨S_, .f32⟩
  | .hbm, ⟨34, _⟩ => ⟨S16896x1, .f32⟩
  | .hbm, ⟨35, _⟩ => ⟨S16896x1, .f32⟩
  | .hbm, ⟨36, _⟩ => ⟨S_, .f32⟩
  | .hbm, ⟨37, _⟩ => ⟨S16896x1, .f32⟩
  | .hbm, ⟨38, _⟩ => ⟨S16896x1, .f32⟩
  | .hbm, ⟨39, _⟩ => ⟨S16896x1, .f32⟩
  | .hbm, ⟨40, _⟩ => ⟨S16896x2048, .f32⟩
  | .hbm, ⟨41, _⟩ => ⟨S16896x2048, .f32⟩
  | .hbm, ⟨42, _⟩ => ⟨S1x2048, .f32⟩
  | .hbm, ⟨43, _⟩ => ⟨S16896x2048, .f32⟩
  | .hbm, ⟨44, _⟩ => ⟨S16896x2048, .f32⟩
  | .hbm, ⟨45, _⟩ => ⟨S_, .f32⟩
  | .hbm, ⟨46, _⟩ => ⟨S16896x2048, .f32⟩
  | .hbm, ⟨47, _⟩ => ⟨S16896x2048, .f32⟩
  | .hbm, ⟨48, _⟩ => ⟨S16896x2048, .f32⟩
  | .hbm, ⟨49, _⟩ => ⟨S16896x2048, .f32⟩
  | .hbm, ⟨50, _⟩ => ⟨S16896x8192, .f32⟩
  | .hbm, ⟨51, _⟩ => ⟨S1x8192, .f32⟩
  | .hbm, ⟨52, _⟩ => ⟨S16896x8192, .f32⟩
  | .hbm, ⟨53, _⟩ => ⟨S16896x8192, .f32⟩
  | .hbm, ⟨54, _⟩ => ⟨S16896x8192, .f32⟩
  | .hbm, ⟨55, _⟩ => ⟨S16896x8192, .f32⟩
  | .hbm, ⟨56, _⟩ => ⟨S_, .f32⟩
  | .hbm, ⟨57, _⟩ => ⟨S16896x8192, .f32⟩
  | .hbm, ⟨58, _⟩ => ⟨S16896x8192, .f32⟩
  | .hbm, ⟨59, _⟩ => ⟨S_, .f32⟩
  | .hbm, ⟨60, _⟩ => ⟨S16896x8192, .f32⟩
  | .hbm, ⟨61, _⟩ => ⟨S16896x8192, .f32⟩
  | .hbm, ⟨62, _⟩ => ⟨S16896x4x2048, .f32⟩
  | .hbm, ⟨63, _⟩ => ⟨S16896x1x2048, .f32⟩
  | .hbm, ⟨64, _⟩ => ⟨S16896x2048, .f32⟩
  | .hbm, ⟨65, _⟩ => ⟨S1x16896x1024, .f32⟩
  | .hbm, ⟨66, _⟩ => ⟨S16896x1024, .f32⟩
  | .hbm, ⟨67, _⟩ => ⟨S1x1024x2048, .f32⟩
  | .hbm, ⟨68, _⟩ => ⟨S1024x2048, .f32⟩
  | .hbm, ⟨69, _⟩ => ⟨S16896x2048, .f32⟩
  | .hbm, ⟨70, _⟩ => ⟨S16896x2048, .f32⟩
  | .hbm, ⟨71, _⟩ => ⟨S16896x1x2048, .f32⟩
  | .hbm, ⟨72, _⟩ => ⟨S16896x2048, .f32⟩
  | .hbm, ⟨73, _⟩ => ⟨S1x16896x1024, .f32⟩
  | .hbm, ⟨74, _⟩ => ⟨S16896x1024, .f32⟩
  | .hbm, ⟨75, _⟩ => ⟨S1x1024x2048, .f32⟩
  | .hbm, ⟨76, _⟩ => ⟨S1024x2048, .f32⟩
  | .hbm, ⟨77, _⟩ => ⟨S16896x2048, .f32⟩
  | .hbm, ⟨78, _⟩ => ⟨S16896x2048, .f32⟩
  | .hbm, ⟨79, _⟩ => ⟨S16896x2048, .f32⟩
  | .hbm, ⟨80, _⟩ => ⟨S16896x1x2048, .f32⟩
  | .hbm, ⟨81, _⟩ => ⟨S16896x2048, .f32⟩
  | .hbm, ⟨82, _⟩ => ⟨S1x16896x1024, .f32⟩
  | .hbm, ⟨83, _⟩ => ⟨S16896x1024, .f32⟩
  | .hbm, ⟨84, _⟩ => ⟨S1x1024x2048, .f32⟩
  | .hbm, ⟨85, _⟩ => ⟨S1024x2048, .f32⟩
  | .hbm, ⟨86, _⟩ => ⟨S16896x2048, .f32⟩
  | .hbm, ⟨87, _⟩ => ⟨S16896x2048, .f32⟩
  | .hbm, ⟨88, _⟩ => ⟨S16896x2048, .f32⟩
  | .hbm, ⟨89, _⟩ => ⟨S16896x1x2048, .f32⟩
  | .hbm, ⟨90, _⟩ => ⟨S16896x2048, .f32⟩
  | .hbm, ⟨91, _⟩ => ⟨S1x16896x1024, .f32⟩
  | .hbm, ⟨92, _⟩ => ⟨S16896x1024, .f32⟩
  | .hbm, ⟨93, _⟩ => ⟨S1x1024x2048, .f32⟩
  | .hbm, ⟨94, _⟩ => ⟨S1024x2048, .f32⟩
  | .hbm, ⟨95, _⟩ => ⟨S16896x2048, .f32⟩
  | .hbm, ⟨96, _⟩ => ⟨S16896x2048, .f32⟩
  | .hbm, ⟨97, _⟩ => ⟨S16896x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩

abbrev nD : Nat := 1
abbrev τ : Topo := Topo.v7x

variable {F : FTy → Type} [FloatOps F]
-- ==== Outproj.lean ====
abbrev S16896x2048 : Shape := ⟨2, ![16896, 2048]⟩
abbrev S3x9x2048 : Shape := ⟨3, ![3, 9, 2048]⟩
abbrev S6x2048 : Shape := ⟨2, ![6, 2048]⟩
abbrev S2048x2048 : Shape := ⟨2, ![2048, 2048]⟩
abbrev S512x2048 : Shape := ⟨2, ![512, 2048]⟩
abbrev S1x9x2048 : Shape := ⟨3, ![1, 9, 2048]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16896x2048, .f32⟩
  | .hbm, ⟨1, _⟩ => ⟨S16896x2048, .f32⟩
  | .hbm, ⟨2, _⟩ => ⟨S3x9x2048, .f32⟩
  | .hbm, ⟨3, _⟩ => ⟨S6x2048, .f32⟩
  | .hbm, ⟨4, _⟩ => ⟨S2048x2048, .f32⟩
  | .hbm, ⟨5, _⟩ => ⟨S2048x2048, .bf16⟩
  | .hbm, ⟨6, _⟩ => ⟨S16896x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x9x2048, .f32⟩
  | .local _ .vmem, ⟨5, _⟩ => ⟨S1x9x2048, .f32⟩
  | .local _ .vmem, ⟨6, _⟩ => ⟨S6x2048, .f32⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutprojRefIdeal.lean ====
abbrev S16896x2048 : Shape := ⟨2, ![16896, 2048]⟩
abbrev S3x9x2048 : Shape := ⟨3, ![3, 9, 2048]⟩
abbrev S6x2048 : Shape := ⟨2, ![6, 2048]⟩
abbrev S2048x2048 : Shape := ⟨2, ![2048, 2048]⟩
abbrev S1x1x2048 : Shape := ⟨3, ![1, 1, 2048]⟩
abbrev S2048 : Shape := ⟨1, ![2048]⟩
abbrev S8192x2048 : Shape := ⟨2, ![8192, 2048]⟩
abbrev S512x2048 : Shape := ⟨2, ![512, 2048]⟩
abbrev S1x2048 : Shape := ⟨2, ![1, 2048]⟩
abbrev S_ : Shape := ⟨0, ![]⟩
abbrev S16896 : Shape := ⟨1, ![16896]⟩
abbrev S16896x1 : Shape := ⟨2, ![16896, 1]⟩

abbrev nBuf : Space → Nat
  | .hbm => 36
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S16896x2048, .f32⟩
  | .hbm, ⟨2, _⟩ => ⟨S3x9x2048, .f32⟩
  | .hbm, ⟨3, _⟩ => ⟨S6x2048, .f32⟩
  | .hbm, ⟨4, _⟩ => ⟨S2048x2048, .f32⟩
  | .hbm, ⟨5, _⟩ => ⟨S1x1x2048, .f32⟩
  | .hbm, ⟨6, _⟩ => ⟨S2048, .f32⟩
  | .hbm, ⟨7, _⟩ => ⟨S8192x2048, .f32⟩
  | .hbm, ⟨8, _⟩ => ⟨S1x1x2048, .f32⟩
  | .hbm, ⟨9, _⟩ => ⟨S2048, .f32⟩
  | .hbm, ⟨10, _⟩ => ⟨S8192x2048, .f32⟩
  | .hbm, ⟨11, _⟩ => ⟨S1x1x2048, .f32⟩
  | .hbm, ⟨12, _⟩ => ⟨S2048, .f32⟩
  | .hbm, ⟨13, _⟩ => ⟨S512x2048, .f32⟩
  | .hbm, ⟨14, _⟩ => ⟨S16896x2048, .f32⟩
  | .hbm, ⟨15, _⟩ => ⟨S16896x2048, .f32⟩
  | .hbm, ⟨16, _⟩ => ⟨S1x2048, .f32⟩
  | .hbm, ⟨17, _⟩ => ⟨S2048, .f32⟩
  | .hbm, ⟨18, _⟩ => ⟨S16896x2048, .f32⟩
  | .hbm, ⟨19, _⟩ => ⟨S_, .f32⟩
  | .hbm, ⟨20, _⟩ => ⟨S16896, .f32⟩
  | .hbm, ⟨21, _⟩ => ⟨S16896x1, .f32⟩
  | .hbm, ⟨22, _⟩ => ⟨S_, .f32⟩
  | .hbm, ⟨23, _⟩ => ⟨S16896x1, .f32⟩
  | .hbm, ⟨24, _⟩ => ⟨S16896x1, .f32⟩
  | .hbm, ⟨25, _⟩ => ⟨S_, .f32⟩
  | .hbm, ⟨26, _⟩ => ⟨S16896x1, .f32⟩
  | .hbm, ⟨27, _⟩ => ⟨S16896x1, .f32⟩
  | .hbm, ⟨28, _⟩ => ⟨S16896x1, .f32⟩
  | .hbm, ⟨29, _⟩ => ⟨S16896x2048, .f32⟩
  | .hbm, ⟨30, _⟩ => ⟨S16896x2048, .f32⟩
  | .hbm, ⟨31, _⟩ => ⟨S1x2048, .f32⟩
  | .hbm, ⟨32, _⟩ => ⟨S16896x2048, .f32⟩
  | .hbm, ⟨33, _⟩ => ⟨S16896x2048, .f32⟩
  | .hbm, ⟨34, _⟩ => ⟨S16896x2048, .f32⟩
  | .hbm, ⟨35, _⟩ => ⟨S16896x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== RetFwd.lean ====
abbrev S16896x10368 : Shape := ⟨2, ![16896, 10368]⟩
abbrev S8192x64 : Shape := ⟨2, ![8192, 64]⟩
abbrev S2x4 : Shape := ⟨2, ![2, 4]⟩
abbrev S8192x128 : Shape := ⟨2, ![8192, 128]⟩
abbrev S_ : Shape := ⟨0, ![]⟩
abbrev S512x128 : Shape := ⟨2, ![512, 128]⟩
abbrev S16896x128 : Shape := ⟨2, ![16896, 128]⟩
abbrev S1x4 : Shape := ⟨2, ![1, 4]⟩
abbrev S4 : Shape := ⟨1, ![4]⟩
abbrev S16896x1024 : Shape := ⟨2, ![16896, 1024]⟩
abbrev S128x512 : Shape := ⟨2, ![128, 512]⟩
abbrev S128x1024 : Shape := ⟨2, ![128, 1024]⟩
abbrev S128x128 : Shape := ⟨2, ![128, 128]⟩
abbrev S4x128x256 : Shape := ⟨3, ![4, 128, 256]⟩
abbrev S1 : Shape := ⟨1, ![1]⟩
abbrev S1x1 : Shape := ⟨2, ![1, 1]⟩
abbrev S128x256 : Shape := ⟨2, ![128, 256]⟩
abbrev S1x128x256 : Shape := ⟨3, ![1, 128, 256]⟩

abbrev nBuf : Space → Nat
  | .hbm => 16
  | .vmem => 13
  | .smem => 1
  | _ => 0

abbrev bufTy : (tb : Table) → Fin (tcTables nBuf tb) → BufTy
  | .hbm, ⟨0, _⟩ => ⟨S16896x10368, .f32⟩
  | .hbm, ⟨1, _⟩ => ⟨S8192x64, .f32⟩
  | .hbm, ⟨2, _⟩ => ⟨S8192x64, .f32⟩
  | .hbm, ⟨3, _⟩ => ⟨S2x4, .f32⟩
  | .hbm, ⟨4, _⟩ => ⟨S8192x128, .f32⟩
  | .hbm, ⟨5, _⟩ => ⟨S8192x64, .f32⟩
  | .hbm, ⟨6, _⟩ => ⟨S8192x128, .f32⟩
  | .hbm, ⟨7, _⟩ => ⟨S_, .f32⟩
  | .hbm, ⟨8, _⟩ => ⟨S512x128, .f32⟩
  | .hbm, ⟨9, _⟩ => ⟨S16896x128, .f32⟩
  | .hbm, ⟨10, _⟩ => ⟨S_, .f32⟩
  | .hbm, ⟨11, _⟩ => ⟨S512x128, .f32⟩
  | .hbm, ⟨12, _⟩ => ⟨S16896x128, .f32⟩
  | .hbm, ⟨13, _⟩ => ⟨S1x4, .f32⟩
  | .hbm, ⟨14, _⟩ => ⟨S4, .f32⟩
  | .hbm, ⟨15, _⟩ => ⟨S16896x1024, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x1024, .f32⟩
  | .local _ .vmem, ⟨5, _⟩ => ⟨S128x1024, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x1024, .f32⟩
  | .local _ .vmem, ⟨11, _⟩ => ⟨S128x1024, .f32⟩
  | .local _ .vmem, ⟨12, _⟩ => ⟨S4x128x256, .f32⟩
  | .local _ .smem, ⟨0, _⟩ => ⟨S4, .f32⟩
  | _, _ => ⟨S16896x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 66], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c128_i32 : BitVec 32 := 128#32
  let v1 : BitVec 32 := Scalar.addi c128_i32 v0
  let c64_i32 : BitVec 32 := 64#32
  let v2 : BitVec 32 := Scalar.muli arg0 c64_i32
  let c2_i32_0 : BitVec 32 := 2#32
  let v3 : BitVec 32 := Scalar.subi arg1 c2_i32_0
  let c2_i32_1 : BitVec 32 := 2#32
  let v4 : BitVec 1 := Scalar.cmpi .slt arg1 c2_i32_1
  let v5 : BitVec 32 := Scalar.addi v1 arg1
  let v6 : BitVec 32 := Scalar.addi v2 v3
  let v7 : BitVec 32 := Scalar.select v4 v5 v6
  let c0_i32 : BitVec 32 := 0#32
  let c0_i32_2 : BitVec 32 := 0#32
  ![v7.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c128_i32 : BitVec 32 := 128#32
  let v1 : BitVec 32 := Scalar.addi c128_i32 v0
  let c64_i32 : BitVec 32 := 64#32
  let v2 : BitVec 32 := Scalar.muli arg0 c64_i32
  let c2_i32_0 : BitVec 32 := 2#32
  let v3 : BitVec 32 := Scalar.subi arg1 c2_i32_0
  let c2_i32_1 : BitVec 32 := 2#32
  let v4 : BitVec 1 := Scalar.cmpi .slt arg1 c2_i32_1
  let v5 : BitVec 32 := Scalar.addi v1 arg1
  let v6 : BitVec 32 := Scalar.addi v2 v3
  let v7 : BitVec 32 := Scalar.select v4 v5 v6
  let c1_i32 : BitVec 32 := 1#32
  let c0_i32 : BitVec 32 := 0#32
  ![v7.toNat, c1_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c128_i32 : BitVec 32 := 128#32
  let v1 : BitVec 32 := Scalar.addi c128_i32 v0
  let c64_i32 : BitVec 32 := 64#32
  let v2 : BitVec 32 := Scalar.muli arg0 c64_i32
  let c2_i32_0 : BitVec 32 := 2#32
  let v3 : BitVec 32 := Scalar.subi arg1 c2_i32_0
  let c2_i32_1 : BitVec 32 := 2#32
  let v4 : BitVec 1 := Scalar.cmpi .slt arg1 c2_i32_1
  let v5 : BitVec 32 := Scalar.addi v1 arg1
  let v6 : BitVec 32 := Scalar.addi v2 v3
  let v7 : BitVec 32 := Scalar.select v4 v5 v6
  let c1_i32 : BitVec 32 := 1#32
  let c0_i32 : BitVec 32 := 0#32
  ![v7.toNat, c1_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c128_i32 : BitVec 32 := 128#32
  let v1 : BitVec 32 := Scalar.addi c128_i32 v0
  let c64_i32 : BitVec 32 := 64#32
  let v2 : BitVec 32 := Scalar.muli arg0 c64_i32
  let c2_i32_0 : BitVec 32 := 2#32
  let v3 : BitVec 32 := Scalar.subi arg1 c2_i32_0
  let c2_i32_1 : BitVec 32 := 2#32
  let v4 : BitVec 1 := Scalar.cmpi .slt arg1 c2_i32_1
  let v5 : BitVec 32 := Scalar.addi v1 arg1
  let v6 : BitVec 32 := Scalar.addi v2 v3
  let v7 : BitVec 32 := Scalar.select v4 v5 v6
  let c0_i32 : BitVec 32 := 0#32
  let c0_i32_2 : BitVec 32 := 0#32
  ![v7.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c128_i32 : BitVec 32 := 128#32
  let v1 : BitVec 32 := Scalar.addi c128_i32 v0
  let c64_i32 : BitVec 32 := 64#32
  let v2 : BitVec 32 := Scalar.muli arg0 c64_i32
  let c2_i32_0 : BitVec 32 := 2#32
  let v3 : BitVec 32 := Scalar.subi arg1 c2_i32_0
  let c2_i32_1 : BitVec 32 := 2#32
  let v4 : BitVec 1 := Scalar.cmpi .slt arg1 c2_i32_1
  let v5 : BitVec 32 := Scalar.addi v1 arg1
  let v6 : BitVec 32 := Scalar.addi v2 v3
  let v7 : BitVec 32 := Scalar.select v4 v5 v6
  let c0_i32 : BitVec 32 := 0#32
  let c0_i32_2 : BitVec 32 := 0#32
  ![v7.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c128_i32 : BitVec 32 := 128#32
  let v1 : BitVec 32 := Scalar.addi c128_i32 v0
  let c64_i32 : BitVec 32 := 64#32
  let v2 : BitVec 32 := Scalar.muli arg0 c64_i32
  let c2_i32_0 : BitVec 32 := 2#32
  let v3 : BitVec 32 := Scalar.subi arg1 c2_i32_0
  let c2_i32_1 : BitVec 32 := 2#32
  let v4 : BitVec 1 := Scalar.cmpi .slt arg1 c2_i32_1
  let v5 : BitVec 32 := Scalar.addi v1 arg1
  let v6 : BitVec 32 := Scalar.addi v2 v3
  let v7 : BitVec 32 := Scalar.select v4 v5 v6
  let c0_i32 : BitVec 32 := 0#32
  let c0_i32_2 : BitVec 32 := 0#32
  ![v7.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RetFwdRefIdeal.lean ====
abbrev S16896x10368 : Shape := ⟨2, ![16896, 10368]⟩
abbrev S8192x64 : Shape := ⟨2, ![8192, 64]⟩
abbrev S2x4 : Shape := ⟨2, ![2, 4]⟩
abbrev S16896x512 : Shape := ⟨2, ![16896, 512]⟩
abbrev S16896x1024 : Shape := ⟨2, ![16896, 1024]⟩
abbrev S512x512 : Shape := ⟨2, ![512, 512]⟩
abbrev S2x256x512 : Shape := ⟨3, ![2, 256, 512]⟩
abbrev S2x256x4x128 : Shape := ⟨4, ![2, 256, 4, 128]⟩
abbrev S_ : Shape := ⟨0, ![]⟩
abbrev S512x1024 : Shape := ⟨2, ![512, 1024]⟩
abbrev S2x256x1024 : Shape := ⟨3, ![2, 256, 1024]⟩
abbrev S2x256x4x256 : Shape := ⟨4, ![2, 256, 4, 256]⟩
abbrev S16384x512 : Shape := ⟨2, ![16384, 512]⟩
abbrev S2x8192x512 : Shape := ⟨3, ![2, 8192, 512]⟩
abbrev S2x8192x4x128 : Shape := ⟨4, ![2, 8192, 4, 128]⟩
abbrev S2x8192x4x64 : Shape := ⟨4, ![2, 8192, 4, 64]⟩
abbrev S1x8192x1x64 : Shape := ⟨4, ![1, 8192, 1, 64]⟩
abbrev S16384x1024 : Shape := ⟨2, ![16384, 1024]⟩
abbrev S2x8192x1024 : Shape := ⟨3, ![2, 8192, 1024]⟩
abbrev S2x8192x4x256 : Shape := ⟨4, ![2, 8192, 4, 256]⟩
abbrev S2x8448x4x128 : Shape := ⟨4, ![2, 8448, 4, 128]⟩
abbrev S2x8448x4x256 : Shape := ⟨4, ![2, 8448, 4, 256]⟩
abbrev S2x4x128x256 : Shape := ⟨4, ![2, 4, 128, 256]⟩
abbrev S1x4 : Shape := ⟨2, ![1, 4]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S128x4 : Shape := ⟨2, ![128, 4]⟩
abbrev S2x66x128x4x128 : Shape := ⟨5, ![2, 66, 128, 4, 128]⟩
abbrev S66x2x128x4x128 : Shape := ⟨5, ![66, 2, 128, 4, 128]⟩
abbrev S2x66x128x4x256 : Shape := ⟨5, ![2, 66, 128, 4, 256]⟩
abbrev S66x2x128x4x256 : Shape := ⟨5, ![66, 2, 128, 4, 256]⟩
abbrev S1x2x128x4x128 : Shape := ⟨5, ![1, 2, 128, 4, 128]⟩
abbrev S2x128x4x128 : Shape := ⟨4, ![2, 128, 4, 128]⟩
abbrev S1x2x128x4x256 : Shape := ⟨5, ![1, 2, 128, 4, 256]⟩
abbrev S2x128x4x256 : Shape := ⟨4, ![2, 128, 4, 256]⟩
abbrev S2x4x128x128 : Shape := ⟨4, ![2, 4, 128, 128]⟩
abbrev S1x4x128x128 : Shape := ⟨4, ![1, 4, 128, 128]⟩
abbrev S2x4x256x128 : Shape := ⟨4, ![2, 4, 256, 128]⟩
abbrev S1x128x4x1 : Shape := ⟨4, ![1, 128, 4, 1]⟩
abbrev S1x4x1x1 : Shape := ⟨4, ![1, 4, 1, 1]⟩

abbrev nBuf : Space → Nat
  | .hbm => 204
  | .vmem => 0
  | .smem => 0
  | _ => 0

abbrev hbmTy0_0 (i : Nat) : BufTy := match i % 128 with
  | 0 => ⟨S16896x10368, .f32⟩
  | 1 => ⟨S8192x64, .f32⟩
  | 2 => ⟨S8192x64, .f32⟩
  | 3 => ⟨S2x4, .f32⟩
  | 4 => ⟨S16896x512, .f32⟩
  | 5 => ⟨S16896x512, .f32⟩
  | 6 => ⟨S16896x1024, .f32⟩
  | 7 => ⟨S512x512, .f32⟩
  | 8 => ⟨S2x256x512, .f32⟩
  | 9 => ⟨S2x256x4x128, .f32⟩
  | 10 => ⟨S512x512, .f32⟩
  | 11 => ⟨S2x256x512, .f32⟩
  | 12 => ⟨S2x256x4x128, .f32⟩
  | 13 => ⟨S_, .f32⟩
  | 14 => ⟨S2x256x4x128, .f32⟩
  | 15 => ⟨S2x256x4x128, .f32⟩
  | 16 => ⟨S512x1024, .f32⟩
  | 17 => ⟨S2x256x1024, .f32⟩
  | 18 => ⟨S2x256x4x256, .f32⟩
  | 19 => ⟨S16384x512, .f32⟩
  | 20 => ⟨S2x8192x512, .f32⟩
  | 21 => ⟨S2x8192x4x128, .f32⟩
  | 22 => ⟨S2x8192x4x64, .f32⟩
  | 23 => ⟨S2x8192x4x64, .f32⟩
  | 24 => ⟨S1x8192x1x64, .f32⟩
  | 25 => ⟨S1x8192x1x64, .f32⟩
  | 26 => ⟨S2x8192x4x64, .f32⟩
  | 27 => ⟨S2x8192x4x64, .f32⟩
  | 28 => ⟨S2x8192x4x64, .f32⟩
  | 29 => ⟨S2x8192x4x64, .f32⟩
  | 30 => ⟨S2x8192x4x64, .f32⟩
  | 31 => ⟨S2x8192x4x64, .f32⟩
  | 32 => ⟨S2x8192x4x64, .f32⟩
  | 33 => ⟨S2x8192x4x64, .f32⟩
  | 34 => ⟨S2x8192x4x64, .f32⟩
  | 35 => ⟨S2x8192x4x64, .f32⟩
  | 36 => ⟨S2x8192x4x128, .f32⟩
  | 37 => ⟨S16384x512, .f32⟩
  | 38 => ⟨S2x8192x512, .f32⟩
  | 39 => ⟨S2x8192x4x128, .f32⟩
  | 40 => ⟨S2x8192x4x64, .f32⟩
  | 41 => ⟨S2x8192x4x64, .f32⟩
  | 42 => ⟨S1x8192x1x64, .f32⟩
  | 43 => ⟨S1x8192x1x64, .f32⟩
  | 44 => ⟨S2x8192x4x64, .f32⟩
  | 45 => ⟨S2x8192x4x64, .f32⟩
  | 46 => ⟨S2x8192x4x64, .f32⟩
  | 47 => ⟨S2x8192x4x64, .f32⟩
  | 48 => ⟨S2x8192x4x64, .f32⟩
  | 49 => ⟨S2x8192x4x64, .f32⟩
  | 50 => ⟨S2x8192x4x64, .f32⟩
  | 51 => ⟨S2x8192x4x64, .f32⟩
  | 52 => ⟨S2x8192x4x64, .f32⟩
  | 53 => ⟨S2x8192x4x64, .f32⟩
  | 54 => ⟨S2x8192x4x128, .f32⟩
  | 55 => ⟨S_, .f32⟩
  | 56 => ⟨S2x8192x4x128, .f32⟩
  | 57 => ⟨S2x8192x4x128, .f32⟩
  | 58 => ⟨S16384x1024, .f32⟩
  | 59 => ⟨S2x8192x1024, .f32⟩
  | 60 => ⟨S2x8192x4x256, .f32⟩
  | 61 => ⟨S2x4, .f32⟩
  | 62 => ⟨S_, .f32⟩
  | 63 => ⟨S2x4, .f32⟩
  | 64 => ⟨S2x4, .f32⟩
  | 65 => ⟨S2x4, .f32⟩
  | 66 => ⟨S2x4, .f32⟩
  | 67 => ⟨S2x4, .i1⟩
  | 68 => ⟨S2x4, .f32⟩
  | 69 => ⟨S2x4, .f32⟩
  | 70 => ⟨S2x4, .f32⟩
  | 71 => ⟨S2x4, .f32⟩
  | 72 => ⟨S2x4, .f32⟩
  | 73 => ⟨S2x4, .f32⟩
  | 74 => ⟨S2x4, .f32⟩
  | 75 => ⟨S2x4, .f32⟩
  | 76 => ⟨S2x4, .f32⟩
  | 77 => ⟨S2x8448x4x128, .f32⟩
  | 78 => ⟨S2x8448x4x128, .f32⟩
  | 79 => ⟨S2x8448x4x256, .f32⟩
  | 80 => ⟨S_, .f32⟩
  | 81 => ⟨S2x4x128x256, .f32⟩
  | 82 => ⟨S1x4, .f32⟩
  | 83 => ⟨S4, .f32⟩
  | 84 => ⟨S128, .i32⟩
  | 85 => ⟨S128, .f32⟩
  | 86 => ⟨S128x1, .f32⟩
  | 87 => ⟨S1x128, .f32⟩
  | 88 => ⟨S128x128, .f32⟩
  | 89 => ⟨S128x128, .f32⟩
  | 90 => ⟨S128x128, .f32⟩
  | 91 => ⟨S_, .f32⟩
  | 92 => ⟨S128x128, .f32⟩
  | 93 => ⟨S128x128, .i1⟩
  | 94 => ⟨S4x1x1, .f32⟩
  | 95 => ⟨S_, .f32⟩
  | 96 => ⟨S128x128, .f32⟩
  | 97 => ⟨S128x128, .f32⟩
  | 98 => ⟨S1x128x128, .f32⟩
  | 99 => ⟨S4x128x128, .f32⟩
  | 100 => ⟨S4x128x128, .f32⟩
  | 101 => ⟨S4x128x128, .f32⟩
  | 102 => ⟨S4x128x128, .f32⟩
  | 103 => ⟨S_, .f32⟩
  | 104 => ⟨S_, .f32⟩
  | 105 => ⟨S4x128x128, .i1⟩
  | 106 => ⟨S4x128x128, .f32⟩
  | 107 => ⟨S4x128x128, .f32⟩
  | 108 => ⟨S128x1, .f32⟩
  | 109 => ⟨S_, .f32⟩
  | 110 => ⟨S128x1, .f32⟩
  | 111 => ⟨S128x1, .f32⟩
  | 112 => ⟨S1x4, .f32⟩
  | 113 => ⟨S128x4, .f32⟩
  | 114 => ⟨S128x4, .f32⟩
  | 115 => ⟨S128x4, .f32⟩
  | 116 => ⟨S128x4, .f32⟩
  | 117 => ⟨S128x1, .f32⟩
  | 118 => ⟨S_, .f32⟩
  | 119 => ⟨S128x1, .f32⟩
  | 120 => ⟨S128x1, .f32⟩
  | 121 => ⟨S1x4, .f32⟩
  | 122 => ⟨S128x4, .f32⟩
  | 123 => ⟨S128x4, .f32⟩
  | 124 => ⟨S128x4, .f32⟩
  | 125 => ⟨S128x4, .f32⟩
  | 126 => ⟨S_, .f32⟩
  | 127 => ⟨S4, .f32⟩
  | _ => ⟨S16896x10368, .f32⟩

abbrev hbmTy0_1 (i : Nat) : BufTy := match i % 128 with
  | 0 => ⟨S4, .f32⟩
  | 1 => ⟨S4, .f32⟩
  | 2 => ⟨S2x66x128x4x128, .f32⟩
  | 3 => ⟨S66x2x128x4x128, .f32⟩
  | 4 => ⟨S2x66x128x4x128, .f32⟩
  | 5 => ⟨S66x2x128x4x128, .f32⟩
  | 6 => ⟨S2x66x128x4x256, .f32⟩
  | 7 => ⟨S66x2x128x4x256, .f32⟩
  | 8 => ⟨S_, .f32⟩
  | 9 => ⟨S66x2x128x4x256, .f32⟩
  | 10 => ⟨S_, .i32⟩
  | 11 => ⟨S66x2x128x4x128, .f32⟩
  | 12 => ⟨S66x2x128x4x128, .f32⟩
  | 13 => ⟨S66x2x128x4x256, .f32⟩
  | 14 => ⟨S4x128x128, .f32⟩
  | 15 => ⟨S128x4, .f32⟩
  | 16 => ⟨S4, .f32⟩
  | 17 => ⟨S128x4, .f32⟩
  | 18 => ⟨S_, .i32⟩
  | 19 => ⟨S2x4x128x256, .f32⟩
  | 20 => ⟨S66x2x128x4x256, .f32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S1x2x128x4x128, .f32⟩
  | 28 => ⟨S2x128x4x128, .f32⟩
  | 29 => ⟨S_, .i32⟩
  | 30 => ⟨S_, .i32⟩
  | 31 => ⟨S_, .i32⟩
  | 32 => ⟨S_, .i32⟩
  | 33 => ⟨S1x2x128x4x128, .f32⟩
  | 34 => ⟨S2x128x4x128, .f32⟩
  | 35 => ⟨S_, .i32⟩
  | 36 => ⟨S_, .i32⟩
  | 37 => ⟨S_, .i32⟩
  | 38 => ⟨S_, .i32⟩
  | 39 => ⟨S1x2x128x4x256, .f32⟩
  | 40 => ⟨S2x128x4x256, .f32⟩
  | 41 => ⟨S2x4x128x128, .f32⟩
  | 42 => ⟨S1x4x128x128, .f32⟩
  | 43 => ⟨S2x4x128x128, .f32⟩
  | 44 => ⟨S2x4x128x128, .f32⟩
  | 45 => ⟨S2x4x256x128, .f32⟩
  | 46 => ⟨S2x128x4x256, .f32⟩
  | 47 => ⟨S1x128x4x1, .f32⟩
  | 48 => ⟨S2x128x4x128, .f32⟩
  | 49 => ⟨S2x128x4x128, .f32⟩
  | 50 => ⟨S2x4x256x128, .f32⟩
  | 51 => ⟨S2x128x4x256, .f32⟩
  | 52 => ⟨S2x128x4x256, .f32⟩
  | 53 => ⟨S1x4x1x1, .f32⟩
  | 54 => ⟨S2x4x128x256, .f32⟩
  | 55 => ⟨S2x4x128x256, .f32⟩
  | 56 => ⟨S1x128x4x1, .f32⟩
  | 57 => ⟨S2x128x4x128, .f32⟩
  | 58 => ⟨S2x128x4x128, .f32⟩
  | 59 => ⟨S2x4x128x256, .f32⟩
  | 60 => ⟨S2x4x128x256, .f32⟩
  | 61 => ⟨S1x2x128x4x256, .f32⟩
  | 62 => ⟨S_, .i32⟩
  | 63 => ⟨S_, .i32⟩
  | 64 => ⟨S_, .i32⟩
  | 65 => ⟨S_, .i32⟩
  | 66 => ⟨S66x2x128x4x256, .f32⟩
  | 67 => ⟨S_, .i32⟩
  | 68 => ⟨S_, .i32⟩
  | 69 => ⟨S2x66x128x4x256, .f32⟩
  | 70 => ⟨S2x8448x4x256, .f32⟩
  | 71 => ⟨S2x8192x4x256, .f32⟩
  | 72 => ⟨S16384x1024, .f32⟩
  | 73 => ⟨S2x256x4x256, .f32⟩
  | 74 => ⟨S512x1024, .f32⟩
  | 75 => ⟨S16896x1024, .f32⟩
  | _ => ⟨S16896x10368, .f32⟩

abbrev hbmTy (i : Nat) : BufTy := match i / 128 with
  | 0 => hbmTy0_0 i
  | 1 => hbmTy0_1 i
  | _ => ⟨S16896x10368, .f32⟩

abbrev bufTy : (tb : Table) → Fin (tcTables nBuf tb) → BufTy
  | .hbm, ⟨i, _⟩ => hbmTy i
  | _, _ => ⟨S16896x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_cst_0 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_cst_1 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_cst_2 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_cst_3 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_cst_4 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_cst_5 : Ref sig .tc := ⟨.hbm, 103, rfl⟩
abbrev main_call0_v0 : Ref sig .tc := ⟨.hbm, 104, rfl⟩
abbrev main_call0_v1 : Ref sig .tc := ⟨.hbm, 105, rfl⟩
abbrev main_call0_v2 : Ref sig .tc := ⟨.hbm, 106, rfl⟩
abbrev main_v93 : Ref sig .tc := ⟨.hbm, 107, rfl⟩
abbrev main_v94 : Ref sig .tc := ⟨.hbm, 108, rfl⟩
abbrev main_cst_6 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_cst_7 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_cst_8 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_cst_9 : Ref sig .tc := ⟨.hbm, 136, rfl⟩
abbrev main_v119 : Ref sig .tc := ⟨.hbm, 137, rfl⟩
abbrev main_c : Ref sig .tc := ⟨.hbm, 138, rfl⟩
abbrev main_v120_0 : Ref sig .tc := ⟨.hbm, 139, rfl⟩
abbrev main_v120_1 : Ref sig .tc := ⟨.hbm, 140, rfl⟩
abbrev main_v120_2 : Ref sig .tc := ⟨.hbm, 141, rfl⟩
abbrev main_v120_3 : Ref sig .tc := ⟨.hbm, 142, rfl⟩
abbrev main_v120_4 : Ref sig .tc := ⟨.hbm, 143, rfl⟩
abbrev main_v120_5 : Ref sig .tc := ⟨.hbm, 144, rfl⟩
abbrev main_v120_6 : Ref sig .tc := ⟨.hbm, 145, rfl⟩
abbrev main_v120_7 : Ref sig .tc := ⟨.hbm, 146, rfl⟩
abbrev main_v120_8 : Ref sig .tc := ⟨.hbm, 147, rfl⟩
abbrev main_v120_9 : Ref sig .tc := ⟨.hbm, 148, rfl⟩
abbrev main_while0c_c_19 : Ref sig .tc := ⟨.hbm, 149, rfl⟩
abbrev main_while0c_v128 : Ref sig .tc := ⟨.hbm, 150, rfl⟩
abbrev main_while0b_call1_c : Ref sig .tc := ⟨.hbm, 151, rfl⟩
abbrev main_while0b_call1_c_0 : Ref sig .tc := ⟨.hbm, 152, rfl⟩
abbrev main_while0b_call1_c_1 : Ref sig .tc := ⟨.hbm, 153, rfl⟩
abbrev main_while0b_call1_c_2 : Ref sig .tc := ⟨.hbm, 154, rfl⟩
abbrev main_while0b_call1_v0 : Ref sig .tc := ⟨.hbm, 155, rfl⟩
abbrev main_while0b_v128 : Ref sig .tc := ⟨.hbm, 156, rfl⟩
abbrev main_while0b_call2_c : Ref sig .tc := ⟨.hbm, 157, rfl⟩
abbrev main_while0b_call2_c_0 : Ref sig .tc := ⟨.hbm, 158, rfl⟩
abbrev main_while0b_call2_c_1 : Ref sig .tc := ⟨.hbm, 159, rfl⟩
abbrev main_while0b_call2_c_2 : Ref sig .tc := ⟨.hbm, 160, rfl⟩
abbrev main_while0b_call2_v0 : Ref sig .tc := ⟨.hbm, 161, rfl⟩
abbrev main_while0b_v129 : Ref sig .tc := ⟨.hbm, 162, rfl⟩
abbrev main_while0b_call3_c : Ref sig .tc := ⟨.hbm, 163, rfl⟩
abbrev main_while0b_call3_c_0 : Ref sig .tc := ⟨.hbm, 164, rfl⟩
abbrev main_while0b_call3_c_1 : Ref sig .tc := ⟨.hbm, 165, rfl⟩
abbrev main_while0b_call3_c_2 : Ref sig .tc := ⟨.hbm, 166, rfl⟩
abbrev main_while0b_call3_v0 : Ref sig .tc := ⟨.hbm, 167, rfl⟩
abbrev main_while0b_v130 : Ref sig .tc := ⟨.hbm, 168, rfl⟩
abbrev main_while0b_v131 : Ref sig .tc := ⟨.hbm, 169, rfl⟩
abbrev main_while0b_v132 : Ref sig .tc := ⟨.hbm, 170, rfl⟩
abbrev main_while0b_v133 : Ref sig .tc := ⟨.hbm, 171, rfl⟩
abbrev main_while0b_v134 : Ref sig .tc := ⟨.hbm, 172, rfl⟩
abbrev main_while0b_v135 : Ref sig .tc := ⟨.hbm, 173, rfl⟩
abbrev main_while0b_v136 : Ref sig .tc := ⟨.hbm, 174, rfl⟩
abbrev main_while0b_v137 : Ref sig .tc := ⟨.hbm, 175, rfl⟩
abbrev main_while0b_v138 : Ref sig .tc := ⟨.hbm, 176, rfl⟩
abbrev main_while0b_v139 : Ref sig .tc := ⟨.hbm, 177, rfl⟩
abbrev main_while0b_v140 : Ref sig .tc := ⟨.hbm, 178, rfl⟩
abbrev main_while0b_v141 : Ref sig .tc := ⟨.hbm, 179, rfl⟩
abbrev main_while0b_v142 : Ref sig .tc := ⟨.hbm, 180, rfl⟩
abbrev main_while0b_v143 : Ref sig .tc := ⟨.hbm, 181, rfl⟩
abbrev main_while0b_v144 : Ref sig .tc := ⟨.hbm, 182, rfl⟩
abbrev main_while0b_v145 : Ref sig .tc := ⟨.hbm, 183, rfl⟩
abbrev main_while0b_v146 : Ref sig .tc := ⟨.hbm, 184, rfl⟩
abbrev main_while0b_v147 : Ref sig .tc := ⟨.hbm, 185, rfl⟩
abbrev main_while0b_v148 : Ref sig .tc := ⟨.hbm, 186, rfl⟩
abbrev main_while0b_v149 : Ref sig .tc := ⟨.hbm, 187, rfl⟩
abbrev main_while0b_v150 : Ref sig .tc := ⟨.hbm, 188, rfl⟩
abbrev main_while0b_call4_v0 : Ref sig .tc := ⟨.hbm, 189, rfl⟩
abbrev main_while0b_call4_c : Ref sig .tc := ⟨.hbm, 190, rfl⟩
abbrev main_while0b_call4_c_0 : Ref sig .tc := ⟨.hbm, 191, rfl⟩
abbrev main_while0b_call4_c_1 : Ref sig .tc := ⟨.hbm, 192, rfl⟩
abbrev main_while0b_call4_c_2 : Ref sig .tc := ⟨.hbm, 193, rfl⟩
abbrev main_while0b_v151 : Ref sig .tc := ⟨.hbm, 194, rfl⟩
abbrev main_while0b_c_19 : Ref sig .tc := ⟨.hbm, 195, rfl⟩
abbrev main_while0b_v152 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩

abbrev nD : Nat := 1
abbrev τ : Topo := Topo.v7x

variable {F : FTy → Type} [FloatOps F]

abbrev main_while0_count : Scf.Loop 32 := ⟨0#32, 66#32, 1#32⟩
-- ==== RetBwd.lean ====
abbrev S16896x10368 : Shape := ⟨2, ![16896, 10368]⟩
abbrev S8192x64 : Shape := ⟨2, ![8192, 64]⟩
abbrev S2x4 : Shape := ⟨2, ![2, 4]⟩
abbrev S16896x1024 : Shape := ⟨2, ![16896, 1024]⟩
abbrev S1024 : Shape := ⟨1, ![1024]⟩
abbrev S8192x128 : Shape := ⟨2, ![8192, 128]⟩
abbrev S_ : Shape := ⟨0, ![]⟩
abbrev S512x128 : Shape := ⟨2, ![512, 128]⟩
abbrev S16896x128 : Shape := ⟨2, ![16896, 128]⟩
abbrev S1x4 : Shape := ⟨2, ![1, 4]⟩
abbrev S4 : Shape := ⟨1, ![4]⟩
abbrev S1x1024 : Shape := ⟨2, ![1, 1024]⟩
abbrev S128x512 : Shape := ⟨2, ![128, 512]⟩
abbrev S128x1024 : Shape := ⟨2, ![128, 1024]⟩
abbrev S128x128 : Shape := ⟨2, ![128, 128]⟩
abbrev S4x128x256 : Shape := ⟨3, ![4, 128, 256]⟩
abbrev S1 : Shape := ⟨1, ![1]⟩
abbrev S1x1 : Shape := ⟨2, ![1, 1]⟩
abbrev S128x256 : Shape := ⟨2, ![128, 256]⟩
abbrev S1x128x256 : Shape := ⟨3, ![1, 128, 256]⟩
abbrev S128 : Shape := ⟨1, ![128]⟩
abbrev S128x1 : Shape := ⟨2, ![128, 1]⟩
abbrev S1x256 : Shape := ⟨2, ![1, 256]⟩

abbrev nBuf : Space → Nat
  | .hbm => 19
  | .vmem => 18
  | .smem => 1
  | _ => 0

abbrev bufTy : (tb : Table) → Fin (tcTables nBuf tb) → BufTy
  | .hbm, ⟨0, _⟩ => ⟨S16896x10368, .f32⟩
  | .hbm, ⟨1, _⟩ => ⟨S8192x64, .f32⟩
  | .hbm, ⟨2, _⟩ => ⟨S8192x64, .f32⟩
  | .hbm, ⟨3, _⟩ => ⟨S2x4, .f32⟩
  | .hbm, ⟨4, _⟩ => ⟨S16896x1024, .f32⟩
  | .hbm, ⟨5, _⟩ => ⟨S1024, .f32⟩
  | .hbm, ⟨6, _⟩ => ⟨S8192x128, .f32⟩
  | .hbm, ⟨7, _⟩ => ⟨S8192x64, .f32⟩
  | .hbm, ⟨8, _⟩ => ⟨S8192x128, .f32⟩
  | .hbm, ⟨9, _⟩ => ⟨S_, .f32⟩
  | .hbm, ⟨10, _⟩ => ⟨S512x128, .f32⟩
  | .hbm, ⟨11, _⟩ => ⟨S16896x128, .f32⟩
  | .hbm, ⟨12, _⟩ => ⟨S_, .f32⟩
  | .hbm, ⟨13, _⟩ => ⟨S512x128, .f32⟩
  | .hbm, ⟨14, _⟩ => ⟨S16896x128, .f32⟩
  | .hbm, ⟨15, _⟩ => ⟨S1x4, .f32⟩
  | .hbm, ⟨16, _⟩ => ⟨S4, .f32⟩
  | .hbm, ⟨17, _⟩ => ⟨S1x1024, .f32⟩
  | .hbm, ⟨18, _⟩ => ⟨S16896x1024, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x1024, .f32⟩
  | .local _ .vmem, ⟨5, _⟩ => ⟨S128x1024, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S1x1024, .f32⟩
  | .local _ .vmem, ⟨15, _⟩ => ⟨S128x1024, .f32⟩
  | .local _ .vmem, ⟨16, _⟩ => ⟨S128x1024, .f32⟩
  | .local _ .vmem, ⟨17, _⟩ => ⟨S4x128x256, .f32⟩
  | .local _ .smem, ⟨0, _⟩ => ⟨S4, .f32⟩
  | _, _ => ⟨S16896x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 66], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c128_i32 : BitVec 32 := 128#32
  let v1 : BitVec 32 := Scalar.addi c128_i32 v0
  let c64_i32 : BitVec 32 := 64#32
  let v2 : BitVec 32 := Scalar.muli arg0 c64_i32
  let c2_i32_0 : BitVec 32 := 2#32
  let v3 : BitVec 32 := Scalar.subi arg1 c2_i32_0
  let c2_i32_1 : BitVec 32 := 2#32
  let v4 : BitVec 1 := Scalar.cmpi .slt arg1 c2_i32_1
  let c1_i32 : BitVec 32 := 1#32
  let v5 : BitVec 32 := Scalar.subi c1_i32 arg1
  let v6 : BitVec 32 := Scalar.addi v1 v5
  let c63_i32 : BitVec 32 := 63#32
  let v7 : BitVec 32 := Scalar.subi c63_i32 v3
  let v8 : BitVec 32 := Scalar.addi v2 v7
  let v9 : BitVec 32 := Scalar.select v4 v6 v8
  let c0_i32 : BitVec 32 := 0#32
  let c0_i32_2 : BitVec 32 := 0#32
  ![v9.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c128_i32 : BitVec 32 := 128#32
  let v1 : BitVec 32 := Scalar.addi c128_i32 v0
  let c64_i32 : BitVec 32 := 64#32
  let v2 : BitVec 32 := Scalar.muli arg0 c64_i32
  let c2_i32_0 : BitVec 32 := 2#32
  let v3 : BitVec 32 := Scalar.subi arg1 c2_i32_0
  let c2_i32_1 : BitVec 32 := 2#32
  let v4 : BitVec 1 := Scalar.cmpi .slt arg1 c2_i32_1
  let c1_i32 : BitVec 32 := 1#32
  let v5 : BitVec 32 := Scalar.subi c1_i32 arg1
  let v6 : BitVec 32 := Scalar.addi v1 v5
  let c63_i32 : BitVec 32 := 63#32
  let v7 : BitVec 32 := Scalar.subi c63_i32 v3
  let v8 : BitVec 32 := Scalar.addi v2 v7
  let v9 : BitVec 32 := Scalar.select v4 v6 v8
  let c1_i32_2 : BitVec 32 := 1#32
  let c0_i32 : BitVec 32 := 0#32
  ![v9.toNat, c1_i32_2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c128_i32 : BitVec 32 := 128#32
  let v1 : BitVec 32 := Scalar.addi c128_i32 v0
  let c64_i32 : BitVec 32 := 64#32
  let v2 : BitVec 32 := Scalar.muli arg0 c64_i32
  let c2_i32_0 : BitVec 32 := 2#32
  let v3 : BitVec 32 := Scalar.subi arg1 c2_i32_0
  let c2_i32_1 : BitVec 32 := 2#32
  let v4 : BitVec 1 := Scalar.cmpi .slt arg1 c2_i32_1
  let c1_i32 : BitVec 32 := 1#32
  let v5 : BitVec 32 := Scalar.subi c1_i32 arg1
  let v6 : BitVec 32 := Scalar.addi v1 v5
  let c63_i32 : BitVec 32 := 63#32
  let v7 : BitVec 32 := Scalar.subi c63_i32 v3
  let v8 : BitVec 32 := Scalar.addi v2 v7
  let v9 : BitVec 32 := Scalar.select v4 v6 v8
  let c1_i32_2 : BitVec 32 := 1#32
  let c0_i32 : BitVec 32 := 0#32
  ![v9.toNat, c1_i32_2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c128_i32 : BitVec 32 := 128#32
  let v1 : BitVec 32 := Scalar.addi c128_i32 v0
  let c64_i32 : BitVec 32 := 64#32
  let v2 : BitVec 32 := Scalar.muli arg0 c64_i32
  let c2_i32_0 : BitVec 32 := 2#32
  let v3 : BitVec 32 := Scalar.subi arg1 c2_i32_0
  let c2_i32_1 : BitVec 32 := 2#32
  let v4 : BitVec 1 := Scalar.cmpi .slt arg1 c2_i32_1
  let c1_i32 : BitVec 32 := 1#32
  let v5 : BitVec 32 := Scalar.subi c1_i32 arg1
  let v6 : BitVec 32 := Scalar.addi v1 v5
  let c63_i32 : BitVec 32 := 63#32
  let v7 : BitVec 32 := Scalar.subi c63_i32 v3
  let v8 : BitVec 32 := Scalar.addi v2 v7
  let v9 : BitVec 32 := Scalar.select v4 v6 v8
  let c0_i32 : BitVec 32 := 0#32
  let c0_i32_2 : BitVec 32 := 0#32
  ![v9.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c128_i32 : BitVec 32 := 128#32
  let v1 : BitVec 32 := Scalar.addi c128_i32 v0
  let c64_i32 : BitVec 32 := 64#32
  let v2 : BitVec 32 := Scalar.muli arg0 c64_i32
  let c2_i32_0 : BitVec 32 := 2#32
  let v3 : BitVec 32 := Scalar.subi arg1 c2_i32_0
  let c2_i32_1 : BitVec 32 := 2#32
  let v4 : BitVec 1 := Scalar.cmpi .slt arg1 c2_i32_1
  let c1_i32 : BitVec 32 := 1#32
  let v5 : BitVec 32 := Scalar.subi c1_i32 arg1
  let v6 : BitVec 32 := Scalar.addi v1 v5
  let c63_i32 : BitVec 32 := 63#32
  let v7 : BitVec 32 := Scalar.subi c63_i32 v3
  let v8 : BitVec 32 := Scalar.addi v2 v7
  let v9 : BitVec 32 := Scalar.select v4 v6 v8
  let c0_i32 : BitVec 32 := 0#32
  let c0_i32_2 : BitVec 32 := 0#32
  ![v9.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c128_i32 : BitVec 32 := 128#32
  let v1 : BitVec 32 := Scalar.addi c128_i32 v0
  let c64_i32 : BitVec 32 := 64#32
  let v2 : BitVec 32 := Scalar.muli arg0 c64_i32
  let c2_i32_0 : BitVec 32 := 2#32
  let v3 : BitVec 32 := Scalar.subi arg1 c2_i32_0
  let c2_i32_1 : BitVec 32 := 2#32
  let v4 : BitVec 1 := Scalar.cmpi .slt arg1 c2_i32_1
  let c1_i32 : BitVec 32 := 1#32
  let v5 : BitVec 32 := Scalar.subi c1_i32 arg1
  let v6 : BitVec 32 := Scalar.addi v1 v5
  let c63_i32 : BitVec 32 := 63#32
  let v7 : BitVec 32 := Scalar.subi c63_i32 v3
  let v8 : BitVec 32 := Scalar.addi v2 v7
  let v9 : BitVec 32 := Scalar.select v4 v6 v8
  let c0_i32 : BitVec 32 := 0#32
  let c0_i32_2 : BitVec 32 := 0#32
  ![v9.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c128_i32 : BitVec 32 := 128#32
  let v1 : BitVec 32 := Scalar.addi c128_i32 v0
  let c64_i32 : BitVec 32 := 64#32
  let v2 : BitVec 32 := Scalar.muli arg0 c64_i32
  let c2_i32_0 : BitVec 32 := 2#32
  let v3 : BitVec 32 := Scalar.subi arg1 c2_i32_0
  let c2_i32_1 : BitVec 32 := 2#32
  let v4 : BitVec 1 := Scalar.cmpi .slt arg1 c2_i32_1
  let c1_i32 : BitVec 32 := 1#32
  let v5 : BitVec 32 := Scalar.subi c1_i32 arg1
  let v6 : BitVec 32 := Scalar.addi v1 v5
  let c63_i32 : BitVec 32 := 63#32
  let v7 : BitVec 32 := Scalar.subi c63_i32 v3
  let v8 : BitVec 32 := Scalar.addi v2 v7
  let v9 : BitVec 32 := Scalar.select v4 v6 v8
  let c2_i32_2 : BitVec 32 := 2#32
  let c0_i32 : BitVec 32 := 0#32
  ![v9.toNat, c2_i32_2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c128_i32 : BitVec 32 := 128#32
  let v1 : BitVec 32 := Scalar.addi c128_i32 v0
  let c64_i32 : BitVec 32 := 64#32
  let v2 : BitVec 32 := Scalar.muli arg0 c64_i32
  let c2_i32_0 : BitVec 32 := 2#32
  let v3 : BitVec 32 := Scalar.subi arg1 c2_i32_0
  let c2_i32_1 : BitVec 32 := 2#32
  let v4 : BitVec 1 := Scalar.cmpi .slt arg1 c2_i32_1
  let c1_i32 : BitVec 32 := 1#32
  let v5 : BitVec 32 := Scalar.subi c1_i32 arg1
  let v6 : BitVec 32 := Scalar.addi v1 v5
  let c63_i32 : BitVec 32 := 63#32
  let v7 : BitVec 32 := Scalar.subi c63_i32 v3
  let v8 : BitVec 32 := Scalar.addi v2 v7
  let v9 : BitVec 32 := Scalar.select v4 v6 v8
  let c0_i32 : BitVec 32 := 0#32
  let c0_i32_2 : BitVec 32 := 0#32
  ![v9.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RetBwdRefIdeal.lean ====
abbrev S16896x10368 : Shape := ⟨2, ![16896, 10368]⟩
abbrev S8192x64 : Shape := ⟨2, ![8192, 64]⟩
abbrev S2x4 : Shape := ⟨2, ![2, 4]⟩
abbrev S16896x1024 : Shape := ⟨2, ![16896, 1024]⟩
abbrev S1024 : Shape := ⟨1, ![1024]⟩
abbrev S16896x512 : Shape := ⟨2, ![16896, 512]⟩
abbrev S512x512 : Shape := ⟨2, ![512, 512]⟩
abbrev S2x256x512 : Shape := ⟨3, ![2, 256, 512]⟩
abbrev S2x256x4x128 : Shape := ⟨4, ![2, 256, 4, 128]⟩
abbrev S_ : Shape := ⟨0, ![]⟩
abbrev S512x1024 : Shape := ⟨2, ![512, 1024]⟩
abbrev S2x256x1024 : Shape := ⟨3, ![2, 256, 1024]⟩
abbrev S2x256x4x256 : Shape := ⟨4, ![2, 256, 4, 256]⟩
abbrev S16384x512 : Shape := ⟨2, ![16384, 512]⟩
abbrev S2x8192x512 : Shape := ⟨3, ![2, 8192, 512]⟩
abbrev S2x8192x4x128 : Shape := ⟨4, ![2, 8192, 4, 128]⟩
abbrev S2x8192x4x64 : Shape := ⟨4, ![2, 8192, 4, 64]⟩
abbrev S1x8192x1x64 : Shape := ⟨4, ![1, 8192, 1, 64]⟩
abbrev S16384x1024 : Shape := ⟨2, ![16384, 1024]⟩
abbrev S2x8192x1024 : Shape := ⟨3, ![2, 8192, 1024]⟩
abbrev S2x8192x4x256 : Shape := ⟨4, ![2, 8192, 4, 256]⟩
abbrev S2x8448x4x128 : Shape := ⟨4, ![2, 8448, 4, 128]⟩
abbrev S2x8448x4x256 : Shape := ⟨4, ![2, 8448, 4, 256]⟩
abbrev S2x4x128x256 : Shape := ⟨4, ![2, 4, 128, 256]⟩
abbrev S1x4 : Shape := ⟨2, ![1, 4]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S128x4 : Shape := ⟨2, ![128, 4]⟩
abbrev S2x66x128x4x128 : Shape := ⟨5, ![2, 66, 128, 4, 128]⟩
abbrev S66x2x128x4x128 : Shape := ⟨5, ![66, 2, 128, 4, 128]⟩
abbrev S2x66x128x4x256 : Shape := ⟨5, ![2, 66, 128, 4, 256]⟩
abbrev S66x2x128x4x256 : Shape := ⟨5, ![66, 2, 128, 4, 256]⟩
abbrev S1x2x128x4x128 : Shape := ⟨5, ![1, 2, 128, 4, 128]⟩
abbrev S2x128x4x128 : Shape := ⟨4, ![2, 128, 4, 128]⟩
abbrev S1x2x128x4x256 : Shape := ⟨5, ![1, 2, 128, 4, 256]⟩
abbrev S2x128x4x256 : Shape := ⟨4, ![2, 128, 4, 256]⟩
abbrev S2x4x128x128 : Shape := ⟨4, ![2, 4, 128, 128]⟩
abbrev S1x4x128x128 : Shape := ⟨4, ![1, 4, 128, 128]⟩
abbrev S2x4x256x128 : Shape := ⟨4, ![2, 4, 256, 128]⟩
abbrev S1x128x4x1 : Shape := ⟨4, ![1, 128, 4, 1]⟩
abbrev S1x4x1x1 : Shape := ⟨4, ![1, 4, 1, 1]⟩
abbrev S16896x4x256 : Shape := ⟨3, ![16896, 4, 256]⟩
abbrev S16384x4x256 : Shape := ⟨3, ![16384, 4, 256]⟩
abbrev S512x4x256 : Shape := ⟨3, ![512, 4, 256]⟩
abbrev S16896x4 : Shape := ⟨2, ![16896, 4]⟩
abbrev S16896x4x1 : Shape := ⟨3, ![16896, 4, 1]⟩
abbrev S4x256 : Shape := ⟨2, ![4, 256]⟩
abbrev S1x4x256 : Shape := ⟨3, ![1, 4, 256]⟩

abbrev nBuf : Space → Nat
  | .hbm => 255
  | .vmem => 0
  | .smem => 0
  | _ => 0

abbrev hbmTy0_0 (i : Nat) : BufTy := match i % 128 with
  | 0 => ⟨S16896x10368, .f32⟩
  | 1 => ⟨S8192x64, .f32⟩
  | 2 => ⟨S8192x64, .f32⟩
  | 3 => ⟨S2x4, .f32⟩
  | 4 => ⟨S16896x1024, .f32⟩
  | 5 => ⟨S1024, .f32⟩
  | 6 => ⟨S16896x512, .f32⟩
  | 7 => ⟨S16896x512, .f32⟩
  | 8 => ⟨S16896x1024, .f32⟩
  | 9 => ⟨S512x512, .f32⟩
  | 10 => ⟨S2x256x512, .f32⟩
  | 11 => ⟨S2x256x4x128, .f32⟩
  | 12 => ⟨S512x512, .f32⟩
  | 13 => ⟨S2x256x512, .f32⟩
  | 14 => ⟨S2x256x4x128, .f32⟩
  | 15 => ⟨S_, .f32⟩
  | 16 => ⟨S2x256x4x128, .f32⟩
  | 17 => ⟨S2x256x4x128, .f32⟩
  | 18 => ⟨S512x1024, .f32⟩
  | 19 => ⟨S2x256x1024, .f32⟩
  | 20 => ⟨S2x256x4x256, .f32⟩
  | 21 => ⟨S16384x512, .f32⟩
  | 22 => ⟨S2x8192x512, .f32⟩
  | 23 => ⟨S2x8192x4x128, .f32⟩
  | 24 => ⟨S2x8192x4x64, .f32⟩
  | 25 => ⟨S2x8192x4x64, .f32⟩
  | 26 => ⟨S1x8192x1x64, .f32⟩
  | 27 => ⟨S1x8192x1x64, .f32⟩
  | 28 => ⟨S2x8192x4x64, .f32⟩
  | 29 => ⟨S2x8192x4x64, .f32⟩
  | 30 => ⟨S2x8192x4x64, .f32⟩
  | 31 => ⟨S2x8192x4x64, .f32⟩
  | 32 => ⟨S2x8192x4x64, .f32⟩
  | 33 => ⟨S2x8192x4x64, .f32⟩
  | 34 => ⟨S2x8192x4x64, .f32⟩
  | 35 => ⟨S2x8192x4x64, .f32⟩
  | 36 => ⟨S2x8192x4x64, .f32⟩
  | 37 => ⟨S2x8192x4x64, .f32⟩
  | 38 => ⟨S2x8192x4x128, .f32⟩
  | 39 => ⟨S16384x512, .f32⟩
  | 40 => ⟨S2x8192x512, .f32⟩
  | 41 => ⟨S2x8192x4x128, .f32⟩
  | 42 => ⟨S2x8192x4x64, .f32⟩
  | 43 => ⟨S2x8192x4x64, .f32⟩
  | 44 => ⟨S1x8192x1x64, .f32⟩
  | 45 => ⟨S1x8192x1x64, .f32⟩
  | 46 => ⟨S2x8192x4x64, .f32⟩
  | 47 => ⟨S2x8192x4x64, .f32⟩
  | 48 => ⟨S2x8192x4x64, .f32⟩
  | 49 => ⟨S2x8192x4x64, .f32⟩
  | 50 => ⟨S2x8192x4x64, .f32⟩
  | 51 => ⟨S2x8192x4x64, .f32⟩
  | 52 => ⟨S2x8192x4x64, .f32⟩
  | 53 => ⟨S2x8192x4x64, .f32⟩
  | 54 => ⟨S2x8192x4x64, .f32⟩
  | 55 => ⟨S2x8192x4x64, .f32⟩
  | 56 => ⟨S2x8192x4x128, .f32⟩
  | 57 => ⟨S_, .f32⟩
  | 58 => ⟨S2x8192x4x128, .f32⟩
  | 59 => ⟨S2x8192x4x128, .f32⟩
  | 60 => ⟨S16384x1024, .f32⟩
  | 61 => ⟨S2x8192x1024, .f32⟩
  | 62 => ⟨S2x8192x4x256, .f32⟩
  | 63 => ⟨S2x4, .f32⟩
  | 64 => ⟨S_, .f32⟩
  | 65 => ⟨S2x4, .f32⟩
  | 66 => ⟨S2x4, .f32⟩
  | 67 => ⟨S2x4, .f32⟩
  | 68 => ⟨S2x4, .f32⟩
  | 69 => ⟨S2x4, .i1⟩
  | 70 => ⟨S2x4, .f32⟩
  | 71 => ⟨S2x4, .f32⟩
  | 72 => ⟨S2x4, .f32⟩
  | 73 => ⟨S2x4, .f32⟩
  | 74 => ⟨S2x4, .f32⟩
  | 75 => ⟨S2x4, .f32⟩
  | 76 => ⟨S2x4, .f32⟩
  | 77 => ⟨S2x4, .f32⟩
  | 78 => ⟨S2x4, .f32⟩
  | 79 => ⟨S2x256x4x128, .f32⟩
  | 80 => ⟨S2x8192x4x128, .f32⟩
  | 81 => ⟨S2x8448x4x128, .f32⟩
  | 82 => ⟨S2x256x4x128, .f32⟩
  | 83 => ⟨S2x8192x4x128, .f32⟩
  | 84 => ⟨S2x8448x4x128, .f32⟩
  | 85 => ⟨S2x256x4x256, .f32⟩
  | 86 => ⟨S2x8192x4x256, .f32⟩
  | 87 => ⟨S2x8448x4x256, .f32⟩
  | 88 => ⟨S_, .f32⟩
  | 89 => ⟨S2x4x128x256, .f32⟩
  | 90 => ⟨S1x4, .f32⟩
  | 91 => ⟨S4, .f32⟩
  | 92 => ⟨S128, .i32⟩
  | 93 => ⟨S128, .f32⟩
  | 94 => ⟨S128x1, .f32⟩
  | 95 => ⟨S1x128, .f32⟩
  | 96 => ⟨S128x128, .f32⟩
  | 97 => ⟨S128x128, .f32⟩
  | 98 => ⟨S128x128, .f32⟩
  | 99 => ⟨S_, .f32⟩
  | 100 => ⟨S128x128, .f32⟩
  | 101 => ⟨S128x128, .i1⟩
  | 102 => ⟨S4x1x1, .f32⟩
  | 103 => ⟨S_, .f32⟩
  | 104 => ⟨S128x128, .f32⟩
  | 105 => ⟨S128x128, .f32⟩
  | 106 => ⟨S1x128x128, .f32⟩
  | 107 => ⟨S4x128x128, .f32⟩
  | 108 => ⟨S4x128x128, .f32⟩
  | 109 => ⟨S4x128x128, .f32⟩
  | 110 => ⟨S4x128x128, .f32⟩
  | 111 => ⟨S_, .f32⟩
  | 112 => ⟨S_, .f32⟩
  | 113 => ⟨S4x128x128, .i1⟩
  | 114 => ⟨S4x128x128, .f32⟩
  | 115 => ⟨S4x128x128, .f32⟩
  | 116 => ⟨S128x1, .f32⟩
  | 117 => ⟨S_, .f32⟩
  | 118 => ⟨S128x1, .f32⟩
  | 119 => ⟨S128x1, .f32⟩
  | 120 => ⟨S1x4, .f32⟩
  | 121 => ⟨S128x4, .f32⟩
  | 122 => ⟨S128x4, .f32⟩
  | 123 => ⟨S128x4, .f32⟩
  | 124 => ⟨S128x4, .f32⟩
  | 125 => ⟨S128x1, .f32⟩
  | 126 => ⟨S_, .f32⟩
  | 127 => ⟨S128x1, .f32⟩
  | _ => ⟨S16896x10368, .f32⟩

abbrev hbmTy0_1 (i : Nat) : BufTy := match i % 128 with
  | 0 => ⟨S128x1, .f32⟩
  | 1 => ⟨S1x4, .f32⟩
  | 2 => ⟨S128x4, .f32⟩
  | 3 => ⟨S128x4, .f32⟩
  | 4 => ⟨S128x4, .f32⟩
  | 5 => ⟨S128x4, .f32⟩
  | 6 => ⟨S_, .f32⟩
  | 7 => ⟨S4, .f32⟩
  | 8 => ⟨S4, .f32⟩
  | 9 => ⟨S4, .f32⟩
  | 10 => ⟨S2x66x128x4x128, .f32⟩
  | 11 => ⟨S66x2x128x4x128, .f32⟩
  | 12 => ⟨S2x66x128x4x128, .f32⟩
  | 13 => ⟨S66x2x128x4x128, .f32⟩
  | 14 => ⟨S2x66x128x4x256, .f32⟩
  | 15 => ⟨S66x2x128x4x256, .f32⟩
  | 16 => ⟨S_, .f32⟩
  | 17 => ⟨S66x2x128x4x256, .f32⟩
  | 18 => ⟨S_, .i32⟩
  | 19 => ⟨S66x2x128x4x128, .f32⟩
  | 20 => ⟨S66x2x128x4x128, .f32⟩
  | 21 => ⟨S66x2x128x4x256, .f32⟩
  | 22 => ⟨S4x128x128, .f32⟩
  | 23 => ⟨S128x4, .f32⟩
  | 24 => ⟨S4, .f32⟩
  | 25 => ⟨S128x4, .f32⟩
  | 26 => ⟨S_, .i32⟩
  | 27 => ⟨S2x4x128x256, .f32⟩
  | 28 => ⟨S66x2x128x4x256, .f32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S1x2x128x4x128, .f32⟩
  | 36 => ⟨S2x128x4x128, .f32⟩
  | 37 => ⟨S_, .i32⟩
  | 38 => ⟨S_, .i32⟩
  | 39 => ⟨S_, .i32⟩
  | 40 => ⟨S_, .i32⟩
  | 41 => ⟨S1x2x128x4x128, .f32⟩
  | 42 => ⟨S2x128x4x128, .f32⟩
  | 43 => ⟨S_, .i32⟩
  | 44 => ⟨S_, .i32⟩
  | 45 => ⟨S_, .i32⟩
  | 46 => ⟨S_, .i32⟩
  | 47 => ⟨S1x2x128x4x256, .f32⟩
  | 48 => ⟨S2x128x4x256, .f32⟩
  | 49 => ⟨S2x4x128x128, .f32⟩
  | 50 => ⟨S1x4x128x128, .f32⟩
  | 51 => ⟨S2x4x128x128, .f32⟩
  | 52 => ⟨S2x4x128x128, .f32⟩
  | 53 => ⟨S2x4x256x128, .f32⟩
  | 54 => ⟨S2x128x4x256, .f32⟩
  | 55 => ⟨S1x128x4x1, .f32⟩
  | 56 => ⟨S2x128x4x128, .f32⟩
  | 57 => ⟨S2x128x4x128, .f32⟩
  | 58 => ⟨S2x4x256x128, .f32⟩
  | 59 => ⟨S2x128x4x256, .f32⟩
  | 60 => ⟨S2x128x4x256, .f32⟩
  | 61 => ⟨S1x4x1x1, .f32⟩
  | 62 => ⟨S2x4x128x256, .f32⟩
  | 63 => ⟨S2x4x128x256, .f32⟩
  | 64 => ⟨S1x128x4x1, .f32⟩
  | 65 => ⟨S2x128x4x128, .f32⟩
  | 66 => ⟨S2x128x4x128, .f32⟩
  | 67 => ⟨S2x4x128x256, .f32⟩
  | 68 => ⟨S2x4x128x256, .f32⟩
  | 69 => ⟨S1x2x128x4x256, .f32⟩
  | 70 => ⟨S_, .i32⟩
  | 71 => ⟨S_, .i32⟩
  | 72 => ⟨S_, .i32⟩
  | 73 => ⟨S_, .i32⟩
  | 74 => ⟨S66x2x128x4x256, .f32⟩
  | 75 => ⟨S_, .i32⟩
  | 76 => ⟨S_, .i32⟩
  | 77 => ⟨S2x66x128x4x256, .f32⟩
  | 78 => ⟨S2x8448x4x256, .f32⟩
  | 79 => ⟨S2x8192x4x256, .f32⟩
  | 80 => ⟨S2x8192x4x256, .f32⟩
  | 81 => ⟨S2x256x4x256, .f32⟩
  | 82 => ⟨S2x256x4x256, .f32⟩
  | 83 => ⟨S16896x4x256, .f32⟩
  | 84 => ⟨S16384x4x256, .f32⟩
  | 85 => ⟨S512x4x256, .f32⟩
  | 86 => ⟨S16896x4x256, .f32⟩
  | 87 => ⟨S16896x4x256, .f32⟩
  | 88 => ⟨S_, .f32⟩
  | 89 => ⟨S16896x4, .f32⟩
  | 90 => ⟨S16896x4x1, .f32⟩
  | 91 => ⟨S_, .f32⟩
  | 92 => ⟨S16896x4x1, .f32⟩
  | 93 => ⟨S16896x4x1, .f32⟩
  | 94 => ⟨S16896x4x256, .f32⟩
  | 95 => ⟨S16896x4x256, .f32⟩
  | 96 => ⟨S16896x4x256, .f32⟩
  | 97 => ⟨S_, .f32⟩
  | 98 => ⟨S16896x4, .f32⟩
  | 99 => ⟨S16896x4x1, .f32⟩
  | 100 => ⟨S_, .f32⟩
  | 101 => ⟨S16896x4x1, .f32⟩
  | 102 => ⟨S16896x4x1, .f32⟩
  | 103 => ⟨S16896x4x256, .f32⟩
  | 104 => ⟨S16896x4x256, .f32⟩
  | 105 => ⟨S_, .f32⟩
  | 106 => ⟨S16896x4x1, .f32⟩
  | 107 => ⟨S16896x4x1, .f32⟩
  | 108 => ⟨S16896x4x1, .f32⟩
  | 109 => ⟨S16896x4x256, .f32⟩
  | 110 => ⟨S16896x4x256, .f32⟩
  | 111 => ⟨S4x256, .f32⟩
  | 112 => ⟨S1x4x256, .f32⟩
  | 113 => ⟨S16896x4x256, .f32⟩
  | 114 => ⟨S16896x4x256, .f32⟩
  | 115 => ⟨S16896x1024, .f32⟩
  | 116 => ⟨S16896x1024, .f32⟩
  | 117 => ⟨S16896x1024, .f32⟩
  | 118 => ⟨S_, .f32⟩
  | 119 => ⟨S16896x1024, .f32⟩
  | 120 => ⟨S16896x1024, .f32⟩
  | 121 => ⟨S_, .f32⟩
  | 122 => ⟨S16896x1024, .f32⟩
  | 123 => ⟨S16896x1024, .f32⟩
  | 124 => ⟨S16896x1024, .f32⟩
  | 125 => ⟨S16896x1024, .f32⟩
  | 126 => ⟨S16896x1024, .f32⟩
  | _ => ⟨S16896x10368, .f32⟩

abbrev hbmTy (i : Nat) : BufTy := match i / 128 with
  | 0 => hbmTy0_0 i
  | 1 => hbmTy0_1 i
  | _ => ⟨S16896x10368, .f32⟩

abbrev bufTy : (tb : Table) → Fin (tcTables nBuf tb) → BufTy
  | .hbm, ⟨i, _⟩ => hbmTy i
  | _, _ => ⟨S16896x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_0 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_cst_1 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_cst_2 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_cst_3 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_cst_4 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_cst_5 : Ref sig .tc := ⟨.hbm, 111, rfl⟩
abbrev main_call6_v0 : Ref sig .tc := ⟨.hbm, 112, rfl⟩
abbrev main_call6_v1 : Ref sig .tc := ⟨.hbm, 113, rfl⟩
abbrev main_call6_v2 : Ref sig .tc := ⟨.hbm, 114, rfl⟩
abbrev main_v99 : Ref sig .tc := ⟨.hbm, 115, rfl⟩
abbrev main_v100 : Ref sig .tc := ⟨.hbm, 116, rfl⟩
abbrev main_cst_6 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_cst_7 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_cst_8 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_cst_9 : Ref sig .tc := ⟨.hbm, 144, rfl⟩
abbrev main_v125 : Ref sig .tc := ⟨.hbm, 145, rfl⟩
abbrev main_c : Ref sig .tc := ⟨.hbm, 146, rfl⟩
abbrev main_v126_0 : Ref sig .tc := ⟨.hbm, 147, rfl⟩
abbrev main_v126_1 : Ref sig .tc := ⟨.hbm, 148, rfl⟩
abbrev main_v126_2 : Ref sig .tc := ⟨.hbm, 149, rfl⟩
abbrev main_v126_3 : Ref sig .tc := ⟨.hbm, 150, rfl⟩
abbrev main_v126_4 : Ref sig .tc := ⟨.hbm, 151, rfl⟩
abbrev main_v126_5 : Ref sig .tc := ⟨.hbm, 152, rfl⟩
abbrev main_v126_6 : Ref sig .tc := ⟨.hbm, 153, rfl⟩
abbrev main_v126_7 : Ref sig .tc := ⟨.hbm, 154, rfl⟩
abbrev main_v126_8 : Ref sig .tc := ⟨.hbm, 155, rfl⟩
abbrev main_v126_9 : Ref sig .tc := ⟨.hbm, 156, rfl⟩
abbrev main_while0c_c_24 : Ref sig .tc := ⟨.hbm, 157, rfl⟩
abbrev main_while0c_v164 : Ref sig .tc := ⟨.hbm, 158, rfl⟩
abbrev main_while0b_call7_c : Ref sig .tc := ⟨.hbm, 159, rfl⟩
abbrev main_while0b_call7_c_0 : Ref sig .tc := ⟨.hbm, 160, rfl⟩
abbrev main_while0b_call7_c_1 : Ref sig .tc := ⟨.hbm, 161, rfl⟩
abbrev main_while0b_call7_c_2 : Ref sig .tc := ⟨.hbm, 162, rfl⟩
abbrev main_while0b_call7_v0 : Ref sig .tc := ⟨.hbm, 163, rfl⟩
abbrev main_while0b_v164 : Ref sig .tc := ⟨.hbm, 164, rfl⟩
abbrev main_while0b_call8_c : Ref sig .tc := ⟨.hbm, 165, rfl⟩
abbrev main_while0b_call8_c_0 : Ref sig .tc := ⟨.hbm, 166, rfl⟩
abbrev main_while0b_call8_c_1 : Ref sig .tc := ⟨.hbm, 167, rfl⟩
abbrev main_while0b_call8_c_2 : Ref sig .tc := ⟨.hbm, 168, rfl⟩
abbrev main_while0b_call8_v0 : Ref sig .tc := ⟨.hbm, 169, rfl⟩
abbrev main_while0b_v165 : Ref sig .tc := ⟨.hbm, 170, rfl⟩
abbrev main_while0b_call9_c : Ref sig .tc := ⟨.hbm, 171, rfl⟩
abbrev main_while0b_call9_c_0 : Ref sig .tc := ⟨.hbm, 172, rfl⟩
abbrev main_while0b_call9_c_1 : Ref sig .tc := ⟨.hbm, 173, rfl⟩
abbrev main_while0b_call9_c_2 : Ref sig .tc := ⟨.hbm, 174, rfl⟩
abbrev main_while0b_call9_v0 : Ref sig .tc := ⟨.hbm, 175, rfl⟩
abbrev main_while0b_v166 : Ref sig .tc := ⟨.hbm, 176, rfl⟩
abbrev main_while0b_v167 : Ref sig .tc := ⟨.hbm, 177, rfl⟩
abbrev main_while0b_v168 : Ref sig .tc := ⟨.hbm, 178, rfl⟩
abbrev main_while0b_v169 : Ref sig .tc := ⟨.hbm, 179, rfl⟩
abbrev main_while0b_v170 : Ref sig .tc := ⟨.hbm, 180, rfl⟩
abbrev main_while0b_v171 : Ref sig .tc := ⟨.hbm, 181, rfl⟩
abbrev main_while0b_v172 : Ref sig .tc := ⟨.hbm, 182, rfl⟩
abbrev main_while0b_v173 : Ref sig .tc := ⟨.hbm, 183, rfl⟩
abbrev main_while0b_v174 : Ref sig .tc := ⟨.hbm, 184, rfl⟩
abbrev main_while0b_v175 : Ref sig .tc := ⟨.hbm, 185, rfl⟩
abbrev main_while0b_v176 : Ref sig .tc := ⟨.hbm, 186, rfl⟩
abbrev main_while0b_v177 : Ref sig .tc := ⟨.hbm, 187, rfl⟩
abbrev main_while0b_v178 : Ref sig .tc := ⟨.hbm, 188, rfl⟩
abbrev main_while0b_v179 : Ref sig .tc := ⟨.hbm, 189, rfl⟩
abbrev main_while0b_v180 : Ref sig .tc := ⟨.hbm, 190, rfl⟩
abbrev main_while0b_v181 : Ref sig .tc := ⟨.hbm, 191, rfl⟩
abbrev main_while0b_v182 : Ref sig .tc := ⟨.hbm, 192, rfl⟩
abbrev main_while0b_v183 : Ref sig .tc := ⟨.hbm, 193, rfl⟩
abbrev main_while0b_v184 : Ref sig .tc := ⟨.hbm, 194, rfl⟩
abbrev main_while0b_v185 : Ref sig .tc := ⟨.hbm, 195, rfl⟩
abbrev main_while0b_v186 : Ref sig .tc := ⟨.hbm, 196, rfl⟩
abbrev main_while0b_call10_v0 : Ref sig .tc := ⟨.hbm, 197, rfl⟩
abbrev main_while0b_call10_c : Ref sig .tc := ⟨.hbm, 198, rfl⟩
abbrev main_while0b_call10_c_0 : Ref sig .tc := ⟨.hbm, 199, rfl⟩
abbrev main_while0b_call10_c_1 : Ref sig .tc := ⟨.hbm, 200, rfl⟩
abbrev main_while0b_call10_c_2 : Ref sig .tc := ⟨.hbm, 201, rfl⟩
abbrev main_while0b_v187 : Ref sig .tc := ⟨.hbm, 202, rfl⟩
abbrev main_while0b_c_24 : Ref sig .tc := ⟨.hbm, 203, rfl⟩
abbrev main_while0b_v188 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_cst_10 : Ref sig .tc := ⟨.hbm, 216, rfl⟩
abbrev main_v138 : Ref sig .tc := ⟨.hbm, 217, rfl⟩
abbrev main_v139 : Ref sig .tc := ⟨.hbm, 218, rfl⟩
abbrev main_cst_11 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_cst_12 : Ref sig .tc := ⟨.hbm, 225, rfl⟩
abbrev main_v145 : Ref sig .tc := ⟨.hbm, 226, rfl⟩
abbrev main_v146 : Ref sig .tc := ⟨.hbm, 227, rfl⟩
abbrev main_cst_13 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_cst_14 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_call13_v0 : Ref sig .tc := ⟨.hbm, 244, rfl⟩
abbrev main_call13_v1 : Ref sig .tc := ⟨.hbm, 245, rfl⟩
abbrev main_call13_cst : Ref sig .tc := ⟨.hbm, 246, rfl⟩
abbrev main_call13_v2 : Ref sig .tc := ⟨.hbm, 247, rfl⟩
abbrev main_call13_v3 : Ref sig .tc := ⟨.hbm, 248, rfl⟩
abbrev main_call13_cst_0 : Ref sig .tc := ⟨.hbm, 249, rfl⟩
abbrev main_call13_v4 : Ref sig .tc := ⟨.hbm, 250, rfl⟩
abbrev main_call13_v5 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩

abbrev nD : Nat := 1
abbrev τ : Topo := Topo.v7x

variable {F : FTy → Type} [FloatOps F]

abbrev main_while0_count : Scf.Loop 32 := ⟨0#32, 66#32, 1#32⟩
-- ==== S5Out.lean ====
abbrev S16896x1024 : Shape := ⟨2, ![16896, 1024]⟩
abbrev S16896x10368 : Shape := ⟨2, ![16896, 10368]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 10
  | .vmem => 11
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S16896x10368, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1024x1024, .bf16⟩
  | .hbm, ⟨8, _⟩ => ⟨S1x1024, .f32⟩
  | .hbm, ⟨9, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== S5OutRefIdeal.lean ====
abbrev S16896x1024 : Shape := ⟨2, ![16896, 1024]⟩
abbrev S16896x10368 : Shape := ⟨2, ![16896, 10368]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S16896x10368, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S16896x1024, .f32⟩
  | .hbm, ⟨7, _⟩ => ⟨S16896x1024, .f32⟩
  | .hbm, ⟨8, _⟩ => ⟨S1x1024, .f32⟩
  | .hbm, ⟨9, _⟩ => ⟨S16896x1024, .f32⟩
  | .hbm, ⟨10, _⟩ => ⟨S16896x1024, .f32⟩
  | .hbm, ⟨11, _⟩ => ⟨S16896x1024, .f32⟩
  | .hbm, ⟨12, _⟩ => ⟨S16896x1024, .f32⟩
  | .hbm, ⟨13, _⟩ => ⟨S16896x1024, .f32⟩
  | .hbm, ⟨14, _⟩ => ⟨S_, .f32⟩
  | .hbm, ⟨15, _⟩ => ⟨S16896x1024, .f32⟩
  | .hbm, ⟨16, _⟩ => ⟨S16896x1024, .f32⟩
  | .hbm, ⟨17, _⟩ => ⟨S16896x1024, .f32⟩
  | .hbm, ⟨18, _⟩ => ⟨S_, .f32⟩
  | .hbm, ⟨19, _⟩ => ⟨S16896x1024, .f32⟩
  | .hbm, ⟨20, _⟩ => ⟨S16896x1024, .f32⟩
  | .hbm, ⟨21, _⟩ => ⟨S16896x1024, .f32⟩
  | .hbm, ⟨22, _⟩ => ⟨S_, .f32⟩
  | .hbm, ⟨23, _⟩ => ⟨S16896x1024, .f32⟩
  | .hbm, ⟨24, _⟩ => ⟨S16896x1024, .f32⟩
  | .hbm, ⟨25, _⟩ => ⟨S_, .f32⟩
  | .hbm, ⟨26, _⟩ => ⟨S16896x1024, .f32⟩
  | .hbm, ⟨27, _⟩ => ⟨S16896x1024, .f32⟩
  | .hbm, ⟨28, _⟩ => ⟨S16896x1024, .f32⟩
  | .hbm, ⟨29, _⟩ => ⟨S16896x1024, .f32⟩
  | .hbm, ⟨30, _⟩ => ⟨S1x1024, .f32⟩
  | .hbm, ⟨31, _⟩ => ⟨S16896x1024, .f32⟩
  | .hbm, ⟨32, _⟩ => ⟨S16896x1024, .f32⟩
  | .hbm, ⟨33, _⟩ => ⟨S16896x1024, .f32⟩
  | .hbm, ⟨34, _⟩ => ⟨S16896x1024, .f32⟩
  | .hbm, ⟨35, _⟩ => ⟨S_, .f32⟩
  | .hbm, ⟨36, _⟩ => ⟨S16896x1024, .f32⟩
  | .hbm, ⟨37, _⟩ => ⟨S16896x1024, .f32⟩
  | .hbm, ⟨38, _⟩ => ⟨S_, .f32⟩
  | .hbm, ⟨39, _⟩ => ⟨S16896x1024, .f32⟩
  | .hbm, ⟨40, _⟩ => ⟨S16896x1024, .f32⟩
  | .hbm, ⟨41, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Ada.lean ====
abbrev S8x2048 : Shape := ⟨2, ![8, 2048]⟩
abbrev S4x2048x18432 : Shape := ⟨3, ![4, 2048, 18432]⟩
abbrev S4x18432 : Shape := ⟨2, ![4, 18432]⟩
abbrev S4x1x18432 : Shape := ⟨3, ![4, 1, 18432]⟩
abbrev S4x8x18432 : Shape := ⟨3, ![4, 8, 18432]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x18432, .f32⟩
  | .hbm, ⟨2, _⟩ => ⟨S4x18432, .f32⟩
  | .hbm, ⟨3, _⟩ => ⟨S4x1x18432, .f32⟩
  | .hbm, ⟨4, _⟩ => ⟨S4x8x18432, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x2048 : Shape := ⟨2, ![8, 2048]⟩
abbrev S4x2048x18432 : Shape := ⟨3, ![4, 2048, 18432]⟩
abbrev S4x18432 : Shape := ⟨2, ![4, 18432]⟩
abbrev S_ : Shape := ⟨0, ![]⟩
abbrev S4x18432x8 : Shape := ⟨3, ![4, 18432, 8]⟩
abbrev S4x8x18432 : Shape := ⟨3, ![4, 8, 18432]⟩
abbrev S4x1x18432 : Shape := ⟨3, ![4, 1, 18432]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x18432, .f32⟩
  | .hbm, ⟨2, _⟩ => ⟨S4x18432, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S4x18432x8, .f32⟩
  | .hbm, ⟨13, _⟩ => ⟨S4x8x18432, .f32⟩
  | .hbm, ⟨14, _⟩ => ⟨S4x1x18432, .f32⟩
  | .hbm, ⟨15, _⟩ => ⟨S4x8x18432, .f32⟩
  | .hbm, ⟨16, _⟩ => ⟨S4x8x18432, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== HyLat.lean ====
abbrev S16896x10368 : Shape := ⟨2, ![16896, 10368]⟩
abbrev S3x3072 : Shape := ⟨2, ![3, 3072]⟩
abbrev S3072 : Shape := ⟨1, ![3072]⟩
abbrev S1x3072 : Shape := ⟨2, ![1, 3072]⟩
abbrev S3x2x8192x1024 : Shape := ⟨4, ![3, 2, 8192, 1024]⟩
abbrev S8192x256 : Shape := ⟨2, ![8192, 256]⟩
abbrev S3x256 : Shape := ⟨2, ![3, 256]⟩
abbrev S1x256 : Shape := ⟨2, ![1, 256]⟩
abbrev S1x1x8192x256 : Shape := ⟨4, ![1, 1, 8192, 256]⟩

abbrev nBuf : Space → Nat
  | .hbm => 5
  | .vmem => 8
  | .smem => 0
  | _ => 0

abbrev bufTy : (tb : Table) → Fin (tcTables nBuf tb) → BufTy
  | .hbm, ⟨0, _⟩ => ⟨S16896x10368, .f32⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S3x2x8192x1024, .f32⟩
  | .local _ .vmem, ⟨0, _⟩ => ⟨S8192x256, .f32⟩
  | .local _ .vmem, ⟨1, _⟩ => ⟨S8192x256, .f32⟩
  | .local _ .vmem, ⟨2, _⟩ => ⟨S3x256, .f32⟩
  | .local _ .vmem, ⟨3, _⟩ => ⟨S3x256, .f32⟩
  | .local _ .vmem, ⟨4, _⟩ => ⟨S1x256, .f32⟩
  | .local _ .vmem, ⟨5, _⟩ => ⟨S1x256, .f32⟩
  | .local _ .vmem, ⟨6, _⟩ => ⟨S1x1x8192x256, .f32⟩
  | .local _ .vmem, ⟨7, _⟩ => ⟨S1x1x8192x256, .f32⟩
  | _, _ => ⟨S16896x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c4_i32 : BitVec 32 := 4#32
  let v1 : BitVec 32 := Scalar.muli arg0 c4_i32
  let c28_i32 : BitVec 32 := 28#32
  let v2 : BitVec 32 := Scalar.addi c28_i32 v1
  let v3 : BitVec 32 := Scalar.addi v2 arg2
  let c0_i32_0 : BitVec 32 := 0#32
  ![v0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![c0_i32.toNat, v1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x8192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== HyLatRefIdeal.lean ====
abbrev S16896x10368 : Shape := ⟨2, ![16896, 10368]⟩
abbrev S3x3072 : Shape := ⟨2, ![3, 3072]⟩
abbrev S3072 : Shape := ⟨1, ![3072]⟩
abbrev S16384x3072 : Shape := ⟨2, ![16384, 3072]⟩
abbrev S2x8192x3072 : Shape := ⟨3, ![2, 8192, 3072]⟩
abbrev S2x8191x3072 : Shape := ⟨3, ![2, 8191, 3072]⟩
abbrev S_ : Shape := ⟨0, ![]⟩
abbrev S1x3072 : Shape := ⟨2, ![1, 3072]⟩
abbrev S1x1x3072 : Shape := ⟨3, ![1, 1, 3072]⟩
abbrev S2x8192x1024 : Shape := ⟨3, ![2, 8192, 1024]⟩
abbrev S1x2x8192x1024 : Shape := ⟨4, ![1, 2, 8192, 1024]⟩
abbrev S3x2x8192x1024 : Shape := ⟨4, ![3, 2, 8192, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16896x10368, .f32⟩
  | .hbm, ⟨1, _⟩ => ⟨S3x3072, .f32⟩
  | .hbm, ⟨2, _⟩ => ⟨S3072, .f32⟩
  | .hbm, ⟨3, _⟩ => ⟨S16384x3072, .f32⟩
  | .hbm, ⟨4, _⟩ => ⟨S2x8192x3072, .f32⟩
  | .hbm, ⟨5, _⟩ => ⟨S2x8191x3072, .f32⟩
  | .hbm, ⟨6, _⟩ => ⟨S_, .i32⟩
  | .hbm, ⟨7, _⟩ => ⟨S_, .f32⟩
  | .hbm, ⟨8, _⟩ => ⟨S2x8192x3072, .f32⟩
  | .hbm, ⟨9, _⟩ => ⟨S2x8191x3072, .f32⟩
  | .hbm, ⟨10, _⟩ => ⟨S_, .i32⟩
  | .hbm, ⟨11, _⟩ => ⟨S_, .f32⟩
  | .hbm, ⟨12, _⟩ => ⟨S2x8192x3072, .f32⟩
  | .hbm, ⟨13, _⟩ => ⟨S1x3072, .f32⟩
  | .hbm, ⟨14, _⟩ => ⟨S3072, .f32⟩
  | .hbm, ⟨15, _⟩ => ⟨S1x1x3072, .f32⟩
  | .hbm, ⟨16, _⟩ => ⟨S2x8192x3072, .f32⟩
  | .hbm, ⟨17, _⟩ => ⟨S2x8192x3072, .f32⟩
  | .hbm, ⟨18, _⟩ => ⟨S1x3072, .f32⟩
  | .hbm, ⟨19, _⟩ => ⟨S3072, .f32⟩
  | .hbm, ⟨20, _⟩ => ⟨S1x1x3072, .f32⟩
  | .hbm, ⟨21, _⟩ => ⟨S2x8192x3072, .f32⟩
  | .hbm, ⟨22, _⟩ => ⟨S2x8192x3072, .f32⟩
  | .hbm, ⟨23, _⟩ => ⟨S2x8192x3072, .f32⟩
  | .hbm, ⟨24, _⟩ => ⟨S1x3072, .f32⟩
  | .hbm, ⟨25, _⟩ => ⟨S3072, .f32⟩
  | .hbm, ⟨26, _⟩ => ⟨S1x1x3072, .f32⟩
  | .hbm, ⟨27, _⟩ => ⟨S2x8192x3072, .f32⟩
  | .hbm, ⟨28, _⟩ => ⟨S2x8192x3072, .f32⟩
  | .hbm, ⟨29, _⟩ => ⟨S2x8192x3072, .f32⟩
  | .hbm, ⟨30, _⟩ => ⟨S1x1x3072, .f32⟩
  | .hbm, ⟨31, _⟩ => ⟨S2x8192x3072, .f32⟩
  | .hbm, ⟨32, _⟩ => ⟨S2x8192x3072, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S1x2x8192x1024, .f32⟩
  | .hbm, ⟨37, _⟩ => ⟨S1x2x8192x1024, .f32⟩
  | .hbm, ⟨38, _⟩ => ⟨S1x2x8192x1024, .f32⟩
  | .hbm, ⟨39, _⟩ => ⟨S3x2x8192x1024, .f32⟩
  | _, _ => ⟨S16896x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== HyCtx.lean ====
abbrev S16896x10368 : Shape := ⟨2, ![16896, 10368]⟩
abbrev S3x3072 : Shape := ⟨2, ![3, 3072]⟩
abbrev S3072 : Shape := ⟨1, ![3072]⟩
abbrev S1x3072 : Shape := ⟨2, ![1, 3072]⟩
abbrev S3x2x256x1024 : Shape := ⟨4, ![3, 2, 256, 1024]⟩
abbrev S256x256 : Shape := ⟨2, ![256, 256]⟩
abbrev S3x256 : Shape := ⟨2, ![3, 256]⟩
abbrev S1x256 : Shape := ⟨2, ![1, 256]⟩
abbrev S1x1x256x256 : Shape := ⟨4, ![1, 1, 256, 256]⟩

abbrev nBuf : Space → Nat
  | .hbm => 5
  | .vmem => 8
  | .smem => 0
  | _ => 0

abbrev bufTy : (tb : Table) → Fin (tcTables nBuf tb) → BufTy
  | .hbm, ⟨0, _⟩ => ⟨S16896x10368, .f32⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S3x2x256x1024, .f32⟩
  | .local _ .vmem, ⟨0, _⟩ => ⟨S256x256, .f32⟩
  | .local _ .vmem, ⟨1, _⟩ => ⟨S256x256, .f32⟩
  | .local _ .vmem, ⟨2, _⟩ => ⟨S3x256, .f32⟩
  | .local _ .vmem, ⟨3, _⟩ => ⟨S3x256, .f32⟩
  | .local _ .vmem, ⟨4, _⟩ => ⟨S1x256, .f32⟩
  | .local _ .vmem, ⟨5, _⟩ => ⟨S1x256, .f32⟩
  | .local _ .vmem, ⟨6, _⟩ => ⟨S1x1x256x256, .f32⟩
  | .local _ .vmem, ⟨7, _⟩ => ⟨S1x1x256x256, .f32⟩
  | _, _ => ⟨S16896x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c4_i32 : BitVec 32 := 4#32
  let v1 : BitVec 32 := Scalar.muli arg0 c4_i32
  let c28_i32 : BitVec 32 := 28#32
  let v2 : BitVec 32 := Scalar.addi c28_i32 v1
  let v3 : BitVec 32 := Scalar.addi v2 arg2
  let c0_i32 : BitVec 32 := 0#32
  ![v0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![c0_i32.toNat, v1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== HyCtxRefIdeal.lean ====
abbrev S16896x10368 : Shape := ⟨2, ![16896, 10368]⟩
abbrev S3x3072 : Shape := ⟨2, ![3, 3072]⟩
abbrev S3072 : Shape := ⟨1, ![3072]⟩
abbrev S512x3072 : Shape := ⟨2, ![512, 3072]⟩
abbrev S2x256x3072 : Shape := ⟨3, ![2, 256, 3072]⟩
abbrev S2x255x3072 : Shape := ⟨3, ![2, 255, 3072]⟩
abbrev S_ : Shape := ⟨0, ![]⟩
abbrev S1x3072 : Shape := ⟨2, ![1, 3072]⟩
abbrev S1x1x3072 : Shape := ⟨3, ![1, 1, 3072]⟩
abbrev S2x256x1024 : Shape := ⟨3, ![2, 256, 1024]⟩
abbrev S1x2x256x1024 : Shape := ⟨4, ![1, 2, 256, 1024]⟩
abbrev S3x2x256x1024 : Shape := ⟨4, ![3, 2, 256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16896x10368, .f32⟩
  | .hbm, ⟨1, _⟩ => ⟨S3x3072, .f32⟩
  | .hbm, ⟨2, _⟩ => ⟨S3072, .f32⟩
  | .hbm, ⟨3, _⟩ => ⟨S512x3072, .f32⟩
  | .hbm, ⟨4, _⟩ => ⟨S2x256x3072, .f32⟩
  | .hbm, ⟨5, _⟩ => ⟨S2x255x3072, .f32⟩
  | .hbm, ⟨6, _⟩ => ⟨S_, .i32⟩
  | .hbm, ⟨7, _⟩ => ⟨S_, .f32⟩
  | .hbm, ⟨8, _⟩ => ⟨S2x256x3072, .f32⟩
  | .hbm, ⟨9, _⟩ => ⟨S2x255x3072, .f32⟩
  | .hbm, ⟨10, _⟩ => ⟨S_, .i32⟩
  | .hbm, ⟨11, _⟩ => ⟨S_, .f32⟩
  | .hbm, ⟨12, _⟩ => ⟨S2x256x3072, .f32⟩
  | .hbm, ⟨13, _⟩ => ⟨S1x3072, .f32⟩
  | .hbm, ⟨14, _⟩ => ⟨S3072, .f32⟩
  | .hbm, ⟨15, _⟩ => ⟨S1x1x3072, .f32⟩
  | .hbm, ⟨16, _⟩ => ⟨S2x256x3072, .f32⟩
  | .hbm, ⟨17, _⟩ => ⟨S2x256x3072, .f32⟩
  | .hbm, ⟨18, _⟩ => ⟨S1x3072, .f32⟩
  | .hbm, ⟨19, _⟩ => ⟨S3072, .f32⟩
  | .hbm, ⟨20, _⟩ => ⟨S1x1x3072, .f32⟩
  | .hbm, ⟨21, _⟩ => ⟨S2x256x3072, .f32⟩
  | .hbm, ⟨22, _⟩ => ⟨S2x256x3072, .f32⟩
  | .hbm, ⟨23, _⟩ => ⟨S2x256x3072, .f32⟩
  | .hbm, ⟨24, _⟩ => ⟨S1x3072, .f32⟩
  | .hbm, ⟨25, _⟩ => ⟨S3072, .f32⟩
  | .hbm, ⟨26, _⟩ => ⟨S1x1x3072, .f32⟩
  | .hbm, ⟨27, _⟩ => ⟨S2x256x3072, .f32⟩
  | .hbm, ⟨28, _⟩ => ⟨S2x256x3072, .f32⟩
  | .hbm, ⟨29, _⟩ => ⟨S2x256x3072, .f32⟩
  | .hbm, ⟨30, _⟩ => ⟨S1x1x3072, .f32⟩
  | .hbm, ⟨31, _⟩ => ⟨S2x256x3072, .f32⟩
  | .hbm, ⟨32, _⟩ => ⟨S2x256x3072, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S1x2x256x1024, .f32⟩
  | .hbm, ⟨37, _⟩ => ⟨S1x2x256x1024, .f32⟩
  | .hbm, ⟨38, _⟩ => ⟨S1x2x256x1024, .f32⟩
  | .hbm, ⟨39, _⟩ => ⟨S3x2x256x1024, .f32⟩
  | _, _ => ⟨S16896x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Proof.FfnStep.lean ====
module

public import proofs.«01_k».proof.Proof.Gen.FfnIdeal.Value

@[expose] public section

set_option maxRecDepth 16384

noncomputable section

/-!
What one grid point of the feed-forward call leaves behind, as a function of what its windows hold.

A row tile meets its 11 column tiles of the hidden width in turn.  At the first the kernel stores the normalised and
modulated rows and clears the accumulator; at every one it adds one column tile's share of the product; at the last it
writes the result.  Each statement below names what is stored by the payload the kernel stores.
-/

namespace Cert.FfnIdeal.Step

open Cert.FfnIdeal Cert.FfnIdeal.Gen Idealize.ShloMosaic Idealize.ShloMosaic.TcCoe Idealize.SL.Sem

variable {F : FTy → Type} [FloatOps F]

theorem zeros2 : (![0, 0] : Fin 2 → Nat) = fun _ => 0 := funext fun a => by fin_cases a <;> rfl

/-- Row `r` of the gains. -/
abbrev gainRow (x : Vec F S6x2048 .f32) : Vec F S1x2048 .f32 :=
  View.ld x (Rect.unit (s := S6x2048) ![0, 0] S1x2048.size inb_S6x2048_S1x2048_0_0)
abbrev gainRow1 (x : Vec F S6x2048 .f32) : Vec F S1x2048 .f32 :=
  View.ld x (Rect.unit (s := S6x2048) ![1, 0] S1x2048.size inb_S6x2048_S1x2048_1_0)
/-- The three modulation rows the call reads. -/
abbrev modShift (x : Vec F S1x9x2048 .f32) : Vec F S1x1x2048 .f32 :=
  View.ld x (Rect.unit (s := S1x9x2048) ![0, 0, 0] S1x1x2048.size inb_S1x9x2048_S1x1x2048_0_0_0)
abbrev modScale (x : Vec F S1x9x2048 .f32) : Vec F S1x1x2048 .f32 :=
  View.ld x (Rect.unit (s := S1x9x2048) ![0, 1, 0] S1x1x2048.size inb_S1x9x2048_S1x1x2048_0_1_0)
abbrev modGate (x : Vec F S1x9x2048 .f32) : Vec F S1x1x2048 .f32 :=
  View.ld x (Rect.unit (s := S1x9x2048) ![0, 2, 0] S1x1x2048.size inb_S1x9x2048_S1x1x2048_0_2_0)

section
variable (c : Dev nD) (t : Fin cfg0.N) (x0 : Vec F S512x2048 .f32) (x1 : Vec F S1x9x2048 .f32) (x2 : Vec F S6x2048 .f32)
  (x3 : Vec F S2048x512 .bf16) (x4 : Vec F S2048x512 .bf16) (x5 : Vec F S512x2048 .bf16)

/-- The first column tile of a row tile stores the normalised and modulated rows. -/
theorem first_rows (h0 : cond0_0 (grid0.coords t)) (h1 : ¬cond0_1 (grid0.coords t)) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 x0 x1 x2 x3 x4 x5 = k0_pay1 x0 (gainRow x2) (modScale x1) (modShift x1) := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 x0 x1 x2 x3 x4 x5)]
  unfold kernelRun0_A
  dsimp only
  sl_unfold_words
  rw [View.canon_cons_unit_zero (S := S512x2048) zeros2]
  repeat rw [View.readCov_unit_zero (S := S512x2048) _ zeros2]
  simp only [View.readAt_eq_ld, (hs0_0 t).read_unread, (hs0_1 t).read_unread, (hs0_2 t).read_unread, (hs0_3 t).read_unread, (hs0_4 t).read_unread, (hs0_5 t).read_unread, (Memref.isWhole_whole cc0_scratch0).read_unread, (Memref.isWhole_whole cc0_scratch1).read_unread,
    View.ld_unit_zero (S := S512x2048) zeros2, View.ld_unit_zero (S := S2048x512) zeros2]

/-- … and leaves in the accumulator its own share over zero. -/
theorem first_acc (h0 : cond0_0 (grid0.coords t)) (h1 : ¬cond0_1 (grid0.coords t)) :
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 x0 x1 x2 x3 x4 x5 = k0_pay3 (k0_pay1 x0 (gainRow x2) (modScale x1) (modShift x1)) x3 x4 (k0_pay2 (F := F)) x5 := by
  unfold sout0_A_1
  rw [View.read_writes_eq_canon _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 x0 x1 x2 x3 x4 x5)]
  unfold kernelRun0_A
  dsimp only
  sl_unfold_words
  rw [View.canon_cons_unit_zero (S := S512x2048) zeros2]
  repeat rw [View.readCov_unit_zero (S := S512x2048) _ zeros2]
  simp only [View.readAt_eq_ld, (hs0_0 t).read_unread, (hs0_1 t).read_unread, (hs0_2 t).read_unread, (hs0_3 t).read_unread, (hs0_4 t).read_unread, (hs0_5 t).read_unread, (Memref.isWhole_whole cc0_scratch0).read_unread, (Memref.isWhole_whole cc0_scratch1).read_unread,
    View.ld_unit_zero (S := S512x2048) zeros2, View.ld_unit_zero (S := S2048x512) zeros2]

/-- A middle column tile adds its share to the accumulator. -/
theorem mid_acc (h0 : ¬cond0_0 (grid0.coords t)) (h1 : ¬cond0_1 (grid0.coords t)) (xs0 : Vec F S512x2048 .bf16) (xs1 : Vec F S512x2048 .f32) :
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 x0 x1 x2 x3 x4 x5 xs0 xs1 = k0_pay3 xs0 x3 x4 xs1 x5 := by
  unfold sout0_B_1
  rw [View.read_writes_eq_canon _ _ _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 x0 x1 x2 x3 x4 x5 xs0 xs1)]
  unfold kernelRun0_B
  dsimp only
  sl_unfold_words
  rw [View.canon_cons_unit_zero (S := S512x2048) zeros2]
  repeat rw [View.readCov_unit_zero (S := S512x2048) _ zeros2]
  simp only [View.readAt_eq_ld, (hs0_0 t).read_unread, (hs0_1 t).read_unread, (hs0_2 t).read_unread, (hs0_3 t).read_unread, (hs0_4 t).read_unread, (hs0_5 t).read_unread, (Memref.isWhole_whole cc0_scratch0).read_unread, (Memref.isWhole_whole cc0_scratch1).read_unread,
    View.ld_unit_zero (S := S512x2048) zeros2, View.ld_unit_zero (S := S2048x512) zeros2]

/-- So does the last. -/
theorem last_acc (h0 : ¬cond0_0 (grid0.coords t)) (h1 : cond0_1 (grid0.coords t)) (xs0 : Vec F S512x2048 .bf16) (xs1 : Vec F S512x2048 .f32) :
    sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 x0 x1 x2 x3 x4 x5 xs0 xs1 = k0_pay3 xs0 x3 x4 xs1 x5 := by
  unfold sout0_C_1
  rw [View.read_writes_eq_canon _ _ _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 x0 x1 x2 x3 x4 x5 xs0 xs1)]
  unfold kernelRun0_C
  dsimp only
  sl_unfold_words
  rw [View.canon_cons_unit_zero (S := S512x2048) zeros2]
  repeat rw [View.readCov_unit_zero (S := S512x2048) _ zeros2]
  simp only [View.readAt_eq_ld, (hs0_0 t).read_unread, (hs0_1 t).read_unread, (hs0_2 t).read_unread, (hs0_3 t).read_unread, (hs0_4 t).read_unread, (hs0_5 t).read_unread, (Memref.isWhole_whole cc0_scratch0).read_unread, (Memref.isWhole_whole cc0_scratch1).read_unread,
    View.ld_unit_zero (S := S512x2048) zeros2, View.ld_unit_zero (S := S2048x512) zeros2]

/-- The last column tile writes the result of the rows from the accumulator with its own share added. -/
theorem last_out (h0 : ¬cond0_0 (grid0.coords t)) (h1 : cond0_1 (grid0.coords t)) (xs0 : Vec F S512x2048 .bf16) (xs1 : Vec F S512x2048 .f32) :
    out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 x0 x1 x2 x3 x4 x5 xs0 xs1 = k0_pay4 (k0_pay3 xs0 x3 x4 xs1 x5) (gainRow1 x2) x0 (modGate x1) := by
  unfold out0_C_6
  rw [View.read_writes_eq_canon _ _ _ (cover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 x0 x1 x2 x3 x4 x5 xs0 xs1)]
  unfold kernelRun0_C
  dsimp only
  sl_unfold_words
  rw [View.canon_cons_unit_zero (S := S512x2048) zeros2]
  repeat rw [View.readCov_unit_zero (S := S512x2048) _ zeros2]
  simp only [View.readAt_eq_ld, (hs0_0 t).read_unread, (hs0_1 t).read_unread, (hs0_2 t).read_unread, (hs0_3 t).read_unread, (hs0_4 t).read_unread, (hs0_5 t).read_unread, (Memref.isWhole_whole cc0_scratch0).read_unread, (Memref.isWhole_whole cc0_scratch1).read_unread,
    View.ld_unit_zero (S := S512x2048) zeros2, View.ld_unit_zero (S := S2048x512) zeros2]

end

end Cert.FfnIdeal.Step

end
-- ==== Proof.RowMath.lean ====
module

public import Idealize.ShloMosaic.Lib.Pointwise

@[expose] public section

noncomputable section

/-!
The layer's row operations over the extended reals, each on one row of 2048 numbers: the root-mean-square norm, its
modulated form, and one row of the gated feed-forward product.
-/

namespace Cert.Rows

open Idealize.ShloMosaic

/-- One row of the residual stream. -/
abbrev Row := Fin 2048 → EReal

/-- The reciprocal root of a row's mean square, `1e-6` added under the root. -/
def invRms (x : Row) : EReal :=
  Ideal.rsqrt (Ideal.div (∑ j, x j * x j) (Ideal.ofBits .f32 0x45000000#32) + Ideal.ofBits .f32 0x358637BD#32)

/-- The root-mean-square norm of a row, with its gain. -/
def rms (x gain : Row) : Row := fun k => x k * invRms x * gain k

/-- The norm scaled and shifted by a modulation. -/
def modulated (x gain scale shift : Row) : Row := fun k => rms x gain k * (1 + scale k) + shift k

/-- One hidden unit: the gate's product through `silu`, times the up product. -/
def unit (x wg wu : Row) : EReal := (∑ k, x k * wg k) * Ideal.logistic (∑ k, x k * wg k) * ∑ k, x k * wu k

/-- One row's product of hidden width 5632, at one output column. -/
def swi (x : Row) (wg wu : Fin 2048 → Fin 5632 → EReal) (wd : Fin 5632 → EReal) : EReal :=
  ∑ f, unit x (fun k => wg k f) (fun k => wu k f) * wd f

/-- Hidden unit `f` of column tile `q`, out of 11 tiles of 512. -/
def hid (q : ℕ) (f : Fin 512) : Fin 5632 := ⟨(q * 512 + f.val) % 5632, Nat.mod_lt _ (by decide)⟩

/-- Column tile `q`'s share of the product. -/
def share (x : Row) (wg wu : Fin 2048 → Fin 5632 → EReal) (wd : Fin 5632 → EReal) (q : ℕ) : EReal :=
  ∑ f : Fin 512, unit x (fun k => wg k (hid q f)) (fun k => wu k (hid q f)) * wd (hid q f)

/-- The eleven shares add up to the product. -/
theorem sum_share (x : Row) (wg wu : Fin 2048 → Fin 5632 → EReal) (wd : Fin 5632 → EReal) :
    ∑ q ∈ Finset.range 11, share x wg wu wd q = swi x wg wu wd := by
  rw [swi, Fin.sum_univ_tiles 11 512 rfl, Finset.sum_range]
  refine Finset.sum_congr rfl fun q _ => Finset.sum_congr rfl fun f _ => ?_
  have h : hid q.val f = ⟨q.val * 512 + f.val, by have := q.isLt; have := f.isLt; omega⟩ := by
    have := q.isLt; have := f.isLt
    exact Fin.ext (Nat.mod_eq_of_lt (by omega))
  rw [h]

/-- The modulation a row takes: 8192 rows of each of the two batch elements, then the 512 context rows. -/
def batch (r : ℕ) : Fin 3 := if r < 8192 then 0 else if r < 16384 then 1 else 2

/-- Three blocks of rows put under each other are read by the row's batch. -/
theorem pick (R : Fin 16896) (f : Fin 3 → EReal) :
    (if _h : R.val < 8192 then f 0 else if _h : R.val - 8192 < 8192 then f 1 else f 2) = f (batch R.val) := by
  have := R.isLt
  unfold batch
  split_ifs <;> first | rfl | omega

end Cert.Rows

end
-- ==== Proof.FfnBlock.lean ====
module

public import proofs.«01_k».proof.Proof.FfnStep
public import proofs.«01_k».proof.Proof.RowMath

@[expose] public section

set_option maxRecDepth 16384

noncomputable section

/-!
The feed-forward call's three stored values read at an entry: the modulated rows, the accumulator after one more column
tile, and the result.  Each is a row operation of `RowMath` on the rows the windows hold.
-/

namespace Cert.FfnIdeal.Block

open Cert.FfnIdeal Cert.FfnIdeal.Gen Cert.FfnIdeal.Step Idealize.ShloMosaic Idealize.ShloMosaic.TcCoe

variable (x : Vec Ideal S512x2048 .f32) (mods : Vec Ideal S1x9x2048 .f32) (ng : Vec Ideal S6x2048 .f32)
  (r : Fin 512) (k : Fin 2048)

/-- The rows a tile starts with are its rows normalised and modulated. -/
theorem rows_apply : k0_pay1 x (gainRow ng) (modScale mods) (modShift mods) (ix2 r k)
    = Rows.modulated (fun j => x (ix2 r j)) (fun j => ng (ix2 0 j)) (fun j => mods (ix3 0 1 j)) (fun j => mods (ix3 0 0 j)) k := by
  pointwise [k0_pay1, gainRow, modScale, modShift, Rows.modulated, Rows.rms, Rows.invRms]

/-- The accumulator starts at zero. -/
theorem zero_apply : (k0_pay2 : FVec Ideal S512x2048 .f32) (ix2 r k) = 0 := by
  pointwise [k0_pay2]

/-- One column tile adds its 512 hidden units' products with the down weights. -/
theorem acc_apply (xn : Vec Ideal S512x2048 .bf16) (wg wu : Vec Ideal S2048x512 .bf16) (acc : Vec Ideal S512x2048 .f32)
    (wd : Vec Ideal S512x2048 .bf16) : k0_pay3 xn wg wu acc wd (ix2 r k)
    = acc (ix2 r k) + ∑ f : Fin 512, Rows.unit (fun j => xn (ix2 r j)) (fun j => wg (ix2 j f)) (fun j => wu (ix2 j f)) * wd (ix2 f k) := by
  pointwise [k0_pay3, Rows.unit]

/-- The result is the residual plus half the gate times the accumulated row's norm. -/
theorem out_apply (acc : Vec Ideal S512x2048 .f32) : k0_pay4 acc (gainRow1 ng) x (modGate mods) (ix2 r k)
    = x (ix2 r k) + Ideal.ofBits .f32 0x3F000000#32 * mods (ix3 0 2 k)
        * Rows.rms (fun j => acc (ix2 r j)) (fun j => ng (ix2 1 j)) k := by
  pointwise [k0_pay4, gainRow1, modGate, Rows.rms, Rows.invRms]

end Cert.FfnIdeal.Block

end
-- ==== Proof.FfnWindow.lean ====
module

public import proofs.«01_k».proof.Proof.Gen.FfnIdeal.Value
public import proofs.«01_k».proof.Proof.RowMath

@[expose] public section

set_option maxRecDepth 16384

noncomputable section

/-!
What the feed-forward call's windows hold at a grid point: point `t` works on row tile `t / 11` and column tile
`t % 11`.  Each window is read at an index of variables as an entry of the argument it is cut from.
-/

namespace Cert.FfnIdeal.Window

open Cert.FfnIdeal Cert.FfnIdeal.Gen Idealize.ShloMosaic Idealize.ShloMosaic.TcCoe Idealize.SL.Sem

variable (m : (ℓ : Loc nD τ sig) → Buf (Elt Ideal) ℓ) (c : Dev nD) (t : Fin cfg0.N)

/-- The arguments, as arrays of extended reals. -/
abbrev argH : Vec Ideal S16896x2048 .f32 := m ((c : Thread nD τ).loc main_arg0)
abbrev argMods : Vec Ideal S3x9x2048 .f32 := m ((c : Thread nD τ).loc main_arg1)
abbrev argGains : Vec Ideal S6x2048 .f32 := m ((c : Thread nD τ).loc main_arg2)
abbrev argGate : Vec Ideal S2048x5632 .f32 := m ((c : Thread nD τ).loc main_arg3)
abbrev argUp : Vec Ideal S2048x5632 .f32 := m ((c : Thread nD τ).loc main_arg4)
abbrev argDown : Vec Ideal S5632x2048 .f32 := m ((c : Thread nD τ).loc main_arg5)

/-- The row of the array that row `r` of the point's tile is. -/
def rowOf (r : Fin 512) : Fin 16896 :=
  ⟨t.val / 11 * 512 + r.val, by have h := lt_of_lt_of_eq t.isLt (show cfg0.N = 363 from N_0); have := r.isLt; omega⟩

theorem index0 : ∀ t : Fin cfg0.N, win0_0.index t 0 = t.val / 11 ∧ win0_0.index t 1 = 0 := by decide +kernel
theorem index1 : ∀ t : Fin cfg0.N, win0_1.index t 0 = (if t.val / 11 < 32 then t.val / 11 / 16 else 2)
    ∧ win0_1.index t 1 = 0 ∧ win0_1.index t 2 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = t.val % 11 := by decide +kernel
theorem index4 : ∀ t : Fin cfg0.N, win0_4.index t 0 = 0 ∧ win0_4.index t 1 = t.val % 11 := by decide +kernel
theorem index5 : ∀ t : Fin cfg0.N, win0_5.index t 0 = t.val % 11 ∧ win0_5.index t 1 = 0 := by decide +kernel

theorem blk_h (r : Fin 512) (k : Fin 2048) :
    (iblk m c 0 t : Vec Ideal S512x2048 .f32) (ix2 r k) = argH m c (ix2 (rowOf t r) k) := by
  unfold iblk
  rw [View.read_apply]
  show V m c main_arg0 _ = _
  rw [V_main_arg0]
  refine congrArg (argH m c) (funext fun a => Fin.ext ?_)
  match a with
  | ⟨0, _⟩ => show win0_0.index t 0 * 512 + 1 * r.val = _; rw [(index0 t).1, Nat.one_mul]; rfl
  | ⟨1, _⟩ => show win0_0.index t 1 * 2048 + 1 * k.val = k.val; rw [(index0 t).2]; omega

theorem blk_mods (i : Fin 9) (k : Fin 2048) (r : Fin 512) :
    (iblk m c 1 t : Vec Ideal S1x9x2048 .f32) (ix3 0 i k) = argMods m c (ix3 (Rows.batch (rowOf t r).val) i k) := by
  unfold iblk
  rw [View.read_apply]
  show V m c main_arg1 _ = _
  rw [V_main_arg1]
  refine congrArg (argMods m c) (funext fun a => Fin.ext ?_)
  match a with
  | ⟨0, _⟩ =>
    show win0_1.index t 0 * 1 + 1 * 0 = (Rows.batch (t.val / 11 * 512 + r.val)).val
    rw [(index1 t).1]
    have h := lt_of_lt_of_eq t.isLt (show cfg0.N = 363 from N_0); have := r.isLt
    unfold Rows.batch
    split_ifs <;> simp only [Fin.val_zero, Fin.val_one, Fin.val_two] <;> omega
  | ⟨1, _⟩ => show win0_1.index t 1 * 9 + 1 * i.val = i.val; rw [(index1 t).2.1]; omega
  | ⟨2, _⟩ => show win0_1.index t 2 * 2048 + 1 * k.val = k.val; rw [(index1 t).2.2]; omega

theorem blk_gains (i : Fin 6) (k : Fin 2048) :
    (iblk m c 2 t : Vec Ideal S6x2048 .f32) (ix2 i k) = argGains m c (ix2 i k) := by
  unfold iblk
  rw [View.read_apply]
  show V m c main_arg2 _ = _
  rw [V_main_arg2]
  refine congrArg (argGains m c) (funext fun a => Fin.ext ?_)
  match a with
  | ⟨0, _⟩ => show win0_2.index t 0 * 6 + 1 * i.val = i.val; rw [(index2 t).1]; omega
  | ⟨1, _⟩ => show win0_2.index t 1 * 2048 + 1 * k.val = k.val; rw [(index2 t).2]; omega

/-- The three weights are cast before the call, which over the extended reals leaves them as they are. -/
theorem weight0 : (V m c main_v0 : Vec Ideal S2048x5632 .bf16) = argGate m c := rfl
theorem weight1 : (V m c main_v1 : Vec Ideal S2048x5632 .bf16) = argUp m c := rfl
theorem weight2 : (V m c main_v2 : Vec Ideal S5632x2048 .bf16) = argDown m c := rfl

theorem hid_val (f : Fin 512) : (Rows.hid (t.val % 11) f).val = t.val % 11 * 512 + f.val :=
  Nat.mod_eq_of_lt (by have := f.isLt; omega)

theorem blk_gate (k : Fin 2048) (f : Fin 512) :
    (iblk m c 3 t : Vec Ideal S2048x512 .bf16) (ix2 k f) = argGate m c (ix2 k (Rows.hid (t.val % 11) f)) := by
  unfold iblk
  rw [View.read_apply]
  show (V m c main_v0 : Vec Ideal S2048x5632 .bf16) _ = _
  rw [weight0]
  refine congrArg (argGate m c) (funext fun a => Fin.ext ?_)
  match a with
  | ⟨0, _⟩ => show win0_3.index t 0 * 2048 + 1 * k.val = k.val; rw [(index3 t).1]; omega
  | ⟨1, _⟩ => show win0_3.index t 1 * 512 + 1 * f.val = (Rows.hid (t.val % 11) f).val; rw [(index3 t).2, hid_val]; omega

theorem blk_up (k : Fin 2048) (f : Fin 512) :
    (iblk m c 4 t : Vec Ideal S2048x512 .bf16) (ix2 k f) = argUp m c (ix2 k (Rows.hid (t.val % 11) f)) := by
  unfold iblk
  rw [View.read_apply]
  show (V m c main_v1 : Vec Ideal S2048x5632 .bf16) _ = _
  rw [weight1]
  refine congrArg (argUp m c) (funext fun a => Fin.ext ?_)
  match a with
  | ⟨0, _⟩ => show win0_4.index t 0 * 2048 + 1 * k.val = k.val; rw [(index4 t).1]; omega
  | ⟨1, _⟩ => show win0_4.index t 1 * 512 + 1 * f.val = (Rows.hid (t.val % 11) f).val; rw [(index4 t).2, hid_val]; omega

theorem blk_down (f : Fin 512) (k : Fin 2048) :
    (iblk m c 5 t : Vec Ideal S512x2048 .bf16) (ix2 f k) = argDown m c (ix2 (Rows.hid (t.val % 11) f) k) := by
  unfold iblk
  rw [View.read_apply]
  show (V m c main_v2 : Vec Ideal S5632x2048 .bf16) _ = _
  rw [weight2]
  refine congrArg (argDown m c) (funext fun a => Fin.ext ?_)
  match a with
  | ⟨0, _⟩ => show win0_5.index t 0 * 512 + 1 * f.val = (Rows.hid (t.val % 11) f).val; rw [(index5 t).1, hid_val]; omega
  | ⟨1, _⟩ => show win0_5.index t 1 * 2048 + 1 * k.val = k.val; rw [(index5 t).2]; omega

end Cert.FfnIdeal.Window

end
-- ==== Proof.FfnFold.lean ====
module

public import proofs.«01_k».proof.Proof.FfnBlock
public import proofs.«01_k».proof.Proof.FfnWindow

@[expose] public section

set_option maxRecDepth 16384

noncomputable section

/-!
The feed-forward call's two carried buffers after every grid point, by induction on the point: the modulated rows of
the row tile, and the sum of the column tiles' shares met so far.  After a row tile's last column tile the block
written back is the half step's rows.
-/

namespace Cert.FfnIdeal.Fold

open Cert.FfnIdeal Cert.FfnIdeal.Gen Cert.FfnIdeal.Window Idealize.ShloMosaic Idealize.ShloMosaic.TcCoe Idealize.SL.Sem

variable (m : (ℓ : Loc nD τ sig) → Buf (Elt Ideal) ℓ) (c : Dev nD)

/-- Row `R` of the residual stream, of each modulation, and of the gains. -/
abbrev hRow (R : Fin 16896) : Rows.Row := fun j => argH m c (ix2 R j)
abbrev modRow (R : Fin 16896) (i : Fin 9) : Rows.Row := fun j => argMods m c (ix3 (Rows.batch R.val) i j)
abbrev gain (i : Fin 6) : Rows.Row := fun j => argGains m c (ix2 i j)
/-- Row `R` normalised and modulated. -/
abbrev xnRow (R : Fin 16896) : Rows.Row := Rows.modulated (hRow m c R) (gain m c 0) (modRow m c R 1) (modRow m c R 0)
/-- Column tile `q`'s share of entry `(R, k)`. -/
abbrev part (R : Fin 16896) (k : Fin 2048) (q : ℕ) : EReal :=
  Rows.share (xnRow m c R) (fun j f => argGate m c (ix2 j f)) (fun j f => argUp m c (ix2 j f)) (fun f => argDown m c (ix2 f k)) q

theorem rows_eq (t : Fin cfg0.N) (r : Fin 512) (k : Fin 2048) :
    k0_pay1 (iblk m c 0 t) (Step.gainRow (iblk m c 2 t)) (Step.modScale (iblk m c 1 t)) (Step.modShift (iblk m c 1 t)) (ix2 r k)
      = xnRow m c (rowOf t r) k := by
  rw [Block.rows_apply]
  simp only [blk_h, blk_gains, blk_mods m c t _ _ r]

theorem acc_eq (t : Fin cfg0.N) (r : Fin 512) (k : Fin 2048) (xn : Vec Ideal S512x2048 .bf16) (acc : Vec Ideal S512x2048 .f32)
    (hx : ∀ j, xn (ix2 r j) = xnRow m c (rowOf t r) j) :
    k0_pay3 xn (iblk m c 3 t) (iblk m c 4 t) acc (iblk m c 5 t) (ix2 r k)
      = acc (ix2 r k) + part m c (rowOf t r) k (t.val % 11) := by
  rw [Block.acc_apply]
  simp only [hx, blk_gate, blk_up, blk_down, part, Rows.share]

/-- What the carried buffers hold after a point. -/
def Holds (t : Fin cfg0.N) (st : Vec Ideal S512x2048 .f32 × Vec Ideal S512x2048 .bf16 × Vec Ideal S512x2048 .f32) : Prop :=
  (∀ r k, st.2.1 (ix2 r k) = xnRow m c (rowOf t r) k)
  ∧ ∀ r k, st.2.2 (ix2 r k) = ∑ q ∈ Finset.range (t.val % 11 + 1), part m c (rowOf t r) k q

/-- Where a row tile goes on, the tile's rows are the ones of the point before. -/
theorem rowOf_pred (n : ℕ) (hn : n + 1 < cfg0.N) (h0 : ¬(n + 1) % 11 = 0) (r : Fin 512) :
    rowOf ⟨n, Nat.lt_of_succ_lt hn⟩ r = rowOf ⟨n + 1, hn⟩ r := by
  refine Fin.ext ?_
  show n / 11 * 512 + r.val = (n + 1) / 11 * 512 + r.val
  have : n / 11 = (n + 1) / 11 := by omega
  rw [this]

theorem first (t : Fin cfg0.N) (h0 : t.val % 11 = 0) : Holds m c t (outsAt0 m c t.val t.isLt) := by
  have h1 : ¬t.val % 11 = 10 := by omega
  rw [outsAt0_A m c t h0 h1]
  refine ⟨fun r k => ?_, fun r k => ?_⟩
  · dsimp only
    rw [Step.first_rows]
    exact rows_eq m c t r k
  · dsimp only
    rw [Step.first_acc, acc_eq m c t r k _ _ (rows_eq m c t r), Block.zero_apply, zero_add, h0]
    simp only [Nat.zero_add, Finset.sum_range_one]

theorem step (n : ℕ) (hn : n + 1 < cfg0.N) (h0 : ¬(n + 1) % 11 = 0) (xs0 : Vec Ideal S512x2048 .bf16) (xs1 : Vec Ideal S512x2048 .f32)
    (hx : ∀ r k, xs0 (ix2 r k) = xnRow m c (rowOf ⟨n, Nat.lt_of_succ_lt hn⟩ r) k)
    (ha : ∀ r k, xs1 (ix2 r k) = ∑ q ∈ Finset.range (n % 11 + 1), part m c (rowOf ⟨n, Nat.lt_of_succ_lt hn⟩ r) k q) (r : Fin 512) (k : Fin 2048) :
    k0_pay3 xs0 (iblk m c 3 ⟨n + 1, hn⟩) (iblk m c 4 ⟨n + 1, hn⟩) xs1 (iblk m c 5 ⟨n + 1, hn⟩) (ix2 r k)
      = ∑ q ∈ Finset.range ((n + 1) % 11 + 1), part m c (rowOf ⟨n + 1, hn⟩ r) k q := by
  have hq : n % 11 + 1 = (n + 1) % 11 := by omega
  rw [acc_eq m c ⟨n + 1, hn⟩ r k xs0 xs1 (fun j => by rw [hx, rowOf_pred n hn h0]), ha, rowOf_pred n hn h0, hq, Finset.sum_range_succ]

theorem holds : ∀ (n : ℕ) (hn : n < cfg0.N), Holds m c ⟨n, hn⟩ (outsAt0 m c n hn)
  | 0, hn => first m c ⟨0, hn⟩ rfl
  | n + 1, hn => by
    by_cases h0 : (n + 1) % 11 = 0
    · exact first m c ⟨n + 1, hn⟩ h0
    obtain ⟨hx, ha⟩ := holds n (Nat.lt_of_succ_lt hn)
    have hx' : ∀ r k, (outsAt0 m c n (Nat.lt_of_succ_lt hn)).2.1 (ix2 r k) = xnRow m c (rowOf ⟨n + 1, hn⟩ r) k :=
      fun r k => by rw [hx, rowOf_pred n hn h0]
    by_cases h1 : (n + 1) % 11 = 10
    · rw [outsAt0_C m c ⟨n + 1, hn⟩ h0 h1]
      refine ⟨fun r k => hx' r k, fun r k => ?_⟩
      dsimp only
      rw [Step.last_acc]
      exact step m c n hn h0 _ _ hx ha r k
    · rw [outsAt0_B m c ⟨n + 1, hn⟩ h0 h1]
      refine ⟨fun r k => hx' r k, fun r k => ?_⟩
      dsimp only
      rw [Step.mid_acc]
      exact step m c n hn h0 _ _ hx ha r k

/-- The block a row tile's last point writes back. -/
theorem block (n : ℕ) (hn : n + 1 < cfg0.N) (h1 : (n + 1) % 11 = 10) (r : Fin 512) (k : Fin 2048) :
    (outsAt0 m c (n + 1) hn).1 (ix2 r k)
      = hRow m c (rowOf ⟨n + 1, hn⟩ r) k + Ideal.ofBits .f32 0x3F000000#32 * modRow m c (rowOf ⟨n + 1, hn⟩ r) 2 k
          * Rows.rms (fun j => Rows.swi (xnRow m c (rowOf ⟨n + 1, hn⟩ r)) (fun j f => argGate m c (ix2 j f)) (fun j f => argUp m c (ix2 j f))
              (fun f => argDown m c (ix2 f j))) (gain m c 1) k := by
  have h0 : ¬(n + 1) % 11 = 0 := by omega
  obtain ⟨hx, ha⟩ := holds m c n (Nat.lt_of_succ_lt hn)
  rw [outsAt0_C m c ⟨n + 1, hn⟩ h0 h1]
  dsimp only
  rw [Step.last_out, Block.out_apply]
  simp only [blk_h, blk_gains, blk_mods m c _ _ _ r]
  refine congrArg (fun z => hRow m c (rowOf ⟨n + 1, hn⟩ r) k + Ideal.ofBits .f32 0x3F000000#32
    * modRow m c (rowOf ⟨n + 1, hn⟩ r) 2 k * Rows.rms z (gain m c 1) k) (funext fun j => ?_)
  refine (step m c n hn h0 _ _ hx ha r j).trans ?_
  rw [h1]
  exact Rows.sum_share ..

/-- The array the call leaves, at row `R` and column `k`. -/
theorem result (R : Fin 16896) (k : Fin 2048) : (Value.G6 m c : Vec Ideal S16896x2048 .f32) (ix2 R k)
    = hRow m c R k + Ideal.ofBits .f32 0x3F000000#32 * modRow m c R 2 k
          * Rows.rms (fun j => Rows.swi (xnRow m c R) (fun j f => argGate m c (ix2 j f)) (fun j f => argUp m c (ix2 j f))
              (fun f => argDown m c (ix2 f j))) (gain m c 1) k := by
  have hR := R.isLt
  have hk := k.isLt
  have hp : Value.pt6Of (ix2 R k) = 11 * (R.val / 512) + 10 := by
    show 11 * (1 * (R.val / 512 - 0) + 1 * (k.val / 2048 - 0)) + 10 = _
    omega
  have hN : 11 * (R.val / 512) + 9 + 1 < cfg0.N := lt_of_lt_of_eq (by omega) (show cfg0.N = 363 from N_0).symm
  have hl : Value.loc6Of (ix2 R k) = ix2 ⟨R.val % 512, Nat.mod_lt _ (by decide)⟩ k := by
    refine funext fun a => Fin.ext ?_
    match a with
    | ⟨0, _⟩ => rfl
    | ⟨1, _⟩ => exact Nat.mod_eq_of_lt hk
  have hr : rowOf ⟨11 * (R.val / 512) + 9 + 1, hN⟩ ⟨R.val % 512, Nat.mod_lt _ (by decide)⟩ = R := by
    refine Fin.ext ?_
    show (11 * (R.val / 512) + 9 + 1) / 11 * 512 + R.val % 512 = R.val
    omega
  have hb := block m c (11 * (R.val / 512) + 9) hN (by omega) ⟨R.val % 512, Nat.mod_lt _ (by decide)⟩ k
  rw [hr, Value.outsAt0_sweep] at hb
  unfold Value.G6
  rw [dif_pos (by rw [hp]; exact hN), hl]
  refine Eq.trans ?_ hb
  rw [Value.fold0_congr m c (Value.pt6Of (ix2 R k)) (by rw [hp]; exact (by omega)) (11 * (R.val / 512) + 9 + 1) (by omega) hp]

end Cert.FfnIdeal.Fold

end
-- ==== Proof.FfnReference.lean ====
module

public import proofs.«01_k».proof.Proof.Gen.FfnRefIdeal.Read
public import proofs.«01_k».proof.Proof.RowMath

@[expose] public section

set_option maxRecDepth 16384

noncomputable section

/-!
The plain feed-forward half step read at an entry: the same row operations, on the whole arrays.
-/

namespace Cert.FfnRefIdeal.Rows

open Cert.FfnRefIdeal Cert.FfnRefIdeal.Read Idealize.ShloMosaic Idealize.ShloMosaic.TcCoe
open Cert.Rows (Row batch)

variable (h : (⟨S16896x2048, .f32⟩ : BufTy).Contents (Elt Ideal)) (mods : (⟨S3x9x2048, .f32⟩ : BufTy).Contents (Elt Ideal))
  (ng : (⟨S6x2048, .f32⟩ : BufTy).Contents (Elt Ideal)) (wg wu : (⟨S2048x5632, .f32⟩ : BufTy).Contents (Elt Ideal))
  (wd : (⟨S5632x2048, .f32⟩ : BufTy).Contents (Elt Ideal)) (R : Fin 16896) (k : Fin 2048)

theorem shift_apply : val_main_v23 (F := Ideal) mods (ix2 R k) = mods (ix3 (batch R.val) 0 k) := by
  pointwise [val_main_v23, val_main_v22, val_main_v21, val_main_v20, val_main_v19, val_main_v18, val_main_v17, val_main_v16, val_main_v15, val_main_v14]
  exact Cert.Rows.pick R fun b => mods (ix3 b 0 k)

theorem scale_apply : val_main_v33 (F := Ideal) mods (ix2 R k) = mods (ix3 (batch R.val) 1 k) := by
  pointwise [val_main_v33, val_main_v32, val_main_v31, val_main_v30, val_main_v29, val_main_v28, val_main_v27, val_main_v26, val_main_v25, val_main_v24]
  exact Cert.Rows.pick R fun b => mods (ix3 b 1 k)

theorem gate_apply : val_main_v11 (F := Ideal) mods (ix2 R k) = Ideal.ofBits .f32 0x3F000000#32 * mods (ix3 (batch R.val) 2 k) := by
  pointwise [val_main_v11, val_main_v10, val_main_v9, val_main_v8, val_main_v7, val_main_v6, val_main_v5, val_main_v4, val_main_v3, val_main_v2, val_main_v1, val_main_v0, val_main_cst]
  rw [Cert.Rows.pick R fun b => mods (ix3 b 2 k)]

/-- The modulated rows. -/
theorem rows_apply : val_main_v50 (F := Ideal) h mods ng (ix2 R k)
    = Cert.Rows.modulated (fun j => h (ix2 R j)) (fun j => ng (ix2 0 j)) (fun j => mods (ix3 (batch R.val) 1 j)) (fun j => mods (ix3 (batch R.val) 0 j)) k := by
  pointwise [val_main_v50, val_main_v49, val_main_v48, val_main_v47, val_main_v46, val_main_v45, val_main_v44, val_main_v43, val_main_v42, val_main_v41,
    val_main_v40, val_main_v39, val_main_v38, val_main_v37, val_main_v36, val_main_v35, val_main_v34, val_main_v13, val_main_v12,
    val_main_cst_0, val_main_cst_1, val_main_cst_2, val_main_cst_3, shift_apply, scale_apply, Cert.Rows.modulated, Cert.Rows.rms, Cert.Rows.invRms]

/-- The product of hidden width 5632. -/
theorem product_apply : val_main_v55 (F := Ideal) h mods ng wg wu wd (ix2 R k)
    = Cert.Rows.swi (Cert.Rows.modulated (fun j => h (ix2 R j)) (fun j => ng (ix2 0 j)) (fun j => mods (ix3 (batch R.val) 1 j)) (fun j => mods (ix3 (batch R.val) 0 j)))
        (fun j f => wg (ix2 j f)) (fun j f => wu (ix2 j f)) (fun f => wd (ix2 f k)) := by
  pointwise [val_main_v55, val_main_v54, val_main_v53, val_main_v52, val_main_v51, val_main_call0_v5, val_main_call0_v4, val_main_call0_v3, val_main_call0_v2, val_main_call0_v1,
    val_main_call0_v0, val_main_call0_cst, val_main_call0_cst_0, rows_apply, Cert.Rows.swi, Cert.Rows.unit, Ideal.logistic]

/-- The result. -/
theorem result : val_main_v72 (F := Ideal) h mods ng wg wu wd (ix2 R k)
    = h (ix2 R k) + Ideal.ofBits .f32 0x3F000000#32 * mods (ix3 (batch R.val) 2 k) * Cert.Rows.rms (fun j =>
        Cert.Rows.swi (Cert.Rows.modulated (fun j => h (ix2 R j)) (fun j => ng (ix2 0 j)) (fun j => mods (ix3 (batch R.val) 1 j)) (fun j => mods (ix3 (batch R.val) 0 j)))
        (fun j f => wg (ix2 j f)) (fun j f => wu (ix2 j f)) (fun f => wd (ix2 f j))) (fun j => ng (ix2 1 j)) k := by
  pointwise [val_main_v72, val_main_v71, val_main_v70, val_main_v69, val_main_v68, val_main_v67, val_main_v66, val_main_v65, val_main_v64, val_main_v63, val_main_v62, val_main_v61,
    val_main_v60, val_main_v59, val_main_v58, val_main_v57, val_main_v56, val_main_cst_4, val_main_cst_5, val_main_cst_6, gate_apply, product_apply, Cert.Rows.rms, Cert.Rows.invRms]

end Cert.FfnRefIdeal.Rows

end
-- ==== Proof.FfnEquation.lean ====
module

public import proofs.«01_k».proof.Proof.FfnFold
public import proofs.«01_k».proof.Proof.FfnReference

@[expose] public section

set_option maxRecDepth 16384

noncomputable section

/-!
The feed-forward half step: on the same arguments the tiled call and the plain formula give the same array.
-/

namespace Cert.Equation

open Idealize.ShloMosaic Idealize.ShloMosaic.TcCoe Idealize.SL.Sem

theorem ffn (m : (ℓ : Loc FfnIdeal.nD FfnIdeal.τ FfnIdeal.sig) → Buf (Elt Ideal) ℓ)
    (m' : (ℓ : Loc FfnRefIdeal.nD FfnRefIdeal.τ FfnRefIdeal.sig) → Buf (Elt Ideal) ℓ) (c : Dev FfnIdeal.nD)
    (e0 : m' ((c : Thread FfnRefIdeal.nD FfnRefIdeal.τ).loc FfnRefIdeal.main_arg0) = m ((c : Thread FfnIdeal.nD FfnIdeal.τ).loc FfnIdeal.main_arg0))
    (e1 : m' ((c : Thread FfnRefIdeal.nD FfnRefIdeal.τ).loc FfnRefIdeal.main_arg1) = m ((c : Thread FfnIdeal.nD FfnIdeal.τ).loc FfnIdeal.main_arg1))
    (e2 : m' ((c : Thread FfnRefIdeal.nD FfnRefIdeal.τ).loc FfnRefIdeal.main_arg2) = m ((c : Thread FfnIdeal.nD FfnIdeal.τ).loc FfnIdeal.main_arg2))
    (e3 : m' ((c : Thread FfnRefIdeal.nD FfnRefIdeal.τ).loc FfnRefIdeal.main_arg3) = m ((c : Thread FfnIdeal.nD FfnIdeal.τ).loc FfnIdeal.main_arg3))
    (e4 : m' ((c : Thread FfnRefIdeal.nD FfnRefIdeal.τ).loc FfnRefIdeal.main_arg4) = m ((c : Thread FfnIdeal.nD FfnIdeal.τ).loc FfnIdeal.main_arg4))
    (e5 : m' ((c : Thread FfnRefIdeal.nD FfnRefIdeal.τ).loc FfnRefIdeal.main_arg5) = m ((c : Thread FfnIdeal.nD FfnIdeal.τ).loc FfnIdeal.main_arg5)) :
    FfnRefIdeal.Value.res_main_v72 (F := Ideal) m' c = FfnIdeal.Value.G6 (F := Ideal) m c := by
  refine (FfnRefIdeal.Read.val_main_v72_eq m' c).trans ?_
  rw [e0, e1, e2, e3, e4, e5]
  funext i
  obtain ⟨R, k, rfl⟩ : ∃ (R : Fin 16896) (k : Fin 2048), i = ix2 R k := ⟨i 0, i 1, eq_ix2 i⟩
  exact (FfnRefIdeal.Rows.result ..).trans (FfnIdeal.Fold.result m c R k).symm

end Cert.Equation

end
-- ==== Proof.InprojStep.lean ====
module

public import proofs.«01_k».proof.Proof.Gen.InprojIdeal.Value

@[expose] public section

set_option maxRecDepth 16384

noncomputable section

/-!
What one grid point of the input projection leaves behind, as a function of what its windows hold.

The first column tile of a row tile stores the normalised and modulated rows; every column tile writes their product
with its columns of the weight.
-/

namespace Cert.InprojIdeal.Step

open Cert.InprojIdeal Cert.InprojIdeal.Gen Idealize.ShloMosaic Idealize.ShloMosaic.TcCoe Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The gain and the two modulation rows the call reads. -/
abbrev gainRow (x : Vec F S6x2048 .f32) : Vec F S1x2048 .f32 :=
  View.ld x (Rect.unit (s := S6x2048) ![2, 0] S1x2048.size inb_S6x2048_S1x2048_2_0)
abbrev modShift (x : Vec F S1x9x2048 .f32) : Vec F S1x1x2048 .f32 :=
  View.ld x (Rect.unit (s := S1x9x2048) ![0, 3, 0] S1x1x2048.size inb_S1x9x2048_S1x1x2048_0_3_0)
abbrev modScale (x : Vec F S1x9x2048 .f32) : Vec F S1x1x2048 .f32 :=
  View.ld x (Rect.unit (s := S1x9x2048) ![0, 4, 0] S1x1x2048.size inb_S1x9x2048_S1x1x2048_0_4_0)

section
variable (c : Dev nD) (t : Fin cfg0.N) (x0 : Vec F S512x2048 .f32) (x1 : Vec F S1x9x2048 .f32) (x2 : Vec F S6x2048 .f32) (x3 : Vec F S2048x1152 .bf16)

/-- The first column tile of a row tile stores the normalised and modulated rows. -/
theorem first_rows (h0 : cond0_0 (grid0.coords t)) :
    sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) h0 x0 x1 x2 x3 = k0_pay1 x0 (gainRow x2) (modScale x1) (modShift x1) := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) h0 x0 x1 x2 x3)]
  unfold kernelRun0_A
  dsimp only
  sl_unfold_words
  rw [View.canon_cons_unit_zero (S := S512x2048) zeros2]
  repeat rw [View.readCov_unit_zero (S := S512x2048) _ zeros2]
  simp only [View.readAt_eq_ld, (hs0_0 t).read_unread, (hs0_1 t).read_unread, (hs0_2 t).read_unread, (hs0_3 t).read_unread, (hs0_4 t).read_unread, (Memref.isWhole_whole cc0_scratch0).read_unread,
    View.ld_unit_zero (S := S512x2048) zeros2, View.ld_unit_zero (S := S2048x1152) zeros2]

/-- It writes their product with its columns of the weight. -/
theorem first_out (h0 : cond0_0 (grid0.coords t)) :
    out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) h0 x0 x1 x2 x3 = k0_pay2 (k0_pay1 x0 (gainRow x2) (modScale x1) (modShift x1)) x3 := by
  unfold out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) h0 x0 x1 x2 x3)]
  unfold kernelRun0_A
  dsimp only
  sl_unfold_words
  rw [View.canon_cons_unit_zero (S := S512x1152) zeros2]
  repeat rw [View.readCov_unit_zero (S := S512x2048) _ zeros2]
  simp only [View.readAt_eq_ld, (hs0_0 t).read_unread, (hs0_1 t).read_unread, (hs0_2 t).read_unread, (hs0_3 t).read_unread, (hs0_4 t).read_unread, (Memref.isWhole_whole cc0_scratch0).read_unread,
    View.ld_unit_zero (S := S512x2048) zeros2, View.ld_unit_zero (S := S2048x1152) zeros2]

/-- A later column tile writes the product of the stored rows with its columns. -/
theorem next_out (h0 : ¬cond0_0 (grid0.coords t)) (xs0 : Vec F S512x2048 .bf16) :
    out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) h0 x0 x1 x2 x3 xs0 = k0_pay2 xs0 x3 := by
  unfold out0_B_4
  rw [View.read_writes_eq_canon _ _ _ (cover0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) h0 x0 x1 x2 x3 xs0)]
  unfold kernelRun0_B
  dsimp only
  sl_unfold_words
  rw [View.canon_cons_unit_zero (S := S512x1152) zeros2]
  repeat rw [View.readCov_unit_zero (S := S512x2048) _ zeros2]
  simp only [View.readAt_eq_ld, (hs0_0 t).read_unread, (hs0_1 t).read_unread, (hs0_2 t).read_unread, (hs0_3 t).read_unread, (hs0_4 t).read_unread, (Memref.isWhole_whole cc0_scratch0).read_unread,
    View.ld_unit_zero (S := S512x2048) zeros2, View.ld_unit_zero (S := S2048x1152) zeros2]

end

end Cert.InprojIdeal.Step

end
-- ==== Proof.InprojBlock.lean ====
module

public import proofs.«01_k».proof.Proof.InprojStep
public import proofs.«01_k».proof.Proof.RowMath

@[expose] public section

set_option maxRecDepth 16384

noncomputable section

/-!
The input projection's two stored values read at an entry.
-/

namespace Cert.InprojIdeal.Block

open Cert.InprojIdeal Cert.InprojIdeal.Gen Cert.InprojIdeal.Step Idealize.ShloMosaic Idealize.ShloMosaic.TcCoe

/-- The rows a tile starts with are its rows normalised and modulated. -/
theorem rows_apply (x : Vec Ideal S512x2048 .f32) (mods : Vec Ideal S1x9x2048 .f32) (ng : Vec Ideal S6x2048 .f32) (r : Fin 512) (k : Fin 2048) :
    k0_pay1 x (gainRow ng) (modScale mods) (modShift mods) (ix2 r k)
    = Rows.modulated (fun j => x (ix2 r j)) (fun j => ng (ix2 2 j)) (fun j => mods (ix3 0 4 j)) (fun j => mods (ix3 0 3 j)) k := by
  pointwise [k0_pay1, gainRow, modScale, modShift, Rows.modulated, Rows.rms, Rows.invRms]

/-- A column tile's product. -/
theorem out_apply (xn : Vec Ideal S512x2048 .bf16) (w : Vec Ideal S2048x1152 .bf16) (r : Fin 512) (k : Fin 1152) :
    k0_pay2 xn w (ix2 r k) = ∑ j, xn (ix2 r j) * w (ix2 j k) := by
  pointwise [k0_pay2]

end Cert.InprojIdeal.Block

end
-- ==== Proof.InprojWindow.lean ====
module

public import proofs.«01_k».proof.Proof.Gen.InprojIdeal.Value
public import proofs.«01_k».proof.Proof.RowMath

@[expose] public section

set_option maxRecDepth 16384

noncomputable section

/-!
What the input projection's windows hold at a grid point: point `t` works on row tile `t / 9` and column tile `t % 9`.
-/

namespace Cert.InprojIdeal.Window

open Cert.InprojIdeal Cert.InprojIdeal.Gen Idealize.ShloMosaic Idealize.ShloMosaic.TcCoe Idealize.SL.Sem

variable (m : (ℓ : Loc nD τ sig) → Buf (Elt Ideal) ℓ) (c : Dev nD) (t : Fin cfg0.N)

/-- The arguments, as arrays of extended reals. -/
abbrev argH : Vec Ideal S16896x2048 .f32 := m ((c : Thread nD τ).loc main_arg0)
abbrev argMods : Vec Ideal S3x9x2048 .f32 := m ((c : Thread nD τ).loc main_arg1)
abbrev argGains : Vec Ideal S6x2048 .f32 := m ((c : Thread nD τ).loc main_arg2)
abbrev argW : Vec Ideal S2048x10368 .f32 := m ((c : Thread nD τ).loc main_arg3)

/-- The row of the array that row `r` of the point's tile is. -/
def rowOf (r : Fin 512) : Fin 16896 :=
  ⟨t.val / 9 * 512 + r.val, by have h := lt_of_lt_of_eq t.isLt (show cfg0.N = 297 from N_0); have := r.isLt; omega⟩

theorem index0 : ∀ t : Fin cfg0.N, win0_0.index t 0 = t.val / 9 ∧ win0_0.index t 1 = 0 := by decide +kernel
theorem index1 : ∀ t : Fin cfg0.N, win0_1.index t 0 = (if t.val / 9 < 32 then t.val / 9 / 16 else 2) ∧ win0_1.index t 1 = 0 ∧ win0_1.index t 2 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = t.val % 9 := by decide +kernel

/-- The column of the product that column `k` of the point's tile is. -/
def colOf (k : Fin 1152) : Fin 10368 := ⟨t.val % 9 * 1152 + k.val, by have := k.isLt; omega⟩

/-- The weight is cast before the call, which over the extended reals leaves it as it is. -/
theorem weight0 : (V m c main_v0 : Vec Ideal S2048x10368 .bf16) = argW m c := rfl

theorem blk_h (r : Fin 512) (k : Fin 2048) :
    (iblk m c 0 t : Vec Ideal S512x2048 .f32) (ix2 r k) = argH m c (ix2 (rowOf t r) k) := by
  unfold iblk
  rw [View.read_apply]
  show (V m c main_arg0 : Vec Ideal S16896x2048 .f32) _ = _
  rw [V_main_arg0]
  refine congrArg (argH m c) (funext fun a => Fin.ext ?_)
  match a with
  | ⟨0, _⟩ => show win0_0.index t 0 * 512 + 1 * r.val = t.val / 9 * 512 + r.val; rw [(index0 t).1]; omega
  | ⟨1, _⟩ => show win0_0.index t 1 * 2048 + 1 * k.val = k.val; rw [(index0 t).2]; omega

theorem blk_mods (i : Fin 9) (k : Fin 2048) (r : Fin 512) :
    (iblk m c 1 t : Vec Ideal S1x9x2048 .f32) (ix3 0 i k) = argMods m c (ix3 (Rows.batch (rowOf t r).val) i k) := by
  unfold iblk
  rw [View.read_apply]
  show (V m c main_arg1 : Vec Ideal S3x9x2048 .f32) _ = _
  rw [V_main_arg1]
  refine congrArg (argMods m c) (funext fun a => Fin.ext ?_)
  match a with
  | ⟨0, _⟩ =>
    show win0_1.index t 0 * 1 + 1 * 0 = (Rows.batch (t.val / 9 * 512 + r.val)).val; rw [(index1 t).1]
    have h := lt_of_lt_of_eq t.isLt (show cfg0.N = 297 from N_0)
    have := r.isLt
    unfold Rows.batch
    split_ifs <;> simp only [Fin.val_zero, Fin.val_one, Fin.val_two] <;> omega
  | ⟨1, _⟩ => show win0_1.index t 1 * 9 + 1 * i.val = i.val; rw [(index1 t).2.1]; omega
  | ⟨2, _⟩ => show win0_1.index t 2 * 2048 + 1 * k.val = k.val; rw [(index1 t).2.2]; omega

theorem blk_gains (i : Fin 6) (k : Fin 2048) :
    (iblk m c 2 t : Vec Ideal S6x2048 .f32) (ix2 i k) = argGains m c (ix2 i k) := by
  unfold iblk
  rw [View.read_apply]
  show (V m c main_arg2 : Vec Ideal S6x2048 .f32) _ = _
  rw [V_main_arg2]
  refine congrArg (argGains m c) (funext fun a => Fin.ext ?_)
  match a with
  | ⟨0, _⟩ => show win0_2.index t 0 * 6 + 1 * i.val = i.val; rw [(index2 t).1]; omega
  | ⟨1, _⟩ => show win0_2.index t 1 * 2048 + 1 * k.val = k.val; rw [(index2 t).2]; omega

theorem blk_w (j : Fin 2048) (k : Fin 1152) :
    (iblk m c 3 t : Vec Ideal S2048x1152 .bf16) (ix2 j k) = argW m c (ix2 j (colOf t k)) := by
  unfold iblk
  rw [View.read_apply]
  show (V m c main_v0 : Vec Ideal S2048x10368 .bf16) _ = _
  rw [weight0]
  refine congrArg (argW m c) (funext fun a => Fin.ext ?_)
  match a with
  | ⟨0, _⟩ => show win0_3.index t 0 * 2048 + 1 * j.val = j.val; rw [(index3 t).1]; omega
  | ⟨1, _⟩ => show win0_3.index t 1 * 1152 + 1 * k.val = t.val % 9 * 1152 + k.val; rw [(index3 t).2]; omega

end Cert.InprojIdeal.Window

end
-- ==== Proof.InprojFold.lean ====
module

public import proofs.«01_k».proof.Proof.InprojBlock
public import proofs.«01_k».proof.Proof.InprojWindow

@[expose] public section

set_option maxRecDepth 16384

noncomputable section

/-!
The input projection after every grid point, by induction on the point: the scratch holds the modulated rows of the row
tile, and the block holds their product with the column tile's columns.
-/

namespace Cert.InprojIdeal.Fold

open Cert.InprojIdeal Cert.InprojIdeal.Gen Cert.InprojIdeal.Window Idealize.ShloMosaic Idealize.ShloMosaic.TcCoe Idealize.SL.Sem

variable (m : (ℓ : Loc nD τ sig) → Buf (Elt Ideal) ℓ) (c : Dev nD)

/-- Row `R` normalised and modulated. -/
abbrev xnRow (R : Fin 16896) : Rows.Row := Rows.modulated (fun j => argH m c (ix2 R j)) (fun j => argGains m c (ix2 2 j))
  (fun j => argMods m c (ix3 (Rows.batch R.val) 4 j)) (fun j => argMods m c (ix3 (Rows.batch R.val) 3 j))

theorem rows_eq (t : Fin cfg0.N) (r : Fin 512) (k : Fin 2048) :
    k0_pay1 (iblk m c 0 t) (Step.gainRow (iblk m c 2 t)) (Step.modScale (iblk m c 1 t)) (Step.modShift (iblk m c 1 t)) (ix2 r k)
      = xnRow m c (rowOf t r) k := by
  rw [Block.rows_apply]
  simp only [blk_h, blk_gains, blk_mods m c t _ _ r]

/-- Where a row tile goes on, the tile's rows are the ones of the point before. -/
theorem rowOf_pred (n : ℕ) (hn : n + 1 < cfg0.N) (h0 : ¬(n + 1) % 9 = 0) (r : Fin 512) :
    rowOf ⟨n, Nat.lt_of_succ_lt hn⟩ r = rowOf ⟨n + 1, hn⟩ r := by
  refine Fin.ext ?_
  show n / 9 * 512 + r.val = (n + 1) / 9 * 512 + r.val
  have : n / 9 = (n + 1) / 9 := by omega
  rw [this]

/-- The product at row `R` and column `k`. -/
abbrev prod (R : Fin 16896) (k : Fin 10368) : EReal := ∑ j, xnRow m c R j * argW m c (ix2 j k)

theorem out_eq (t : Fin cfg0.N) (xn : Vec Ideal S512x2048 .bf16) (hx : ∀ r j, xn (ix2 r j) = xnRow m c (rowOf t r) j)
    (r : Fin 512) (k : Fin 1152) : k0_pay2 xn (iblk m c 3 t) (ix2 r k) = prod m c (rowOf t r) (colOf t k) := by
  rw [Block.out_apply]
  simp only [hx, blk_w]

/-- What the block and the scratch hold after a point. -/
def Holds (t : Fin cfg0.N) (st : Vec Ideal S512x1152 .f32 × Vec Ideal S512x2048 .bf16) : Prop :=
  (∀ r k, st.2 (ix2 r k) = xnRow m c (rowOf t r) k) ∧ ∀ r k, st.1 (ix2 r k) = prod m c (rowOf t r) (colOf t k)

theorem first (t : Fin cfg0.N) (h0 : t.val % 9 = 0) : Holds m c t (outsAt0 m c t.val t.isLt) := by
  rw [outsAt0_A m c t h0]
  refine ⟨fun r k => ?_, fun r k => ?_⟩
  · dsimp only
    rw [Step.first_rows]
    exact rows_eq m c t r k
  · dsimp only
    rw [Step.first_out]
    exact out_eq m c t _ (rows_eq m c t) r k

theorem holds : ∀ (n : ℕ) (hn : n < cfg0.N), Holds m c ⟨n, hn⟩ (outsAt0 m c n hn)
  | 0, hn => first m c ⟨0, hn⟩ rfl
  | n + 1, hn => by
    by_cases h0 : (n + 1) % 9 = 0
    · exact first m c ⟨n + 1, hn⟩ h0
    obtain ⟨hx, -⟩ := holds n (Nat.lt_of_succ_lt hn)
    have hx' : ∀ r k, (outsAt0 m c n (Nat.lt_of_succ_lt hn)).2 (ix2 r k) = xnRow m c (rowOf ⟨n + 1, hn⟩ r) k :=
      fun r k => by rw [hx, rowOf_pred n hn h0]
    rw [outsAt0_B m c ⟨n + 1, hn⟩ h0]
    refine ⟨fun r k => hx' r k, fun r k => ?_⟩
    dsimp only
    rw [Step.next_out]
    exact out_eq m c ⟨n + 1, hn⟩ _ hx' r k

/-- The array the call leaves, at row `R` and column `k`. -/
theorem result (R : Fin 16896) (k : Fin 10368) : (Value.G4 m c : Vec Ideal S16896x10368 .f32) (ix2 R k) = prod m c R k := by
  have hR := R.isLt
  have hk := k.isLt
  have hp : Value.pt4Of (ix2 R k) = 9 * (R.val / 512) + k.val / 1152 := by
    show 9 * (R.val / 512 - 0) + 1 * (k.val / 1152 - 0) = _
    omega
  have hN : 9 * (R.val / 512) + k.val / 1152 < cfg0.N := lt_of_lt_of_eq (by omega) (show cfg0.N = 297 from N_0).symm
  have hl : Value.loc4Of (ix2 R k) = ix2 ⟨R.val % 512, Nat.mod_lt _ (by decide)⟩ ⟨k.val % 1152, Nat.mod_lt _ (by decide)⟩ := by
    refine funext fun a => Fin.ext ?_
    match a with
    | ⟨0, _⟩ => rfl
    | ⟨1, _⟩ => rfl
  have hr : rowOf ⟨9 * (R.val / 512) + k.val / 1152, hN⟩ ⟨R.val % 512, Nat.mod_lt _ (by decide)⟩ = R := by
    refine Fin.ext ?_
    show (9 * (R.val / 512) + k.val / 1152) / 9 * 512 + R.val % 512 = R.val
    omega
  have hc : colOf ⟨9 * (R.val / 512) + k.val / 1152, hN⟩ ⟨k.val % 1152, Nat.mod_lt _ (by decide)⟩ = k := by
    refine Fin.ext ?_
    show (9 * (R.val / 512) + k.val / 1152) % 9 * 1152 + k.val % 1152 = k.val
    omega
  have hb := (holds m c _ hN).2 ⟨R.val % 512, Nat.mod_lt _ (by decide)⟩ ⟨k.val % 1152, Nat.mod_lt _ (by decide)⟩
  rw [hr, hc, Value.outsAt0_sweep] at hb
  unfold Value.G4
  rw [dif_pos (by rw [hp]; exact hN), hl]
  refine Eq.trans ?_ hb
  rw [Value.fold0_congr m c (Value.pt4Of (ix2 R k)) (by rw [hp, Nat.zero_add]; exact hN) (9 * (R.val / 512) + k.val / 1152) (by rw [Nat.zero_add]; exact hN) hp]

end Cert.InprojIdeal.Fold

end
-- ==== Proof.InprojReference.lean ====
module

public import proofs.«01_k».proof.Proof.Gen.InprojRefIdeal.Read
public import proofs.«01_k».proof.Proof.RowMath

@[expose] public section

set_option maxRecDepth 16384

noncomputable section

/-!
The plain input projection read at an entry.
-/

namespace Cert.InprojRefIdeal.Rows

open Cert.InprojRefIdeal Cert.InprojRefIdeal.Read Idealize.ShloMosaic Idealize.ShloMosaic.TcCoe
open Cert.Rows (batch)

variable (h : (⟨S16896x2048, .f32⟩ : BufTy).Contents (Elt Ideal)) (mods : (⟨S3x9x2048, .f32⟩ : BufTy).Contents (Elt Ideal))
  (ng : (⟨S6x2048, .f32⟩ : BufTy).Contents (Elt Ideal)) (R : Fin 16896)

theorem shift_apply (k : Fin 2048) : val_main_v11 (F := Ideal) mods (ix2 R k) = mods (ix3 (batch R.val) 3 k) := by
  pointwise [val_main_v11, val_main_v10, val_main_v9, val_main_v8, val_main_v7, val_main_v6, val_main_v5, val_main_v4, val_main_v3, val_main_v2]
  exact Cert.Rows.pick R fun b => mods (ix3 b 3 k)

theorem scale_apply (k : Fin 2048) : val_main_v21 (F := Ideal) mods (ix2 R k) = mods (ix3 (batch R.val) 4 k) := by
  pointwise [val_main_v21, val_main_v20, val_main_v19, val_main_v18, val_main_v17, val_main_v16, val_main_v15, val_main_v14, val_main_v13, val_main_v12]
  exact Cert.Rows.pick R fun b => mods (ix3 b 4 k)

/-- Row `R` normalised and modulated. -/
abbrev xnRow : Cert.Rows.Row := Cert.Rows.modulated (fun j => h (ix2 R j)) (fun j => ng (ix2 2 j))
  (fun j => mods (ix3 (batch R.val) 4 j)) (fun j => mods (ix3 (batch R.val) 3 j))

theorem rows_apply (k : Fin 2048) : val_main_v38 (F := Ideal) h mods ng (ix2 R k) = xnRow h mods ng R k := by
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v1, val_main_v0,
    val_main_cst, val_main_cst_0, val_main_cst_1, val_main_cst_2, shift_apply, scale_apply, xnRow, Cert.Rows.modulated, Cert.Rows.rms, Cert.Rows.invRms]

theorem result (w : (⟨S2048x10368, .f32⟩ : BufTy).Contents (Elt Ideal)) (k : Fin 10368) :
    val_main_v39 (F := Ideal) h mods ng w (ix2 R k) = ∑ j, xnRow h mods ng R j * w (ix2 j k) := by
  pointwise [val_main_v39, rows_apply]

end Cert.InprojRefIdeal.Rows

end
-- ==== Proof.InprojEquation.lean ====
module

public import proofs.«01_k».proof.Proof.InprojFold
public import proofs.«01_k».proof.Proof.InprojReference

@[expose] public section

set_option maxRecDepth 16384

noncomputable section

/-!
The input projection: on the same arguments the tiled call and the plain formula give the same array.
-/

namespace Cert.Equation

open Idealize.ShloMosaic Idealize.ShloMosaic.TcCoe Idealize.SL.Sem

theorem inproj (m : (ℓ : Loc InprojIdeal.nD InprojIdeal.τ InprojIdeal.sig) → Buf (Elt Ideal) ℓ)
    (m' : (ℓ : Loc InprojRefIdeal.nD InprojRefIdeal.τ InprojRefIdeal.sig) → Buf (Elt Ideal) ℓ) (c : Dev InprojIdeal.nD)
    (e0 : m' ((c : Thread InprojRefIdeal.nD InprojRefIdeal.τ).loc InprojRefIdeal.main_arg0) = m ((c : Thread InprojIdeal.nD InprojIdeal.τ).loc InprojIdeal.main_arg0))
    (e1 : m' ((c : Thread InprojRefIdeal.nD InprojRefIdeal.τ).loc InprojRefIdeal.main_arg1) = m ((c : Thread InprojIdeal.nD InprojIdeal.τ).loc InprojIdeal.main_arg1))
    (e2 : m' ((c : Thread InprojRefIdeal.nD InprojRefIdeal.τ).loc InprojRefIdeal.main_arg2) = m ((c : Thread InprojIdeal.nD InprojIdeal.τ).loc InprojIdeal.main_arg2))
    (e3 : m' ((c : Thread InprojRefIdeal.nD InprojRefIdeal.τ).loc InprojRefIdeal.main_arg3) = m ((c : Thread InprojIdeal.nD InprojIdeal.τ).loc InprojIdeal.main_arg3)) :
    InprojRefIdeal.Read.val_main_v39 (F := Ideal) (m' ((c : Thread InprojRefIdeal.nD InprojRefIdeal.τ).loc InprojRefIdeal.main_arg0)) (m' ((c : Thread InprojRefIdeal.nD InprojRefIdeal.τ).loc InprojRefIdeal.main_arg1)) (m' ((c : Thread InprojRefIdeal.nD InprojRefIdeal.τ).loc InprojRefIdeal.main_arg2)) (m' ((c : Thread InprojRefIdeal.nD InprojRefIdeal.τ).loc InprojRefIdeal.main_arg3)) = InprojIdeal.Value.G4 (F := Ideal) m c := by
  rw [e0, e1, e2, e3]
  funext i
  obtain ⟨R, k, rfl⟩ : ∃ (R : Fin 16896) (k : Fin 10368), i = ix2 R k := ⟨i 0, i 1, eq_ix2 i⟩
  exact (InprojRefIdeal.Rows.result ..).trans (InprojIdeal.Fold.result m c R k).symm

end Cert.Equation

end
-- ==== Proof.MergeStep.lean ====
module

public import proofs.«01_k».proof.Proof.Gen.MergeIdeal.Value

@[expose] public section

set_option maxRecDepth 16384

noncomputable section

/-!
What one grid point of the merge leaves behind, as a function of what its windows hold.

The first point of a row tile stores the normalised and modulated rows.  The first branch of a column half writes its
gated product; each later branch adds its own to what the block holds.
-/

namespace Cert.MergeIdeal.Step

open Cert.MergeIdeal Cert.MergeIdeal.Gen Idealize.ShloMosaic Idealize.ShloMosaic.TcCoe Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The gain and the two modulation rows the call reads. -/
abbrev gainRow (x : Vec F S6x2048 .f32) : Vec F S1x2048 .f32 :=
  View.ld x (Rect.unit (s := S6x2048) ![2, 0] S1x2048.size inb_S6x2048_S1x2048_2_0)
abbrev modShift (x : Vec F S1x9x2048 .f32) : Vec F S1x1x2048 .f32 :=
  View.ld x (Rect.unit (s := S1x9x2048) ![0, 3, 0] S1x1x2048.size inb_S1x9x2048_S1x1x2048_0_3_0)
abbrev modScale (x : Vec F S1x9x2048 .f32) : Vec F S1x1x2048 .f32 :=
  View.ld x (Rect.unit (s := S1x9x2048) ![0, 4, 0] S1x1x2048.size inb_S1x9x2048_S1x1x2048_0_4_0)

section
variable (c : Dev nD) (t : Fin cfg0.N) (x0 : Vec F S512x2048 .f32) (x1 : Vec F S1x9x2048 .f32) (x2 : Vec F S6x2048 .f32) (x3 : Vec F S1x512x1024 .f32) (x4 : Vec F S2048x1024 .bf16) (x5 : Vec F S1x1024 .f32) (x6 : Vec F S1x1024x1024 .bf16)

/-- The first point of a row tile stores the normalised and modulated rows. -/
theorem first_rows (h0 : cond0_0 (grid0.coords t)) (h1 : cond0_1 (grid0.coords t)) (h2 : ¬cond0_2 (grid0.coords t)) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h0 h1 h2 x0 x1 x2 x3 x4 x5 x6 = k0_pay1 x0 (gainRow x2) (modScale x1) (modShift x1) := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h0 h1 h2 x0 x1 x2 x3 x4 x5 x6)]
  unfold kernelRun0_A
  dsimp only
  sl_unfold_words
  rw [View.canon_cons_unit_zero (S := S512x2048) zeros2]
  repeat rw [View.readCov_unit_zero (S := S512x2048) _ zeros2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole cc0_scratch0).read_unread,
    View.ld_unit_zero (S := S512x2048) zeros2, View.ld_unit_zero (S := S2048x1024) zeros2, View.ld_unit_zero (S := S512x1024) zeros2, View.ld_unit_zero (S := S1x1024) zeros2, View.ld_unit_zero (S := S1x512x1024) zeros3, View.ld_unit_zero (S := S1x1024x1024) zeros3]

/-- It writes the first branch's gated product. -/
theorem first_out (h0 : cond0_0 (grid0.coords t)) (h1 : cond0_1 (grid0.coords t)) (h2 : ¬cond0_2 (grid0.coords t)) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h0 h1 h2 x0 x1 x2 x3 x4 x5 x6 = k0_pay2 (k0_pay1 x0 (gainRow x2) (modScale x1) (modShift x1)) x4 x5 x3 x6 := by
  unfold out0_A_7
  rw [View.read_writes_eq_canon _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h0 h1 h2 x0 x1 x2 x3 x4 x5 x6)]
  unfold kernelRun0_A
  dsimp only
  sl_unfold_words
  rw [View.canon_cons_unit_zero (S := S512x1024) zeros2]
  repeat rw [View.readCov_unit_zero (S := S512x2048) _ zeros2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole cc0_scratch0).read_unread,
    View.ld_unit_zero (S := S512x2048) zeros2, View.ld_unit_zero (S := S2048x1024) zeros2, View.ld_unit_zero (S := S512x1024) zeros2, View.ld_unit_zero (S := S1x1024) zeros2, View.ld_unit_zero (S := S1x512x1024) zeros3, View.ld_unit_zero (S := S1x1024x1024) zeros3]

/-- The first branch of the other column half writes its gated product of the stored rows. -/
theorem half_out (h0 : ¬cond0_0 (grid0.coords t)) (h1 : cond0_1 (grid0.coords t)) (h2 : ¬cond0_2 (grid0.coords t)) (xs0 : Vec F S512x2048 .bf16) :
    out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h0 h1 h2 x0 x1 x2 x3 x4 x5 x6 xs0 = k0_pay2 xs0 x4 x5 x3 x6 := by
  unfold out0_C_7
  rw [View.read_writes_eq_canon _ _ _ (cover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h0 h1 h2 x0 x1 x2 x3 x4 x5 x6 xs0)]
  unfold kernelRun0_C
  dsimp only
  sl_unfold_words
  rw [View.canon_cons_unit_zero (S := S512x1024) zeros2]
  repeat rw [View.readCov_unit_zero (S := S512x2048) _ zeros2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole cc0_scratch0).read_unread,
    View.ld_unit_zero (S := S512x2048) zeros2, View.ld_unit_zero (S := S2048x1024) zeros2, View.ld_unit_zero (S := S512x1024) zeros2, View.ld_unit_zero (S := S1x1024) zeros2, View.ld_unit_zero (S := S1x512x1024) zeros3, View.ld_unit_zero (S := S1x1024x1024) zeros3]

/-- A later branch adds its gated product to the block. -/
theorem next_out (h0 : ¬cond0_0 (grid0.coords t)) (h1 : ¬cond0_1 (grid0.coords t)) (h2 : cond0_2 (grid0.coords t)) (xo7 : Vec F S512x1024 .f32) (xs0 : Vec F S512x2048 .bf16) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h0 h1 h2 x0 x1 x2 x3 x4 x5 x6 xo7 xs0 = k0_pay3 xs0 x4 x5 x3 x6 xo7 := by
  unfold out0_B_7
  rw [View.read_writes_eq_canon _ _ _ (cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h0 h1 h2 x0 x1 x2 x3 x4 x5 x6 xo7 xs0)]
  unfold kernelRun0_B
  dsimp only
  sl_unfold_words
  rw [View.canon_cons_unit_zero (S := S512x1024) zeros2]
  repeat rw [View.readCov_unit_zero (S := S512x2048) _ zeros2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole cc0_scratch0).read_unread,
    View.ld_unit_zero (S := S512x2048) zeros2, View.ld_unit_zero (S := S2048x1024) zeros2, View.ld_unit_zero (S := S512x1024) zeros2, View.ld_unit_zero (S := S1x1024) zeros2, View.ld_unit_zero (S := S1x512x1024) zeros3, View.ld_unit_zero (S := S1x1024x1024) zeros3]

end

end Cert.MergeIdeal.Step

end
-- ==== Proof.MergeBlock.lean ====
module

public import proofs.«01_k».proof.Proof.MergeStep
public import proofs.«01_k».proof.Proof.RowMath

@[expose] public section

set_option maxRecDepth 16384

noncomputable section

/-!
The merge's stored values read at an entry.
-/

namespace Cert.MergeIdeal.Block

open Cert.MergeIdeal Cert.MergeIdeal.Gen Cert.MergeIdeal.Step Idealize.ShloMosaic Idealize.ShloMosaic.TcCoe

/-- The rows a tile starts with are its rows normalised and modulated. -/
theorem rows_apply (x : Vec Ideal S512x2048 .f32) (mods : Vec Ideal S1x9x2048 .f32) (ng : Vec Ideal S6x2048 .f32) (r : Fin 512) (k : Fin 2048) :
    k0_pay1 x (gainRow ng) (modScale mods) (modShift mods) (ix2 r k)
    = Rows.modulated (fun j => x (ix2 r j)) (fun j => ng (ix2 2 j)) (fun j => mods (ix3 0 4 j)) (fun j => mods (ix3 0 3 j)) k := by
  pointwise [k0_pay1, gainRow, modScale, modShift, Rows.modulated, Rows.rms, Rows.invRms]

variable (xn : Vec Ideal S512x2048 .bf16) (mw : Vec Ideal S2048x1024 .bf16) (mb : Vec Ideal S1x1024 .f32)
  (y : Vec Ideal S1x512x1024 .f32) (bw : Vec Ideal S1x1024x1024 .bf16) (r : Fin 512) (k : Fin 1024)

/-- One branch's gated product. -/
theorem term_apply : k0_pay2 xn mw mb y bw (ix2 r k)
    = Ideal.logistic ((∑ j, xn (ix2 r j) * mw (ix2 j k)) + mb (ix2 0 k)) * ∑ q, y (ix3 0 r q) * bw (ix3 0 q k) := by
  pointwise [k0_pay2]

/-- It is added to what the block holds. -/
theorem sum_apply (o : Vec Ideal S512x1024 .f32) : k0_pay3 xn mw mb y bw o (ix2 r k)
    = o (ix2 r k) + Ideal.logistic ((∑ j, xn (ix2 r j) * mw (ix2 j k)) + mb (ix2 0 k)) * ∑ q, y (ix3 0 r q) * bw (ix3 0 q k) := by
  pointwise [k0_pay3, k0_pay2]

end Cert.MergeIdeal.Block

end
-- ==== Proof.MergeWindow.lean ====
module

public import proofs.«01_k».proof.Proof.Gen.MergeIdeal.Value
public import proofs.«01_k».proof.Proof.RowMath

@[expose] public section

set_option maxRecDepth 16384

noncomputable section

/-!
What the merge's windows hold at a grid point: point `t` works on row tile `t / 8`, on half `t % 8 / 4` of the columns and on
branch `t % 4`.
-/

namespace Cert.MergeIdeal.Window

open Cert.MergeIdeal Cert.MergeIdeal.Gen Idealize.ShloMosaic Idealize.ShloMosaic.TcCoe Idealize.SL.Sem

variable (m : (ℓ : Loc nD τ sig) → Buf (Elt Ideal) ℓ) (c : Dev nD) (t : Fin cfg0.N)

/-- The arguments, as arrays of extended reals. -/
abbrev argH : Vec Ideal S16896x2048 .f32 := m ((c : Thread nD τ).loc main_arg0)
abbrev argMods : Vec Ideal S3x9x2048 .f32 := m ((c : Thread nD τ).loc main_arg1)
abbrev argGains : Vec Ideal S6x2048 .f32 := m ((c : Thread nD τ).loc main_arg2)
abbrev argYs : Vec Ideal S4x16896x1024 .f32 := m ((c : Thread nD τ).loc main_arg3)
abbrev argMw : Vec Ideal S2048x8192 .f32 := m ((c : Thread nD τ).loc main_arg4)
abbrev argMb : Vec Ideal S8192 .f32 := m ((c : Thread nD τ).loc main_arg5)
abbrev argBw : Vec Ideal S4x1024x2048 .f32 := m ((c : Thread nD τ).loc main_arg6)

/-- The row of the array that row `r` of the point's tile is. -/
def rowOf (r : Fin 512) : Fin 16896 :=
  ⟨t.val / 8 * 512 + r.val, by have h := lt_of_lt_of_eq t.isLt (show cfg0.N = 264 from N_0); have := r.isLt; omega⟩

theorem index0 : ∀ t : Fin cfg0.N, win0_0.index t 0 = t.val / 8 ∧ win0_0.index t 1 = 0 := by decide +kernel
theorem index1 : ∀ t : Fin cfg0.N, win0_1.index t 0 = (if t.val / 8 < 32 then t.val / 8 / 16 else 2) ∧ win0_1.index t 1 = 0 ∧ win0_1.index t 2 = 0 := by decide +kernel
theorem index2 : ∀ t : Fin cfg0.N, win0_2.index t 0 = 0 ∧ win0_2.index t 1 = 0 := by decide +kernel
theorem index3 : ∀ t : Fin cfg0.N, win0_3.index t 0 = t.val % 4 ∧ win0_3.index t 1 = t.val / 8 ∧ win0_3.index t 2 = 0 := by decide +kernel
theorem index4 : ∀ t : Fin cfg0.N, win0_4.index t 0 = 0 ∧ win0_4.index t 1 = t.val % 4 * 2 + t.val % 8 / 4 := by decide +kernel
theorem index5 : ∀ t : Fin cfg0.N, win0_5.index t 0 = 0 ∧ win0_5.index t 1 = t.val % 4 * 2 + t.val % 8 / 4 := by decide +kernel
theorem index6 : ∀ t : Fin cfg0.N, win0_6.index t 0 = t.val % 4 ∧ win0_6.index t 1 = 0 ∧ win0_6.index t 2 = t.val % 8 / 4 := by decide +kernel

/-- The point's branch, the column of the result that column `k` of its tile is, and that column among the gates' 8192. -/
def brOf : Fin 4 := ⟨t.val % 4, Nat.mod_lt _ (by decide)⟩
def colOf (k : Fin 1024) : Fin 2048 := ⟨t.val % 8 / 4 * 1024 + k.val, by have := k.isLt; omega⟩
def gateCol (b : Fin 4) (k : Fin 2048) : Fin 8192 := ⟨b.val * 2048 + k.val, by have := b.isLt; have := k.isLt; omega⟩

/-- The weights are cast before the call, which over the extended reals leaves them as they are; the bias is laid out as a row. -/
theorem weight0 : (V m c main_v0 : Vec Ideal S2048x8192 .bf16) = argMw m c := rfl
theorem weight1 : (V m c main_v1 : Vec Ideal S4x1024x2048 .bf16) = argBw m c := rfl
theorem bias (z : Fin 1) (k : Fin 8192) : (V m c main_v2 : Vec Ideal S1x8192 .f32) (ix2 z k) = argMb m c (ix1 k) := by
  show shapeCast S1x8192 (argMb m c) shapeCasts_S8192_S1x8192 (ix2 z k) = _
  pointwise

theorem blk_h (r : Fin 512) (k : Fin 2048) :
    (iblk m c 0 t : Vec Ideal S512x2048 .f32) (ix2 r k) = argH m c (ix2 (rowOf t r) k) := by
  unfold iblk
  rw [View.read_apply]
  show (V m c main_arg0 : Vec Ideal S16896x2048 .f32) _ = _
  rw [V_main_arg0]
  refine congrArg (argH m c) (funext fun a => Fin.ext ?_)
  match a with
  | ⟨0, _⟩ => show win0_0.index t 0 * 512 + 1 * r.val = t.val / 8 * 512 + r.val; rw [(index0 t).1]; omega
  | ⟨1, _⟩ => show win0_0.index t 1 * 2048 + 1 * k.val = k.val; rw [(index0 t).2]; omega

theorem blk_mods (i : Fin 9) (k : Fin 2048) (r : Fin 512) :
    (iblk m c 1 t : Vec Ideal S1x9x2048 .f32) (ix3 0 i k) = argMods m c (ix3 (Rows.batch (rowOf t r).val) i k) := by
  unfold iblk
  rw [View.read_apply]
  show (V m c main_arg1 : Vec Ideal S3x9x2048 .f32) _ = _
  rw [V_main_arg1]
  refine congrArg (argMods m c) (funext fun a => Fin.ext ?_)
  match a with
  | ⟨0, _⟩ =>
    show win0_1.index t 0 * 1 + 1 * 0 = (Rows.batch (t.val / 8 * 512 + r.val)).val; rw [(index1 t).1]
    have h := lt_of_lt_of_eq t.isLt (show cfg0.N = 264 from N_0)
    have := r.isLt
    unfold Rows.batch
    split_ifs <;> simp only [Fin.val_zero, Fin.val_one, Fin.val_two] <;> omega
  | ⟨1, _⟩ => show win0_1.index t 1 * 9 + 1 * i.val = i.val; rw [(index1 t).2.1]; omega
  | ⟨2, _⟩ => show win0_1.index t 2 * 2048 + 1 * k.val = k.val; rw [(index1 t).2.2]; omega

theorem blk_gains (i : Fin 6) (k : Fin 2048) :
    (iblk m c 2 t : Vec Ideal S6x2048 .f32) (ix2 i k) = argGains m c (ix2 i k) := by
  unfold iblk
  rw [View.read_apply]
  show (V m c main_arg2 : Vec Ideal S6x2048 .f32) _ = _
  rw [V_main_arg2]
  refine congrArg (argGains m c) (funext fun a => Fin.ext ?_)
  match a with
  | ⟨0, _⟩ => show win0_2.index t 0 * 6 + 1 * i.val = i.val; rw [(index2 t).1]; omega
  | ⟨1, _⟩ => show win0_2.index t 1 * 2048 + 1 * k.val = k.val; rw [(index2 t).2]; omega

theorem blk_ys (r : Fin 512) (k : Fin 1024) :
    (iblk m c 3 t : Vec Ideal S1x512x1024 .f32) (ix3 0 r k) = argYs m c (ix3 (brOf t) (rowOf t r) k) := by
  unfold iblk
  rw [View.read_apply]
  show (V m c main_arg3 : Vec Ideal S4x16896x1024 .f32) _ = _
  rw [V_main_arg3]
  refine congrArg (argYs m c) (funext fun a => Fin.ext ?_)
  match a with
  | ⟨0, _⟩ => show win0_3.index t 0 * 1 + 1 * 0 = t.val % 4; rw [(index3 t).1]; omega
  | ⟨1, _⟩ => show win0_3.index t 1 * 512 + 1 * r.val = t.val / 8 * 512 + r.val; rw [(index3 t).2.1]; omega
  | ⟨2, _⟩ => show win0_3.index t 2 * 1024 + 1 * k.val = k.val; rw [(index3 t).2.2]; omega

theorem blk_mw (j : Fin 2048) (k : Fin 1024) :
    (iblk m c 4 t : Vec Ideal S2048x1024 .bf16) (ix2 j k) = argMw m c (ix2 j (gateCol (brOf t) (colOf t k))) := by
  unfold iblk
  rw [View.read_apply]
  show (V m c main_v0 : Vec Ideal S2048x8192 .bf16) _ = _
  rw [weight0]
  refine congrArg (argMw m c) (funext fun a => Fin.ext ?_)
  match a with
  | ⟨0, _⟩ => show win0_4.index t 0 * 2048 + 1 * j.val = j.val; rw [(index4 t).1]; omega
  | ⟨1, _⟩ => show win0_4.index t 1 * 1024 + 1 * k.val = t.val % 4 * 2048 + (t.val % 8 / 4 * 1024 + k.val); rw [(index4 t).2]; omega

theorem blk_mb (k : Fin 1024) :
    (iblk m c 5 t : Vec Ideal S1x1024 .f32) (ix2 0 k) = argMb m c (ix1 (gateCol (brOf t) (colOf t k))) := by
  unfold iblk
  rw [View.read_apply]
  show (V m c main_v2 : Vec Ideal S1x8192 .f32) _ = _
  rw [← bias m c 0]
  refine congrArg (V m c main_v2 : Vec Ideal S1x8192 .f32) (funext fun a => Fin.ext ?_)
  match a with
  | ⟨0, _⟩ => show win0_5.index t 0 * 1 + 1 * 0 = 0; rw [(index5 t).1]
  | ⟨1, _⟩ => show win0_5.index t 1 * 1024 + 1 * k.val = t.val % 4 * 2048 + (t.val % 8 / 4 * 1024 + k.val); rw [(index5 t).2]; omega

theorem blk_bw (j k : Fin 1024) :
    (iblk m c 6 t : Vec Ideal S1x1024x1024 .bf16) (ix3 0 j k) = argBw m c (ix3 (brOf t) j (colOf t k)) := by
  unfold iblk
  rw [View.read_apply]
  show (V m c main_v1 : Vec Ideal S4x1024x2048 .bf16) _ = _
  rw [weight1]
  refine congrArg (argBw m c) (funext fun a => Fin.ext ?_)
  match a with
  | ⟨0, _⟩ => show win0_6.index t 0 * 1 + 1 * 0 = t.val % 4; rw [(index6 t).1]; omega
  | ⟨1, _⟩ => show win0_6.index t 1 * 1024 + 1 * j.val = j.val; rw [(index6 t).2.1]; omega
  | ⟨2, _⟩ => show win0_6.index t 2 * 1024 + 1 * k.val = t.val % 8 / 4 * 1024 + k.val; rw [(index6 t).2.2]; omega

end Cert.MergeIdeal.Window

end
-- ==== Proof.MergeFold.lean ====
module

public import proofs.«01_k».proof.Proof.MergeBlock
public import proofs.«01_k».proof.Proof.MergeWindow

@[expose] public section

set_option maxRecDepth 16384

noncomputable section

/-!
The merge after every grid point, by induction on the point: the scratch holds the modulated rows of the row tile, and
the block holds the sum of the branches' gated products met so far.
-/

namespace Cert.MergeIdeal.Fold

open Cert.MergeIdeal Cert.MergeIdeal.Gen Cert.MergeIdeal.Window Idealize.ShloMosaic Idealize.ShloMosaic.TcCoe Idealize.SL.Sem

variable (m : (ℓ : Loc nD τ sig) → Buf (Elt Ideal) ℓ) (c : Dev nD)

/-- Row `R` normalised and modulated. -/
abbrev xnRow (R : Fin 16896) : Rows.Row := Rows.modulated (fun j => argH m c (ix2 R j)) (fun j => argGains m c (ix2 2 j))
  (fun j => argMods m c (ix3 (Rows.batch R.val) 4 j)) (fun j => argMods m c (ix3 (Rows.batch R.val) 3 j))

theorem rows_eq (t : Fin cfg0.N) (r : Fin 512) (k : Fin 2048) :
    k0_pay1 (iblk m c 0 t) (Step.gainRow (iblk m c 2 t)) (Step.modScale (iblk m c 1 t)) (Step.modShift (iblk m c 1 t)) (ix2 r k)
      = xnRow m c (rowOf t r) k := by
  rw [Block.rows_apply]
  simp only [blk_h, blk_gains, blk_mods m c t _ _ r]

/-- Where a row tile goes on, the tile's rows are the ones of the point before. -/
theorem rowOf_pred (n : ℕ) (hn : n + 1 < cfg0.N) (h0 : ¬(n + 1) % 8 = 0) (r : Fin 512) :
    rowOf ⟨n, Nat.lt_of_succ_lt hn⟩ r = rowOf ⟨n + 1, hn⟩ r := by
  refine Fin.ext ?_
  show n / 8 * 512 + r.val = (n + 1) / 8 * 512 + r.val
  have : n / 8 = (n + 1) / 8 := by omega
  rw [this]

/-- Branch `b`'s gated product at row `R` and column `k`. -/
abbrev gated (R : Fin 16896) (k : Fin 2048) (b : Fin 4) : EReal :=
  Ideal.logistic ((∑ j, xnRow m c R j * argMw m c (ix2 j (gateCol b k))) + argMb m c (ix1 (gateCol b k)))
    * ∑ q, argYs m c (ix3 b R q) * argBw m c (ix3 b q k)
/-- The sum of the first `n` branches' products. -/
def upTo (R : Fin 16896) (k : Fin 2048) (n : ℕ) : EReal := ∑ b ∈ Finset.range n, gated m c R k ⟨b % 4, Nat.mod_lt _ (by decide)⟩

theorem term_eq (t : Fin cfg0.N) (xn : Vec Ideal S512x2048 .bf16) (hx : ∀ r j, xn (ix2 r j) = xnRow m c (rowOf t r) j)
    (r : Fin 512) (k : Fin 1024) : k0_pay2 xn (iblk m c 4 t) (iblk m c 5 t) (iblk m c 3 t) (iblk m c 6 t) (ix2 r k)
      = gated m c (rowOf t r) (colOf t k) (brOf t) := by
  rw [Block.term_apply]
  simp only [hx, blk_mw, blk_mb, blk_ys, blk_bw]

theorem sum_eq (t : Fin cfg0.N) (xn : Vec Ideal S512x2048 .bf16) (hx : ∀ r j, xn (ix2 r j) = xnRow m c (rowOf t r) j)
    (o : Vec Ideal S512x1024 .f32) (r : Fin 512) (k : Fin 1024) :
    k0_pay3 xn (iblk m c 4 t) (iblk m c 5 t) (iblk m c 3 t) (iblk m c 6 t) o (ix2 r k)
      = o (ix2 r k) + gated m c (rowOf t r) (colOf t k) (brOf t) := by
  rw [Block.sum_apply]
  simp only [hx, blk_mw, blk_mb, blk_ys, blk_bw]

/-- What the block and the scratch hold after a point. -/
def Holds (t : Fin cfg0.N) (st : Vec Ideal S512x1024 .f32 × Vec Ideal S512x2048 .bf16) : Prop :=
  (∀ r k, st.2 (ix2 r k) = xnRow m c (rowOf t r) k) ∧ ∀ r k, st.1 (ix2 r k) = upTo m c (rowOf t r) (colOf t k) (t.val % 4 + 1)

/-- The first branch's sum is its product alone. -/
theorem upTo_first (t : Fin cfg0.N) (h : t.val % 4 = 0) (R : Fin 16896) (k : Fin 2048) :
    gated m c R k (brOf t) = upTo m c R k (t.val % 4 + 1) := by
  unfold upTo
  rw [h, Nat.zero_add, Finset.sum_range_one]
  exact congrArg (gated m c R k) (Fin.ext h)

theorem first (t : Fin cfg0.N) (h0 : t.val % 8 = 0) : Holds m c t (outsAt0 m c t.val t.isLt) := by
  have h1 : t.val % 4 = 0 := by omega
  rw [outsAt0_A m c t h0 h1 (by omega)]
  refine ⟨fun r k => ?_, fun r k => ?_⟩
  · dsimp only
    rw [Step.first_rows]
    exact rows_eq m c t r k
  · dsimp only
    rw [Step.first_out]
    exact (term_eq m c t _ (rows_eq m c t) r k).trans (upTo_first m c t h1 _ _)

theorem colOf_pred (n : ℕ) (hn : n + 1 < cfg0.N) (h0 : ¬(n + 1) % 4 = 0) (k : Fin 1024) :
    colOf ⟨n, Nat.lt_of_succ_lt hn⟩ k = colOf ⟨n + 1, hn⟩ k := by
  refine Fin.ext ?_
  show n % 8 / 4 * 1024 + k.val = (n + 1) % 8 / 4 * 1024 + k.val
  have : n % 8 / 4 = (n + 1) % 8 / 4 := by omega
  rw [this]

theorem holds : ∀ (n : ℕ) (hn : n < cfg0.N), Holds m c ⟨n, hn⟩ (outsAt0 m c n hn)
  | 0, hn => first m c ⟨0, hn⟩ rfl
  | n + 1, hn => by
    by_cases h0 : (n + 1) % 8 = 0
    · exact first m c ⟨n + 1, hn⟩ h0
    obtain ⟨hx, ho⟩ := holds n (Nat.lt_of_succ_lt hn)
    have hx' : ∀ r k, (outsAt0 m c n (Nat.lt_of_succ_lt hn)).2 (ix2 r k) = xnRow m c (rowOf ⟨n + 1, hn⟩ r) k :=
      fun r k => by rw [hx, rowOf_pred n hn h0]
    by_cases h1 : (n + 1) % 4 = 0
    · rw [outsAt0_C m c ⟨n + 1, hn⟩ h0 h1 (show ¬1 ≤ (n + 1) % 4 by omega)]
      refine ⟨fun r k => hx' r k, fun r k => ?_⟩
      dsimp only
      rw [Step.half_out]
      exact (term_eq m c ⟨n + 1, hn⟩ _ hx' r k).trans (upTo_first m c ⟨n + 1, hn⟩ h1 _ _)
    · rw [outsAt0_B m c ⟨n + 1, hn⟩ h0 h1 (show 1 ≤ (n + 1) % 4 by omega)]
      refine ⟨fun r k => hx' r k, fun r k => ?_⟩
      dsimp only
      rw [Step.next_out]
      refine (sum_eq m c ⟨n + 1, hn⟩ _ hx' _ r k).trans ?_
      have hq : n % 4 + 1 = (n + 1) % 4 := by omega
      have ho' : (outsAt0 m c n (Nat.lt_of_succ_lt hn)).1 (ix2 r k)
          = upTo m c (rowOf ⟨n + 1, hn⟩ r) (colOf ⟨n + 1, hn⟩ k) ((n + 1) % 4) := by
        rw [ho, rowOf_pred n hn h0, colOf_pred n hn h1, hq]
      refine (congrArg (· + _) ho').trans ?_
      show _ = upTo m c _ _ ((n + 1) % 4 + 1)
      unfold upTo
      rw [Finset.sum_range_succ]
      refine congrArg (_ + ·) (congrArg (gated m c _ _) (Fin.ext ?_))
      exact (Nat.mod_mod _ _).symm

/-- The array the call leaves, at row `R` and column `k`. -/
theorem result (R : Fin 16896) (k : Fin 2048) : (Value.G7 m c : Vec Ideal S16896x2048 .f32) (ix2 R k)
    = gated m c R k 0 + gated m c R k 1 + gated m c R k 2 + gated m c R k 3 := by
  have hR := R.isLt
  have hk := k.isLt
  have hp : Value.pt7Of (ix2 R k) = 8 * (R.val / 512) + 4 * (k.val / 1024) + 3 := by
    show 4 * (2 * (R.val / 512 - 0) + 1 * (k.val / 1024 - 0)) + 3 = _
    omega
  have hN : 8 * (R.val / 512) + 4 * (k.val / 1024) + 3 < cfg0.N := lt_of_lt_of_eq (by omega) (show cfg0.N = 264 from N_0).symm
  have hl : Value.loc7Of (ix2 R k) = ix2 ⟨R.val % 512, Nat.mod_lt _ (by decide)⟩ ⟨k.val % 1024, Nat.mod_lt _ (by decide)⟩ := by
    refine funext fun a => Fin.ext ?_
    match a with
    | ⟨0, _⟩ => rfl
    | ⟨1, _⟩ => rfl
  have hr : rowOf ⟨8 * (R.val / 512) + 4 * (k.val / 1024) + 3, hN⟩ ⟨R.val % 512, Nat.mod_lt _ (by decide)⟩ = R := by
    refine Fin.ext ?_
    show (8 * (R.val / 512) + 4 * (k.val / 1024) + 3) / 8 * 512 + R.val % 512 = R.val
    omega
  have hc : colOf ⟨8 * (R.val / 512) + 4 * (k.val / 1024) + 3, hN⟩ ⟨k.val % 1024, Nat.mod_lt _ (by decide)⟩ = k := by
    refine Fin.ext ?_
    show (8 * (R.val / 512) + 4 * (k.val / 1024) + 3) % 8 / 4 * 1024 + k.val % 1024 = k.val
    omega
  have hb := (holds m c _ hN).2 ⟨R.val % 512, Nat.mod_lt _ (by decide)⟩ ⟨k.val % 1024, Nat.mod_lt _ (by decide)⟩
  have h3 : (8 * (R.val / 512) + 4 * (k.val / 1024) + 3) % 4 + 1 = 4 := by omega
  rw [hr, hc, h3, Value.outsAt0_sweep] at hb
  unfold Value.G7
  rw [dif_pos (by rw [hp]; exact hN), hl]
  refine Eq.trans (Eq.trans ?_ hb) ?_
  · rw [Value.fold0_congr m c (Value.pt7Of (ix2 R k)) (by rw [hp, Nat.zero_add]; exact hN) (8 * (R.val / 512) + 4 * (k.val / 1024) + 3) (by rw [Nat.zero_add]; exact hN) hp]
  · unfold upTo
    rw [Finset.sum_range_succ, Finset.sum_range_succ, Finset.sum_range_succ, Finset.sum_range_one]
    rfl

end Cert.MergeIdeal.Fold

end
-- ==== Proof.MergeReference.lean ====
module

public import proofs.«01_k».proof.Proof.Gen.MergeRefIdeal.Read
public import proofs.«01_k».proof.Proof.RowMath

@[expose] public section

set_option maxRecDepth 16384

noncomputable section

/-!
The plain merge of the four branches read at an entry: each branch's product with its weight, times its gate, summed.
-/

namespace Cert.MergeRefIdeal.Rows

open Cert.MergeRefIdeal Cert.MergeRefIdeal.Read Idealize.ShloMosaic Idealize.ShloMosaic.TcCoe
open Cert.Rows (batch)

variable (h : (⟨S16896x2048, .f32⟩ : BufTy).Contents (Elt Ideal)) (mods : (⟨S3x9x2048, .f32⟩ : BufTy).Contents (Elt Ideal))
  (ng : (⟨S6x2048, .f32⟩ : BufTy).Contents (Elt Ideal)) (R : Fin 16896)

theorem shift_apply (k : Fin 2048) : val_main_v11 (F := Ideal) mods (ix2 R k) = mods (ix3 (batch R.val) 3 k) := by
  pointwise [val_main_v11, val_main_v10, val_main_v9, val_main_v8, val_main_v7, val_main_v6, val_main_v5, val_main_v4, val_main_v3, val_main_v2]
  exact Cert.Rows.pick R fun b => mods (ix3 b 3 k)

theorem scale_apply (k : Fin 2048) : val_main_v21 (F := Ideal) mods (ix2 R k) = mods (ix3 (batch R.val) 4 k) := by
  pointwise [val_main_v21, val_main_v20, val_main_v19, val_main_v18, val_main_v17, val_main_v16, val_main_v15, val_main_v14, val_main_v13, val_main_v12]
  exact Cert.Rows.pick R fun b => mods (ix3 b 4 k)

/-- Row `R` normalised and modulated. -/
abbrev xnRow : Cert.Rows.Row := Cert.Rows.modulated (fun j => h (ix2 R j)) (fun j => ng (ix2 2 j))
  (fun j => mods (ix3 (batch R.val) 4 j)) (fun j => mods (ix3 (batch R.val) 3 j))

theorem rows_apply (k : Fin 2048) : val_main_v38 (F := Ideal) h mods ng (ix2 R k) = xnRow h mods ng R k := by
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v1, val_main_v0,
    val_main_cst, val_main_cst_0, val_main_cst_1, val_main_cst_2, shift_apply, scale_apply, xnRow, Cert.Rows.modulated, Cert.Rows.rms, Cert.Rows.invRms]

variable (ys : (⟨S4x16896x1024, .f32⟩ : BufTy).Contents (Elt Ideal)) (mw : (⟨S2048x8192, .f32⟩ : BufTy).Contents (Elt Ideal))
  (mb : (⟨S8192, .f32⟩ : BufTy).Contents (Elt Ideal)) (bw : (⟨S4x1024x2048, .f32⟩ : BufTy).Contents (Elt Ideal)) (k : Fin 2048)

/-- The gates' column of branch `b` and result column `k`. -/
abbrev gateCol (b : Fin 4) (k : Fin 2048) : Fin 8192 := ⟨b.val * 2048 + k.val, by have := b.isLt; have := k.isLt; omega⟩

theorem gate_apply (q : Fin 8192) : val_main_v48 (F := Ideal) h mods ng mw mb (ix2 R q)
    = Ideal.logistic ((∑ j, xnRow h mods ng R j * mw (ix2 j q)) + mb (ix1 q)) := by
  pointwise [val_main_v48, val_main_v47, val_main_v46, val_main_v45, val_main_v44, val_main_v43, val_main_v42, val_main_v41, val_main_v40, val_main_v39, val_main_cst_3, val_main_cst_4, rows_apply, Ideal.logistic]

/-- Branch `b`'s gated product. -/
abbrev gated (b : Fin 4) : EReal :=
  Ideal.logistic ((∑ j, xnRow h mods ng R j * mw (ix2 j (gateCol b k))) + mb (ix1 (gateCol b k)))
    * ∑ q, ys (ix3 b R q) * bw (ix3 b q k)

theorem term0_apply : val_main_v57 (F := Ideal) h mods ng ys mw mb bw (ix2 R k) = gated h mods ng R ys mw mb bw k 0 := by
  pointwise [val_main_v57, val_main_v56, val_main_v55, val_main_v54, val_main_v53, val_main_v52, val_main_v51, val_main_v50, val_main_v49, gate_apply, gated]
  rw [show gateCol 0 k = ⟨k.val, by have := k.isLt; omega⟩ from Fin.ext (show 0 * 2048 + k.val = k.val by omega)]

theorem term1_apply : val_main_v65 (F := Ideal) h mods ng ys mw mb bw (ix2 R k) = gated h mods ng R ys mw mb bw k 1 := by
  pointwise [val_main_v65, val_main_v64, val_main_v63, val_main_v62, val_main_v61, val_main_v60, val_main_v59, val_main_v58, val_main_v49, gate_apply, gated]
  rw [show gateCol 1 k = ⟨2048 + k.val, by have := k.isLt; omega⟩ from Fin.ext (show 1 * 2048 + k.val = 2048 + k.val by omega)]

theorem term2_apply : val_main_v74 (F := Ideal) h mods ng ys mw mb bw (ix2 R k) = gated h mods ng R ys mw mb bw k 2 := by
  pointwise [val_main_v74, val_main_v73, val_main_v72, val_main_v71, val_main_v70, val_main_v69, val_main_v68, val_main_v67, val_main_v49, gate_apply, gated]
  rw [show gateCol 2 k = ⟨4096 + k.val, by have := k.isLt; omega⟩ from Fin.ext (show 2 * 2048 + k.val = 4096 + k.val by omega)]

theorem term3_apply : val_main_v83 (F := Ideal) h mods ng ys mw mb bw (ix2 R k) = gated h mods ng R ys mw mb bw k 3 := by
  pointwise [val_main_v83, val_main_v82, val_main_v81, val_main_v80, val_main_v79, val_main_v78, val_main_v77, val_main_v76, val_main_v49, gate_apply, gated]
  rw [show gateCol 3 k = ⟨6144 + k.val, by have := k.isLt; omega⟩ from Fin.ext (show 3 * 2048 + k.val = 6144 + k.val by omega)]

theorem result : val_main_v84 (F := Ideal) h mods ng ys mw mb bw (ix2 R k)
    = gated h mods ng R ys mw mb bw k 0 + gated h mods ng R ys mw mb bw k 1 + gated h mods ng R ys mw mb bw k 2
      + gated h mods ng R ys mw mb bw k 3 := by
  rw [← term0_apply, ← term1_apply, ← term2_apply, ← term3_apply]
  pointwise [val_main_v84, val_main_v75, val_main_v66]

end Cert.MergeRefIdeal.Rows

end
-- ==== Proof.MergeEquation.lean ====
module

public import proofs.«01_k».proof.Proof.MergeFold
public import proofs.«01_k».proof.Proof.MergeReference

@[expose] public section

set_option maxRecDepth 16384

noncomputable section

/-!
The merge of the four branches: on the same arguments the tiled call and the plain formula give the same array.
-/

namespace Cert.Equation

open Idealize.ShloMosaic Idealize.ShloMosaic.TcCoe Idealize.SL.Sem

theorem merge (m : (ℓ : Loc MergeIdeal.nD MergeIdeal.τ MergeIdeal.sig) → Buf (Elt Ideal) ℓ)
    (m' : (ℓ : Loc MergeRefIdeal.nD MergeRefIdeal.τ MergeRefIdeal.sig) → Buf (Elt Ideal) ℓ) (c : Dev MergeIdeal.nD)
    (e0 : m' ((c : Thread MergeRefIdeal.nD MergeRefIdeal.τ).loc MergeRefIdeal.main_arg0) = m ((c : Thread MergeIdeal.nD MergeIdeal.τ).loc MergeIdeal.main_arg0))
    (e1 : m' ((c : Thread MergeRefIdeal.nD MergeRefIdeal.τ).loc MergeRefIdeal.main_arg1) = m ((c : Thread MergeIdeal.nD MergeIdeal.τ).loc MergeIdeal.main_arg1))
    (e2 : m' ((c : Thread MergeRefIdeal.nD MergeRefIdeal.τ).loc MergeRefIdeal.main_arg2) = m ((c : Thread MergeIdeal.nD MergeIdeal.τ).loc MergeIdeal.main_arg2))
    (e3 : m' ((c : Thread MergeRefIdeal.nD MergeRefIdeal.τ).loc MergeRefIdeal.main_arg3) = m ((c : Thread MergeIdeal.nD MergeIdeal.τ).loc MergeIdeal.main_arg3))
    (e4 : m' ((c : Thread MergeRefIdeal.nD MergeRefIdeal.τ).loc MergeRefIdeal.main_arg4) = m ((c : Thread MergeIdeal.nD MergeIdeal.τ).loc MergeIdeal.main_arg4))
    (e5 : m' ((c : Thread MergeRefIdeal.nD MergeRefIdeal.τ).loc MergeRefIdeal.main_arg5) = m ((c : Thread MergeIdeal.nD MergeIdeal.τ).loc MergeIdeal.main_arg5))
    (e6 : m' ((c : Thread MergeRefIdeal.nD MergeRefIdeal.τ).loc MergeRefIdeal.main_arg6) = m ((c : Thread MergeIdeal.nD MergeIdeal.τ).loc MergeIdeal.main_arg6)) :
    MergeRefIdeal.Value.res_main_v84 (F := Ideal) m' c = MergeIdeal.Value.G7 (F := Ideal) m c := by
  refine (MergeRefIdeal.Read.val_main_v84_eq m' c).trans ?_
  rw [e0, e1, e2, e3, e4, e5, e6]
  funext i
  obtain ⟨R, k, rfl⟩ : ∃ (R : Fin 16896) (k : Fin 2048), i = ix2 R k := ⟨i 0, i 1, eq_ix2 i⟩
  exact (MergeRefIdeal.Rows.result ..).trans (MergeIdeal.Fold.result m c R k).symm

end Cert.Equation

end
-- ==== Proof.OutprojWindow.lean ====
module

public import proofs.«01_k».proof.Proof.Gen.OutprojIdeal.Value
public import proofs.«01_k».proof.Proof.RowMath

@[expose] public section

set_option maxRecDepth 16384

noncomputable section

/-!
What the output projection's windows hold at a grid point: point `t` works on row tile `t`.
-/

namespace Cert.OutprojIdeal.Window

open Cert.OutprojIdeal Cert.OutprojIdeal.Gen Idealize.ShloMosaic Idealize.ShloMosaic.TcCoe Idealize.SL.Sem

variable (m : (ℓ : Loc nD τ sig) → Buf (Elt Ideal) ℓ) (c : Dev nD) (t : Fin cfg0.N)

/-- The arguments, as arrays of extended reals. -/
abbrev argAcc : Vec Ideal S16896x2048 .f32 := m ((c : Thread nD τ).loc main_arg0)
abbrev argH : Vec Ideal S16896x2048 .f32 := m ((c : Thread nD τ).loc main_arg1)
abbrev argMods : Vec Ideal S3x9x2048 .f32 := m ((c : Thread nD τ).loc main_arg2)
abbrev argGains : Vec Ideal S6x2048 .f32 := m ((c : Thread nD τ).loc main_arg3)
abbrev argW : Vec Ideal S2048x2048 .f32 := m ((c : Thread nD τ).loc main_arg4)

/-- The row of the array that row `r` of the point's tile is. -/
def rowOf (r : Fin 512) : Fin 16896 :=
  ⟨t.val * 512 + r.val, by have h := lt_of_lt_of_eq t.isLt (show cfg0.N = 33 from N_0); have := r.isLt; omega⟩

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = (if t.val < 32 then t.val / 16 else 2) ∧ win0_2.index t 1 = 0 ∧ win0_2.index t 2 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel

/-- The weight is cast before the call, which over the extended reals leaves it as it is. -/
theorem weight0 : (V m c main_v0 : Vec Ideal S2048x2048 .bf16) = argW m c := rfl

theorem blk_acc (r : Fin 512) (k : Fin 2048) :
    (iblk m c 0 t : Vec Ideal S512x2048 .f32) (ix2 r k) = argAcc m c (ix2 (rowOf t r) k) := by
  unfold iblk
  rw [View.read_apply]
  show (V m c main_arg0 : Vec Ideal S16896x2048 .f32) _ = _
  rw [V_main_arg0]
  refine congrArg (argAcc m c) (funext fun a => Fin.ext ?_)
  match a with
  | ⟨0, _⟩ => show win0_0.index t 0 * 512 + 1 * r.val = t.val * 512 + r.val; rw [(index0 t).1]; omega
  | ⟨1, _⟩ => show win0_0.index t 1 * 2048 + 1 * k.val = k.val; rw [(index0 t).2]; omega

theorem blk_h (r : Fin 512) (k : Fin 2048) :
    (iblk m c 1 t : Vec Ideal S512x2048 .f32) (ix2 r k) = argH m c (ix2 (rowOf t r) k) := by
  unfold iblk
  rw [View.read_apply]
  show (V m c main_arg1 : Vec Ideal S16896x2048 .f32) _ = _
  rw [V_main_arg1]
  refine congrArg (argH m c) (funext fun a => Fin.ext ?_)
  match a with
  | ⟨0, _⟩ => show win0_1.index t 0 * 512 + 1 * r.val = t.val * 512 + r.val; rw [(index1 t).1]; omega
  | ⟨1, _⟩ => show win0_1.index t 1 * 2048 + 1 * k.val = k.val; rw [(index1 t).2]; omega

theorem blk_mods (i : Fin 9) (k : Fin 2048) (r : Fin 512) :
    (iblk m c 2 t : Vec Ideal S1x9x2048 .f32) (ix3 0 i k) = argMods m c (ix3 (Rows.batch (rowOf t r).val) i k) := by
  unfold iblk
  rw [View.read_apply]
  show (V m c main_arg2 : Vec Ideal S3x9x2048 .f32) _ = _
  rw [V_main_arg2]
  refine congrArg (argMods m c) (funext fun a => Fin.ext ?_)
  match a with
  | ⟨0, _⟩ =>
    show win0_2.index t 0 * 1 + 1 * 0 = (Rows.batch (t.val * 512 + r.val)).val; rw [(index2 t).1]
    have h := lt_of_lt_of_eq t.isLt (show cfg0.N = 33 from N_0)
    have := r.isLt
    unfold Rows.batch
    split_ifs <;> simp only [Fin.val_zero, Fin.val_one, Fin.val_two] <;> omega
  | ⟨1, _⟩ => show win0_2.index t 1 * 9 + 1 * i.val = i.val; rw [(index2 t).2.1]; omega
  | ⟨2, _⟩ => show win0_2.index t 2 * 2048 + 1 * k.val = k.val; rw [(index2 t).2.2]; omega

theorem blk_gains (i : Fin 6) (k : Fin 2048) :
    (iblk m c 3 t : Vec Ideal S6x2048 .f32) (ix2 i k) = argGains m c (ix2 i k) := by
  unfold iblk
  rw [View.read_apply]
  show (V m c main_arg3 : Vec Ideal S6x2048 .f32) _ = _
  rw [V_main_arg3]
  refine congrArg (argGains m c) (funext fun a => Fin.ext ?_)
  match a with
  | ⟨0, _⟩ => show win0_3.index t 0 * 6 + 1 * i.val = i.val; rw [(index3 t).1]; omega
  | ⟨1, _⟩ => show win0_3.index t 1 * 2048 + 1 * k.val = k.val; rw [(index3 t).2]; omega

theorem blk_w (j k : Fin 2048) :
    (iblk m c 4 t : Vec Ideal S2048x2048 .bf16) (ix2 j k) = argW m c (ix2 j k) := by
  unfold iblk
  rw [View.read_apply]
  show (V m c main_v0 : Vec Ideal S2048x2048 .bf16) _ = _
  rw [weight0]
  refine congrArg (argW m c) (funext fun a => Fin.ext ?_)
  match a with
  | ⟨0, _⟩ => show win0_4.index t 0 * 2048 + 1 * j.val = j.val; rw [(index4 t).1]; omega
  | ⟨1, _⟩ => show win0_4.index t 1 * 2048 + 1 * k.val = k.val; rw [(index4 t).2]; omega

end Cert.OutprojIdeal.Window

end
-- ==== Proof.OutprojBlock.lean ====
module

public import proofs.«01_k».proof.Proof.OutprojWindow

@[expose] public section

set_option maxRecDepth 16384

noncomputable section

/-!
The output projection's blocks and the array they make up.  A grid point writes the 512 rows of its tile once, so the
array at row `R` is the block of tile `R / 512` at row `R % 512`.
-/

namespace Cert.OutprojIdeal.Block

open Cert.OutprojIdeal Cert.OutprojIdeal.Gen Cert.OutprojIdeal.Window Idealize.ShloMosaic Idealize.ShloMosaic.TcCoe Idealize.SL.Sem

/-- What a point stores, at an entry: the residual plus the gate times the norm of the row's product with the weight. -/
theorem out_apply (acc h : Vec Ideal S512x2048 .f32) (mods : Vec Ideal S1x9x2048 .f32) (ng : Vec Ideal S6x2048 .f32)
    (w : Vec Ideal S2048x2048 .bf16) (r : Fin 512) (k : Fin 2048) : out0_5 acc h mods ng w (ix2 r k)
    = h (ix2 r k) + mods (ix3 0 5 k) * Rows.rms (fun j => ∑ q, acc (ix2 r q) * w (ix2 q j)) (fun j => ng (ix2 3 j)) k := by
  have z : (![0, 0] : Fin 2 → Nat) = fun _ => 0 := funext fun a => by fin_cases a <;> rfl
  unfold out0_5
  rw [View.canon_cons_unit_zero (S := S512x2048) z]
  simp only [View.ld_unit_zero (S := S512x2048) z, View.ld_unit_zero (S := S2048x2048) z]
  pointwise [k0_pay1, Rows.rms, Rows.invRms]

variable (m : (ℓ : Loc nD τ sig) → Buf (Elt Ideal) ℓ) (c : Dev nD)

/-- Every point writes its block back. -/
theorem writes : ∀ t : Fin cfg0.N, (cfg0.win 5).flush t = true := by decide +kernel

theorem index5 : ∀ t : Fin cfg0.N, win0_5.index t 0 = t.val ∧ win0_5.index t 1 = 0 := by decide +kernel

/-- The array the call leaves, at row `R` and column `k`. -/
theorem result (R : Fin 16896) (k : Fin 2048) : ((dats m 0 c).arrAt 5 cfg0.N : Vec Ideal S16896x2048 .f32) (ix2 R k)
    = argH m c (ix2 R k) + argMods m c (ix3 (Rows.batch R.val) 5 k)
        * Rows.rms (fun j => ∑ q, argAcc m c (ix2 R q) * argW m c (ix2 q j)) (fun j => argGains m c (ix2 3 j)) k := by
  have hR := R.isLt
  have ht : R.val / 512 < cfg0.N := lt_of_lt_of_eq (by omega) (show cfg0.N = 33 from N_0).symm
  let t : Fin cfg0.N := ⟨R.val / 512, ht⟩
  let r : Fin 512 := ⟨R.val % 512, Nat.mod_lt _ (by decide)⟩
  have hr : rowOf t r = R := Fin.ext (show R.val / 512 * 512 + R.val % 512 = R.val by omega)
  have hb := congrFun ((Value.blocks5 m c t (writes t)).trans (Value.flushed5 m c t)) (ix2 r k)
  rw [View.read_apply] at hb
  have hi : (((cfg0.win 5).blk t).view.emb (ix2 r k) : S16896x2048.Idx) = ix2 R k := by
    refine funext fun a => Fin.ext ?_
    match a with
    | ⟨0, _⟩ => show win0_5.index t 0 * 512 + 1 * r.val = R.val; rw [(index5 t).1]; show R.val / 512 * 512 + 1 * (R.val % 512) = _; omega
    | ⟨1, _⟩ => show win0_5.index t 1 * 2048 + 1 * k.val = k.val; rw [(index5 t).2]; omega
  refine Eq.trans ?_ (hb.trans ?_)
  · exact congrArg ((dats m 0 c).arrAt 5 cfg0.N : Vec Ideal S16896x2048 .f32) hi.symm
  · show out0_5 (iblk m c 0 t) (iblk m c 1 t) (iblk m c 2 t) (iblk m c 3 t) (iblk m c 4 t) (ix2 r k) = _
    rw [out_apply]
    simp only [blk_acc, blk_h, blk_gains, blk_w, blk_mods m c t _ _ r, hr]

end Cert.OutprojIdeal.Block

end
-- ==== Proof.OutprojReference.lean ====
module

public import proofs.«01_k».proof.Proof.Gen.OutprojRefIdeal.Read
public import proofs.«01_k».proof.Proof.RowMath

@[expose] public section

set_option maxRecDepth 16384

noncomputable section

/-!
The plain output projection with its gated residual, read at an entry.
-/

namespace Cert.OutprojRefIdeal.Rows

open Cert.OutprojRefIdeal Cert.OutprojRefIdeal.Read Idealize.ShloMosaic Idealize.ShloMosaic.TcCoe
open Cert.Rows (batch)

variable (acc h : (⟨S16896x2048, .f32⟩ : BufTy).Contents (Elt Ideal)) (mods : (⟨S3x9x2048, .f32⟩ : BufTy).Contents (Elt Ideal))
  (ng : (⟨S6x2048, .f32⟩ : BufTy).Contents (Elt Ideal)) (w : (⟨S2048x2048, .f32⟩ : BufTy).Contents (Elt Ideal)) (R : Fin 16896) (k : Fin 2048)

theorem gate_apply : val_main_v9 (F := Ideal) mods (ix2 R k) = mods (ix3 (batch R.val) 5 k) := by
  pointwise [val_main_v9, val_main_v8, val_main_v7, val_main_v6, val_main_v5, val_main_v4, val_main_v3, val_main_v2, val_main_v1, val_main_v0]
  exact Cert.Rows.pick R fun b => mods (ix3 b 5 k)

theorem result : val_main_v27 (F := Ideal) acc h mods ng w (ix2 R k)
    = h (ix2 R k) + mods (ix3 (batch R.val) 5 k) * Cert.Rows.rms (fun j => ∑ q, acc (ix2 R q) * w (ix2 q j)) (fun j => ng (ix2 3 j)) k := by
  pointwise [val_main_v27, val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_cst, val_main_cst_0, val_main_cst_1, gate_apply, Cert.Rows.rms, Cert.Rows.invRms]

end Cert.OutprojRefIdeal.Rows

end
-- ==== Proof.OutprojEquation.lean ====
module

public import proofs.«01_k».proof.Proof.OutprojBlock
public import proofs.«01_k».proof.Proof.OutprojReference

@[expose] public section

set_option maxRecDepth 16384

noncomputable section

/-!
The output projection: on the same arguments the tiled call and the plain formula give the same array.
-/

namespace Cert.Equation

open Idealize.ShloMosaic Idealize.ShloMosaic.TcCoe Idealize.SL.Sem

theorem outproj (m : (ℓ : Loc OutprojIdeal.nD OutprojIdeal.τ OutprojIdeal.sig) → Buf (Elt Ideal) ℓ)
    (m' : (ℓ : Loc OutprojRefIdeal.nD OutprojRefIdeal.τ OutprojRefIdeal.sig) → Buf (Elt Ideal) ℓ) (c : Dev OutprojIdeal.nD)
    (e0 : m' ((c : Thread OutprojRefIdeal.nD OutprojRefIdeal.τ).loc OutprojRefIdeal.main_arg0) = m ((c : Thread OutprojIdeal.nD OutprojIdeal.τ).loc OutprojIdeal.main_arg0))
    (e1 : m' ((c : Thread OutprojRefIdeal.nD OutprojRefIdeal.τ).loc OutprojRefIdeal.main_arg1) = m ((c : Thread OutprojIdeal.nD OutprojIdeal.τ).loc OutprojIdeal.main_arg1))
    (e2 : m' ((c : Thread OutprojRefIdeal.nD OutprojRefIdeal.τ).loc OutprojRefIdeal.main_arg2) = m ((c : Thread OutprojIdeal.nD OutprojIdeal.τ).loc OutprojIdeal.main_arg2))
    (e3 : m' ((c : Thread OutprojRefIdeal.nD OutprojRefIdeal.τ).loc OutprojRefIdeal.main_arg3) = m ((c : Thread OutprojIdeal.nD OutprojIdeal.τ).loc OutprojIdeal.main_arg3))
    (e4 : m' ((c : Thread OutprojRefIdeal.nD OutprojRefIdeal.τ).loc OutprojRefIdeal.main_arg4) = m ((c : Thread OutprojIdeal.nD OutprojIdeal.τ).loc OutprojIdeal.main_arg4)) :
    OutprojRefIdeal.Read.val_main_v27 (F := Ideal) (m' ((c : Thread OutprojRefIdeal.nD OutprojRefIdeal.τ).loc OutprojRefIdeal.main_arg0)) (m' ((c : Thread OutprojRefIdeal.nD OutprojRefIdeal.τ).loc OutprojRefIdeal.main_arg1)) (m' ((c : Thread OutprojRefIdeal.nD OutprojRefIdeal.τ).loc OutprojRefIdeal.main_arg2)) (m' ((c : Thread OutprojRefIdeal.nD OutprojRefIdeal.τ).loc OutprojRefIdeal.main_arg3)) (m' ((c : Thread OutprojRefIdeal.nD OutprojRefIdeal.τ).loc OutprojRefIdeal.main_arg4)) = (OutprojIdeal.Gen.dats m 0 c).arrAt 5 OutprojIdeal.cfg0.N := by
  rw [e0, e1, e2, e3, e4]
  funext i
  obtain ⟨R, k, rfl⟩ : ∃ (R : Fin 16896) (k : Fin 2048), i = ix2 R k := ⟨i 0, i 1, eq_ix2 i⟩
  exact (OutprojRefIdeal.Rows.result ..).trans (OutprojIdeal.Block.result m c R k).symm

end Cert.Equation

end
-- ==== Proof.RetFwdTrip.lean ====
module

public import proofs.«01_k».proof.Proof.Gen.RetFwdRefIdeal.Run
public import proofs.«01_k».proof.Proof.Gen.RetFwdRefIdeal.Step

@[expose] public section

set_option maxRecDepth 16384

noncomputable section

/-!
One trip of the reference's loop over the chunks, as a step of the values it carries.
-/

namespace Cert.RetFwdRefIdeal.StepRun

open Idealize.ShloMosaic Idealize.ShloMosaic.TcCoe Idealize.SL.Sem Idealize.ShloMosaic.StableHlo
open Cert.RetFwdRefIdeal Cert.RetFwdRefIdeal.Gen Cert.RetFwdRefIdeal.Value
open Cert.RetFwdRefIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v120_8) = s.main_v120_8
  f_9 : V0 (Proc.devRef .tc main_v120_9) = s.main_v120_9
  f_0 : V0 (Proc.devRef .tc main_v120_0) = s.main_v120_0
  f_1 : V0 (Proc.devRef .tc main_v120_1) = s.main_v120_1
  f_2 : V0 (Proc.devRef .tc main_v120_2) = s.main_v120_2
  f_3 : V0 (Proc.devRef .tc main_v120_3) = s.main_v120_3
  f_4 : V0 (Proc.devRef .tc main_v120_4) = s.main_v120_4
  f_5 : V0 (Proc.devRef .tc main_v120_5) = s.main_v120_5
  f_6 : V0 (Proc.devRef .tc main_v120_6) = s.main_v120_6
  n_7 : V0 (Proc.devRef .tc main_v120_7) = constantI S_ 32 (BitVec.ofNat 32 j)

variable {V0 s j}

set_option maxRecDepth 8192 in
theorem al_0 (h : Holds V0 s j) : (constantI S_ 32 0#32 : (Proc.devRef .tc main_while0b_call1_c : DevRef τ sig).ty.Contents (Elt F)) = Cert.RetFwdRefIdeal.Step.b0 j s := by
  unfold Cert.RetFwdRefIdeal.Step.b0
  rfl
set_option maxRecDepth 8192 in
theorem al_1 (h : Holds V0 s j) : (constantI S_ 32 0#32 : (Proc.devRef .tc main_while0b_call1_c_0 : DevRef τ sig).ty.Contents (Elt F)) = Cert.RetFwdRefIdeal.Step.b1 j s := by
  unfold Cert.RetFwdRefIdeal.Step.b1
  rfl
set_option maxRecDepth 8192 in
theorem al_2 (h : Holds V0 s j) : (constantI S_ 32 0#32 : (Proc.devRef .tc main_while0b_call1_c_1 : DevRef τ sig).ty.Contents (Elt F)) = Cert.RetFwdRefIdeal.Step.b2 j s := by
  unfold Cert.RetFwdRefIdeal.Step.b2
  rfl
set_option maxRecDepth 8192 in
theorem al_3 (h : Holds V0 s j) : (constantI S_ 32 0#32 : (Proc.devRef .tc main_while0b_call1_c_2 : DevRef τ sig).ty.Contents (Elt F)) = Cert.RetFwdRefIdeal.Step.b3 j s := by
  unfold Cert.RetFwdRefIdeal.Step.b3
  rfl
set_option maxRecDepth 8192 in
theorem al_4 (h : Holds V0 s j) : (Host.dynamicSlice S1x2x128x4x128 (V0 (Proc.devRef .tc main_v120_0)) (fun k => (((![V0 (Proc.devRef .tc main_v120_7), constantI S_ 32 0#32, constantI S_ 32 0#32, constantI S_ 32 0#32, constantI S_ 32 0#32] : Fin 5 → (⟨S_, .i32⟩ : BufTy).Contents (Elt F))) k (Shape.Idx.first h_S_)).toInt) sliceFits_S66x2x128x4x128_S1x2x128x4x128 : (Proc.devRef .tc main_while0b_call1_v0 : DevRef τ sig).ty.Contents (Elt F)) = Cert.RetFwdRefIdeal.Step.b4 j s := by
  unfold Cert.RetFwdRefIdeal.Step.b4
  rw [← al_0 h, ← al_1 h, ← al_2 h, ← al_3 h, h.f_0, h.n_7]
  try rfl
set_option maxRecDepth 8192 in
theorem al_5 (h : Holds V0 s j) : (res_main_while0b_v128 V0 : (Proc.devRef .tc main_while0b_v128 : DevRef τ sig).ty.Contents (Elt F)) = Cert.RetFwdRefIdeal.Step.b5 j s := by
  unfold res_main_while0b_v128 Cert.RetFwdRefIdeal.Step.b5
  rw [← al_4 h]
  try rfl
set_option maxRecDepth 8192 in
theorem al_6 (h : Holds V0 s j) : (constantI S_ 32 0#32 : (Proc.devRef .tc main_while0b_call2_c : DevRef τ sig).ty.Contents (Elt F)) = Cert.RetFwdRefIdeal.Step.b6 j s := by
  unfold Cert.RetFwdRefIdeal.Step.b6
  rfl
set_option maxRecDepth 8192 in
theorem al_7 (h : Holds V0 s j) : (constantI S_ 32 0#32 : (Proc.devRef .tc main_while0b_call2_c_0 : DevRef τ sig).ty.Contents (Elt F)) = Cert.RetFwdRefIdeal.Step.b7 j s := by
  unfold Cert.RetFwdRefIdeal.Step.b7
  rfl
set_option maxRecDepth 8192 in
theorem al_8 (h : Holds V0 s j) : (constantI S_ 32 0#32 : (Proc.devRef .tc main_while0b_call2_c_1 : DevRef τ sig).ty.Contents (Elt F)) = Cert.RetFwdRefIdeal.Step.b8 j s := by
  unfold Cert.RetFwdRefIdeal.Step.b8
  rfl
set_option maxRecDepth 8192 in
theorem al_9 (h : Holds V0 s j) : (constantI S_ 32 0#32 : (Proc.devRef .tc main_while0b_call2_c_2 : DevRef τ sig).ty.Contents (Elt F)) = Cert.RetFwdRefIdeal.Step.b9 j s := by
  unfold Cert.RetFwdRefIdeal.Step.b9
  rfl
set_option maxRecDepth 8192 in
theorem al_10 (h : Holds V0 s j) : (Host.dynamicSlice S1x2x128x4x128 (V0 (Proc.devRef .tc main_v120_1)) (fun k => (((![V0 (Proc.devRef .tc main_v120_7), constantI S_ 32 0#32, constantI S_ 32 0#32, constantI S_ 32 0#32, constantI S_ 32 0#32] : Fin 5 → (⟨S_, .i32⟩ : BufTy).Contents (Elt F))) k (Shape.Idx.first h_S_)).toInt) sliceFits_S66x2x128x4x128_S1x2x128x4x128 : (Proc.devRef .tc main_while0b_call2_v0 : DevRef τ sig).ty.Contents (Elt F)) = Cert.RetFwdRefIdeal.Step.b10 j s := by
  unfold Cert.RetFwdRefIdeal.Step.b10
  rw [← al_6 h, ← al_7 h, ← al_8 h, ← al_9 h, h.f_1, h.n_7]
  try rfl
set_option maxRecDepth 8192 in
theorem al_11 (h : Holds V0 s j) : (res_main_while0b_v129 V0 : (Proc.devRef .tc main_while0b_v129 : DevRef τ sig).ty.Contents (Elt F)) = Cert.RetFwdRefIdeal.Step.b11 j s := by
  unfold res_main_while0b_v129 Cert.RetFwdRefIdeal.Step.b11
  rw [← al_10 h]
  try rfl
set_option maxRecDepth 8192 in
theorem al_12 (h : Holds V0 s j) : (constantI S_ 32 0#32 : (Proc.devRef .tc main_while0b_call3_c : DevRef τ sig).ty.Contents (Elt F)) = Cert.RetFwdRefIdeal.Step.b12 j s := by
  unfold Cert.RetFwdRefIdeal.Step.b12
  rfl
set_option maxRecDepth 8192 in
theorem al_13 (h : Holds V0 s j) : (constantI S_ 32 0#32 : (Proc.devRef .tc main_while0b_call3_c_0 : DevRef τ sig).ty.Contents (Elt F)) = Cert.RetFwdRefIdeal.Step.b13 j s := by
  unfold Cert.RetFwdRefIdeal.Step.b13
  rfl
set_option maxRecDepth 8192 in
theorem al_14 (h : Holds V0 s j) : (constantI S_ 32 0#32 : (Proc.devRef .tc main_while0b_call3_c_1 : DevRef τ sig).ty.Contents (Elt F)) = Cert.RetFwdRefIdeal.Step.b14 j s := by
  unfold Cert.RetFwdRefIdeal.Step.b14
  rfl
set_option maxRecDepth 8192 in
theorem al_15 (h : Holds V0 s j) : (constantI S_ 32 0#32 : (Proc.devRef .tc main_while0b_call3_c_2 : DevRef τ sig).ty.Contents (Elt F)) = Cert.RetFwdRefIdeal.Step.b15 j s := by
  unfold Cert.RetFwdRefIdeal.Step.b15
  rfl
set_option maxRecDepth 8192 in
theorem al_16 (h : Holds V0 s j) : (Host.dynamicSlice S1x2x128x4x256 (V0 (Proc.devRef .tc main_v120_2)) (fun k => (((![V0 (Proc.devRef .tc main_v120_7), constantI S_ 32 0#32, constantI S_ 32 0#32, constantI S_ 32 0#32, constantI S_ 32 0#32] : Fin 5 → (⟨S_, .i32⟩ : BufTy).Contents (Elt F))) k (Shape.Idx.first h_S_)).toInt) sliceFits_S66x2x128x4x256_S1x2x128x4x256 : (Proc.devRef .tc main_while0b_call3_v0 : DevRef τ sig).ty.Contents (Elt F)) = Cert.RetFwdRefIdeal.Step.b16 j s := by
  unfold Cert.RetFwdRefIdeal.Step.b16
  rw [← al_12 h, ← al_13 h, ← al_14 h, ← al_15 h, h.f_2, h.n_7]
  try rfl
set_option maxRecDepth 8192 in
theorem al_17 (h : Holds V0 s j) : (res_main_while0b_v130 V0 : (Proc.devRef .tc main_while0b_v130 : DevRef τ sig).ty.Contents (Elt F)) = Cert.RetFwdRefIdeal.Step.b17 j s := by
  unfold res_main_while0b_v130 Cert.RetFwdRefIdeal.Step.b17
  rw [← al_16 h]
  try rfl
set_option maxRecDepth 8192 in
theorem al_18 (h : Holds V0 s j) : (Host.dotGeneral dot_S2x128x4x128_S2x128x4x128_S2x4x128x128_3_3_1_1_02_02 none (res_main_while0b_v128 V0) (res_main_while0b_v129 V0) : (Proc.devRef .tc main_while0b_v131 : DevRef τ sig).ty.Contents (Elt F)) = Cert.RetFwdRefIdeal.Step.b18 j s := by
  unfold Cert.RetFwdRefIdeal.Step.b18
  rw [← al_5 h, ← al_11 h]
  try rfl
set_option maxRecDepth 8192 in
theorem al_19 (h : Holds V0 s j) : (broadcastInDim S1x4x128x128 ![1, 2, 3] bcast_S4x128x128_S1x4x128x128_1_2_3 (V0 (Proc.devRef .tc main_v120_3)) : (Proc.devRef .tc main_while0b_v132 : DevRef τ sig).ty.Contents (Elt F)) = Cert.RetFwdRefIdeal.Step.b19 j s := by
  unfold Cert.RetFwdRefIdeal.Step.b19
  rw [h.f_3]
  try rfl
set_option maxRecDepth 8192 in
theorem al_20 (h : Holds V0 s j) : (broadcastInDim S2x4x128x128 ![0, 1, 2, 3] bcast_S1x4x128x128_S2x4x128x128_0_1_2_3 (broadcastInDim S1x4x128x128 ![1, 2, 3] bcast_S4x128x128_S1x4x128x128_1_2_3 (V0 (Proc.devRef .tc main_v120_3))) : (Proc.devRef .tc main_while0b_v133 : DevRef τ sig).ty.Contents (Elt F)) = Cert.RetFwdRefIdeal.Step.b20 j s := by
  unfold Cert.RetFwdRefIdeal.Step.b20
  rw [← al_19 h]
  try rfl
set_option maxRecDepth 8192 in
theorem al_21 (h : Holds V0 s j) : (mulf (Host.dotGeneral dot_S2x128x4x128_S2x128x4x128_S2x4x128x128_3_3_1_1_02_02 none (res_main_while0b_v128 V0) (res_main_while0b_v129 V0)) (broadcastInDim S2x4x128x128 ![0, 1, 2, 3] bcast_S1x4x128x128_S2x4x128x128_0_1_2_3 (broadcastInDim S1x4x128x128 ![1, 2, 3] bcast_S4x128x128_S1x4x128x128_1_2_3 (V0 (Proc.devRef .tc main_v120_3)))) : (Proc.devRef .tc main_while0b_v134 : DevRef τ sig).ty.Contents (Elt F)) = Cert.RetFwdRefIdeal.Step.b21 j s := by
  unfold Cert.RetFwdRefIdeal.Step.b21
  rw [← al_18 h, ← al_20 h]
  try rfl
set_option maxRecDepth 8192 in
theorem al_22 (h : Holds V0 s j) : (Host.dotGeneral dot_S2x128x4x256_S2x4x128x128_S2x4x256x128_1_3_3_2_02_01 none (res_main_while0b_v130 V0) (mulf (Host.dotGeneral dot_S2x128x4x128_S2x128x4x128_S2x4x128x128_3_3_1_1_02_02 none (res_main_while0b_v128 V0) (res_main_while0b_v129 V0)) (broadcastInDim S2x4x128x128 ![0, 1, 2, 3] bcast_S1x4x128x128_S2x4x128x128_0_1_2_3 (broadcastInDim S1x4x128x128 ![1, 2, 3] bcast_S4x128x128_S1x4x128x128_1_2_3 (V0 (Proc.devRef .tc main_v120_3))))) : (Proc.devRef .tc main_while0b_v135 : DevRef τ sig).ty.Contents (Elt F)) = Cert.RetFwdRefIdeal.Step.b22 j s := by
  unfold Cert.RetFwdRefIdeal.Step.b22
  rw [← al_17 h, ← al_21 h]
  try rfl
set_option maxRecDepth 8192 in
theorem al_23 (h : Holds V0 s j) : (transpose S2x128x4x256 [0, 3, 1, 2] (Host.dotGeneral dot_S2x128x4x256_S2x4x128x128_S2x4x256x128_1_3_3_2_02_01 none (res_main_while0b_v130 V0) (mulf (Host.dotGeneral dot_S2x128x4x128_S2x128x4x128_S2x4x128x128_3_3_1_1_02_02 none (res_main_while0b_v128 V0) (res_main_while0b_v129 V0)) (broadcastInDim S2x4x128x128 ![0, 1, 2, 3] bcast_S1x4x128x128_S2x4x128x128_0_1_2_3 (broadcastInDim S1x4x128x128 ![1, 2, 3] bcast_S4x128x128_S1x4x128x128_1_2_3 (V0 (Proc.devRef .tc main_v120_3)))))) transposes_S2x4x256x128_S2x128x4x256_0_3_1_2 : (Proc.devRef .tc main_while0b_v136 : DevRef τ sig).ty.Contents (Elt F)) = Cert.RetFwdRefIdeal.Step.b23 j s := by
  unfold Cert.RetFwdRefIdeal.Step.b23
  rw [← al_22 h]
  try rfl
set_option maxRecDepth 8192 in
theorem al_24 (h : Holds V0 s j) : (broadcastInDim S1x128x4x1 ![1, 2] bcast_S128x4_S1x128x4x1_1_2 (V0 (Proc.devRef .tc main_v120_4)) : (Proc.devRef .tc main_while0b_v137 : DevRef τ sig).ty.Contents (Elt F)) = Cert.RetFwdRefIdeal.Step.b24 j s := by
  unfold Cert.RetFwdRefIdeal.Step.b24
  rw [h.f_4]
  try rfl
set_option maxRecDepth 8192 in
theorem al_25 (h : Holds V0 s j) : (broadcastInDim S2x128x4x128 ![0, 1, 2, 3] bcast_S1x128x4x1_S2x128x4x128_0_1_2_3 (broadcastInDim S1x128x4x1 ![1, 2] bcast_S128x4_S1x128x4x1_1_2 (V0 (Proc.devRef .tc main_v120_4))) : (Proc.devRef .tc main_while0b_v138 : DevRef τ sig).ty.Contents (Elt F)) = Cert.RetFwdRefIdeal.Step.b25 j s := by
  unfold Cert.RetFwdRefIdeal.Step.b25
  rw [← al_24 h]
  try rfl
set_option maxRecDepth 8192 in
theorem al_26 (h : Holds V0 s j) : (mulf (res_main_while0b_v128 V0) (broadcastInDim S2x128x4x128 ![0, 1, 2, 3] bcast_S1x128x4x1_S2x128x4x128_0_1_2_3 (broadcastInDim S1x128x4x1 ![1, 2] bcast_S128x4_S1x128x4x1_1_2 (V0 (Proc.devRef .tc main_v120_4)))) : (Proc.devRef .tc main_while0b_v139 : DevRef τ sig).ty.Contents (Elt F)) = Cert.RetFwdRefIdeal.Step.b26 j s := by
  unfold Cert.RetFwdRefIdeal.Step.b26
  rw [← al_5 h, ← al_25 h]
  try rfl
set_option maxRecDepth 8192 in
theorem al_27 (h : Holds V0 s j) : (Host.dotGeneral dot_S2x4x128x256_S2x128x4x128_S2x4x256x128_2_3_3_1_01_02 none (V0 (Proc.devRef .tc main_v120_8)) (mulf (res_main_while0b_v128 V0) (broadcastInDim S2x128x4x128 ![0, 1, 2, 3] bcast_S1x128x4x1_S2x128x4x128_0_1_2_3 (broadcastInDim S1x128x4x1 ![1, 2] bcast_S128x4_S1x128x4x1_1_2 (V0 (Proc.devRef .tc main_v120_4))))) : (Proc.devRef .tc main_while0b_v140 : DevRef τ sig).ty.Contents (Elt F)) = Cert.RetFwdRefIdeal.Step.b27 j s := by
  unfold Cert.RetFwdRefIdeal.Step.b27
  rw [← al_26 h, h.f_8]
  try rfl
set_option maxRecDepth 8192 in
theorem al_28 (h : Holds V0 s j) : (transpose S2x128x4x256 [0, 3, 1, 2] (Host.dotGeneral dot_S2x4x128x256_S2x128x4x128_S2x4x256x128_2_3_3_1_01_02 none (V0 (Proc.devRef .tc main_v120_8)) (mulf (res_main_while0b_v128 V0) (broadcastInDim S2x128x4x128 ![0, 1, 2, 3] bcast_S1x128x4x1_S2x128x4x128_0_1_2_3 (broadcastInDim S1x128x4x1 ![1, 2] bcast_S128x4_S1x128x4x1_1_2 (V0 (Proc.devRef .tc main_v120_4)))))) transposes_S2x4x256x128_S2x128x4x256_0_3_1_2 : (Proc.devRef .tc main_while0b_v141 : DevRef τ sig).ty.Contents (Elt F)) = Cert.RetFwdRefIdeal.Step.b28 j s := by
  unfold Cert.RetFwdRefIdeal.Step.b28
  rw [← al_27 h]
  try rfl
set_option maxRecDepth 8192 in
theorem al_29 (h : Holds V0 s j) : (addf (transpose S2x128x4x256 [0, 3, 1, 2] (Host.dotGeneral dot_S2x128x4x256_S2x4x128x128_S2x4x256x128_1_3_3_2_02_01 none (res_main_while0b_v130 V0) (mulf (Host.dotGeneral dot_S2x128x4x128_S2x128x4x128_S2x4x128x128_3_3_1_1_02_02 none (res_main_while0b_v128 V0) (res_main_while0b_v129 V0)) (broadcastInDim S2x4x128x128 ![0, 1, 2, 3] bcast_S1x4x128x128_S2x4x128x128_0_1_2_3 (broadcastInDim S1x4x128x128 ![1, 2, 3] bcast_S4x128x128_S1x4x128x128_1_2_3 (V0 (Proc.devRef .tc main_v120_3)))))) transposes_S2x4x256x128_S2x128x4x256_0_3_1_2) (transpose S2x128x4x256 [0, 3, 1, 2] (Host.dotGeneral dot_S2x4x128x256_S2x128x4x128_S2x4x256x128_2_3_3_1_01_02 none (V0 (Proc.devRef .tc main_v120_8)) (mulf (res_main_while0b_v128 V0) (broadcastInDim S2x128x4x128 ![0, 1, 2, 3] bcast_S1x128x4x1_S2x128x4x128_0_1_2_3 (broadcastInDim S1x128x4x1 ![1, 2] bcast_S128x4_S1x128x4x1_1_2 (V0 (Proc.devRef .tc main_v120_4)))))) transposes_S2x4x256x128_S2x128x4x256_0_3_1_2) : (Proc.devRef .tc main_while0b_v142 : DevRef τ sig).ty.Contents (Elt F)) = Cert.RetFwdRefIdeal.Step.b29 j s := by
  unfold Cert.RetFwdRefIdeal.Step.b29
  rw [← al_23 h, ← al_28 h]
  try rfl
set_option maxRecDepth 8192 in
theorem al_30 (h : Holds V0 s j) : (broadcastInDim S1x4x1x1 ![1] bcast_S4_S1x4x1x1_1 (V0 (Proc.devRef .tc main_v120_5)) : (Proc.devRef .tc main_while0b_v143 : DevRef τ sig).ty.Contents (Elt F)) = Cert.RetFwdRefIdeal.Step.b30 j s := by
  unfold Cert.RetFwdRefIdeal.Step.b30
  rw [h.f_5]
  try rfl
set_option maxRecDepth 8192 in
theorem al_31 (h : Holds V0 s j) : (broadcastInDim S2x4x128x256 ![0, 1, 2, 3] bcast_S1x4x1x1_S2x4x128x256_0_1_2_3 (broadcastInDim S1x4x1x1 ![1] bcast_S4_S1x4x1x1_1 (V0 (Proc.devRef .tc main_v120_5))) : (Proc.devRef .tc main_while0b_v144 : DevRef τ sig).ty.Contents (Elt F)) = Cert.RetFwdRefIdeal.Step.b31 j s := by
  unfold Cert.RetFwdRefIdeal.Step.b31
  rw [← al_30 h]
  try rfl
set_option maxRecDepth 8192 in
theorem al_32 (h : Holds V0 s j) : (mulf (V0 (Proc.devRef .tc main_v120_8)) (broadcastInDim S2x4x128x256 ![0, 1, 2, 3] bcast_S1x4x1x1_S2x4x128x256_0_1_2_3 (broadcastInDim S1x4x1x1 ![1] bcast_S4_S1x4x1x1_1 (V0 (Proc.devRef .tc main_v120_5)))) : (Proc.devRef .tc main_while0b_v145 : DevRef τ sig).ty.Contents (Elt F)) = Cert.RetFwdRefIdeal.Step.b32 j s := by
  unfold Cert.RetFwdRefIdeal.Step.b32
  rw [← al_31 h, h.f_8]
  try rfl
set_option maxRecDepth 8192 in
theorem al_33 (h : Holds V0 s j) : (broadcastInDim S1x128x4x1 ![1, 2] bcast_S128x4_S1x128x4x1_1_2 (V0 (Proc.devRef .tc main_v120_6)) : (Proc.devRef .tc main_while0b_v146 : DevRef τ sig).ty.Contents (Elt F)) = Cert.RetFwdRefIdeal.Step.b33 j s := by
  unfold Cert.RetFwdRefIdeal.Step.b33
  rw [h.f_6]
  try rfl
set_option maxRecDepth 8192 in
theorem al_34 (h : Holds V0 s j) : (broadcastInDim S2x128x4x128 ![0, 1, 2, 3] bcast_S1x128x4x1_S2x128x4x128_0_1_2_3 (broadcastInDim S1x128x4x1 ![1, 2] bcast_S128x4_S1x128x4x1_1_2 (V0 (Proc.devRef .tc main_v120_6))) : (Proc.devRef .tc main_while0b_v147 : DevRef τ sig).ty.Contents (Elt F)) = Cert.RetFwdRefIdeal.Step.b34 j s := by
  unfold Cert.RetFwdRefIdeal.Step.b34
  rw [← al_33 h]
  try rfl
set_option maxRecDepth 8192 in
theorem al_35 (h : Holds V0 s j) : (mulf (res_main_while0b_v129 V0) (broadcastInDim S2x128x4x128 ![0, 1, 2, 3] bcast_S1x128x4x1_S2x128x4x128_0_1_2_3 (broadcastInDim S1x128x4x1 ![1, 2] bcast_S128x4_S1x128x4x1_1_2 (V0 (Proc.devRef .tc main_v120_6)))) : (Proc.devRef .tc main_while0b_v148 : DevRef τ sig).ty.Contents (Elt F)) = Cert.RetFwdRefIdeal.Step.b35 j s := by
  unfold Cert.RetFwdRefIdeal.Step.b35
  rw [← al_11 h, ← al_34 h]
  try rfl
set_option maxRecDepth 8192 in
theorem al_36 (h : Holds V0 s j) : (Host.dotGeneral dot_S2x128x4x128_S2x128x4x256_S2x4x128x256_1_1_3_3_02_02 none (mulf (res_main_while0b_v129 V0) (broadcastInDim S2x128x4x128 ![0, 1, 2, 3] bcast_S1x128x4x1_S2x128x4x128_0_1_2_3 (broadcastInDim S1x128x4x1 ![1, 2] bcast_S128x4_S1x128x4x1_1_2 (V0 (Proc.devRef .tc main_v120_6))))) (res_main_while0b_v130 V0) : (Proc.devRef .tc main_while0b_v149 : DevRef τ sig).ty.Contents (Elt F)) = Cert.RetFwdRefIdeal.Step.b36 j s := by
  unfold Cert.RetFwdRefIdeal.Step.b36
  rw [← al_35 h, ← al_17 h]
  try rfl
set_option maxRecDepth 8192 in
theorem al_37 (h : Holds V0 s j) : (addf (mulf (V0 (Proc.devRef .tc main_v120_8)) (broadcastInDim S2x4x128x256 ![0, 1, 2, 3] bcast_S1x4x1x1_S2x4x128x256_0_1_2_3 (broadcastInDim S1x4x1x1 ![1] bcast_S4_S1x4x1x1_1 (V0 (Proc.devRef .tc main_v120_5))))) (Host.dotGeneral dot_S2x128x4x128_S2x128x4x256_S2x4x128x256_1_1_3_3_02_02 none (mulf (res_main_while0b_v129 V0) (broadcastInDim S2x128x4x128 ![0, 1, 2, 3] bcast_S1x128x4x1_S2x128x4x128_0_1_2_3 (broadcastInDim S1x128x4x1 ![1, 2] bcast_S128x4_S1x128x4x1_1_2 (V0 (Proc.devRef .tc main_v120_6))))) (res_main_while0b_v130 V0)) : (Proc.devRef .tc main_while0b_v150 : DevRef τ sig).ty.Contents (Elt F)) = Cert.RetFwdRefIdeal.Step.b37 j s := by
  unfold Cert.RetFwdRefIdeal.Step.b37
  rw [← al_32 h, ← al_36 h]
  try rfl
set_option maxRecDepth 8192 in
theorem al_38 (h : Holds V0 s j) : (broadcastInDim S1x2x128x4x256 ![1, 2, 3, 4] bcast_S2x128x4x256_S1x2x128x4x256_1_2_3_4 (addf (transpose S2x128x4x256 [0, 3, 1, 2] (Host.dotGeneral dot_S2x128x4x256_S2x4x128x128_S2x4x256x128_1_3_3_2_02_01 none (res_main_while0b_v130 V0) (mulf (Host.dotGeneral dot_S2x128x4x128_S2x128x4x128_S2x4x128x128_3_3_1_1_02_02 none (res_main_while0b_v128 V0) (res_main_while0b_v129 V0)) (broadcastInDim S2x4x128x128 ![0, 1, 2, 3] bcast_S1x4x128x128_S2x4x128x128_0_1_2_3 (broadcastInDim S1x4x128x128 ![1, 2, 3] bcast_S4x128x128_S1x4x128x128_1_2_3 (V0 (Proc.devRef .tc main_v120_3)))))) transposes_S2x4x256x128_S2x128x4x256_0_3_1_2) (transpose S2x128x4x256 [0, 3, 1, 2] (Host.dotGeneral dot_S2x4x128x256_S2x128x4x128_S2x4x256x128_2_3_3_1_01_02 none (V0 (Proc.devRef .tc main_v120_8)) (mulf (res_main_while0b_v128 V0) (broadcastInDim S2x128x4x128 ![0, 1, 2, 3] bcast_S1x128x4x1_S2x128x4x128_0_1_2_3 (broadcastInDim S1x128x4x1 ![1, 2] bcast_S128x4_S1x128x4x1_1_2 (V0 (Proc.devRef .tc main_v120_4)))))) transposes_S2x4x256x128_S2x128x4x256_0_3_1_2)) : (Proc.devRef .tc main_while0b_call4_v0 : DevRef τ sig).ty.Contents (Elt F)) = Cert.RetFwdRefIdeal.Step.b38 j s := by
  unfold Cert.RetFwdRefIdeal.Step.b38
  rw [← al_29 h]
  try rfl
set_option maxRecDepth 8192 in
theorem al_39 (h : Holds V0 s j) : (constantI S_ 32 0#32 : (Proc.devRef .tc main_while0b_call4_c : DevRef τ sig).ty.Contents (Elt F)) = Cert.RetFwdRefIdeal.Step.b39 j s := by
  unfold Cert.RetFwdRefIdeal.Step.b39
  rfl
set_option maxRecDepth 8192 in
theorem al_40 (h : Holds V0 s j) : (constantI S_ 32 0#32 : (Proc.devRef .tc main_while0b_call4_c_0 : DevRef τ sig).ty.Contents (Elt F)) = Cert.RetFwdRefIdeal.Step.b40 j s := by
  unfold Cert.RetFwdRefIdeal.Step.b40
  rfl
set_option maxRecDepth 8192 in
theorem al_41 (h : Holds V0 s j) : (constantI S_ 32 0#32 : (Proc.devRef .tc main_while0b_call4_c_1 : DevRef τ sig).ty.Contents (Elt F)) = Cert.RetFwdRefIdeal.Step.b41 j s := by
  unfold Cert.RetFwdRefIdeal.Step.b41
  rfl
set_option maxRecDepth 8192 in
theorem al_42 (h : Holds V0 s j) : (constantI S_ 32 0#32 : (Proc.devRef .tc main_while0b_call4_c_2 : DevRef τ sig).ty.Contents (Elt F)) = Cert.RetFwdRefIdeal.Step.b42 j s := by
  unfold Cert.RetFwdRefIdeal.Step.b42
  rfl
set_option maxRecDepth 8192 in
theorem al_43 (h : Holds V0 s j) : (Host.dynamicUpdateSlice (V0 (Proc.devRef .tc main_v120_9)) (broadcastInDim S1x2x128x4x256 ![1, 2, 3, 4] bcast_S2x128x4x256_S1x2x128x4x256_1_2_3_4 (addf (transpose S2x128x4x256 [0, 3, 1, 2] (Host.dotGeneral dot_S2x128x4x256_S2x4x128x128_S2x4x256x128_1_3_3_2_02_01 none (res_main_while0b_v130 V0) (mulf (Host.dotGeneral dot_S2x128x4x128_S2x128x4x128_S2x4x128x128_3_3_1_1_02_02 none (res_main_while0b_v128 V0) (res_main_while0b_v129 V0)) (broadcastInDim S2x4x128x128 ![0, 1, 2, 3] bcast_S1x4x128x128_S2x4x128x128_0_1_2_3 (broadcastInDim S1x4x128x128 ![1, 2, 3] bcast_S4x128x128_S1x4x128x128_1_2_3 (V0 (Proc.devRef .tc main_v120_3)))))) transposes_S2x4x256x128_S2x128x4x256_0_3_1_2) (transpose S2x128x4x256 [0, 3, 1, 2] (Host.dotGeneral dot_S2x4x128x256_S2x128x4x128_S2x4x256x128_2_3_3_1_01_02 none (V0 (Proc.devRef .tc main_v120_8)) (mulf (res_main_while0b_v128 V0) (broadcastInDim S2x128x4x128 ![0, 1, 2, 3] bcast_S1x128x4x1_S2x128x4x128_0_1_2_3 (broadcastInDim S1x128x4x1 ![1, 2] bcast_S128x4_S1x128x4x1_1_2 (V0 (Proc.devRef .tc main_v120_4)))))) transposes_S2x4x256x128_S2x128x4x256_0_3_1_2))) (fun k => (((![V0 (Proc.devRef .tc main_v120_7), constantI S_ 32 0#32, constantI S_ 32 0#32, constantI S_ 32 0#32, constantI S_ 32 0#32] : Fin 5 → (⟨S_, .i32⟩ : BufTy).Contents (Elt F))) k (Shape.Idx.first h_S_)).toInt) updateFits_S66x2x128x4x256_S1x2x128x4x256 : (Proc.devRef .tc main_while0b_v151 : DevRef τ sig).ty.Contents (Elt F)) = Cert.RetFwdRefIdeal.Step.b43 j s := by
  unfold Cert.RetFwdRefIdeal.Step.b43
  rw [← al_38 h, ← al_39 h, ← al_40 h, ← al_41 h, ← al_42 h, h.f_9, h.n_7]
  try rfl

/-! One trip's step of the carried values is `step`, field by field; a counter steps to the next number. -/

theorem step_8 (h : Holds V0 s j) : step_main_v120_8 V0 = (step j s).main_v120_8 := by
  unfold step_main_v120_8 Cert.RetFwdRefIdeal.Step.step
  show id (addf (mulf (V0 (Proc.devRef .tc main_v120_8)) (broadcastInDim S2x4x128x256 ![0, 1, 2, 3] bcast_S1x4x1x1_S2x4x128x256_0_1_2_3 (broadcastInDim S1x4x1x1 ![1] bcast_S4_S1x4x1x1_1 (V0 (Proc.devRef .tc main_v120_5))))) (Host.dotGeneral dot_S2x128x4x128_S2x128x4x256_S2x4x128x256_1_1_3_3_02_02 none (mulf (res_main_while0b_v129 V0) (broadcastInDim S2x128x4x128 ![0, 1, 2, 3] bcast_S1x128x4x1_S2x128x4x128_0_1_2_3 (broadcastInDim S1x128x4x1 ![1, 2] bcast_S128x4_S1x128x4x1_1_2 (V0 (Proc.devRef .tc main_v120_6))))) (res_main_while0b_v130 V0))) = _
  rw [al_37 h]
  try rfl
theorem step_9 (h : Holds V0 s j) : step_main_v120_9 V0 = (step j s).main_v120_9 := by
  unfold step_main_v120_9 Cert.RetFwdRefIdeal.Step.step
  exact al_43 h
theorem step_7 (h : Holds V0 s j) : step_main_v120_7 V0 = constantI S_ 32 (BitVec.ofNat 32 (j + 1)) := by
  unfold step_main_v120_7
  rw [h.n_7]
  funext i
  show BitVec.ofNat 32 j + 1#32 = BitVec.ofNat 32 (j + 1)
  simp only [BitVec.ofNat_add]

set_option maxRecDepth 8192 in
theorem out_main_v127_holds (h : Holds V0 s j) : out_main_v127 V0 = Cert.RetFwdRefIdeal.Step.R_main_v127 s := by
  unfold out_main_v127 Cert.RetFwdRefIdeal.Step.R_main_v127
  rw [h.f_9]
  try rfl

/-- One trip keeps the valuation holding: `step` of the state, the same set-up values, the next number. -/
theorem holds_step (h : Holds V0 s j) : Holds (STEP V0) (step j s) (j + 1) where
  f_8 := (STEP_main_v120_8 V0).trans (step_8 h)
  f_9 := (STEP_main_v120_9 V0).trans (step_9 h)
  n_7 := (STEP_main_v120_7 V0).trans (step_7 h)
  f_0 := (STEP_main_v120_0 V0).trans h.f_0
  f_1 := (STEP_main_v120_1 V0).trans h.f_1
  f_2 := (STEP_main_v120_2 V0).trans h.f_2
  f_3 := (STEP_main_v120_3 V0).trans h.f_3
  f_4 := (STEP_main_v120_4 V0).trans h.f_4
  f_5 := (STEP_main_v120_5 V0).trans h.f_5
  f_6 := (STEP_main_v120_6 V0).trans h.f_6

end Cert.RetFwdRefIdeal.StepRun

end
-- ==== Proof.RetFwdRun.lean ====
module

public import proofs.«01_k».proof.Proof.RetFwdTrip

@[expose] public section

noncomputable section

/-!
What the reference's operations before its loop leave, value by value, and its result after the 66 trips.
-/

namespace Cert.RetFwdRefIdeal.StepRun

open Idealize.ShloMosaic Idealize.ShloMosaic.TcCoe Idealize.SL.Sem Idealize.ShloMosaic.StableHlo
open Cert.RetFwdRefIdeal Cert.RetFwdRefIdeal.Gen Cert.RetFwdRefIdeal.Value
open Cert.RetFwdRefIdeal.Step (State step init)

variable {F : FTy → Type} [FloatOps F]

variable {V0 : Valuation τ sig (Elt F)} {s : State F} {j : ℕ}

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 4000000 in
theorem entry_f_8 : entryContents preI m c (Proc.devRef .tc main_v120_8) = (initState m c).main_v120_8 := by
  simp only [entryContents, afterL_cons, afterL_nil]
  after_reads_simp
  rfl
set_option maxRecDepth 65536 in
set_option maxHeartbeats 4000000 in
theorem entry_f_9 : entryContents preI m c (Proc.devRef .tc main_v120_9) = (initState m c).main_v120_9 := by
  simp only [entryContents, afterL_cons, afterL_nil]
  after_reads_simp
  rfl
set_option maxRecDepth 65536 in
set_option maxHeartbeats 4000000 in
theorem entry_f_0 : entryContents preI m c (Proc.devRef .tc main_v120_0) = (initState m c).main_v120_0 := by
  simp only [entryContents, afterL_cons, afterL_nil]
  after_reads_simp
  rfl
set_option maxRecDepth 65536 in
set_option maxHeartbeats 4000000 in
theorem entry_f_1 : entryContents preI m c (Proc.devRef .tc main_v120_1) = (initState m c).main_v120_1 := by
  simp only [entryContents, afterL_cons, afterL_nil]
  after_reads_simp
  rfl
set_option maxRecDepth 65536 in
set_option maxHeartbeats 4000000 in
theorem entry_f_2 : entryContents preI m c (Proc.devRef .tc main_v120_2) = (initState m c).main_v120_2 := by
  simp only [entryContents, afterL_cons, afterL_nil]
  after_reads_simp
  rfl
set_option maxRecDepth 65536 in
set_option maxHeartbeats 4000000 in
theorem entry_f_3 : entryContents preI m c (Proc.devRef .tc main_v120_3) = (initState m c).main_v120_3 := by
  simp only [entryContents, afterL_cons, afterL_nil]
  after_reads_simp
  rfl
set_option maxRecDepth 65536 in
set_option maxHeartbeats 4000000 in
theorem entry_f_4 : entryContents preI m c (Proc.devRef .tc main_v120_4) = (initState m c).main_v120_4 := by
  simp only [entryContents, afterL_cons, afterL_nil]
  after_reads_simp
  rfl
set_option maxRecDepth 65536 in
set_option maxHeartbeats 4000000 in
theorem entry_f_5 : entryContents preI m c (Proc.devRef .tc main_v120_5) = (initState m c).main_v120_5 := by
  simp only [entryContents, afterL_cons, afterL_nil]
  after_reads_simp
  rfl
set_option maxRecDepth 65536 in
set_option maxHeartbeats 4000000 in
theorem entry_f_6 : entryContents preI m c (Proc.devRef .tc main_v120_6) = (initState m c).main_v120_6 := by
  simp only [entryContents, afterL_cons, afterL_nil]
  after_reads_simp
  rfl
set_option maxRecDepth 65536 in
set_option maxHeartbeats 4000000 in
theorem entry_n_7 : entryContents preI m c (Proc.devRef .tc main_v120_7) = constantI S_ 32 (BitVec.ofNat 32 0) := by
  simp only [entryContents, afterL_cons, afterL_nil]
  after_reads_simp
  rfl

/-- What the operations before the loop leave: the set-up values, number 0, the first state. -/
theorem entry_holds : Holds (entryContents preI m c) (initState m c) 0 where
  f_8 := entry_f_8 m c
  f_9 := entry_f_9 m c
  f_0 := entry_f_0 m c
  f_1 := entry_f_1 m c
  f_2 := entry_f_2 m c
  f_3 := entry_f_3 m c
  f_4 := entry_f_4 m c
  f_5 := entry_f_5 m c
  f_6 := entry_f_6 m c
  n_7 := entry_n_7 m c

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `RetFwdRefIdeal` terminates with each result at its field of state
    number 66 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v127) = Cert.RetFwdRefIdeal.Step.R_main_v127 (it c 66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 66
    ⟨(h c).1.trans (out_main_v127_holds hk), (h c).2.1, (h c).2.2.1, (h c).2.2.2.1, (h c).2.2.2.2⟩) (Value.run m ρ)

end Cert.RetFwdRefIdeal.StepRun

end
-- ==== Proof.RetMath.lean ====
module

public import proofs.«01_k».proof.Proof.RowMath

@[expose] public section

set_option maxRecDepth 16384

noncomputable section

/-!
Retention in chunks, over the extended reals.

A head keeps a state of 128 by 256.  It meets the sequence in chunks of 128 positions.  A chunk's result is its own
scores, each weakened by the decay between the two positions, times the values, plus what the queries read from the state.
After a chunk the state is weakened by the decay of a whole chunk, and the chunk's keys and values are added to it.
-/

namespace Cert.Ret

open Idealize.ShloMosaic

/-- A chunk's queries or keys of one head, its values, and a head's state. -/
abbrev Keys := Fin 128 → Fin 128 → EReal
abbrev Vals := Fin 128 → Fin 256 → EReal

/-- The logarithm of the decay a head's logit stands for. -/
def logDecay (x : EReal) : EReal := min x 0 - Ideal.log1p (Ideal.exp (0 - FloatOps.absf (F := Ideal) (φ := FTy.f32) x))

/-- The factor the keys are scaled by. -/
def keyScale : EReal := Ideal.ofBits .f32 1035273459#32

/-- A position's number in its chunk. -/
def num (t : Fin 128) : EReal := FloatOps.sitofp (F := Ideal) .f32 (BitVec.ofNat 32 t.val)

/-- The decay over a distance, nothing where the distance is negative. -/
def decayOver (lg x : EReal) : EReal := if 0 ≤ x then Ideal.exp (lg * max x 0) else 0

/-- The decay over a whole chunk. -/
def decayChunk (lg : EReal) : EReal := Ideal.exp (Ideal.ofBits .f32 1124073472#32 * lg)

/-- One chunk's result. -/
def out (q k : Keys) (v S : Vals) (D : Fin 128 → Fin 128 → EReal) (dq : Fin 128 → EReal) (t : Fin 128) (w : Fin 256) : EReal :=
  (∑ s, ((∑ d, q t d * k s d) * D t s) * v s w) + ∑ d, (q t d * dq t) * S d w

/-- The state after one chunk. -/
def next (k : Keys) (v S : Vals) (dc : EReal) (dk : Fin 128 → EReal) (d : Fin 128) (w : Fin 256) : EReal :=
  S d w * dc + ∑ s, (k s d * dk s) * v s w

/-- The state before chunk `n` of a sequence of chunks, from nothing. -/
def state (k : ℕ → Keys) (v : ℕ → Vals) (dc : EReal) (dk : Fin 128 → EReal) : ℕ → Vals
  | 0 => fun _ _ => 0
  | n + 1 => next (k n) (v n) (state k v dc dk n) dc dk

/-- A head's rows turned by the rotary tables: entry `d` meets entry `d - 64`, counted around. -/
def turn (x cs sn : Keys) (t d : Fin 128) : EReal :=
  x t d * cs t d + x t ⟨(d.val + 128 - 64) % 128, Nat.mod_lt _ (by omega)⟩ * sn t d

/-- Column `d` of head `h` among the queries or keys, and among the values. -/
def keyCol (h : Fin 4) (d : Fin 128) : Fin 512 := ⟨h.val * 128 + d.val, by omega⟩
def valCol (h : Fin 4) (w : Fin 256) : Fin 1024 := ⟨h.val * 256 + w.val, by omega⟩
/-- The head a column belongs to, and the column's place in it. -/
def headOf (j : Fin 1024) : Fin 4 := ⟨j.val / 256, by omega⟩
def inHead (j : Fin 1024) : Fin 256 := ⟨j.val % 256, by omega⟩

theorem headOf_valCol (h : Fin 4) (w : Fin 256) : headOf (valCol h w) = h := Fin.ext (by simp only [headOf, valCol]; omega)
theorem inHead_valCol (h : Fin 4) (w : Fin 256) : inHead (valCol h w) = w := Fin.ext (by simp only [inHead, valCol]; omega)
theorem valCol_headOf (j : Fin 1024) : valCol (headOf j) (inHead j) = j := Fin.ext (by simp only [headOf, inHead, valCol]; omega)

/-! Forwards: position `t` reads position `s` at distance `t - s`. -/

def fwdD (lg : EReal) (t s : Fin 128) : EReal := decayOver lg (num t - num s)
def fwdQ (lg : EReal) (t : Fin 128) : EReal := Ideal.exp ((num t + 1) * lg)
def fwdK (lg : EReal) (t : Fin 128) : EReal := Ideal.exp ((Ideal.ofBits .f32 1123942400#32 - num t) * lg)

/-! The sequence of a batch is its 256 context positions and then its 8192 latent ones, in 66 chunks of 128.  The latents'
rows come first in the array, batch by batch, and the context's after them. -/

/-- The array's row of position `t` of chunk `n` of batch `b`. -/
def row (b : Fin 2) (n : ℕ) (t : Fin 128) : Fin 16896 :=
  ⟨(if n < 2 then 16384 + b.val * 256 + n * 128 + t.val else b.val * 8192 + (n - 2) * 128 + t.val) % 16896, Nat.mod_lt _ (by omega)⟩

theorem row_val (b : Fin 2) (n : ℕ) (hn : n < 66) (t : Fin 128) :
    (row b n t).val = if n < 2 then 16384 + b.val * 256 + n * 128 + t.val else b.val * 8192 + (n - 2) * 128 + t.val := by
  have := b.isLt
  have := t.isLt
  refine Nat.mod_eq_of_lt ?_
  split_ifs <;> omega

/-- A latent position's number among its batch's latents. -/
def pos (n : ℕ) (t : Fin 128) : Fin 8192 := ⟨((n - 2) * 128 + t.val) % 8192, Nat.mod_lt _ (by omega)⟩

theorem pos_val (n : ℕ) (hn : n < 66) (t : Fin 128) : (pos n t).val = (n - 2) * 128 + t.val := by
  have := t.isLt
  exact Nat.mod_eq_of_lt (by omega)

/-- An entry's place in its half of a head's row. -/
def half (d : Fin 128) : Fin 64 := ⟨d.val % 64, Nat.mod_lt _ (by omega)⟩

abbrev Table := Fin 8192 → Fin 64 → EReal

/-- The rotary tables at a chunk: the context is not turned. -/
def cosAt (cos : Table) (n : ℕ) : Keys := fun t d => if n < 2 then 1 else cos (pos n t) (half d)
def sinAt (sin : Table) (n : ℕ) : Keys := fun t d => if n < 2 then 0 else if d.val < 64 then -sin (pos n t) (half d) else sin (pos n t) (half d)

/-- A latent chunk's rows under the rotary embedding: the first half `x₁ c - x₂ s`, the second `x₁ s + x₂ c`. -/
def rope (x : Keys) (cos sin : Table) (n : ℕ) : Keys := fun t d =>
  if h : d.val < 64 then x t d * cos (pos n t) (half d) - x t ⟨d.val + 64, by omega⟩ * sin (pos n t) (half d)
  else x t ⟨d.val - 64, by omega⟩ * sin (pos n t) (half d) + x t d * cos (pos n t) (half d)

/-- Turning by the tables is the rotary embedding for a latent chunk and nothing for a context chunk. -/
theorem turn_eq (x : Keys) (cos sin : Table) (n : ℕ) (t d : Fin 128) :
    turn x (cosAt cos n) (sinAt sin n) t d = if n < 2 then x t d else rope x cos sin n t d := by
  unfold turn cosAt sinAt rope
  by_cases hn : n < 2
  · simp only [if_pos hn, mul_one, mul_zero, add_zero]
  · simp only [if_neg hn]
    have := d.isLt
    by_cases hd : d.val < 64
    · rw [if_pos hd, dif_pos hd, show (⟨(d.val + 128 - 64) % 128, Nat.mod_lt _ (by omega)⟩ : Fin 128) = ⟨d.val + 64, by omega⟩ from
        Fin.ext (show (d.val + 128 - 64) % 128 = d.val + 64 by omega), mul_neg, sub_eq_add_neg]
    · rw [if_neg hd, dif_neg hd, show (⟨(d.val + 128 - 64) % 128, Nat.mod_lt _ (by omega)⟩ : Fin 128) = ⟨d.val - 64, by omega⟩ from
        Fin.ext (show (d.val + 128 - 64) % 128 = d.val - 64 by omega), add_comm]

/-! What a chunk of a head holds, from the projected rows `p`: queries in columns 0 to 511, keys in the next 512 and
values in the next 1024. -/

abbrev Proj := Fin 16896 → Fin 10368 → EReal

def rawQ (p : Proj) (b : Fin 2) (h : Fin 4) (n : ℕ) : Keys := fun t d => p (row b n t) ⟨h.val * 128 + d.val, by omega⟩
def rawK (p : Proj) (b : Fin 2) (h : Fin 4) (n : ℕ) : Keys := fun t d => p (row b n t) ⟨512 + (h.val * 128 + d.val), by omega⟩
def chunkV (p : Proj) (b : Fin 2) (h : Fin 4) (n : ℕ) : Vals := fun t w => p (row b n t) ⟨1024 + (h.val * 256 + w.val), by omega⟩
def chunkQ (p : Proj) (cos sin : Table) (b : Fin 2) (h : Fin 4) (n : ℕ) : Keys := turn (rawQ p b h n) (cosAt cos n) (sinAt sin n)
def chunkK (p : Proj) (cos sin : Table) (b : Fin 2) (h : Fin 4) (n : ℕ) : Keys :=
  fun s d => turn (rawK p b h n) (cosAt cos n) (sinAt sin n) s d * keyScale

/-- The forward state before chunk `n`, and the chunk's result. -/
def fwdState (p : Proj) (cos sin : Table) (lg : EReal) (b : Fin 2) (h : Fin 4) (n : ℕ) : Vals :=
  state (chunkK p cos sin b h) (chunkV p b h) (decayChunk lg) (fwdK lg) n
def fwd (p : Proj) (cos sin : Table) (lg : EReal) (b : Fin 2) (h : Fin 4) (n : ℕ) (t : Fin 128) (w : Fin 256) : EReal :=
  out (chunkQ p cos sin b h n) (chunkK p cos sin b h n) (chunkV p b h n) (fwdState p cos sin lg b h n) (fwdD lg) (fwdQ lg) t w

end Cert.Ret

end
-- ==== Proof.RetFwdStep.lean ====
module

public import proofs.«01_k».proof.Proof.Gen.RetFwdIdeal.Value
public import proofs.«01_k».proof.Proof.RetMath
public import Idealize.ShloMosaic.Lib.Pipeline.ValueKit
public import Idealize.ShloMosaic.Lib.Pipeline.ReadBack
public import Idealize.ShloMosaic.Lib.Pointwise

@[expose] public section

set_option maxRecDepth 16384

noncomputable section

/-!
What one grid point of the forward retention call leaves behind, as a function of what its windows hold.

A point works on one chunk of one batch, all four heads.  It writes the chunk's result of each head beside the others and
carries the four states on.  At the first chunk of a batch the states start from zero.
-/

namespace Cert.RetFwdIdeal.Step

open Cert.RetFwdIdeal Cert.RetFwdIdeal.Gen Idealize.ShloMosaic Idealize.ShloMosaic.TcCoe Idealize.SL.Sem

/-- A head's part of what the windows hold. -/
def headK (x : Vec Ideal S128x512 .f32) (h : Fin 4) : Ret.Keys := fun t d => x (ix2 t (Ret.keyCol h d))
def headV (x : Vec Ideal S128x1024 .f32) (h : Fin 4) : Ret.Vals := fun s w => x (ix2 s (Ret.valCol h w))
def headS (x : Vec Ideal S4x128x256 .f32) (h : Fin 4) : Ret.Vals := fun d w => x (ix3 h d w)
def table (x : Vec Ideal S128x128 .f32) : Ret.Keys := fun t d => x (ix2 t d)

/-- One head's result and next state, from its logit, its rows, the two tables and its state. -/
def outHead (a : EReal) (q k : Ret.Keys) (v : Ret.Vals) (cs sn : Ret.Keys) (S : Ret.Vals) (t : Fin 128) (w : Fin 256) : EReal :=
  Ret.out (Ret.turn q cs sn) (fun s d => Ret.turn k cs sn s d * Ret.keyScale) v S (Ret.fwdD (Ret.logDecay a)) (Ret.fwdQ (Ret.logDecay a)) t w
def nextHead (a : EReal) (k : Ret.Keys) (v : Ret.Vals) (cs sn : Ret.Keys) (S : Ret.Vals) (d : Fin 128) (w : Fin 256) : EReal :=
  Ret.next (fun s d => Ret.turn k cs sn s d * Ret.keyScale) v S (Ret.decayChunk (Ret.logDecay a)) (Ret.fwdK (Ret.logDecay a)) d w

section heads
variable (a : EReal) (q k : Vec Ideal S128x128 .f32) (v : Vec Ideal S128x256 .f32) (x4 x5 : Vec Ideal S128x128 .f32) (s : Vec Ideal S1x128x256 .f32)

theorem out3 (t : Fin 128) (w : Fin 256) : k0_pay4 (k0_pay7 x4) (k0_pay8 x5) (k0_pay41 k0_pay10 a) (k0_pay42 k0_pay9 a) q k v s (ix2 t w)
    = outHead a (table q) (table k) (fun s w => v (ix2 s w)) (table x4) (table x5) (fun d w => s (ix3 0 d w)) t w := by
  pointwise [k0_pay4, k0_pay7, k0_pay8, k0_pay41, k0_pay42, k0_pay40, k0_pay9, k0_pay10, k0_pay3, k0_pay2, k0_pay1]
  rfl
theorem out2 (t : Fin 128) (w : Fin 256) : k0_pay38 (k0_pay7 x4) (k0_pay8 x5) (k0_pay31 k0_pay10 a) (k0_pay32 k0_pay9 a) q k v s (ix2 t w)
    = outHead a (table q) (table k) (fun s w => v (ix2 s w)) (table x4) (table x5) (fun d w => s (ix3 0 d w)) t w := by
  pointwise [k0_pay38, k0_pay7, k0_pay8, k0_pay31, k0_pay32, k0_pay30, k0_pay9, k0_pay10, k0_pay35, k0_pay36, k0_pay37]
  rfl
theorem out1 (t : Fin 128) (w : Fin 256) : k0_pay27 (k0_pay7 x4) (k0_pay8 x5) (k0_pay21 k0_pay10 a) (k0_pay22 k0_pay9 a) q k v s (ix2 t w)
    = outHead a (table q) (table k) (fun s w => v (ix2 s w)) (table x4) (table x5) (fun d w => s (ix3 0 d w)) t w := by
  pointwise [k0_pay27, k0_pay7, k0_pay8, k0_pay21, k0_pay22, k0_pay20, k0_pay9, k0_pay10, k0_pay24, k0_pay25, k0_pay26]
  rfl
theorem out0 (t : Fin 128) (w : Fin 256) : k0_pay16 (k0_pay7 x4) (k0_pay8 x5) k0_pay9 (k0_pay11 a) (k0_pay12 a) q k v s (ix2 t w)
    = outHead a (table q) (table k) (fun s w => v (ix2 s w)) (table x4) (table x5) (fun d w => s (ix3 0 d w)) t w := by
  pointwise [k0_pay16, k0_pay7, k0_pay8, k0_pay12, k0_pay11, k0_pay9, k0_pay10, k0_pay13, k0_pay14, k0_pay15]
  rfl
theorem next3 (d : Fin 128) (w : Fin 256) : k0_pay5 (k0_pay7 x4) (k0_pay8 x5) (k0_pay43 k0_pay9 a) (k0_pay44 a) k v s (ix3 0 d w)
    = nextHead a (table k) (fun s w => v (ix2 s w)) (table x4) (table x5) (fun d w => s (ix3 0 d w)) d w := by
  pointwise [k0_pay5, k0_pay7, k0_pay8, k0_pay43, k0_pay44, k0_pay40, k0_pay9, k0_pay3, k0_pay2, k0_pay1]
  rfl
theorem next2 (d : Fin 128) (w : Fin 256) : k0_pay39 (k0_pay7 x4) (k0_pay8 x5) (k0_pay33 k0_pay9 a) (k0_pay34 a) k v s (ix3 0 d w)
    = nextHead a (table k) (fun s w => v (ix2 s w)) (table x4) (table x5) (fun d w => s (ix3 0 d w)) d w := by
  pointwise [k0_pay39, k0_pay7, k0_pay8, k0_pay33, k0_pay34, k0_pay30, k0_pay9, k0_pay35, k0_pay36, k0_pay37]
  rfl
theorem next1 (d : Fin 128) (w : Fin 256) : k0_pay29 (k0_pay28 (k0_pay7 x4) (k0_pay8 x5) (k0_pay20 a) (k0_pay23 k0_pay9) k v s) (ix3 0 d w)
    = nextHead a (table k) (fun s w => v (ix2 s w)) (table x4) (table x5) (fun d w => s (ix3 0 d w)) d w := by
  pointwise [k0_pay29, k0_pay28, k0_pay7, k0_pay8, k0_pay20, k0_pay23, k0_pay9, k0_pay24, k0_pay25, k0_pay26]
  rfl
theorem next0 (d : Fin 128) (w : Fin 256) : k0_pay19 (k0_pay13 v) (k0_pay17 (k0_pay11 a) s) (k0_pay18 (k0_pay7 x4) (k0_pay8 x5) k0_pay9 (k0_pay11 a) k) (ix3 0 d w)
    = nextHead a (table k) (fun s w => v (ix2 s w)) (table x4) (table x5) (fun d w => s (ix3 0 d w)) d w := by
  pointwise [k0_pay19, k0_pay13, k0_pay17, k0_pay18, k0_pay7, k0_pay8, k0_pay11, k0_pay9, k0_pay14, k0_pay15]
  rfl
end heads

/-! What a window's piece of one head is. -/

section loads
variable (x0 : Vec Ideal S4 .f32) (x1 : Vec Ideal S128x512 .f32) (x3 : Vec Ideal S128x1024 .f32) (xs0 : Vec Ideal S4x128x256 .f32)

theorem logit0 : View.ld x0 (Rect.unit (s := S4) ![0] ![1] inb_S4_S1_0) (Shape.Idx.first (by decide)) = x0 (ix1 0) :=
  congrArg x0 (funext fun a => Fin.ext (by
    match a with
    | ⟨0, _⟩ => rfl))
theorem keys0 : table (View.ld x1 (Rect.unit (s := S128x512) ![0, 0] ![128, 128] inb_S128x512_S128x128_0_0)) = headK x1 0 :=
  funext fun t => funext fun d => congrArg x1 (funext fun a => Fin.ext (by
    match a with
    | ⟨0, _⟩ => show 0 + 1 * t.val = t.val; omega
    | ⟨1, _⟩ => show 0 + 1 * d.val = 0 * 128 + d.val; omega))
theorem vals0 : (fun s w => View.ld x3 (Rect.unit (s := S128x1024) ![0, 0] ![128, 256] inb_S128x1024_S128x256_0_0) (ix2 s w)) = headV x3 0 :=
  funext fun t => funext fun d => congrArg x3 (funext fun a => Fin.ext (by
    match a with
    | ⟨0, _⟩ => show 0 + 1 * t.val = t.val; omega
    | ⟨1, _⟩ => show 0 + 1 * d.val = 0 * 256 + d.val; omega))
theorem carried0 : (fun d w => View.ld xs0 (Rect.unit (s := S4x128x256) ![0, 0, 0] ![1, 128, 256] inb_S4x128x256_S1x128x256_0_0_0) (ix3 0 d w)) = headS xs0 0 :=
  funext fun d => funext fun w => congrArg xs0 (funext fun a => Fin.ext (by
    match a with
    | ⟨0, _⟩ => show 0 + 1 * 0 = 0; omega
    | ⟨1, _⟩ => show 0 + 1 * d.val = d.val; omega
    | ⟨2, _⟩ => show 0 + 1 * w.val = w.val; omega))

theorem logit1 : View.ld x0 (Rect.unit (s := S4) ![1] ![1] inb_S4_S1_1) (Shape.Idx.first (by decide)) = x0 (ix1 1) :=
  congrArg x0 (funext fun a => Fin.ext (by
    match a with
    | ⟨0, _⟩ => rfl))
theorem keys1 : table (View.ld x1 (Rect.unit (s := S128x512) ![0, 128] ![128, 128] inb_S128x512_S128x128_0_128)) = headK x1 1 :=
  funext fun t => funext fun d => congrArg x1 (funext fun a => Fin.ext (by
    match a with
    | ⟨0, _⟩ => show 0 + 1 * t.val = t.val; omega
    | ⟨1, _⟩ => show 128 + 1 * d.val = 1 * 128 + d.val; omega))
theorem vals1 : (fun s w => View.ld x3 (Rect.unit (s := S128x1024) ![0, 256] ![128, 256] inb_S128x1024_S128x256_0_256) (ix2 s w)) = headV x3 1 :=
  funext fun t => funext fun d => congrArg x3 (funext fun a => Fin.ext (by
    match a with
    | ⟨0, _⟩ => show 0 + 1 * t.val = t.val; omega
    | ⟨1, _⟩ => show 256 + 1 * d.val = 1 * 256 + d.val; omega))
theorem carried1 : (fun d w => View.ld xs0 (Rect.unit (s := S4x128x256) ![1, 0, 0] ![1, 128, 256] inb_S4x128x256_S1x128x256_1_0_0) (ix3 0 d w)) = headS xs0 1 :=
  funext fun d => funext fun w => congrArg xs0 (funext fun a => Fin.ext (by
    match a with
    | ⟨0, _⟩ => show 1 + 1 * 0 = 1; omega
    | ⟨1, _⟩ => show 0 + 1 * d.val = d.val; omega
    | ⟨2, _⟩ => show 0 + 1 * w.val = w.val; omega))

theorem logit2 : View.ld x0 (Rect.unit (s := S4) ![2] ![1] inb_S4_S1_2) (Shape.Idx.first (by decide)) = x0 (ix1 2) :=
  congrArg x0 (funext fun a => Fin.ext (by
    match a with
    | ⟨0, _⟩ => rfl))
theorem keys2 : table (View.ld x1 (Rect.unit (s := S128x512) ![0, 256] ![128, 128] inb_S128x512_S128x128_0_256)) = headK x1 2 :=
  funext fun t => funext fun d => congrArg x1 (funext fun a => Fin.ext (by
    match a with
    | ⟨0, _⟩ => show 0 + 1 * t.val = t.val; omega
    | ⟨1, _⟩ => show 256 + 1 * d.val = 2 * 128 + d.val; omega))
theorem vals2 : (fun s w => View.ld x3 (Rect.unit (s := S128x1024) ![0, 512] ![128, 256] inb_S128x1024_S128x256_0_512) (ix2 s w)) = headV x3 2 :=
  funext fun t => funext fun d => congrArg x3 (funext fun a => Fin.ext (by
    match a with
    | ⟨0, _⟩ => show 0 + 1 * t.val = t.val; omega
    | ⟨1, _⟩ => show 512 + 1 * d.val = 2 * 256 + d.val; omega))
theorem carried2 : (fun d w => View.ld xs0 (Rect.unit (s := S4x128x256) ![2, 0, 0] ![1, 128, 256] inb_S4x128x256_S1x128x256_2_0_0) (ix3 0 d w)) = headS xs0 2 :=
  funext fun d => funext fun w => congrArg xs0 (funext fun a => Fin.ext (by
    match a with
    | ⟨0, _⟩ => show 2 + 1 * 0 = 2; omega
    | ⟨1, _⟩ => show 0 + 1 * d.val = d.val; omega
    | ⟨2, _⟩ => show 0 + 1 * w.val = w.val; omega))

theorem logit3 : View.ld x0 (Rect.unit (s := S4) ![3] ![1] inb_S4_S1_3) (Shape.Idx.first (by decide)) = x0 (ix1 3) :=
  congrArg x0 (funext fun a => Fin.ext (by
    match a with
    | ⟨0, _⟩ => rfl))
theorem keys3 : table (View.ld x1 (Rect.unit (s := S128x512) ![0, 384] ![128, 128] inb_S128x512_S128x128_0_384)) = headK x1 3 :=
  funext fun t => funext fun d => congrArg x1 (funext fun a => Fin.ext (by
    match a with
    | ⟨0, _⟩ => show 0 + 1 * t.val = t.val; omega
    | ⟨1, _⟩ => show 384 + 1 * d.val = 3 * 128 + d.val; omega))
theorem vals3 : (fun s w => View.ld x3 (Rect.unit (s := S128x1024) ![0, 768] ![128, 256] inb_S128x1024_S128x256_0_768) (ix2 s w)) = headV x3 3 :=
  funext fun t => funext fun d => congrArg x3 (funext fun a => Fin.ext (by
    match a with
    | ⟨0, _⟩ => show 0 + 1 * t.val = t.val; omega
    | ⟨1, _⟩ => show 768 + 1 * d.val = 3 * 256 + d.val; omega))
theorem carried3 : (fun d w => View.ld xs0 (Rect.unit (s := S4x128x256) ![3, 0, 0] ![1, 128, 256] inb_S4x128x256_S1x128x256_3_0_0) (ix3 0 d w)) = headS xs0 3 :=
  funext fun d => funext fun w => congrArg xs0 (funext fun a => Fin.ext (by
    match a with
    | ⟨0, _⟩ => show 3 + 1 * 0 = 3; omega
    | ⟨1, _⟩ => show 0 + 1 * d.val = d.val; omega
    | ⟨2, _⟩ => show 0 + 1 * w.val = w.val; omega))
end loads

/-- The states start from zero. -/
def zeros : Vec Ideal S4x128x256 .f32 := fun _ => 0
theorem pay6 : k0_pay6 (F := Ideal) = zeros := by
  funext y
  rw [eq_ix3 y]
  pointwise [k0_pay6]
  rfl

/-- The four heads' results side by side, and the four next states. -/
def outAll (x0 : Vec Ideal S4 .f32) (x1 x2 : Vec Ideal S128x512 .f32) (x3 : Vec Ideal S128x1024 .f32) (x4 x5 : Vec Ideal S128x128 .f32)
    (xs0 : Vec Ideal S4x128x256 .f32) : Vec Ideal S128x1024 .f32 := fun y =>
  outHead (x0 (ix1 (Ret.headOf (y 1)))) (headK x1 (Ret.headOf (y 1))) (headK x2 (Ret.headOf (y 1))) (headV x3 (Ret.headOf (y 1)))
    (table x4) (table x5) (headS xs0 (Ret.headOf (y 1))) (y 0) (Ret.inHead (y 1))
def nextAll (x0 : Vec Ideal S4 .f32) (x2 : Vec Ideal S128x512 .f32) (x3 : Vec Ideal S128x1024 .f32) (x4 x5 : Vec Ideal S128x128 .f32)
    (xs0 : Vec Ideal S4x128x256 .f32) : Vec Ideal S4x128x256 .f32 := fun y =>
  nextHead (x0 (ix1 (y 0))) (headK x2 (y 0)) (headV x3 (y 0)) (table x4) (table x5) (headS xs0 (y 0)) (y 1) (y 2)

section
variable (c : Dev nD) (t : Fin cfg0.N) (x0 : Vec Ideal S4 .f32) (x1 x2 : Vec Ideal S128x512 .f32) (x3 : Vec Ideal S128x1024 .f32)
  (x4 x5 : Vec Ideal S128x128 .f32) (xs0 : Vec Ideal S4x128x256 .f32)

theorem outAll_at (h : Fin 4) (r : Fin 128) (w : Fin 256) (y : S128x1024.Idx) (hr : (y 0).val = r.val) (hw : (y 1).val = h.val * 256 + w.val) :
    outAll x0 x1 x2 x3 x4 x5 xs0 y
    = outHead (x0 (ix1 h)) (headK x1 h) (headK x2 h) (headV x3 h) (table x4) (table x5) (headS xs0 h) r w := by
  have e0 : y 0 = r := Fin.ext hr
  have e1 : y 1 = Ret.valCol h w := Fin.ext hw
  unfold outAll
  rw [e0, e1, Ret.headOf_valCol, Ret.inHead_valCol]

theorem nextAll_at (h : Fin 4) (d : Fin 128) (w : Fin 256) (y : S4x128x256.Idx) (hh : (y 0).val = h.val) (hd : (y 1).val = d.val) (hw : (y 2).val = w.val) :
    nextAll x0 x2 x3 x4 x5 xs0 y
    = nextHead (x0 (ix1 h)) (headK x2 h) (headV x3 h) (table x4) (table x5) (headS xs0 h) d w := by
  have e0 : y 0 = h := Fin.ext hh
  have e1 : y 1 = d := Fin.ext hd
  have e2 : y 2 = w := Fin.ext hw
  unfold nextAll
  rw [e0, e1, e2]

theorem out_first (hc : cond0_0 (grid0.coords t)) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc x0 x1 x2 x3 x4 x5 = outAll x0 x1 x2 x3 x4 x5 zeros := by
  frame_open
  simp (disch := decide) only [↓ View.readCov_skip, ↓ View.readCov_cons_toLoadRect, ↓ View.readCov_fill]
  frame_out
  funext y
  canon_tiles x h
  · obtain ⟨r, w, rfl⟩ : ∃ (r : Fin 128) (w : Fin 256), x = ix2 r w := ⟨x 0, x 1, eq_ix2 x⟩
    rw [outAll_at _ _ _ _ _ _ _ 3 r w y (by simpa using h0) (by simpa using h1), pay6, out3, logit3, keys3, keys3, vals3, carried3]
  · obtain ⟨r, w, rfl⟩ : ∃ (r : Fin 128) (w : Fin 256), x = ix2 r w := ⟨x 0, x 1, eq_ix2 x⟩
    rw [outAll_at _ _ _ _ _ _ _ 2 r w y (by simpa using h0) (by simpa using h1), pay6, out2, logit2, keys2, keys2, vals2, carried2]
  · obtain ⟨r, w, rfl⟩ : ∃ (r : Fin 128) (w : Fin 256), x = ix2 r w := ⟨x 0, x 1, eq_ix2 x⟩
    rw [outAll_at _ _ _ _ _ _ _ 1 r w y (by simpa using h0) (by simpa using h1), pay6, out1, logit1, keys1, keys1, vals1, carried1]
  · obtain ⟨r, w, rfl⟩ : ∃ (r : Fin 128) (w : Fin 256), x = ix2 r w := ⟨x 0, x 1, eq_ix2 x⟩
    rw [outAll_at _ _ _ _ _ _ _ 0 r w y (by simpa using h0) (by simpa using h1), pay6, out0, logit0, keys0, keys0, vals0, carried0]

theorem out_rest (hc : ¬cond0_0 (grid0.coords t)) :
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc x0 x1 x2 x3 x4 x5 xs0 = outAll x0 x1 x2 x3 x4 x5 xs0 := by
  frame_open
  simp (disch := decide) only [↓ View.readCov_skip, ↓ View.readCov_cons_toLoadRect, ↓ View.readCov_fill]
  frame_out
  funext y
  canon_tiles x h
  · obtain ⟨r, w, rfl⟩ : ∃ (r : Fin 128) (w : Fin 256), x = ix2 r w := ⟨x 0, x 1, eq_ix2 x⟩
    rw [outAll_at _ _ _ _ _ _ _ 3 r w y (by simpa using h0) (by simpa using h1), (Memref.isWhole_whole cc0_scratch0).read_unread, out3, logit3, keys3, keys3, vals3, carried3]
  · obtain ⟨r, w, rfl⟩ : ∃ (r : Fin 128) (w : Fin 256), x = ix2 r w := ⟨x 0, x 1, eq_ix2 x⟩
    rw [outAll_at _ _ _ _ _ _ _ 2 r w y (by simpa using h0) (by simpa using h1), (Memref.isWhole_whole cc0_scratch0).read_unread, out2, logit2, keys2, keys2, vals2, carried2]
  · obtain ⟨r, w, rfl⟩ : ∃ (r : Fin 128) (w : Fin 256), x = ix2 r w := ⟨x 0, x 1, eq_ix2 x⟩
    rw [outAll_at _ _ _ _ _ _ _ 1 r w y (by simpa using h0) (by simpa using h1), (Memref.isWhole_whole cc0_scratch0).read_unread, out1, logit1, keys1, keys1, vals1, carried1]
  · obtain ⟨r, w, rfl⟩ : ∃ (r : Fin 128) (w : Fin 256), x = ix2 r w := ⟨x 0, x 1, eq_ix2 x⟩
    rw [outAll_at _ _ _ _ _ _ _ 0 r w y (by simpa using h0) (by simpa using h1), (Memref.isWhole_whole cc0_scratch0).read_unread, out0, logit0, keys0, keys0, vals0, carried0]

theorem next_rest (hc : ¬cond0_0 (grid0.coords t)) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc x0 x1 x2 x3 x4 x5 xs0 = nextAll x0 x2 x3 x4 x5 xs0 := by
  frame_open
  simp (disch := decide) only [↓ View.readCov_skip, ↓ View.readCov_cons_toLoadRect, ↓ View.readCov_fill]
  frame_out
  funext y
  canon_tiles x h
  · obtain ⟨z, d, w, rfl⟩ : ∃ (z : Fin 1) (d : Fin 128) (w : Fin 256), x = ix3 z d w := ⟨x 0, x 1, x 2, eq_ix3 x⟩
    obtain rfl := Subsingleton.elim z 0
    rw [nextAll_at _ _ _ _ _ _ 3 d w y (by simpa using h0) (by simpa using h1) (by simpa using h2), (Memref.isWhole_whole cc0_scratch0).read_unread, next3, logit3, keys3, vals3, carried3]
  · obtain ⟨z, d, w, rfl⟩ : ∃ (z : Fin 1) (d : Fin 128) (w : Fin 256), x = ix3 z d w := ⟨x 0, x 1, x 2, eq_ix3 x⟩
    obtain rfl := Subsingleton.elim z 0
    rw [nextAll_at _ _ _ _ _ _ 2 d w y (by simpa using h0) (by simpa using h1) (by simpa using h2), (Memref.isWhole_whole cc0_scratch0).read_unread, next2, logit2, keys2, vals2, carried2]
  · obtain ⟨z, d, w, rfl⟩ : ∃ (z : Fin 1) (d : Fin 128) (w : Fin 256), x = ix3 z d w := ⟨x 0, x 1, x 2, eq_ix3 x⟩
    obtain rfl := Subsingleton.elim z 0
    rw [nextAll_at _ _ _ _ _ _ 1 d w y (by simpa using h0) (by simpa using h1) (by simpa using h2), (Memref.isWhole_whole cc0_scratch0).read_unread, next1, logit1, keys1, vals1, carried1]
  · obtain ⟨z, d, w, rfl⟩ : ∃ (z : Fin 1) (d : Fin 128) (w : Fin 256), x = ix3 z d w := ⟨x 0, x 1, x 2, eq_ix3 x⟩
    obtain rfl := Subsingleton.elim z 0
    rw [nextAll_at _ _ _ _ _ _ 0 d w y (by simpa using h0) (by simpa using h1) (by simpa using h2), (Memref.isWhole_whole cc0_scratch0).read_unread, next0, logit0, keys0, vals0, carried0]

theorem next_first (hc : cond0_0 (grid0.coords t)) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc x0 x1 x2 x3 x4 x5 = nextAll x0 x2 x3 x4 x5 zeros := by
  frame_open
  simp (disch := decide) only [↓ View.readCov_skip, ↓ View.readCov_cons_toLoadRect, ↓ View.readCov_fill]
  frame_out
  funext y
  refine View.canon_append_of_piecesOf (nextAll x0 x2 x3 x4 x5 zeros) [_] [_, _, _, _] ⟨?_, ?_, ?_, ?_, trivial⟩ y ?_
  · intro x
    obtain ⟨z, d, w, rfl⟩ : ∃ (z : Fin 1) (d : Fin 128) (w : Fin 256), x = ix3 z d w := ⟨x 0, x 1, x 2, eq_ix3 x⟩
    obtain rfl := Subsingleton.elim z 0
    rw [nextAll_at _ _ _ _ _ _ 3 d w _ (show 3 + 1 * 0 = 3 by omega) (show 0 + 1 * d.val = d.val by omega) (show 0 + 1 * w.val = w.val by omega)]
    dsimp only
    rw [pay6, next3, logit3, keys3, vals3, carried3]
  · intro x
    obtain ⟨z, d, w, rfl⟩ : ∃ (z : Fin 1) (d : Fin 128) (w : Fin 256), x = ix3 z d w := ⟨x 0, x 1, x 2, eq_ix3 x⟩
    obtain rfl := Subsingleton.elim z 0
    rw [nextAll_at _ _ _ _ _ _ 2 d w _ (show 2 + 1 * 0 = 2 by omega) (show 0 + 1 * d.val = d.val by omega) (show 0 + 1 * w.val = w.val by omega)]
    dsimp only
    rw [pay6, next2, logit2, keys2, vals2, carried2]
  · intro x
    obtain ⟨z, d, w, rfl⟩ : ∃ (z : Fin 1) (d : Fin 128) (w : Fin 256), x = ix3 z d w := ⟨x 0, x 1, x 2, eq_ix3 x⟩
    obtain rfl := Subsingleton.elim z 0
    rw [nextAll_at _ _ _ _ _ _ 1 d w _ (show 1 + 1 * 0 = 1 by omega) (show 0 + 1 * d.val = d.val by omega) (show 0 + 1 * w.val = w.val by omega)]
    dsimp only
    rw [pay6, next1, logit1, keys1, vals1, carried1]
  · intro x
    obtain ⟨z, d, w, rfl⟩ : ∃ (z : Fin 1) (d : Fin 128) (w : Fin 256), x = ix3 z d w := ⟨x 0, x 1, x 2, eq_ix3 x⟩
    obtain rfl := Subsingleton.elim z 0
    rw [nextAll_at _ _ _ _ _ _ 0 d w _ (show 0 + 1 * 0 = 0 by omega) (show 0 + 1 * d.val = d.val by omega) (show 0 + 1 * w.val = w.val by omega)]
    dsimp only
    rw [pay6, next0, logit0, keys0, vals0, carried0]
  · have b0 : (y 0).val < 4 := (y 0).isLt
    have b1 : (y 1).val < 128 := (y 1).isLt
    have b2 : (y 2).val < 256 := (y 2).isLt
    have hh : (y 0).val = 3 ∨ (y 0).val = 2 ∨ (y 0).val = 1 ∨ (y 0).val = 0 := by omega
    rcases hh with h | h | h | h
    · exact ⟨_, .head _, (Rect.mem_set_unit (inb := inb_S4x128x256_S1x128x256_3_0_0)).mpr fun a => by
        match a with
        | ⟨0, _⟩ => show 3 ≤ (y 0).val ∧ (y 0).val < 3 + 1; omega
        | ⟨1, _⟩ => show 0 ≤ (y 1).val ∧ (y 1).val < 0 + 128; omega
        | ⟨2, _⟩ => show 0 ≤ (y 2).val ∧ (y 2).val < 0 + 256; omega⟩
    · exact ⟨_, .tail _ (.head _), (Rect.mem_set_unit (inb := inb_S4x128x256_S1x128x256_2_0_0)).mpr fun a => by
        match a with
        | ⟨0, _⟩ => show 2 ≤ (y 0).val ∧ (y 0).val < 2 + 1; omega
        | ⟨1, _⟩ => show 0 ≤ (y 1).val ∧ (y 1).val < 0 + 128; omega
        | ⟨2, _⟩ => show 0 ≤ (y 2).val ∧ (y 2).val < 0 + 256; omega⟩
    · exact ⟨_, .tail _ (.tail _ (.head _)), (Rect.mem_set_unit (inb := inb_S4x128x256_S1x128x256_1_0_0)).mpr fun a => by
        match a with
        | ⟨0, _⟩ => show 1 ≤ (y 0).val ∧ (y 0).val < 1 + 1; omega
        | ⟨1, _⟩ => show 0 ≤ (y 1).val ∧ (y 1).val < 0 + 128; omega
        | ⟨2, _⟩ => show 0 ≤ (y 2).val ∧ (y 2).val < 0 + 256; omega⟩
    · exact ⟨_, .tail _ (.tail _ (.tail _ (.head _))), (Rect.mem_set_unit (inb := inb_S4x128x256_S1x128x256_0_0_0)).mpr fun a => by
        match a with
        | ⟨0, _⟩ => show 0 ≤ (y 0).val ∧ (y 0).val < 0 + 1; omega
        | ⟨1, _⟩ => show 0 ≤ (y 1).val ∧ (y 1).val < 0 + 128; omega
        | ⟨2, _⟩ => show 0 ≤ (y 2).val ∧ (y 2).val < 0 + 256; omega⟩
end

end Cert.RetFwdIdeal.Step

end
-- ==== Proof.RetFwdWindow.lean ====
module

public import proofs.«01_k».proof.Proof.Gen.RetFwdIdeal.Value
public import proofs.«01_k».proof.Proof.RetMath
public import Idealize.ShloMosaic.Lib.Pointwise

@[expose] public section

set_option maxRecDepth 16384

noncomputable section

/-!
What the forward retention call's windows hold at a grid point: point `t` works on chunk `t % 66` of batch `t / 66`.
The two rotary tables are laid out before the call, once for each batch's latents and without a turn for the context.
-/

namespace Cert.RetFwdIdeal.Window

open Cert.RetFwdIdeal Cert.RetFwdIdeal.Gen Idealize.ShloMosaic Idealize.ShloMosaic.TcCoe Idealize.SL.Sem

variable (m : (ℓ : Loc nD τ sig) → Buf (Elt Ideal) ℓ) (c : Dev nD) (t : Fin cfg0.N)

/-- The arguments, as arrays of extended reals. -/
abbrev argP : Vec Ideal S16896x10368 .f32 := m ((c : Thread nD τ).loc main_arg0)
abbrev argCos : Vec Ideal S8192x64 .f32 := m ((c : Thread nD τ).loc main_arg1)
abbrev argSin : Vec Ideal S8192x64 .f32 := m ((c : Thread nD τ).loc main_arg2)
abbrev argLogit : Vec Ideal S2x4 .f32 := m ((c : Thread nD τ).loc main_arg3)

/-- The batch a point works on. -/
def batchOf : Fin 2 := ⟨t.val / 66, by have h := lt_of_lt_of_eq t.isLt (show cfg0.N = 132 from N_0); omega⟩

/-- The block of 128 rows a point works on. -/
def blockOf (n : ℕ) : ℕ := if n % 66 < 2 then 128 + n / 66 * 2 + n % 66 else n / 66 * 64 + (n % 66 - 2)

theorem row_of_block (r : Fin 128) : blockOf t.val * 128 + 1 * r.val = (Ret.row (batchOf t) (t.val % 66) r).val := by
  rw [Ret.row_val _ _ (Nat.mod_lt _ (by omega))]
  show _ = if t.val % 66 < 2 then 16384 + t.val / 66 * 256 + t.val % 66 * 128 + r.val else t.val / 66 * 8192 + (t.val % 66 - 2) * 128 + r.val
  unfold blockOf
  split_ifs <;> omega

theorem index1 : ∀ t : Fin cfg0.N, win0_1.index t 0 = blockOf t.val ∧ win0_1.index t 1 = 0 := by decide +kernel
theorem index2 : ∀ t : Fin cfg0.N, win0_2.index t 0 = blockOf t.val ∧ win0_2.index t 1 = 1 := by decide +kernel
theorem index3 : ∀ t : Fin cfg0.N, win0_3.index t 0 = blockOf t.val ∧ win0_3.index t 1 = 1 := by decide +kernel
theorem index4 : ∀ t : Fin cfg0.N, win0_4.index t 0 = blockOf t.val ∧ win0_4.index t 1 = 0 := by decide +kernel
theorem index5 : ∀ t : Fin cfg0.N, win0_5.index t 0 = blockOf t.val ∧ win0_5.index t 1 = 0 := by decide +kernel
theorem index6 : ∀ t : Fin cfg0.N, win0_6.index t 0 = blockOf t.val ∧ win0_6.index t 1 = 0 := by decide +kernel
theorem index0 : ∀ t : Fin cfg0.N, win0_0.index t 0 = 0 := by decide +kernel

/-- The tables the call reads. -/
def cosRows (x : Vec Ideal S8192x64 .f32) : Vec Ideal S16896x128 .f32 :=
  concatenate S16896x128 0 [⟨S8192x128, concatenate S8192x128 1 [⟨S8192x64, x⟩, ⟨S8192x64, x⟩] concatenates_S8192x64_S8192x64_S8192x128_d1⟩,
    ⟨S8192x128, concatenate S8192x128 1 [⟨S8192x64, x⟩, ⟨S8192x64, x⟩] concatenates_S8192x64_S8192x64_S8192x128_d1⟩,
    ⟨S512x128, broadcastInDim S512x128 ![] bcast_S_S512x128 (constant (F := Ideal) S_ .f32 0x3F800000#32)⟩] concatenates_S8192x128_S8192x128_S512x128_S16896x128_d0
def sinRows (x : Vec Ideal S8192x64 .f32) : Vec Ideal S16896x128 .f32 :=
  concatenate S16896x128 0 [⟨S8192x128, concatenate S8192x128 1 [⟨S8192x64, Host.negf (F := Ideal) (φ := .f32) x⟩, ⟨S8192x64, x⟩] concatenates_S8192x64_S8192x64_S8192x128_d1⟩,
    ⟨S8192x128, concatenate S8192x128 1 [⟨S8192x64, Host.negf (F := Ideal) (φ := .f32) x⟩, ⟨S8192x64, x⟩] concatenates_S8192x64_S8192x64_S8192x128_d1⟩,
    ⟨S512x128, broadcastInDim S512x128 ![] bcast_S_S512x128 (constant (F := Ideal) S_ .f32 0x00000000#32)⟩] concatenates_S8192x128_S8192x128_S512x128_S16896x128_d0
theorem V_cos : (V m c main_v4 : Vec Ideal S16896x128 .f32) = cosRows (argCos m c) := rfl
theorem V_sin : (V m c main_v6 : Vec Ideal S16896x128 .f32) = sinRows (argSin m c) := rfl
theorem V_logit : (V m c main_v8 : Vec Ideal S4 .f32)
    = shapeCast S4 (extractStridedSlice S1x4 ![0, 0] (argLogit m c) slices_S2x4_S1x4_0_0) shapeCasts_S1x4_S4 := rfl

theorem cosRows_row (x : Vec Ideal S8192x64 .f32) (b : Fin 2) (n : ℕ) (hn : n < 66) (r d : Fin 128) :
    cosRows x (ix2 (Ret.row b n r) d) = Ret.cosAt (fun i j => x (ix2 i j)) n r d := by
  pointwise [cosRows]
  have hr := Ret.row_val b n hn r
  have hp := Ret.pos_val n hn r
  have hb := b.isLt
  have hd := d.isLt
  have ht := r.isLt
  have hh : (Ret.half d).val = d.val % 64 := rfl
  unfold Ret.cosAt
  have key : ∀ (A : Fin 8192) (B : Fin 64), A.val = (Ret.pos n r).val → B.val = (Ret.half d).val →
      x (ix2 A B) = x (ix2 (Ret.pos n r) (Ret.half d)) := fun A B hA hB => by rw [Fin.ext hA, Fin.ext hB]
  by_cases h2 : n < 2
  · rw [if_pos h2] at hr ⊢
    rw [dif_neg (by omega), dif_neg (by omega)]
  · rw [if_neg h2] at hr ⊢
    split_ifs <;> first | (exfalso; omega) | exact key _ _ (by dsimp only; omega) (by dsimp only; omega)
theorem sinRows_row (x : Vec Ideal S8192x64 .f32) (b : Fin 2) (n : ℕ) (hn : n < 66) (r d : Fin 128) :
    sinRows x (ix2 (Ret.row b n r) d) = Ret.sinAt (fun i j => x (ix2 i j)) n r d := by
  pointwise [sinRows]
  have hr := Ret.row_val b n hn r
  have hp := Ret.pos_val n hn r
  have hb := b.isLt
  have hd := d.isLt
  have ht := r.isLt
  have hh : (Ret.half d).val = d.val % 64 := rfl
  unfold Ret.sinAt
  have key : ∀ (A : Fin 8192) (B : Fin 64), A.val = (Ret.pos n r).val → B.val = (Ret.half d).val →
      x (ix2 A B) = x (ix2 (Ret.pos n r) (Ret.half d)) := fun A B hA hB => by rw [Fin.ext hA, Fin.ext hB]
  by_cases h2 : n < 2
  · rw [if_pos h2] at hr ⊢
    rw [dif_neg (by omega), dif_neg (by omega)]
  · rw [if_neg h2] at hr ⊢
    split_ifs <;> first | (exfalso; omega) | exact key _ _ (by dsimp only; omega) (by dsimp only; omega) | exact congrArg (fun z => -z) (key _ _ (by dsimp only; omega) (by dsimp only; omega))

theorem blk_q (r : Fin 128) (k : Fin 512) : (X0_1 m c t : Vec Ideal S128x512 .f32) (ix2 r k) = argP m c (ix2 (Ret.row (batchOf t) (t.val % 66) r) ⟨0 + k.val, by omega⟩) := by
  unfold X0_1 Pipeline.Window.fill
  rw [dif_pos (moved0_1 t _)]
  unfold iblk
  rw [View.read_apply]
  show (V m c main_arg0 : Vec Ideal S16896x10368 .f32) _ = _
  rw [V_main_arg0]
  refine congrArg (argP m c) (funext fun a => Fin.ext ?_)
  match a with
  | ⟨0, _⟩ => show win0_1.index t 0 * 128 + 1 * r.val = _; rw [(index1 t).1]; exact row_of_block t r
  | ⟨1, _⟩ => show win0_1.index t 1 * 512 + 1 * k.val = 0 + k.val; rw [(index1 t).2]; omega

theorem blk_k (r : Fin 128) (k : Fin 512) : (X0_2 m c t : Vec Ideal S128x512 .f32) (ix2 r k) = argP m c (ix2 (Ret.row (batchOf t) (t.val % 66) r) ⟨512 + k.val, by omega⟩) := by
  unfold X0_2 Pipeline.Window.fill
  rw [dif_pos (moved0_2 t _)]
  unfold iblk
  rw [View.read_apply]
  show (V m c main_arg0 : Vec Ideal S16896x10368 .f32) _ = _
  rw [V_main_arg0]
  refine congrArg (argP m c) (funext fun a => Fin.ext ?_)
  match a with
  | ⟨0, _⟩ => show win0_2.index t 0 * 128 + 1 * r.val = _; rw [(index2 t).1]; exact row_of_block t r
  | ⟨1, _⟩ => show win0_2.index t 1 * 512 + 1 * k.val = 512 + k.val; rw [(index2 t).2]; omega

theorem blk_v (r : Fin 128) (k : Fin 1024) : (X0_3 m c t : Vec Ideal S128x1024 .f32) (ix2 r k) = argP m c (ix2 (Ret.row (batchOf t) (t.val % 66) r) ⟨1024 + k.val, by omega⟩) := by
  unfold X0_3 Pipeline.Window.fill
  rw [dif_pos (moved0_3 t _)]
  unfold iblk
  rw [View.read_apply]
  show (V m c main_arg0 : Vec Ideal S16896x10368 .f32) _ = _
  rw [V_main_arg0]
  refine congrArg (argP m c) (funext fun a => Fin.ext ?_)
  match a with
  | ⟨0, _⟩ => show win0_3.index t 0 * 128 + 1 * r.val = _; rw [(index3 t).1]; exact row_of_block t r
  | ⟨1, _⟩ => show win0_3.index t 1 * 1024 + 1 * k.val = 1024 + k.val; rw [(index3 t).2]; omega

theorem blk_cos (r d : Fin 128) : (iblk m c 4 t : Vec Ideal S128x128 .f32) (ix2 r d)
    = Ret.cosAt (fun i j => argCos m c (ix2 i j)) (t.val % 66) r d := by
  unfold iblk
  rw [View.read_apply]
  show (V m c main_v4 : Vec Ideal S16896x128 .f32) _ = _
  rw [V_cos]
  refine Eq.trans (congrArg (cosRows (argCos m c)) (funext fun a => Fin.ext ?_ : _ = ix2 (Ret.row (batchOf t) (t.val % 66) r) d)) (cosRows_row (argCos m c) _ _ (Nat.mod_lt _ (by omega)) r d)
  match a with
  | ⟨0, _⟩ => show win0_4.index t 0 * 128 + 1 * r.val = _; rw [(index4 t).1]; exact row_of_block t r
  | ⟨1, _⟩ => show win0_4.index t 1 * 128 + 1 * d.val = d.val; rw [(index4 t).2]; omega

theorem blk_sin (r d : Fin 128) : (iblk m c 5 t : Vec Ideal S128x128 .f32) (ix2 r d)
    = Ret.sinAt (fun i j => argSin m c (ix2 i j)) (t.val % 66) r d := by
  unfold iblk
  rw [View.read_apply]
  show (V m c main_v6 : Vec Ideal S16896x128 .f32) _ = _
  rw [V_sin]
  refine Eq.trans (congrArg (sinRows (argSin m c)) (funext fun a => Fin.ext ?_ : _ = ix2 (Ret.row (batchOf t) (t.val % 66) r) d)) (sinRows_row (argSin m c) _ _ (Nat.mod_lt _ (by omega)) r d)
  match a with
  | ⟨0, _⟩ => show win0_5.index t 0 * 128 + 1 * r.val = _; rw [(index5 t).1]; exact row_of_block t r
  | ⟨1, _⟩ => show win0_5.index t 1 * 128 + 1 * d.val = d.val; rw [(index5 t).2]; omega

theorem blk_logit (h : Fin 4) : (iblk m c 0 t : Vec Ideal S4 .f32) (ix1 h) = argLogit m c (ix2 0 h) := by
  unfold iblk
  rw [View.read_apply]
  show (V m c main_v8 : Vec Ideal S4 .f32) _ = _
  rw [V_logit]
  refine Eq.trans (congrArg _ (funext fun a => Fin.ext ?_ : _ = ix1 h)) (?_ : shapeCast S4 (extractStridedSlice S1x4 ![0, 0] (argLogit m c) slices_S2x4_S1x4_0_0) shapeCasts_S1x4_S4 (ix1 h) = _)
  · match a with
    | ⟨0, _⟩ => show win0_0.index t 0 * 4 + 1 * h.val = h.val; rw [index0 t]; omega
  · pointwise []

end Cert.RetFwdIdeal.Window

end
-- ==== Proof.RetFwdFold.lean ====
module

public import proofs.«01_k».proof.Proof.RetFwdStep
public import proofs.«01_k».proof.Proof.RetFwdWindow

@[expose] public section

set_option maxRecDepth 16384

noncomputable section

/-!
Forward retention after every grid point, by induction on the point: the scratch holds the four heads' states after the
point's chunk, and the block holds the chunk's results.  The array the call leaves is made up of these blocks.
-/

namespace Cert.RetFwdIdeal.Fold

open Cert.RetFwdIdeal Cert.RetFwdIdeal.Gen Cert.RetFwdIdeal.Window Idealize.ShloMosaic Idealize.ShloMosaic.TcCoe Idealize.SL.Sem

variable (m : (ℓ : Loc nD τ sig) → Buf (Elt Ideal) ℓ) (c : Dev nD)

/-- The projected rows, the rotary tables and a head's decay. -/
abbrev proj : Ret.Proj := fun i j => argP m c (ix2 i j)
abbrev cosT : Ret.Table := fun i j => argCos m c (ix2 i j)
abbrev sinT : Ret.Table := fun i j => argSin m c (ix2 i j)
abbrev decay (h : Fin 4) : EReal := Ret.logDecay (argLogit m c (ix2 0 h))

abbrev stateAt (b : Fin 2) (h : Fin 4) (n : ℕ) : Ret.Vals := Ret.fwdState (proj m c) (cosT m c) (sinT m c) (decay m c h) b h n
abbrev outAt (b : Fin 2) (h : Fin 4) (n : ℕ) : Ret.Vals := Ret.fwd (proj m c) (cosT m c) (sinT m c) (decay m c h) b h n

section
variable (t : Fin cfg0.N)

theorem queries (h : Fin 4) : Step.headK (X0_1 m c t) h = Ret.rawQ (proj m c) (batchOf t) h (t.val % 66) :=
  funext fun r => funext fun d => (blk_q m c t r (Ret.keyCol h d)).trans
    (congrArg (fun k => argP m c (ix2 _ k)) (Fin.ext (show 0 + (h.val * 128 + d.val) = h.val * 128 + d.val by omega)))
theorem keys (h : Fin 4) : Step.headK (X0_2 m c t) h = Ret.rawK (proj m c) (batchOf t) h (t.val % 66) :=
  funext fun r => funext fun d => blk_k m c t r (Ret.keyCol h d)
theorem values (h : Fin 4) : Step.headV (X0_3 m c t) h = Ret.chunkV (proj m c) (batchOf t) h (t.val % 66) :=
  funext fun r => funext fun w => blk_v m c t r (Ret.valCol h w)
theorem cosines : Step.table (iblk m c 4 t) = Ret.cosAt (cosT m c) (t.val % 66) := funext fun r => funext fun d => blk_cos m c t r d
theorem sines : Step.table (iblk m c 5 t) = Ret.sinAt (sinT m c) (t.val % 66) := funext fun r => funext fun d => blk_sin m c t r d

variable (S : Vec Ideal S4x128x256 .f32) (hS : ∀ h, Step.headS S h = stateAt m c (batchOf t) h (t.val % 66))

include hS in
theorem out_eq (h : Fin 4) (r : Fin 128) (w : Fin 256) :
    Step.outAll (iblk m c 0 t) (X0_1 m c t) (X0_2 m c t) (X0_3 m c t) (iblk m c 4 t) (iblk m c 5 t) S (ix2 r (Ret.valCol h w))
      = outAt m c (batchOf t) h (t.val % 66) r w := by
  rw [Step.outAll_at _ _ _ _ _ _ _ h r w _ rfl rfl, queries, keys, values, cosines, sines, hS, blk_logit]
  rfl

include hS in
theorem next_eq (h : Fin 4) : Step.headS (Step.nextAll (iblk m c 0 t) (X0_2 m c t) (X0_3 m c t) (iblk m c 4 t) (iblk m c 5 t) S) h
      = stateAt m c (batchOf t) h (t.val % 66 + 1) := by
  funext d w
  show Step.nextAll _ _ _ _ _ _ (ix3 h d w) = _
  rw [Step.nextAll_at _ _ _ _ _ _ h d w _ rfl rfl rfl, keys, values, cosines, sines, hS, blk_logit]
  rfl
end

/-- What the block and the scratch hold after a point. -/
def Holds (t : Fin cfg0.N) (st : Vec Ideal S128x1024 .f32 × Vec Ideal S4x128x256 .f32) : Prop :=
  (∀ h, Step.headS st.2 h = stateAt m c (batchOf t) h (t.val % 66 + 1))
    ∧ ∀ h r w, st.1 (ix2 r (Ret.valCol h w)) = outAt m c (batchOf t) h (t.val % 66) r w

theorem first (t : Fin cfg0.N) (h0 : t.val % 66 = 0) : Holds m c t (outsAt0 m c t.val t.isLt) := by
  have hS : ∀ h, Step.headS Step.zeros h = stateAt m c (batchOf t) h (t.val % 66) := fun h => by rw [h0]; rfl
  rw [outsAt0_A m c t h0]
  refine ⟨fun h => ?_, fun h r w => ?_⟩
  · dsimp only
    rw [Step.next_first]
    exact next_eq m c t _ hS h
  · dsimp only
    rw [Step.out_first]
    exact out_eq m c t _ hS h r w

theorem holds : ∀ (n : ℕ) (hn : n < cfg0.N), Holds m c ⟨n, hn⟩ (outsAt0 m c n hn)
  | 0, hn => first m c ⟨0, hn⟩ rfl
  | n + 1, hn => by
    by_cases h0 : (n + 1) % 66 = 0
    · exact first m c ⟨n + 1, hn⟩ h0
    obtain ⟨hx, -⟩ := holds n (Nat.lt_of_succ_lt hn)
    have hb : batchOf ⟨n, Nat.lt_of_succ_lt hn⟩ = batchOf ⟨n + 1, hn⟩ := Fin.ext (show n / 66 = (n + 1) / 66 by omega)
    have hS : ∀ h, Step.headS (outsAt0 m c n (Nat.lt_of_succ_lt hn)).2 h = stateAt m c (batchOf ⟨n + 1, hn⟩) h ((n + 1) % 66) :=
      fun h => by rw [hx, hb, show n % 66 + 1 = (n + 1) % 66 by omega]
    rw [outsAt0_B m c ⟨n + 1, hn⟩ h0]
    refine ⟨fun h => ?_, fun h r w => ?_⟩
    · dsimp only
      rw [Step.next_rest]
      exact next_eq m c ⟨n + 1, hn⟩ _ hS h
    · dsimp only
      rw [Step.out_rest]
      exact out_eq m c ⟨n + 1, hn⟩ _ hS h r w

/-- Every point writes its block back. -/
theorem writes : ∀ t : Fin cfg0.N, (cfg0.win 6).flush t = true := by decide +kernel

/-- The array the call leaves, at position `r` of chunk `n` of batch `b` and column `w` of head `h`. -/
theorem result (b : Fin 2) (n : ℕ) (hn : n < 66) (r : Fin 128) (h : Fin 4) (w : Fin 256) :
    ((dats m 0 c).arrAt 6 cfg0.N : Vec Ideal S16896x1024 .f32) (ix2 (Ret.row b n r) (Ret.valCol h w)) = outAt m c b h n r w := by
  have hb := b.isLt
  let t : Fin cfg0.N := ⟨b.val * 66 + n, lt_of_lt_of_eq (by omega) (show cfg0.N = 132 from N_0).symm⟩
  have hm : t.val % 66 = n := by show (b.val * 66 + n) % 66 = n; omega
  have ht : batchOf t = b := Fin.ext (show (b.val * 66 + n) / 66 = b.val by omega)
  have hv := congrFun ((Value.blocks6 m c t (writes t)).trans (Value.flushed6 m c t)) (ix2 r (Ret.valCol h w))
  rw [View.read_apply] at hv
  have hi : (((cfg0.win 6).blk t).view.emb (ix2 r (Ret.valCol h w)) : S16896x1024.Idx) = ix2 (Ret.row b n r) (Ret.valCol h w) := by
    refine funext fun a => Fin.ext ?_
    match a with
    | ⟨0, _⟩ =>
      show win0_6.index t 0 * 128 + 1 * r.val = (Ret.row b n r).val
      rw [(index6 t).1, row_of_block t r, hm, ht]
    | ⟨1, _⟩ =>
      show win0_6.index t 1 * 1024 + 1 * (Ret.valCol h w).val = (Ret.valCol h w).val
      rw [(index6 t).2]
      omega
  refine Eq.trans ?_ (hv.trans ?_)
  · exact congrArg ((dats m 0 c).arrAt 6 cfg0.N : Vec Ideal S16896x1024 .f32) hi.symm
  · have := (holds m c t.val t.isLt).2 h r w
    rw [hm, ht] at this
    exact this

end Cert.RetFwdIdeal.Fold

end
-- ==== Proof.RetShared.lean ====
module

public import proofs.«01_k».proof.Proof.RetMath
public import Idealize.ShloMosaic.Lib.Pointwise

@[expose] public section

set_option maxRecDepth 16384

noncomputable section

/-!
What the references of both directions share: the logarithm of a head's decay as they write it, the rotary embedding of
one row, and the array's rows that a position of the joined sequence stands for.
-/

namespace Cert.Ret

open Idealize.ShloMosaic

theorem abs_neg (x : EReal) : FloatOps.absf (F := Ideal) (φ := FTy.f32) (-x) = FloatOps.absf (F := Ideal) (φ := FTy.f32) x := by
  show max (-x) (-(-x)) = max x (-x)
  rw [neg_neg, max_comm]

theorem log_finite (x : EReal) : Ideal.log1p (Ideal.exp (-FloatOps.absf (F := Ideal) (φ := FTy.f32) x)) ≠ ⊥ := by
  have h : ∃ r : ℝ, 0 ≤ r ∧ Ideal.exp (-FloatOps.absf (F := Ideal) (φ := FTy.f32) x) = (r : EReal) := by
    have hx : (0 : EReal) ≤ FloatOps.absf (F := Ideal) (φ := FTy.f32) x := by
      show (0 : EReal) ≤ max x (-x)
      rcases le_total 0 x with h | h
      · exact le_max_of_le_left h
      · exact le_max_of_le_right (EReal.neg_le_neg_iff.mp (by simpa using h))
    generalize FloatOps.absf (F := Ideal) (φ := FTy.f32) x = a at hx
    induction a using EReal.rec with
    | bot => exact absurd hx (by simp)
    | top => exact ⟨0, le_refl _, by rw [EReal.neg_top]; rfl⟩
    | coe a => exact ⟨Real.exp (-a), (Real.exp_pos _).le, rfl⟩
  obtain ⟨r, hr, e⟩ := h
  rw [e]
  have : Ideal.log1p (r : EReal) = ((Real.log (1 + r) : ℝ) : EReal) := by
    show Ideal.log (1 + (r : EReal)) = _
    rw [show (1 : EReal) + (r : EReal) = ((1 + r : ℝ) : EReal) by push_cast; rfl]
    show (if 1 + r ≤ 0 then (⊥ : EReal) else ((Real.log (1 + r) : ℝ) : EReal)) = _
    rw [if_neg (by linarith)]
  rw [this]
  exact EReal.coe_ne_bot _

/-- The logarithm of the decay as the reference writes it: minus the logarithm of `exp (-x) + exp 0`. -/
theorem logAddExp_eq (x : EReal) : -(max (-x) 0 + Ideal.log1p (Ideal.exp (-FloatOps.absf (F := Ideal) (φ := FTy.f32) (-x)))) = logDecay x := by
  unfold logDecay
  have h1 : max (-x) 0 ≠ ⊥ := ne_of_gt (lt_of_lt_of_le EReal.bot_lt_zero (le_max_right _ _))
  have h2 := log_finite (-x)
  rw [EReal.neg_add (Or.inl h1) (Or.inr h2), abs_neg, zero_sub, sub_eq_add_neg, sub_eq_add_neg]
  congr 1
  rcases le_total 0 x with h | h
  · rw [min_eq_right h, max_eq_right (EReal.neg_le_neg_iff.mp (by simpa using h)), neg_zero]
  · rw [min_eq_left h, max_eq_left (EReal.neg_le_neg_iff.mp (by simpa using h)), neg_neg]

/-- The rotary embedding of one head's row. -/
def ropeRow (x : Fin 128 → EReal) (c s : Fin 64 → EReal) (d : Fin 128) : EReal :=
  if hd : d.val < 64 then x ⟨d.val, by omega⟩ * c ⟨d.val, hd⟩ - x ⟨64 + d.val, by omega⟩ * s ⟨d.val, hd⟩
  else x ⟨d.val - 64, by omega⟩ * s ⟨d.val - 64, by omega⟩ + x ⟨64 + (d.val - 64), by omega⟩ * c ⟨d.val - 64, by omega⟩

theorem ropeRow_eq (x : Keys) (cos sin : Table) (n : ℕ) (t d : Fin 128) :
    ropeRow (x t) (cos (pos n t)) (sin (pos n t)) d = rope x cos sin n t d := by
  have hdl := d.isLt
  unfold ropeRow rope
  by_cases hd : d.val < 64
  · have e : (⟨d.val, hd⟩ : Fin 64) = half d := Fin.ext (show d.val = d.val % 64 by omega)
    have e2 : (⟨64 + d.val, by omega⟩ : Fin 128) = ⟨d.val + 64, by omega⟩ := Fin.ext (show 64 + d.val = d.val + 64 by omega)
    rw [dif_pos hd, dif_pos hd, e, e2]
  · have e : (⟨d.val - 64, by omega⟩ : Fin 64) = half d := Fin.ext (show d.val - 64 = d.val % 64 by omega)
    have e2 : (⟨64 + (d.val - 64), by omega⟩ : Fin 128) = d := Fin.ext (show 64 + (d.val - 64) = d.val by omega)
    rw [dif_neg hd, dif_neg hd, e, e2]

/-- Position `t` of chunk `n` in the joined sequence. -/
def place (n : Fin 66) (t : Fin 128) : Fin 8448 := ⟨n.val * 128 + t.val, by omega⟩

theorem place_val (n : Fin 66) (t : Fin 128) : (place n t).val = n.val * 128 + t.val := rfl

theorem place_ctx (n : Fin 66) (t : Fin 128) : (place n t).val < 256 ↔ n.val < 2 := by
  rw [place_val]
  omega

/-- The array's row of a context position, of a latent position, and a latent position's number. -/
theorem ctx_row (n : Fin 66) (b : Fin 2) (t : Fin 128) (hn : n.val < 2) (hb : 16384 + (b.val * 256 + (place n t).val) < 16896) :
    (⟨16384 + (b.val * 256 + (place n t).val), hb⟩ : Fin 16896) = row b n.val t := by
  refine Fin.ext ?_
  rw [row_val _ _ n.isLt, if_pos hn]
  show 16384 + (b.val * 256 + (place n t).val) = _
  rw [place_val]
  omega
theorem lat_pos (n : Fin 66) (t : Fin 128) (hn : ¬n.val < 2) (hb : (place n t).val - 256 < 8192) :
    (⟨(place n t).val - 256, hb⟩ : Fin 8192) = pos n.val t := by
  refine Fin.ext ?_
  rw [pos_val _ n.isLt]
  show (place n t).val - 256 = _
  rw [place_val]
  omega
theorem lat_row (n : Fin 66) (b : Fin 2) (t : Fin 128) (hn : ¬n.val < 2) (hb : b.val * 8192 + (pos n.val t).val < 16896) :
    (⟨b.val * 8192 + (pos n.val t).val, hb⟩ : Fin 16896) = row b n.val t := by
  refine Fin.ext ?_
  rw [row_val _ _ n.isLt, if_neg hn]
  show b.val * 8192 + (pos n.val t).val = _
  rw [pos_val _ n.isLt]
  omega

/-- Every row of the array is some position's. -/
theorem row_surj (R : Fin 16896) : ∃ (n : Fin 66) (b : Fin 2) (t : Fin 128), R = row b n.val t := by
  have hR := R.isLt
  by_cases h : R.val < 16384
  · refine ⟨⟨R.val % 8192 / 128 + 2, by omega⟩, ⟨R.val / 8192, by omega⟩, ⟨R.val % 128, by omega⟩, Fin.ext ?_⟩
    rw [row_val _ _ (by show R.val % 8192 / 128 + 2 < 66; omega), if_neg (by show ¬R.val % 8192 / 128 + 2 < 2; omega)]
    show R.val = R.val / 8192 * 8192 + (R.val % 8192 / 128 + 2 - 2) * 128 + R.val % 128
    omega
  · refine ⟨⟨(R.val - 16384) % 256 / 128, by omega⟩, ⟨(R.val - 16384) / 256, by omega⟩, ⟨R.val % 128, by omega⟩, Fin.ext ?_⟩
    rw [row_val _ _ (by show (R.val - 16384) % 256 / 128 < 66; omega), if_pos (by show (R.val - 16384) % 256 / 128 < 2; omega)]
    show R.val = 16384 + (R.val - 16384) / 256 * 256 + (R.val - 16384) % 256 / 128 * 128 + R.val % 128
    omega

end Cert.Ret
end
-- ==== Proof.RetFwdSetup.lean ====
module

public import proofs.«01_k».proof.Proof.RetShared
public import proofs.«01_k».proof.Proof.Gen.RetFwdRefIdeal.Step
public import Idealize.ShloMosaic.Lib.Pointwise

@[expose] public section

set_option maxRecDepth 16384

noncomputable section

/-!
What the reference of forward retention computes before its loop over the chunks: the decays, and the chunks of the
queries, keys and values of the joined sequence.
-/

namespace Cert.RetFwdRefIdeal.Reference

open Cert.RetFwdRefIdeal Cert.RetFwdRefIdeal.Gen Cert.RetFwdRefIdeal.Step Idealize.ShloMosaic Idealize.ShloMosaic.TcCoe Idealize.SL.Sem

variable (p : (⟨S16896x10368, .f32⟩ : BufTy).Contents (Elt Ideal)) (cs sn : (⟨S8192x64, .f32⟩ : BufTy).Contents (Elt Ideal))
  (dl : (⟨S2x4, .f32⟩ : BufTy).Contents (Elt Ideal))

/-- The projected rows, the rotary tables and a head's decay. -/
abbrev proj : Ret.Proj := fun i j => p (ix2 i j)
abbrev table (x : (⟨S8192x64, .f32⟩ : BufTy).Contents (Elt Ideal)) : Ret.Table := fun i j => x (ix2 i j)
abbrev decay (h : Fin 4) : EReal := Ret.logDecay (dl (ix2 0 h))

theorem decay_at (h : Fin 4) : (A_main_v75 p cs sn dl : Vec Ideal S4 .f32) (ix1 h) = decay dl h := by
  pointwise [A_main_v75, A_main_v74, A_main_v69, A_main_v68, A_main_v60, A_main_v62, A_main_v67, A_main_v66, A_main_v65, A_main_v64, A_main_v63, A_main_v59, A_main_v57, A_main_v55, K_main_v56, K_main_v58, K_main_v61, K_main_cst_1]
  rw [if_neg (by simp)]
  exact Ret.logAddExp_eq _
theorem intra_at (h : Fin 4) (t s : Fin 128) : (A_main_v93 p cs sn dl : Vec Ideal S4x128x128 .f32) (ix3 h t s) = Ret.fwdD (decay dl h) t s := by
  pointwise [A_main_v93, A_main_v92, A_main_v91, A_main_v89, A_main_v85, K_main_call0_v1, K_main_call0_v2, K_main_call0_v0, K_main_cst_5, K_main_v90, K_main_v88, K_main_v87, K_main_v86, K_main_cst_4, K_main_v84, K_main_v83, K_main_cst_3, K_main_v82, K_main_v81, K_main_v80, K_main_v79, K_main_v78, K_main_v77, K_main_v76]
  rw [decay_at, show (id (constant (F := Ideal) S_ .f32 0#32) ix0 : EReal) = 0 by rw [id]; pointwise]
  rfl
theorem query_at (h : Fin 4) (t : Fin 128) : (A_main_v101 p cs sn dl : Vec Ideal S128x4 .f32) (ix2 t h) = Ret.fwdQ (decay dl h) t := by
  pointwise [A_main_v101, A_main_v100, A_main_v99, A_main_v97, K_main_v98, K_main_v96, K_main_v95, K_main_v94, K_main_cst_6, K_main_v77, K_main_v76]
  rw [decay_at]
  rfl
theorem whole_at (h : Fin 4) : (A_main_v112 p cs sn dl : Vec Ideal S4 .f32) (ix1 h) = Ret.decayChunk (decay dl h) := by
  pointwise [A_main_v112, A_main_v111, K_main_v110, K_main_cst_8]
  rw [decay_at]
  rfl
theorem key_at (h : Fin 4) (t : Fin 128) : (A_main_v109 p cs sn dl : Vec Ideal S128x4 .f32) (ix2 t h) = Ret.fwdK (decay dl h) t := by
  pointwise [A_main_v109, A_main_v108, A_main_v107, A_main_v105, K_main_v106, K_main_v104, K_main_v103, K_main_v102, K_main_cst_7, K_main_v77, K_main_v76]
  rw [decay_at]
  rfl

/-! The joined sequence, cut into chunks. -/

theorem swapV (x : Vec Ideal S2x66x128x4x256 .f32) (n : Fin 66) (b : Fin 2) (t : Fin 128) (h : Fin 4) (w : Fin 256) :
    transpose S66x2x128x4x256 [1, 0, 2, 3, 4] x transposes_S2x66x128x4x256_S66x2x128x4x256_1_0_2_3_4 (ix5 n b t h w) = x (ix5 b n t h w) := by
  pointwise
theorem swapK (x : Vec Ideal S2x66x128x4x128 .f32) (n : Fin 66) (b : Fin 2) (t : Fin 128) (h : Fin 4) (w : Fin 128) :
    transpose S66x2x128x4x128 [1, 0, 2, 3, 4] x transposes_S2x66x128x4x128_S66x2x128x4x128_1_0_2_3_4 (ix5 n b t h w) = x (ix5 b n t h w) := by
  pointwise
theorem cutV (x : Vec Ideal S2x8448x4x256 .f32) (n : Fin 66) (b : Fin 2) (t : Fin 128) (h : Fin 4) (w : Fin 256) :
    shapeCast S2x66x128x4x256 x shapeCasts_S2x8448x4x256_S2x66x128x4x256 (ix5 b n t h w) = x (ix4 b (Ret.place n t) h w) := by
  refine shapeCast_apply _ _ _ _ ?_
  rw [Shape.rowMajor_val_five, Shape.rowMajor_val_four]
  show ((b.val * 8448 + (n.val * 128 + t.val)) * 4 + h.val) * 256 + w.val = (((b.val * 66 + n.val) * 128 + t.val) * 4 + h.val) * 256 + w.val
  omega
theorem cutK (x : Vec Ideal S2x8448x4x128 .f32) (n : Fin 66) (b : Fin 2) (t : Fin 128) (h : Fin 4) (w : Fin 128) :
    shapeCast S2x66x128x4x128 x shapeCasts_S2x8448x4x128_S2x66x128x4x128 (ix5 b n t h w) = x (ix4 b (Ret.place n t) h w) := by
  refine shapeCast_apply _ _ _ _ ?_
  rw [Shape.rowMajor_val_five, Shape.rowMajor_val_four]
  show ((b.val * 8448 + (n.val * 128 + t.val)) * 4 + h.val) * 128 + w.val = (((b.val * 66 + n.val) * 128 + t.val) * 4 + h.val) * 128 + w.val
  omega

theorem joinV (l : Fin 8448) (b : Fin 2) (h : Fin 4) (w : Fin 256) : (A_main_v72 p cs sn dl : Vec Ideal S2x8448x4x256 .f32) (ix4 b l h w)
    = if hl : l.val < 256 then (A_main_v13 p cs sn dl : Vec Ideal S2x256x4x256 .f32) (ix4 b ⟨l.val, hl⟩ h w)
      else (A_main_v54 p cs sn dl : Vec Ideal S2x8192x4x256 .f32) (ix4 b ⟨l.val - 256, by omega⟩ h w) := by
  pointwise [A_main_v72]
theorem ctxV (l : Fin 256) (b : Fin 2) (h : Fin 4) (w : Fin 256) : (A_main_v13 p cs sn dl : Vec Ideal S2x256x4x256 .f32) (ix4 b l h w)
    = p (ix2 ⟨16384 + (b.val * 256 + l.val), by omega⟩ ⟨1024 + (h.val * 256 + w.val), by omega⟩) := by
  pointwise [A_main_v13, A_main_v12, A_main_v11, A_main_v2]
theorem latV (l : Fin 8192) (b : Fin 2) (h : Fin 4) (w : Fin 256) : (A_main_v54 p cs sn dl : Vec Ideal S2x8192x4x256 .f32) (ix4 b l h w)
    = p (ix2 ⟨b.val * 8192 + l.val, by omega⟩ ⟨1024 + (h.val * 256 + w.val), by omega⟩) := by
  pointwise [A_main_v54, A_main_v53, A_main_v52, A_main_v2]

/-- The values of chunk `n`. -/
theorem values_at (n : Fin 66) (b : Fin 2) (t : Fin 128) (h : Fin 4) (w : Fin 256) :
    (A_main_v118 p cs sn dl : Vec Ideal S66x2x128x4x256 .f32) (ix5 n b t h w) = Ret.chunkV (proj p) b h n.val t w := by
  unfold A_main_v118
  rw [swapV]
  unfold A_main_v117
  rw [cutV, joinV]
  by_cases hn : n.val < 2
  · rw [dif_pos ((Ret.place_ctx n t).mpr hn), ctxV]
    exact congrArg (fun r => p (ix2 r _)) (Ret.ctx_row n b t hn _)
  · rw [dif_neg (mt (Ret.place_ctx n t).mp hn), Ret.lat_pos n t hn, latV]
    exact congrArg (fun r => p (ix2 r _)) (Ret.lat_row n b t hn _)

theorem joinQ (l : Fin 8448) (b : Fin 2) (h : Fin 4) (d : Fin 128) : (A_main_v70 p cs sn dl : Vec Ideal S2x8448x4x128 .f32) (ix4 b l h d)
    = if hl : l.val < 256 then (A_main_v5 p cs sn dl : Vec Ideal S2x256x4x128 .f32) (ix4 b ⟨l.val, hl⟩ h d)
      else (A_main_v31 p cs sn dl : Vec Ideal S2x8192x4x128 .f32) (ix4 b ⟨l.val - 256, by omega⟩ h d) := by
  pointwise [A_main_v70]
theorem ctxQ (l : Fin 256) (b : Fin 2) (h : Fin 4) (d : Fin 128) : (A_main_v5 p cs sn dl : Vec Ideal S2x256x4x128 .f32) (ix4 b l h d)
    = p (ix2 ⟨16384 + (b.val * 256 + l.val), by omega⟩ ⟨h.val * 128 + d.val, by omega⟩) := by
  pointwise [A_main_v5, A_main_v4, A_main_v3, A_main_v0]
theorem latQ (l : Fin 8192) (b : Fin 2) (h : Fin 4) (d : Fin 128) : (A_main_v31 p cs sn dl : Vec Ideal S2x8192x4x128 .f32) (ix4 b l h d)
    = Ret.ropeRow (fun d => p (ix2 ⟨b.val * 8192 + l.val, by omega⟩ ⟨h.val * 128 + d.val, by omega⟩)) (fun e => cs (ix2 l e)) (fun e => sn (ix2 l e)) d := by
  pointwise [A_main_v31, A_main_v25, A_main_v22, A_main_v17, A_main_v16, A_main_v15, A_main_v14, A_main_v0, A_main_v21, A_main_v19, A_main_v24, A_main_v18, A_main_v23, A_main_v20, A_main_v30, A_main_v27, A_main_v26, A_main_v29, A_main_v28]
  rfl
theorem joinK (l : Fin 8448) (b : Fin 2) (h : Fin 4) (d : Fin 128) : (A_main_v71 p cs sn dl : Vec Ideal S2x8448x4x128 .f32) (ix4 b l h d)
    = if hl : l.val < 256 then (A_main_v10 p cs sn dl : Vec Ideal S2x256x4x128 .f32) (ix4 b ⟨l.val, hl⟩ h d)
      else (A_main_v51 p cs sn dl : Vec Ideal S2x8192x4x128 .f32) (ix4 b ⟨l.val - 256, by omega⟩ h d) := by
  pointwise [A_main_v71]
theorem ctxK (l : Fin 256) (b : Fin 2) (h : Fin 4) (d : Fin 128) : (A_main_v10 p cs sn dl : Vec Ideal S2x256x4x128 .f32) (ix4 b l h d)
    = p (ix2 ⟨16384 + (b.val * 256 + l.val), by omega⟩ ⟨512 + (h.val * 128 + d.val), by omega⟩) * Ret.keyScale := by
  pointwise [A_main_v10, A_main_v8, A_main_v7, A_main_v6, A_main_v1, K_main_v9, K_main_cst]
  rfl
theorem latK (l : Fin 8192) (b : Fin 2) (h : Fin 4) (d : Fin 128) : (A_main_v51 p cs sn dl : Vec Ideal S2x8192x4x128 .f32) (ix4 b l h d)
    = Ret.ropeRow (fun d => p (ix2 ⟨b.val * 8192 + l.val, by omega⟩ ⟨512 + (h.val * 128 + d.val), by omega⟩)) (fun e => cs (ix2 l e)) (fun e => sn (ix2 l e)) d * Ret.keyScale := by
  pointwise [A_main_v51, K_main_v50, K_main_cst_0, A_main_v49, A_main_v43, A_main_v40, A_main_v35, A_main_v34, A_main_v33, A_main_v32, A_main_v1, A_main_v39, A_main_v37, A_main_v42, A_main_v36, A_main_v41, A_main_v38, A_main_v48, A_main_v45, A_main_v44, A_main_v47, A_main_v46]
  rfl

/-- The queries and the keys of chunk `n`. -/
theorem queries_at (n : Fin 66) (b : Fin 2) (t : Fin 128) (h : Fin 4) (d : Fin 128) :
    (A_main_v114 p cs sn dl : Vec Ideal S66x2x128x4x128 .f32) (ix5 n b t h d) = Ret.chunkQ (proj p) (table cs) (table sn) b h n.val t d := by
  unfold A_main_v114
  rw [swapK]
  unfold A_main_v113 Ret.chunkQ
  rw [cutK, joinQ, Ret.turn_eq]
  by_cases hn : n.val < 2
  · rw [dif_pos ((Ret.place_ctx n t).mpr hn), ctxQ, if_pos hn]
    exact congrArg (fun r => p (ix2 r _)) (Ret.ctx_row n b t hn _)
  · rw [dif_neg (mt (Ret.place_ctx n t).mp hn), Ret.lat_pos n t hn, latQ, if_neg hn, Ret.lat_row n b t hn, ← Ret.ropeRow_eq]
    rfl
theorem keys_at (n : Fin 66) (b : Fin 2) (t : Fin 128) (h : Fin 4) (d : Fin 128) :
    (A_main_v116 p cs sn dl : Vec Ideal S66x2x128x4x128 .f32) (ix5 n b t h d) = Ret.chunkK (proj p) (table cs) (table sn) b h n.val t d := by
  unfold A_main_v116
  rw [swapK]
  unfold A_main_v115 Ret.chunkK
  rw [cutK, joinK, Ret.turn_eq]
  by_cases hn : n.val < 2
  · rw [dif_pos ((Ret.place_ctx n t).mpr hn), ctxK, if_pos hn]
    exact congrArg (fun r => p (ix2 r _) * Ret.keyScale) (Ret.ctx_row n b t hn _)
  · rw [dif_neg (mt (Ret.place_ctx n t).mp hn), Ret.lat_pos n t hn, latK, if_neg hn, Ret.lat_row n b t hn, ← Ret.ropeRow_eq]
    rfl

end Cert.RetFwdRefIdeal.Reference

end
-- ==== Proof.RetFwdReference.lean ====
module

public import proofs.«01_k».proof.Proof.RetFwdSetup
public import Idealize.ShloMosaic.Lib.DynamicIndex

@[expose] public section

set_option maxRecDepth 16384

noncomputable section

/-!
The reference's loop over the chunks: the state it carries is the retention state, and chunk `n`'s results land at place
`n` of the array it collects them in.
-/

namespace Cert.RetFwdRefIdeal.Reference

open Cert.RetFwdRefIdeal Cert.RetFwdRefIdeal.Gen Cert.RetFwdRefIdeal.Step Idealize.ShloMosaic Idealize.ShloMosaic.TcCoe Idealize.SL.Sem

section trip
variable (j : ℕ) (hj : j < 66) (s : State Ideal)

theorem start_eq : ∀ j : Fin 66, (BitVec.ofNat 32 j.val).toInt = (j.val : ℤ) := by decide

/-- What one trip reads of the three arrays of chunks. -/
abbrev sq (b : Fin 2) (h : Fin 4) : Ret.Keys := fun t d => (s.main_v120_0 : Vec Ideal S66x2x128x4x128 .f32) (ix5 ⟨j, hj⟩ b t h d)
abbrev sk (b : Fin 2) (h : Fin 4) : Ret.Keys := fun t d => (s.main_v120_1 : Vec Ideal S66x2x128x4x128 .f32) (ix5 ⟨j, hj⟩ b t h d)
abbrev sv (b : Fin 2) (h : Fin 4) : Ret.Vals := fun t w => (s.main_v120_2 : Vec Ideal S66x2x128x4x256 .f32) (ix5 ⟨j, hj⟩ b t h w)
abbrev sS (b : Fin 2) (h : Fin 4) : Ret.Vals := fun d w => (s.main_v120_8 : Vec Ideal S2x4x128x256 .f32) (ix4 b h d w)

include hj in
theorem fits : S66x2x128x4x128.Slices ![j, 0, 0, 0, 0] S1x2x128x4x128 := ⟨rfl, fun a => by
  match a with
  | ⟨0, _⟩ => show j + 1 ≤ 66; omega
  | ⟨1, _⟩ => show 0 + 2 ≤ 2; omega
  | ⟨2, _⟩ => show 0 + 128 ≤ 128; omega
  | ⟨3, _⟩ => show 0 + 4 ≤ 4; omega
  | ⟨4, _⟩ => show 0 + 128 ≤ 128; omega⟩
include hj in
theorem fitsV : S66x2x128x4x256.Slices ![j, 0, 0, 0, 0] S1x2x128x4x256 := ⟨rfl, fun a => by
  match a with
  | ⟨0, _⟩ => show j + 1 ≤ 66; omega
  | ⟨1, _⟩ => show 0 + 2 ≤ 2; omega
  | ⟨2, _⟩ => show 0 + 128 ≤ 128; omega
  | ⟨3, _⟩ => show 0 + 4 ≤ 4; omega
  | ⟨4, _⟩ => show 0 + 256 ≤ 256; omega⟩

theorem slice_q : b4 j s = extractStridedSlice S1x2x128x4x128 ![j, 0, 0, 0, 0] (s.main_v120_0 : Vec Ideal S66x2x128x4x128 .f32) (fits j hj) := by
  unfold b4
  refine Host.dynamicSlice_eq_extractStridedSlice _ _ _ _ _ (fits j hj) (fun a => ?_)
  match a with
  | ⟨0, _⟩ => exact start_eq ⟨j, hj⟩
  | ⟨1, _⟩ => rfl
  | ⟨2, _⟩ => rfl
  | ⟨3, _⟩ => rfl
  | ⟨4, _⟩ => rfl
theorem slice_k : b10 j s = extractStridedSlice S1x2x128x4x128 ![j, 0, 0, 0, 0] (s.main_v120_1 : Vec Ideal S66x2x128x4x128 .f32) (fits j hj) := by
  unfold b10
  refine Host.dynamicSlice_eq_extractStridedSlice _ _ _ _ _ (fits j hj) (fun a => ?_)
  match a with
  | ⟨0, _⟩ => exact start_eq ⟨j, hj⟩
  | ⟨1, _⟩ => rfl
  | ⟨2, _⟩ => rfl
  | ⟨3, _⟩ => rfl
  | ⟨4, _⟩ => rfl
theorem slice_v : b16 j s = extractStridedSlice S1x2x128x4x256 ![j, 0, 0, 0, 0] (s.main_v120_2 : Vec Ideal S66x2x128x4x256 .f32) (fitsV j hj) := by
  unfold b16
  refine Host.dynamicSlice_eq_extractStridedSlice _ _ _ _ _ (fitsV j hj) (fun a => ?_)
  match a with
  | ⟨0, _⟩ => exact start_eq ⟨j, hj⟩
  | ⟨1, _⟩ => rfl
  | ⟨2, _⟩ => rfl
  | ⟨3, _⟩ => rfl
  | ⟨4, _⟩ => rfl

theorem read_q (b : Fin 2) (t : Fin 128) (h : Fin 4) (d : Fin 128) : (b5 j s : Vec Ideal S2x128x4x128 .f32) (ix4 b t h d) = sq j hj s b h t d := by
  unfold b5
  rw [slice_q j hj]
  refine (shapeCast_apply _ _ _ (ix5 (0 : Fin 1) b t h d) ?_).trans (congrArg (s.main_v120_0 : Vec Ideal S66x2x128x4x128 .f32) (funext fun a => Fin.ext ?_))
  · rw [Shape.rowMajor_val_five, Shape.rowMajor_val_four]
    show (((0 * 2 + b.val) * 128 + t.val) * 4 + h.val) * 128 + d.val = ((b.val * 128 + t.val) * 4 + h.val) * 128 + d.val
    omega
  · match a with
    | ⟨0, _⟩ => rfl
    | ⟨1, _⟩ => exact Nat.zero_add _
    | ⟨2, _⟩ => exact Nat.zero_add _
    | ⟨3, _⟩ => exact Nat.zero_add _
    | ⟨4, _⟩ => exact Nat.zero_add _
theorem read_k (b : Fin 2) (t : Fin 128) (h : Fin 4) (d : Fin 128) : (b11 j s : Vec Ideal S2x128x4x128 .f32) (ix4 b t h d) = sk j hj s b h t d := by
  unfold b11
  rw [slice_k j hj]
  refine (shapeCast_apply _ _ _ (ix5 (0 : Fin 1) b t h d) ?_).trans (congrArg (s.main_v120_1 : Vec Ideal S66x2x128x4x128 .f32) (funext fun a => Fin.ext ?_))
  · rw [Shape.rowMajor_val_five, Shape.rowMajor_val_four]
    show (((0 * 2 + b.val) * 128 + t.val) * 4 + h.val) * 128 + d.val = ((b.val * 128 + t.val) * 4 + h.val) * 128 + d.val
    omega
  · match a with
    | ⟨0, _⟩ => rfl
    | ⟨1, _⟩ => exact Nat.zero_add _
    | ⟨2, _⟩ => exact Nat.zero_add _
    | ⟨3, _⟩ => exact Nat.zero_add _
    | ⟨4, _⟩ => exact Nat.zero_add _
theorem read_v (b : Fin 2) (t : Fin 128) (h : Fin 4) (w : Fin 256) : (b17 j s : Vec Ideal S2x128x4x256 .f32) (ix4 b t h w) = sv j hj s b h t w := by
  unfold b17
  rw [slice_v j hj]
  refine (shapeCast_apply _ _ _ (ix5 (0 : Fin 1) b t h w) ?_).trans (congrArg (s.main_v120_2 : Vec Ideal S66x2x128x4x256 .f32) (funext fun a => Fin.ext ?_))
  · rw [Shape.rowMajor_val_five, Shape.rowMajor_val_four]
    show (((0 * 2 + b.val) * 128 + t.val) * 4 + h.val) * 256 + w.val = ((b.val * 128 + t.val) * 4 + h.val) * 256 + w.val
    omega
  · match a with
    | ⟨0, _⟩ => rfl
    | ⟨1, _⟩ => exact Nat.zero_add _
    | ⟨2, _⟩ => exact Nat.zero_add _
    | ⟨3, _⟩ => exact Nat.zero_add _
    | ⟨4, _⟩ => exact Nat.zero_add _

/-- One trip's results, and the state after it. -/
theorem result_at (b : Fin 2) (t : Fin 128) (h : Fin 4) (w : Fin 256) : (b29 j s : Vec Ideal S2x128x4x256 .f32) (ix4 b t h w)
    = Ret.out (sq j hj s b h) (sk j hj s b h) (sv j hj s b h) (sS s b h) (fun t u => (s.main_v120_3 : Vec Ideal S4x128x128 .f32) (ix3 h t u))
        (fun t => (s.main_v120_4 : Vec Ideal S128x4 .f32) (ix2 t h)) t w := by
  pointwise [b29, b28, b27, b26, b25, b24, b23, b22, b21, b20, b19, b18]
  simp only [read_q j hj, read_k j hj, read_v j hj]
  unfold Ret.out
  congr 1 <;> exact Finset.sum_congr rfl fun _ _ => mul_comm _ _
theorem state_at (b : Fin 2) (h : Fin 4) (d : Fin 128) (w : Fin 256) : (b37 j s : Vec Ideal S2x4x128x256 .f32) (ix4 b h d w)
    = Ret.next (sk j hj s b h) (sv j hj s b h) (sS s b h) ((s.main_v120_5 : Vec Ideal S4 .f32) (ix1 h))
        (fun t => (s.main_v120_6 : Vec Ideal S128x4 .f32) (ix2 t h)) d w := by
  pointwise [b37, b36, b35, b34, b33, b32, b31, b30]
  simp only [read_k j hj, read_v j hj]
  rfl

theorem update : b43 j s = updateSlice (s.main_v120_9 : Vec Ideal S66x2x128x4x256 .f32) (b38 j s) ![j, 0, 0, 0, 0] (fitsV j hj) := by
  unfold b43
  refine Host.dynamicUpdateSlice_eq_updateSlice _ _ _ _ _ (fun a => ?_) (fitsV j hj)
  match a with
  | ⟨0, _⟩ =>
    show (min (max (BitVec.ofNat 32 j).toInt 0) ((66 - 1 : ℕ) : ℤ)).toNat = j
    rw [start_eq ⟨j, hj⟩]
    show (min (max (j : ℤ) 0) ((66 - 1 : ℕ) : ℤ)).toNat = j
    omega
  | ⟨1, _⟩ => rfl
  | ⟨2, _⟩ => rfl
  | ⟨3, _⟩ => rfl
  | ⟨4, _⟩ => rfl
theorem collect_new (b : Fin 2) (t : Fin 128) (h : Fin 4) (w : Fin 256) : (b43 j s : Vec Ideal S66x2x128x4x256 .f32) (ix5 ⟨j, hj⟩ b t h w)
    = (b29 j s : Vec Ideal S2x128x4x256 .f32) (ix4 b t h w) := by
  rw [update j hj]
  unfold updateSlice
  rw [dif_pos (fun a => by
    match a with
    | ⟨0, _⟩ => exact ⟨le_refl j, Nat.lt_succ_self j⟩
    | ⟨1, _⟩ => exact ⟨Nat.zero_le _, by show b.val < 0 + 2; omega⟩
    | ⟨2, _⟩ => exact ⟨Nat.zero_le _, by show t.val < 0 + 128; omega⟩
    | ⟨3, _⟩ => exact ⟨Nat.zero_le _, by show h.val < 0 + 4; omega⟩
    | ⟨4, _⟩ => exact ⟨Nat.zero_le _, by show w.val < 0 + 256; omega⟩)]
  unfold b38
  generalize (b29 j s : Vec Ideal S2x128x4x256 .f32) = y
  refine Eq.trans (congrArg _ (funext fun a => Fin.ext ?_ : _ = ix5 (0 : Fin 1) b t h w)) ?_
  · match a with
    | ⟨0, _⟩ => exact Nat.sub_self j
    | ⟨1, _⟩ => rfl
    | ⟨2, _⟩ => rfl
    | ⟨3, _⟩ => rfl
    | ⟨4, _⟩ => rfl
  · pointwise
include hj in
theorem collect_old (n : Fin 66) (hn : n.val ≠ j) (b : Fin 2) (t : Fin 128) (h : Fin 4) (w : Fin 256) :
    (b43 j s : Vec Ideal S66x2x128x4x256 .f32) (ix5 n b t h w) = (s.main_v120_9 : Vec Ideal S66x2x128x4x256 .f32) (ix5 n b t h w) := by
  rw [update j hj]
  unfold updateSlice
  refine dif_neg fun hin => hn ?_
  have h0 := hin ⟨0, by decide⟩
  have h1 : j ≤ n.val := h0.1
  have h2 : n.val < j + 1 := h0.2
  omega
end trip

section loop
variable (p : (⟨S16896x10368, .f32⟩ : BufTy).Contents (Elt Ideal)) (cs sn : (⟨S8192x64, .f32⟩ : BufTy).Contents (Elt Ideal))
  (dl : (⟨S2x4, .f32⟩ : BufTy).Contents (Elt Ideal))

/-- What the loop carries before trip `n`. -/
def iter : ℕ → State Ideal
  | 0 => init p cs sn dl
  | n + 1 => step n (iter n)

/-- The arrays the loop only reads are the ones it starts with. -/
structure Kept (s : State Ideal) : Prop where
  q : s.main_v120_0 = A_main_v114 p cs sn dl
  k : s.main_v120_1 = A_main_v116 p cs sn dl
  v : s.main_v120_2 = A_main_v118 p cs sn dl
  intra : s.main_v120_3 = A_main_v93 p cs sn dl
  query : s.main_v120_4 = A_main_v101 p cs sn dl
  whole : s.main_v120_5 = A_main_v112 p cs sn dl
  key : s.main_v120_6 = A_main_v109 p cs sn dl

theorem kept : ∀ n, Kept p cs sn dl (iter p cs sn dl n)
  | 0 => ⟨rfl, rfl, rfl, rfl, rfl, rfl, rfl⟩
  | n + 1 => ⟨(kept n).q, (kept n).k, (kept n).v, (kept n).intra, (kept n).query, (kept n).whole, (kept n).key⟩

theorem chunk_q (n : ℕ) (hn : n < 66) (s : State Ideal) (hs : Kept p cs sn dl s) (b : Fin 2) (h : Fin 4) :
    sq n hn s b h = Ret.chunkQ (proj p) (table cs) (table sn) b h n := by
  funext t d
  show s.main_v120_0 _ = _
  rw [hs.q]
  exact queries_at p cs sn dl ⟨n, hn⟩ b t h d
theorem chunk_k (n : ℕ) (hn : n < 66) (s : State Ideal) (hs : Kept p cs sn dl s) (b : Fin 2) (h : Fin 4) :
    sk n hn s b h = Ret.chunkK (proj p) (table cs) (table sn) b h n := by
  funext t d
  show s.main_v120_1 _ = _
  rw [hs.k]
  exact keys_at p cs sn dl ⟨n, hn⟩ b t h d
theorem chunk_v (n : ℕ) (hn : n < 66) (s : State Ideal) (hs : Kept p cs sn dl s) (b : Fin 2) (h : Fin 4) :
    sv n hn s b h = Ret.chunkV (proj p) b h n := by
  funext t w
  show s.main_v120_2 _ = _
  rw [hs.v]
  exact values_at p cs sn dl ⟨n, hn⟩ b t h w

/-- The carried state is the retention state. -/
theorem carried (b : Fin 2) (h : Fin 4) : ∀ n, n ≤ 66 →
    sS (iter p cs sn dl n) b h = Ret.fwdState (proj p) (table cs) (table sn) (decay dl h) b h n
  | 0, _ => by
    funext d w
    show (K_main_v73 (F := Ideal) : Vec Ideal S2x4x128x256 .f32) (ix4 b h d w) = 0
    pointwise [K_main_v73, K_main_cst_2]
  | n + 1, hn => by
    have hs := kept p cs sn dl n
    funext d w
    show (b37 n (iter p cs sn dl n) : Vec Ideal S2x4x128x256 .f32) (ix4 b h d w) = _
    rw [state_at n (by omega), carried b h n (by omega), chunk_k p cs sn dl n _ _ hs, chunk_v p cs sn dl n _ _ hs, hs.whole, hs.key, whole_at]
    simp only [key_at]
    rfl

/-- The results of a chunk stay where they were put. -/
theorem collected (n : Fin 66) (b : Fin 2) (t : Fin 128) (h : Fin 4) (w : Fin 256) : ∀ k, n.val < k → k ≤ 66 →
    ((iter p cs sn dl k).main_v120_9 : Vec Ideal S66x2x128x4x256 .f32) (ix5 n b t h w)
      = Ret.fwd (proj p) (table cs) (table sn) (decay dl h) b h n.val t w
  | 0, hk, _ => absurd hk (Nat.not_lt_zero _)
  | k + 1, hk, hle => by
    show (b43 k (iter p cs sn dl k) : Vec Ideal S66x2x128x4x256 .f32) (ix5 n b t h w) = _
    by_cases e : n.val = k
    · subst e
      have hs := kept p cs sn dl n.val
      rw [collect_new n.val n.isLt, result_at n.val n.isLt, carried p cs sn dl b h n.val (by omega), chunk_q p cs sn dl _ _ _ hs,
        chunk_k p cs sn dl _ _ _ hs, chunk_v p cs sn dl _ _ _ hs, hs.intra, hs.query]
      simp only [intra_at, query_at]
      rfl
    · rw [collect_old k (by omega) _ n e]
      exact collected n b t h w k (by omega) (by omega)

/-- The collected chunks, put back into one sequence. -/
theorem joined (x : Vec Ideal S66x2x128x4x256 .f32) (n : Fin 66) (b : Fin 2) (t : Fin 128) (h : Fin 4) (w : Fin 256) :
    shapeCast S2x8448x4x256 (transpose S2x66x128x4x256 [1, 0, 2, 3, 4] x transposes_S66x2x128x4x256_S2x66x128x4x256_1_0_2_3_4)
      shapeCasts_S2x66x128x4x256_S2x8448x4x256 (ix4 b (Ret.place n t) h w) = x (ix5 n b t h w) := by
  refine (shapeCast_apply _ _ _ (ix5 b n t h w) ?_).trans ?_
  · rw [Shape.rowMajor_val_five, Shape.rowMajor_val_four]
    show (((b.val * 66 + n.val) * 128 + t.val) * 4 + h.val) * 256 + w.val = ((b.val * 8448 + (n.val * 128 + t.val)) * 4 + h.val) * 256 + w.val
    omega
  · pointwise

theorem stack (a : Vec Ideal S16384x1024 .f32) (c : Vec Ideal S512x1024 .f32) (R : Fin 16896) (k : Fin 1024) :
    concatenate S16896x1024 0 [⟨S16384x1024, a⟩, ⟨S512x1024, c⟩] concatenates_S16384x1024_S512x1024_S16896x1024_d0 (ix2 R k)
      = if hR : R.val < 16384 then a (ix2 ⟨R.val, hR⟩ k) else c (ix2 ⟨R.val - 16384, by omega⟩ k) := by
  pointwise
theorem flatLat (z : Vec Ideal S2x8192x4x256 .f32) (b : Fin 2) (l : Fin 8192) (h : Fin 4) (w : Fin 256) (r : Fin 16384) (hr : r.val = b.val * 8192 + l.val) :
    shapeCast S16384x1024 z shapeCasts_S2x8192x4x256_S16384x1024 (ix2 r (Ret.valCol h w)) = z (ix4 b l h w) := by
  refine shapeCast_apply _ _ _ _ ?_
  rw [Shape.rowMajor_val_two, Shape.rowMajor_val_four]
  show ((b.val * 8192 + l.val) * 4 + h.val) * 256 + w.val = r.val * 1024 + (h.val * 256 + w.val)
  rw [hr]
  omega
theorem flatCtx (z : Vec Ideal S2x256x4x256 .f32) (b : Fin 2) (l : Fin 256) (h : Fin 4) (w : Fin 256) (r : Fin 512) (hr : r.val = b.val * 256 + l.val) :
    shapeCast S512x1024 z shapeCasts_S2x256x4x256_S512x1024 (ix2 r (Ret.valCol h w)) = z (ix4 b l h w) := by
  refine shapeCast_apply _ _ _ _ ?_
  rw [Shape.rowMajor_val_two, Shape.rowMajor_val_four]
  show ((b.val * 256 + l.val) * 4 + h.val) * 256 + w.val = r.val * 1024 + (h.val * 256 + w.val)
  rw [hr]
  omega
theorem cutLat (y : Vec Ideal S2x8448x4x256 .f32) (b : Fin 2) (l : Fin 8192) (h : Fin 4) (w : Fin 256) :
    extractStridedSlice S2x8192x4x256 ![0, 256, 0, 0] y slices_S2x8448x4x256_S2x8192x4x256_0_256_0_0 (ix4 b l h w) = y (ix4 b ⟨256 + l.val, by omega⟩ h w) := by
  pointwise
theorem cutCtx (y : Vec Ideal S2x8448x4x256 .f32) (b : Fin 2) (l : Fin 256) (h : Fin 4) (w : Fin 256) :
    extractStridedSlice S2x256x4x256 ![0, 0, 0, 0] y slices_S2x8448x4x256_S2x256x4x256_0_0_0_0 (ix4 b l h w) = y (ix4 b ⟨l.val, by omega⟩ h w) := by
  pointwise

/-- The two parts of the sequence, laid out as the array's rows. -/
theorem laid (y : Vec Ideal S2x8448x4x256 .f32) (n : Fin 66) (b : Fin 2) (t : Fin 128) (h : Fin 4) (w : Fin 256) :
    concatenate S16896x1024 0 [⟨S16384x1024, shapeCast _ (extractStridedSlice S2x8192x4x256 ![0, 256, 0, 0] y slices_S2x8448x4x256_S2x8192x4x256_0_256_0_0) shapeCasts_S2x8192x4x256_S16384x1024⟩,
        ⟨S512x1024, shapeCast _ (extractStridedSlice S2x256x4x256 ![0, 0, 0, 0] y slices_S2x8448x4x256_S2x256x4x256_0_0_0_0) shapeCasts_S2x256x4x256_S512x1024⟩]
      concatenates_S16384x1024_S512x1024_S16896x1024_d0 (ix2 (Ret.row b n.val t) (Ret.valCol h w)) = y (ix4 b (Ret.place n t) h w) := by
  have hr := Ret.row_val b n.val n.isLt t
  have hb := b.isLt
  have hn := n.isLt
  have ht := t.isLt
  rw [stack]
  by_cases h2 : n.val < 2
  · rw [if_pos h2] at hr
    rw [dif_neg (by omega), flatCtx _ b ⟨n.val * 128 + t.val, by omega⟩ h w _ (by show (Ret.row b n.val t).val - 16384 = b.val * 256 + (n.val * 128 + t.val); omega), cutCtx]
    rfl
  · rw [if_neg h2] at hr
    rw [dif_pos (by omega), flatLat _ b ⟨(n.val - 2) * 128 + t.val, by omega⟩ h w _ (hr.trans (Nat.add_assoc _ _ _)), cutLat]
    have e : (⟨256 + (⟨(n.val - 2) * 128 + t.val, by omega⟩ : Fin 8192).val, by simp only []; omega⟩ : Fin 8448) = Ret.place n t := by
      refine Fin.ext ?_
      rw [Ret.place_val]
      simp only []
      omega
    rw [← e]

/-- The reference's result at position `t` of chunk `n` of batch `b` and column `w` of head `h`. -/
theorem result (n : Fin 66) (b : Fin 2) (t : Fin 128) (h : Fin 4) (w : Fin 256) :
    (R_main_v127 (iter p cs sn dl 66) : Vec Ideal S16896x1024 .f32) (ix2 (Ret.row b n.val t) (Ret.valCol h w))
      = Ret.fwd (proj p) (table cs) (table sn) (decay dl h) b h n.val t w := by
  unfold R_main_v127
  rw [laid, joined]
  exact collected p cs sn dl n b t h w 66 n.isLt (le_refl _)
end loop

end Cert.RetFwdRefIdeal.Reference

end
-- ==== Proof.RetFwdEquation.lean ====
module

public import proofs.«01_k».proof.Proof.RetFwdFold
public import proofs.«01_k».proof.Proof.RetFwdReference

@[expose] public section

set_option maxRecDepth 16384

noncomputable section

/-!
Forward retention: on the same arguments the call and the plain formula give the same array.
-/

namespace Cert.Equation

open Idealize.ShloMosaic Idealize.ShloMosaic.TcCoe Idealize.SL.Sem

theorem retFwd (m : (ℓ : Loc RetFwdIdeal.nD RetFwdIdeal.τ RetFwdIdeal.sig) → Buf (Elt Ideal) ℓ)
    (m' : (ℓ : Loc RetFwdRefIdeal.nD RetFwdRefIdeal.τ RetFwdRefIdeal.sig) → Buf (Elt Ideal) ℓ) (c : Dev RetFwdIdeal.nD)
    (e0 : m' ((c : Thread RetFwdRefIdeal.nD RetFwdRefIdeal.τ).loc RetFwdRefIdeal.main_arg0) = m ((c : Thread RetFwdIdeal.nD RetFwdIdeal.τ).loc RetFwdIdeal.main_arg0))
    (e1 : m' ((c : Thread RetFwdRefIdeal.nD RetFwdRefIdeal.τ).loc RetFwdRefIdeal.main_arg1) = m ((c : Thread RetFwdIdeal.nD RetFwdIdeal.τ).loc RetFwdIdeal.main_arg1))
    (e2 : m' ((c : Thread RetFwdRefIdeal.nD RetFwdRefIdeal.τ).loc RetFwdRefIdeal.main_arg2) = m ((c : Thread RetFwdIdeal.nD RetFwdIdeal.τ).loc RetFwdIdeal.main_arg2))
    (e3 : m' ((c : Thread RetFwdRefIdeal.nD RetFwdRefIdeal.τ).loc RetFwdRefIdeal.main_arg3) = m ((c : Thread RetFwdIdeal.nD RetFwdIdeal.τ).loc RetFwdIdeal.main_arg3)) :
    RetFwdRefIdeal.Step.R_main_v127 (F := Ideal) (RetFwdRefIdeal.Reference.iter (m' ((c : Thread RetFwdRefIdeal.nD RetFwdRefIdeal.τ).loc RetFwdRefIdeal.main_arg0)) (m' ((c : Thread RetFwdRefIdeal.nD RetFwdRefIdeal.τ).loc RetFwdRefIdeal.main_arg1)) (m' ((c : Thread RetFwdRefIdeal.nD RetFwdRefIdeal.τ).loc RetFwdRefIdeal.main_arg2)) (m' ((c : Thread RetFwdRefIdeal.nD RetFwdRefIdeal.τ).loc RetFwdRefIdeal.main_arg3)) 66) = (RetFwdIdeal.Gen.dats m 0 c).arrAt 6 RetFwdIdeal.cfg0.N := by
  rw [e0, e1, e2, e3]
  funext i
  obtain ⟨R, k, rfl⟩ : ∃ (R : Fin 16896) (k : Fin 1024), i = ix2 R k := ⟨i 0, i 1, eq_ix2 i⟩
  obtain ⟨n, b, r, rfl⟩ := Ret.row_surj R
  rw [← Ret.valCol_headOf k]
  exact (RetFwdRefIdeal.Reference.result ..).trans (RetFwdIdeal.Fold.result m c b n.val n.isLt r _ _).symm

end Cert.Equation

end
-- ==== Proof.RetBwdTrip.lean ====
module

public import proofs.«01_k».proof.Proof.Gen.RetBwdRefIdeal.Run
public import proofs.«01_k».proof.Proof.Gen.RetBwdRefIdeal.Step

@[expose] public section

set_option maxRecDepth 16384

noncomputable section

/-!
One trip of the reference's loop over the chunks, as a step of the values it carries.
-/

namespace Cert.RetBwdRefIdeal.StepRun

open Idealize.ShloMosaic Idealize.ShloMosaic.TcCoe Idealize.SL.Sem Idealize.ShloMosaic.StableHlo
open Cert.RetBwdRefIdeal Cert.RetBwdRefIdeal.Gen Cert.RetBwdRefIdeal.Value
open Cert.RetBwdRefIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v126_8) = s.main_v126_8
  f_9 : V0 (Proc.devRef .tc main_v126_9) = s.main_v126_9
  f_0 : V0 (Proc.devRef .tc main_v126_0) = s.main_v126_0
  f_1 : V0 (Proc.devRef .tc main_v126_1) = s.main_v126_1
  f_2 : V0 (Proc.devRef .tc main_v126_2) = s.main_v126_2
  f_3 : V0 (Proc.devRef .tc main_v126_3) = s.main_v126_3
  f_4 : V0 (Proc.devRef .tc main_v126_4) = s.main_v126_4
  f_5 : V0 (Proc.devRef .tc main_v126_5) = s.main_v126_5
  f_6 : V0 (Proc.devRef .tc main_v126_6) = s.main_v126_6
  n_7 : V0 (Proc.devRef .tc main_v126_7) = constantI S_ 32 (BitVec.ofNat 32 j)

variable {V0 s j}

set_option maxRecDepth 8192 in
theorem al_0 (h : Holds V0 s j) : (constantI S_ 32 0#32 : (Proc.devRef .tc main_while0b_call7_c : DevRef τ sig).ty.Contents (Elt F)) = Cert.RetBwdRefIdeal.Step.b0 j s := by
  unfold Cert.RetBwdRefIdeal.Step.b0
  rfl
set_option maxRecDepth 8192 in
theorem al_1 (h : Holds V0 s j) : (constantI S_ 32 0#32 : (Proc.devRef .tc main_while0b_call7_c_0 : DevRef τ sig).ty.Contents (Elt F)) = Cert.RetBwdRefIdeal.Step.b1 j s := by
  unfold Cert.RetBwdRefIdeal.Step.b1
  rfl
set_option maxRecDepth 8192 in
theorem al_2 (h : Holds V0 s j) : (constantI S_ 32 0#32 : (Proc.devRef .tc main_while0b_call7_c_1 : DevRef τ sig).ty.Contents (Elt F)) = Cert.RetBwdRefIdeal.Step.b2 j s := by
  unfold Cert.RetBwdRefIdeal.Step.b2
  rfl
set_option maxRecDepth 8192 in
theorem al_3 (h : Holds V0 s j) : (constantI S_ 32 0#32 : (Proc.devRef .tc main_while0b_call7_c_2 : DevRef τ sig).ty.Contents (Elt F)) = Cert.RetBwdRefIdeal.Step.b3 j s := by
  unfold Cert.RetBwdRefIdeal.Step.b3
  rfl
set_option maxRecDepth 8192 in
theorem al_4 (h : Holds V0 s j) : (Host.dynamicSlice S1x2x128x4x128 (V0 (Proc.devRef .tc main_v126_0)) (fun k => (((![V0 (Proc.devRef .tc main_v126_7), constantI S_ 32 0#32, constantI S_ 32 0#32, constantI S_ 32 0#32, constantI S_ 32 0#32] : Fin 5 → (⟨S_, .i32⟩ : BufTy).Contents (Elt F))) k (Shape.Idx.first h_S_)).toInt) sliceFits_S66x2x128x4x128_S1x2x128x4x128 : (Proc.devRef .tc main_while0b_call7_v0 : DevRef τ sig).ty.Contents (Elt F)) = Cert.RetBwdRefIdeal.Step.b4 j s := by
  unfold Cert.RetBwdRefIdeal.Step.b4
  rw [← al_0 h, ← al_1 h, ← al_2 h, ← al_3 h, h.f_0, h.n_7]
  try rfl
set_option maxRecDepth 8192 in
theorem al_5 (h : Holds V0 s j) : (res_main_while0b_v164 V0 : (Proc.devRef .tc main_while0b_v164 : DevRef τ sig).ty.Contents (Elt F)) = Cert.RetBwdRefIdeal.Step.b5 j s := by
  unfold res_main_while0b_v164 Cert.RetBwdRefIdeal.Step.b5
  rw [← al_4 h]
  try rfl
set_option maxRecDepth 8192 in
theorem al_6 (h : Holds V0 s j) : (constantI S_ 32 0#32 : (Proc.devRef .tc main_while0b_call8_c : DevRef τ sig).ty.Contents (Elt F)) = Cert.RetBwdRefIdeal.Step.b6 j s := by
  unfold Cert.RetBwdRefIdeal.Step.b6
  rfl
set_option maxRecDepth 8192 in
theorem al_7 (h : Holds V0 s j) : (constantI S_ 32 0#32 : (Proc.devRef .tc main_while0b_call8_c_0 : DevRef τ sig).ty.Contents (Elt F)) = Cert.RetBwdRefIdeal.Step.b7 j s := by
  unfold Cert.RetBwdRefIdeal.Step.b7
  rfl
set_option maxRecDepth 8192 in
theorem al_8 (h : Holds V0 s j) : (constantI S_ 32 0#32 : (Proc.devRef .tc main_while0b_call8_c_1 : DevRef τ sig).ty.Contents (Elt F)) = Cert.RetBwdRefIdeal.Step.b8 j s := by
  unfold Cert.RetBwdRefIdeal.Step.b8
  rfl
set_option maxRecDepth 8192 in
theorem al_9 (h : Holds V0 s j) : (constantI S_ 32 0#32 : (Proc.devRef .tc main_while0b_call8_c_2 : DevRef τ sig).ty.Contents (Elt F)) = Cert.RetBwdRefIdeal.Step.b9 j s := by
  unfold Cert.RetBwdRefIdeal.Step.b9
  rfl
set_option maxRecDepth 8192 in
theorem al_10 (h : Holds V0 s j) : (Host.dynamicSlice S1x2x128x4x128 (V0 (Proc.devRef .tc main_v126_1)) (fun k => (((![V0 (Proc.devRef .tc main_v126_7), constantI S_ 32 0#32, constantI S_ 32 0#32, constantI S_ 32 0#32, constantI S_ 32 0#32] : Fin 5 → (⟨S_, .i32⟩ : BufTy).Contents (Elt F))) k (Shape.Idx.first h_S_)).toInt) sliceFits_S66x2x128x4x128_S1x2x128x4x128 : (Proc.devRef .tc main_while0b_call8_v0 : DevRef τ sig).ty.Contents (Elt F)) = Cert.RetBwdRefIdeal.Step.b10 j s := by
  unfold Cert.RetBwdRefIdeal.Step.b10
  rw [← al_6 h, ← al_7 h, ← al_8 h, ← al_9 h, h.f_1, h.n_7]
  try rfl
set_option maxRecDepth 8192 in
theorem al_11 (h : Holds V0 s j) : (res_main_while0b_v165 V0 : (Proc.devRef .tc main_while0b_v165 : DevRef τ sig).ty.Contents (Elt F)) = Cert.RetBwdRefIdeal.Step.b11 j s := by
  unfold res_main_while0b_v165 Cert.RetBwdRefIdeal.Step.b11
  rw [← al_10 h]
  try rfl
set_option maxRecDepth 8192 in
theorem al_12 (h : Holds V0 s j) : (constantI S_ 32 0#32 : (Proc.devRef .tc main_while0b_call9_c : DevRef τ sig).ty.Contents (Elt F)) = Cert.RetBwdRefIdeal.Step.b12 j s := by
  unfold Cert.RetBwdRefIdeal.Step.b12
  rfl
set_option maxRecDepth 8192 in
theorem al_13 (h : Holds V0 s j) : (constantI S_ 32 0#32 : (Proc.devRef .tc main_while0b_call9_c_0 : DevRef τ sig).ty.Contents (Elt F)) = Cert.RetBwdRefIdeal.Step.b13 j s := by
  unfold Cert.RetBwdRefIdeal.Step.b13
  rfl
set_option maxRecDepth 8192 in
theorem al_14 (h : Holds V0 s j) : (constantI S_ 32 0#32 : (Proc.devRef .tc main_while0b_call9_c_1 : DevRef τ sig).ty.Contents (Elt F)) = Cert.RetBwdRefIdeal.Step.b14 j s := by
  unfold Cert.RetBwdRefIdeal.Step.b14
  rfl
set_option maxRecDepth 8192 in
theorem al_15 (h : Holds V0 s j) : (constantI S_ 32 0#32 : (Proc.devRef .tc main_while0b_call9_c_2 : DevRef τ sig).ty.Contents (Elt F)) = Cert.RetBwdRefIdeal.Step.b15 j s := by
  unfold Cert.RetBwdRefIdeal.Step.b15
  rfl
set_option maxRecDepth 8192 in
theorem al_16 (h : Holds V0 s j) : (Host.dynamicSlice S1x2x128x4x256 (V0 (Proc.devRef .tc main_v126_2)) (fun k => (((![V0 (Proc.devRef .tc main_v126_7), constantI S_ 32 0#32, constantI S_ 32 0#32, constantI S_ 32 0#32, constantI S_ 32 0#32] : Fin 5 → (⟨S_, .i32⟩ : BufTy).Contents (Elt F))) k (Shape.Idx.first h_S_)).toInt) sliceFits_S66x2x128x4x256_S1x2x128x4x256 : (Proc.devRef .tc main_while0b_call9_v0 : DevRef τ sig).ty.Contents (Elt F)) = Cert.RetBwdRefIdeal.Step.b16 j s := by
  unfold Cert.RetBwdRefIdeal.Step.b16
  rw [← al_12 h, ← al_13 h, ← al_14 h, ← al_15 h, h.f_2, h.n_7]
  try rfl
set_option maxRecDepth 8192 in
theorem al_17 (h : Holds V0 s j) : (res_main_while0b_v166 V0 : (Proc.devRef .tc main_while0b_v166 : DevRef τ sig).ty.Contents (Elt F)) = Cert.RetBwdRefIdeal.Step.b17 j s := by
  unfold res_main_while0b_v166 Cert.RetBwdRefIdeal.Step.b17
  rw [← al_16 h]
  try rfl
set_option maxRecDepth 8192 in
theorem al_18 (h : Holds V0 s j) : (Host.dotGeneral dot_S2x128x4x128_S2x128x4x128_S2x4x128x128_3_3_1_1_02_02 none (res_main_while0b_v164 V0) (res_main_while0b_v165 V0) : (Proc.devRef .tc main_while0b_v167 : DevRef τ sig).ty.Contents (Elt F)) = Cert.RetBwdRefIdeal.Step.b18 j s := by
  unfold Cert.RetBwdRefIdeal.Step.b18
  rw [← al_5 h, ← al_11 h]
  try rfl
set_option maxRecDepth 8192 in
theorem al_19 (h : Holds V0 s j) : (broadcastInDim S1x4x128x128 ![1, 2, 3] bcast_S4x128x128_S1x4x128x128_1_2_3 (V0 (Proc.devRef .tc main_v126_3)) : (Proc.devRef .tc main_while0b_v168 : DevRef τ sig).ty.Contents (Elt F)) = Cert.RetBwdRefIdeal.Step.b19 j s := by
  unfold Cert.RetBwdRefIdeal.Step.b19
  rw [h.f_3]
  try rfl
set_option maxRecDepth 8192 in
theorem al_20 (h : Holds V0 s j) : (broadcastInDim S2x4x128x128 ![0, 1, 2, 3] bcast_S1x4x128x128_S2x4x128x128_0_1_2_3 (broadcastInDim S1x4x128x128 ![1, 2, 3] bcast_S4x128x128_S1x4x128x128_1_2_3 (V0 (Proc.devRef .tc main_v126_3))) : (Proc.devRef .tc main_while0b_v169 : DevRef τ sig).ty.Contents (Elt F)) = Cert.RetBwdRefIdeal.Step.b20 j s := by
  unfold Cert.RetBwdRefIdeal.Step.b20
  rw [← al_19 h]
  try rfl
set_option maxRecDepth 8192 in
theorem al_21 (h : Holds V0 s j) : (mulf (Host.dotGeneral dot_S2x128x4x128_S2x128x4x128_S2x4x128x128_3_3_1_1_02_02 none (res_main_while0b_v164 V0) (res_main_while0b_v165 V0)) (broadcastInDim S2x4x128x128 ![0, 1, 2, 3] bcast_S1x4x128x128_S2x4x128x128_0_1_2_3 (broadcastInDim S1x4x128x128 ![1, 2, 3] bcast_S4x128x128_S1x4x128x128_1_2_3 (V0 (Proc.devRef .tc main_v126_3)))) : (Proc.devRef .tc main_while0b_v170 : DevRef τ sig).ty.Contents (Elt F)) = Cert.RetBwdRefIdeal.Step.b21 j s := by
  unfold Cert.RetBwdRefIdeal.Step.b21
  rw [← al_18 h, ← al_20 h]
  try rfl
set_option maxRecDepth 8192 in
theorem al_22 (h : Holds V0 s j) : (Host.dotGeneral dot_S2x128x4x256_S2x4x128x128_S2x4x256x128_1_3_3_2_02_01 none (res_main_while0b_v166 V0) (mulf (Host.dotGeneral dot_S2x128x4x128_S2x128x4x128_S2x4x128x128_3_3_1_1_02_02 none (res_main_while0b_v164 V0) (res_main_while0b_v165 V0)) (broadcastInDim S2x4x128x128 ![0, 1, 2, 3] bcast_S1x4x128x128_S2x4x128x128_0_1_2_3 (broadcastInDim S1x4x128x128 ![1, 2, 3] bcast_S4x128x128_S1x4x128x128_1_2_3 (V0 (Proc.devRef .tc main_v126_3))))) : (Proc.devRef .tc main_while0b_v171 : DevRef τ sig).ty.Contents (Elt F)) = Cert.RetBwdRefIdeal.Step.b22 j s := by
  unfold Cert.RetBwdRefIdeal.Step.b22
  rw [← al_17 h, ← al_21 h]
  try rfl
set_option maxRecDepth 8192 in
theorem al_23 (h : Holds V0 s j) : (transpose S2x128x4x256 [0, 3, 1, 2] (Host.dotGeneral dot_S2x128x4x256_S2x4x128x128_S2x4x256x128_1_3_3_2_02_01 none (res_main_while0b_v166 V0) (mulf (Host.dotGeneral dot_S2x128x4x128_S2x128x4x128_S2x4x128x128_3_3_1_1_02_02 none (res_main_while0b_v164 V0) (res_main_while0b_v165 V0)) (broadcastInDim S2x4x128x128 ![0, 1, 2, 3] bcast_S1x4x128x128_S2x4x128x128_0_1_2_3 (broadcastInDim S1x4x128x128 ![1, 2, 3] bcast_S4x128x128_S1x4x128x128_1_2_3 (V0 (Proc.devRef .tc main_v126_3)))))) transposes_S2x4x256x128_S2x128x4x256_0_3_1_2 : (Proc.devRef .tc main_while0b_v172 : DevRef τ sig).ty.Contents (Elt F)) = Cert.RetBwdRefIdeal.Step.b23 j s := by
  unfold Cert.RetBwdRefIdeal.Step.b23
  rw [← al_22 h]
  try rfl
set_option maxRecDepth 8192 in
theorem al_24 (h : Holds V0 s j) : (broadcastInDim S1x128x4x1 ![1, 2] bcast_S128x4_S1x128x4x1_1_2 (V0 (Proc.devRef .tc main_v126_4)) : (Proc.devRef .tc main_while0b_v173 : DevRef τ sig).ty.Contents (Elt F)) = Cert.RetBwdRefIdeal.Step.b24 j s := by
  unfold Cert.RetBwdRefIdeal.Step.b24
  rw [h.f_4]
  try rfl
set_option maxRecDepth 8192 in
theorem al_25 (h : Holds V0 s j) : (broadcastInDim S2x128x4x128 ![0, 1, 2, 3] bcast_S1x128x4x1_S2x128x4x128_0_1_2_3 (broadcastInDim S1x128x4x1 ![1, 2] bcast_S128x4_S1x128x4x1_1_2 (V0 (Proc.devRef .tc main_v126_4))) : (Proc.devRef .tc main_while0b_v174 : DevRef τ sig).ty.Contents (Elt F)) = Cert.RetBwdRefIdeal.Step.b25 j s := by
  unfold Cert.RetBwdRefIdeal.Step.b25
  rw [← al_24 h]
  try rfl
set_option maxRecDepth 8192 in
theorem al_26 (h : Holds V0 s j) : (mulf (res_main_while0b_v164 V0) (broadcastInDim S2x128x4x128 ![0, 1, 2, 3] bcast_S1x128x4x1_S2x128x4x128_0_1_2_3 (broadcastInDim S1x128x4x1 ![1, 2] bcast_S128x4_S1x128x4x1_1_2 (V0 (Proc.devRef .tc main_v126_4)))) : (Proc.devRef .tc main_while0b_v175 : DevRef τ sig).ty.Contents (Elt F)) = Cert.RetBwdRefIdeal.Step.b26 j s := by
  unfold Cert.RetBwdRefIdeal.Step.b26
  rw [← al_5 h, ← al_25 h]
  try rfl
set_option maxRecDepth 8192 in
theorem al_27 (h : Holds V0 s j) : (Host.dotGeneral dot_S2x4x128x256_S2x128x4x128_S2x4x256x128_2_3_3_1_01_02 none (V0 (Proc.devRef .tc main_v126_8)) (mulf (res_main_while0b_v164 V0) (broadcastInDim S2x128x4x128 ![0, 1, 2, 3] bcast_S1x128x4x1_S2x128x4x128_0_1_2_3 (broadcastInDim S1x128x4x1 ![1, 2] bcast_S128x4_S1x128x4x1_1_2 (V0 (Proc.devRef .tc main_v126_4))))) : (Proc.devRef .tc main_while0b_v176 : DevRef τ sig).ty.Contents (Elt F)) = Cert.RetBwdRefIdeal.Step.b27 j s := by
  unfold Cert.RetBwdRefIdeal.Step.b27
  rw [← al_26 h, h.f_8]
  try rfl
set_option maxRecDepth 8192 in
theorem al_28 (h : Holds V0 s j) : (transpose S2x128x4x256 [0, 3, 1, 2] (Host.dotGeneral dot_S2x4x128x256_S2x128x4x128_S2x4x256x128_2_3_3_1_01_02 none (V0 (Proc.devRef .tc main_v126_8)) (mulf (res_main_while0b_v164 V0) (broadcastInDim S2x128x4x128 ![0, 1, 2, 3] bcast_S1x128x4x1_S2x128x4x128_0_1_2_3 (broadcastInDim S1x128x4x1 ![1, 2] bcast_S128x4_S1x128x4x1_1_2 (V0 (Proc.devRef .tc main_v126_4)))))) transposes_S2x4x256x128_S2x128x4x256_0_3_1_2 : (Proc.devRef .tc main_while0b_v177 : DevRef τ sig).ty.Contents (Elt F)) = Cert.RetBwdRefIdeal.Step.b28 j s := by
  unfold Cert.RetBwdRefIdeal.Step.b28
  rw [← al_27 h]
  try rfl
set_option maxRecDepth 8192 in
theorem al_29 (h : Holds V0 s j) : (addf (transpose S2x128x4x256 [0, 3, 1, 2] (Host.dotGeneral dot_S2x128x4x256_S2x4x128x128_S2x4x256x128_1_3_3_2_02_01 none (res_main_while0b_v166 V0) (mulf (Host.dotGeneral dot_S2x128x4x128_S2x128x4x128_S2x4x128x128_3_3_1_1_02_02 none (res_main_while0b_v164 V0) (res_main_while0b_v165 V0)) (broadcastInDim S2x4x128x128 ![0, 1, 2, 3] bcast_S1x4x128x128_S2x4x128x128_0_1_2_3 (broadcastInDim S1x4x128x128 ![1, 2, 3] bcast_S4x128x128_S1x4x128x128_1_2_3 (V0 (Proc.devRef .tc main_v126_3)))))) transposes_S2x4x256x128_S2x128x4x256_0_3_1_2) (transpose S2x128x4x256 [0, 3, 1, 2] (Host.dotGeneral dot_S2x4x128x256_S2x128x4x128_S2x4x256x128_2_3_3_1_01_02 none (V0 (Proc.devRef .tc main_v126_8)) (mulf (res_main_while0b_v164 V0) (broadcastInDim S2x128x4x128 ![0, 1, 2, 3] bcast_S1x128x4x1_S2x128x4x128_0_1_2_3 (broadcastInDim S1x128x4x1 ![1, 2] bcast_S128x4_S1x128x4x1_1_2 (V0 (Proc.devRef .tc main_v126_4)))))) transposes_S2x4x256x128_S2x128x4x256_0_3_1_2) : (Proc.devRef .tc main_while0b_v178 : DevRef τ sig).ty.Contents (Elt F)) = Cert.RetBwdRefIdeal.Step.b29 j s := by
  unfold Cert.RetBwdRefIdeal.Step.b29
  rw [← al_23 h, ← al_28 h]
  try rfl
set_option maxRecDepth 8192 in
theorem al_30 (h : Holds V0 s j) : (broadcastInDim S1x4x1x1 ![1] bcast_S4_S1x4x1x1_1 (V0 (Proc.devRef .tc main_v126_5)) : (Proc.devRef .tc main_while0b_v179 : DevRef τ sig).ty.Contents (Elt F)) = Cert.RetBwdRefIdeal.Step.b30 j s := by
  unfold Cert.RetBwdRefIdeal.Step.b30
  rw [h.f_5]
  try rfl
set_option maxRecDepth 8192 in
theorem al_31 (h : Holds V0 s j) : (broadcastInDim S2x4x128x256 ![0, 1, 2, 3] bcast_S1x4x1x1_S2x4x128x256_0_1_2_3 (broadcastInDim S1x4x1x1 ![1] bcast_S4_S1x4x1x1_1 (V0 (Proc.devRef .tc main_v126_5))) : (Proc.devRef .tc main_while0b_v180 : DevRef τ sig).ty.Contents (Elt F)) = Cert.RetBwdRefIdeal.Step.b31 j s := by
  unfold Cert.RetBwdRefIdeal.Step.b31
  rw [← al_30 h]
  try rfl
set_option maxRecDepth 8192 in
theorem al_32 (h : Holds V0 s j) : (mulf (V0 (Proc.devRef .tc main_v126_8)) (broadcastInDim S2x4x128x256 ![0, 1, 2, 3] bcast_S1x4x1x1_S2x4x128x256_0_1_2_3 (broadcastInDim S1x4x1x1 ![1] bcast_S4_S1x4x1x1_1 (V0 (Proc.devRef .tc main_v126_5)))) : (Proc.devRef .tc main_while0b_v181 : DevRef τ sig).ty.Contents (Elt F)) = Cert.RetBwdRefIdeal.Step.b32 j s := by
  unfold Cert.RetBwdRefIdeal.Step.b32
  rw [← al_31 h, h.f_8]
  try rfl
set_option maxRecDepth 8192 in
theorem al_33 (h : Holds V0 s j) : (broadcastInDim S1x128x4x1 ![1, 2] bcast_S128x4_S1x128x4x1_1_2 (V0 (Proc.devRef .tc main_v126_6)) : (Proc.devRef .tc main_while0b_v182 : DevRef τ sig).ty.Contents (Elt F)) = Cert.RetBwdRefIdeal.Step.b33 j s := by
  unfold Cert.RetBwdRefIdeal.Step.b33
  rw [h.f_6]
  try rfl
set_option maxRecDepth 8192 in
theorem al_34 (h : Holds V0 s j) : (broadcastInDim S2x128x4x128 ![0, 1, 2, 3] bcast_S1x128x4x1_S2x128x4x128_0_1_2_3 (broadcastInDim S1x128x4x1 ![1, 2] bcast_S128x4_S1x128x4x1_1_2 (V0 (Proc.devRef .tc main_v126_6))) : (Proc.devRef .tc main_while0b_v183 : DevRef τ sig).ty.Contents (Elt F)) = Cert.RetBwdRefIdeal.Step.b34 j s := by
  unfold Cert.RetBwdRefIdeal.Step.b34
  rw [← al_33 h]
  try rfl
set_option maxRecDepth 8192 in
theorem al_35 (h : Holds V0 s j) : (mulf (res_main_while0b_v165 V0) (broadcastInDim S2x128x4x128 ![0, 1, 2, 3] bcast_S1x128x4x1_S2x128x4x128_0_1_2_3 (broadcastInDim S1x128x4x1 ![1, 2] bcast_S128x4_S1x128x4x1_1_2 (V0 (Proc.devRef .tc main_v126_6)))) : (Proc.devRef .tc main_while0b_v184 : DevRef τ sig).ty.Contents (Elt F)) = Cert.RetBwdRefIdeal.Step.b35 j s := by
  unfold Cert.RetBwdRefIdeal.Step.b35
  rw [← al_11 h, ← al_34 h]
  try rfl
set_option maxRecDepth 8192 in
theorem al_36 (h : Holds V0 s j) : (Host.dotGeneral dot_S2x128x4x128_S2x128x4x256_S2x4x128x256_1_1_3_3_02_02 none (mulf (res_main_while0b_v165 V0) (broadcastInDim S2x128x4x128 ![0, 1, 2, 3] bcast_S1x128x4x1_S2x128x4x128_0_1_2_3 (broadcastInDim S1x128x4x1 ![1, 2] bcast_S128x4_S1x128x4x1_1_2 (V0 (Proc.devRef .tc main_v126_6))))) (res_main_while0b_v166 V0) : (Proc.devRef .tc main_while0b_v185 : DevRef τ sig).ty.Contents (Elt F)) = Cert.RetBwdRefIdeal.Step.b36 j s := by
  unfold Cert.RetBwdRefIdeal.Step.b36
  rw [← al_35 h, ← al_17 h]
  try rfl
set_option maxRecDepth 8192 in
theorem al_37 (h : Holds V0 s j) : (addf (mulf (V0 (Proc.devRef .tc main_v126_8)) (broadcastInDim S2x4x128x256 ![0, 1, 2, 3] bcast_S1x4x1x1_S2x4x128x256_0_1_2_3 (broadcastInDim S1x4x1x1 ![1] bcast_S4_S1x4x1x1_1 (V0 (Proc.devRef .tc main_v126_5))))) (Host.dotGeneral dot_S2x128x4x128_S2x128x4x256_S2x4x128x256_1_1_3_3_02_02 none (mulf (res_main_while0b_v165 V0) (broadcastInDim S2x128x4x128 ![0, 1, 2, 3] bcast_S1x128x4x1_S2x128x4x128_0_1_2_3 (broadcastInDim S1x128x4x1 ![1, 2] bcast_S128x4_S1x128x4x1_1_2 (V0 (Proc.devRef .tc main_v126_6))))) (res_main_while0b_v166 V0)) : (Proc.devRef .tc main_while0b_v186 : DevRef τ sig).ty.Contents (Elt F)) = Cert.RetBwdRefIdeal.Step.b37 j s := by
  unfold Cert.RetBwdRefIdeal.Step.b37
  rw [← al_32 h, ← al_36 h]
  try rfl
set_option maxRecDepth 8192 in
theorem al_38 (h : Holds V0 s j) : (broadcastInDim S1x2x128x4x256 ![1, 2, 3, 4] bcast_S2x128x4x256_S1x2x128x4x256_1_2_3_4 (addf (transpose S2x128x4x256 [0, 3, 1, 2] (Host.dotGeneral dot_S2x128x4x256_S2x4x128x128_S2x4x256x128_1_3_3_2_02_01 none (res_main_while0b_v166 V0) (mulf (Host.dotGeneral dot_S2x128x4x128_S2x128x4x128_S2x4x128x128_3_3_1_1_02_02 none (res_main_while0b_v164 V0) (res_main_while0b_v165 V0)) (broadcastInDim S2x4x128x128 ![0, 1, 2, 3] bcast_S1x4x128x128_S2x4x128x128_0_1_2_3 (broadcastInDim S1x4x128x128 ![1, 2, 3] bcast_S4x128x128_S1x4x128x128_1_2_3 (V0 (Proc.devRef .tc main_v126_3)))))) transposes_S2x4x256x128_S2x128x4x256_0_3_1_2) (transpose S2x128x4x256 [0, 3, 1, 2] (Host.dotGeneral dot_S2x4x128x256_S2x128x4x128_S2x4x256x128_2_3_3_1_01_02 none (V0 (Proc.devRef .tc main_v126_8)) (mulf (res_main_while0b_v164 V0) (broadcastInDim S2x128x4x128 ![0, 1, 2, 3] bcast_S1x128x4x1_S2x128x4x128_0_1_2_3 (broadcastInDim S1x128x4x1 ![1, 2] bcast_S128x4_S1x128x4x1_1_2 (V0 (Proc.devRef .tc main_v126_4)))))) transposes_S2x4x256x128_S2x128x4x256_0_3_1_2)) : (Proc.devRef .tc main_while0b_call10_v0 : DevRef τ sig).ty.Contents (Elt F)) = Cert.RetBwdRefIdeal.Step.b38 j s := by
  unfold Cert.RetBwdRefIdeal.Step.b38
  rw [← al_29 h]
  try rfl
set_option maxRecDepth 8192 in
theorem al_39 (h : Holds V0 s j) : (constantI S_ 32 0#32 : (Proc.devRef .tc main_while0b_call10_c : DevRef τ sig).ty.Contents (Elt F)) = Cert.RetBwdRefIdeal.Step.b39 j s := by
  unfold Cert.RetBwdRefIdeal.Step.b39
  rfl
set_option maxRecDepth 8192 in
theorem al_40 (h : Holds V0 s j) : (constantI S_ 32 0#32 : (Proc.devRef .tc main_while0b_call10_c_0 : DevRef τ sig).ty.Contents (Elt F)) = Cert.RetBwdRefIdeal.Step.b40 j s := by
  unfold Cert.RetBwdRefIdeal.Step.b40
  rfl
set_option maxRecDepth 8192 in
theorem al_41 (h : Holds V0 s j) : (constantI S_ 32 0#32 : (Proc.devRef .tc main_while0b_call10_c_1 : DevRef τ sig).ty.Contents (Elt F)) = Cert.RetBwdRefIdeal.Step.b41 j s := by
  unfold Cert.RetBwdRefIdeal.Step.b41
  rfl
set_option maxRecDepth 8192 in
theorem al_42 (h : Holds V0 s j) : (constantI S_ 32 0#32 : (Proc.devRef .tc main_while0b_call10_c_2 : DevRef τ sig).ty.Contents (Elt F)) = Cert.RetBwdRefIdeal.Step.b42 j s := by
  unfold Cert.RetBwdRefIdeal.Step.b42
  rfl
set_option maxRecDepth 8192 in
theorem al_43 (h : Holds V0 s j) : (Host.dynamicUpdateSlice (V0 (Proc.devRef .tc main_v126_9)) (broadcastInDim S1x2x128x4x256 ![1, 2, 3, 4] bcast_S2x128x4x256_S1x2x128x4x256_1_2_3_4 (addf (transpose S2x128x4x256 [0, 3, 1, 2] (Host.dotGeneral dot_S2x128x4x256_S2x4x128x128_S2x4x256x128_1_3_3_2_02_01 none (res_main_while0b_v166 V0) (mulf (Host.dotGeneral dot_S2x128x4x128_S2x128x4x128_S2x4x128x128_3_3_1_1_02_02 none (res_main_while0b_v164 V0) (res_main_while0b_v165 V0)) (broadcastInDim S2x4x128x128 ![0, 1, 2, 3] bcast_S1x4x128x128_S2x4x128x128_0_1_2_3 (broadcastInDim S1x4x128x128 ![1, 2, 3] bcast_S4x128x128_S1x4x128x128_1_2_3 (V0 (Proc.devRef .tc main_v126_3)))))) transposes_S2x4x256x128_S2x128x4x256_0_3_1_2) (transpose S2x128x4x256 [0, 3, 1, 2] (Host.dotGeneral dot_S2x4x128x256_S2x128x4x128_S2x4x256x128_2_3_3_1_01_02 none (V0 (Proc.devRef .tc main_v126_8)) (mulf (res_main_while0b_v164 V0) (broadcastInDim S2x128x4x128 ![0, 1, 2, 3] bcast_S1x128x4x1_S2x128x4x128_0_1_2_3 (broadcastInDim S1x128x4x1 ![1, 2] bcast_S128x4_S1x128x4x1_1_2 (V0 (Proc.devRef .tc main_v126_4)))))) transposes_S2x4x256x128_S2x128x4x256_0_3_1_2))) (fun k => (((![V0 (Proc.devRef .tc main_v126_7), constantI S_ 32 0#32, constantI S_ 32 0#32, constantI S_ 32 0#32, constantI S_ 32 0#32] : Fin 5 → (⟨S_, .i32⟩ : BufTy).Contents (Elt F))) k (Shape.Idx.first h_S_)).toInt) updateFits_S66x2x128x4x256_S1x2x128x4x256 : (Proc.devRef .tc main_while0b_v187 : DevRef τ sig).ty.Contents (Elt F)) = Cert.RetBwdRefIdeal.Step.b43 j s := by
  unfold Cert.RetBwdRefIdeal.Step.b43
  rw [← al_38 h, ← al_39 h, ← al_40 h, ← al_41 h, ← al_42 h, h.f_9, h.n_7]
  try rfl

/-! One trip's step of the carried values is `step`, field by field; a counter steps to the next number. -/

theorem step_8 (h : Holds V0 s j) : step_main_v126_8 V0 = (step j s).main_v126_8 := by
  unfold step_main_v126_8 Cert.RetBwdRefIdeal.Step.step
  show id (addf (mulf (V0 (Proc.devRef .tc main_v126_8)) (broadcastInDim S2x4x128x256 ![0, 1, 2, 3] bcast_S1x4x1x1_S2x4x128x256_0_1_2_3 (broadcastInDim S1x4x1x1 ![1] bcast_S4_S1x4x1x1_1 (V0 (Proc.devRef .tc main_v126_5))))) (Host.dotGeneral dot_S2x128x4x128_S2x128x4x256_S2x4x128x256_1_1_3_3_02_02 none (mulf (res_main_while0b_v165 V0) (broadcastInDim S2x128x4x128 ![0, 1, 2, 3] bcast_S1x128x4x1_S2x128x4x128_0_1_2_3 (broadcastInDim S1x128x4x1 ![1, 2] bcast_S128x4_S1x128x4x1_1_2 (V0 (Proc.devRef .tc main_v126_6))))) (res_main_while0b_v166 V0))) = _
  rw [al_37 h]
  try rfl
theorem step_9 (h : Holds V0 s j) : step_main_v126_9 V0 = (step j s).main_v126_9 := by
  unfold step_main_v126_9 Cert.RetBwdRefIdeal.Step.step
  exact al_43 h
theorem step_7 (h : Holds V0 s j) : step_main_v126_7 V0 = constantI S_ 32 (BitVec.ofNat 32 (j + 1)) := by
  unfold step_main_v126_7
  rw [h.n_7]
  funext i
  show BitVec.ofNat 32 j + 1#32 = BitVec.ofNat 32 (j + 1)
  simp only [BitVec.ofNat_add]

set_option maxRecDepth 8192 in
theorem out_main_v163_holds (h : Holds V0 s j) {x_main_arg0 : (⟨S16896x10368, .f32⟩ : BufTy).Contents (Elt F)} (h_main_arg0 : V0 (Proc.devRef .tc main_arg0) = x_main_arg0) {x_main_arg4 : (⟨S16896x1024, .f32⟩ : BufTy).Contents (Elt F)} (h_main_arg4 : V0 (Proc.devRef .tc main_arg4) = x_main_arg4) {x_main_arg5 : (⟨S1024, .f32⟩ : BufTy).Contents (Elt F)} (h_main_arg5 : V0 (Proc.devRef .tc main_arg5) = x_main_arg5) : out_main_v163 V0 = Cert.RetBwdRefIdeal.Step.R_main_v163 s x_main_arg0 x_main_arg4 x_main_arg5 := by
  unfold out_main_v163 Cert.RetBwdRefIdeal.Step.R_main_v163
  rw [h.f_9, h_main_arg0, h_main_arg4, h_main_arg5]
  try rfl

/-- One trip keeps the valuation holding: `step` of the state, the same set-up values, the next number. -/
theorem holds_step (h : Holds V0 s j) : Holds (STEP V0) (step j s) (j + 1) where
  f_8 := (STEP_main_v126_8 V0).trans (step_8 h)
  f_9 := (STEP_main_v126_9 V0).trans (step_9 h)
  n_7 := (STEP_main_v126_7 V0).trans (step_7 h)
  f_0 := (STEP_main_v126_0 V0).trans h.f_0
  f_1 := (STEP_main_v126_1 V0).trans h.f_1
  f_2 := (STEP_main_v126_2 V0).trans h.f_2
  f_3 := (STEP_main_v126_3 V0).trans h.f_3
  f_4 := (STEP_main_v126_4 V0).trans h.f_4
  f_5 := (STEP_main_v126_5 V0).trans h.f_5
  f_6 := (STEP_main_v126_6 V0).trans h.f_6

end Cert.RetBwdRefIdeal.StepRun

end
-- ==== Proof.RetBwdRun.lean ====
module

public import proofs.«01_k».proof.Proof.RetBwdTrip

@[expose] public section

noncomputable section

/-!
What the reference's operations before its loop leave, value by value, and its result after the 66 trips.
-/

namespace Cert.RetBwdRefIdeal.StepRun

open Idealize.ShloMosaic Idealize.ShloMosaic.TcCoe Idealize.SL.Sem Idealize.ShloMosaic.StableHlo
open Cert.RetBwdRefIdeal Cert.RetBwdRefIdeal.Gen Cert.RetBwdRefIdeal.Value
open Cert.RetBwdRefIdeal.Step (State step init)

variable {F : FTy → Type} [FloatOps F]

variable {V0 : Valuation τ sig (Elt F)} {s : State F} {j : ℕ}

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 4000000 in
theorem entry_f_8 : entryContents preI m c (Proc.devRef .tc main_v126_8) = (initState m c).main_v126_8 := by
  simp only [entryContents, afterL_cons, afterL_nil]
  after_reads_simp
  rfl
set_option maxRecDepth 65536 in
set_option maxHeartbeats 4000000 in
theorem entry_f_9 : entryContents preI m c (Proc.devRef .tc main_v126_9) = (initState m c).main_v126_9 := by
  simp only [entryContents, afterL_cons, afterL_nil]
  after_reads_simp
  rfl
set_option maxRecDepth 65536 in
set_option maxHeartbeats 4000000 in
theorem entry_f_0 : entryContents preI m c (Proc.devRef .tc main_v126_0) = (initState m c).main_v126_0 := by
  simp only [entryContents, afterL_cons, afterL_nil]
  after_reads_simp
  rfl
set_option maxRecDepth 65536 in
set_option maxHeartbeats 4000000 in
theorem entry_f_1 : entryContents preI m c (Proc.devRef .tc main_v126_1) = (initState m c).main_v126_1 := by
  simp only [entryContents, afterL_cons, afterL_nil]
  after_reads_simp
  rfl
set_option maxRecDepth 65536 in
set_option maxHeartbeats 4000000 in
theorem entry_f_2 : entryContents preI m c (Proc.devRef .tc main_v126_2) = (initState m c).main_v126_2 := by
  simp only [entryContents, afterL_cons, afterL_nil]
  after_reads_simp
  rfl
set_option maxRecDepth 65536 in
set_option maxHeartbeats 4000000 in
theorem entry_f_3 : entryContents preI m c (Proc.devRef .tc main_v126_3) = (initState m c).main_v126_3 := by
  simp only [entryContents, afterL_cons, afterL_nil]
  after_reads_simp
  rfl
set_option maxRecDepth 65536 in
set_option maxHeartbeats 4000000 in
theorem entry_f_4 : entryContents preI m c (Proc.devRef .tc main_v126_4) = (initState m c).main_v126_4 := by
  simp only [entryContents, afterL_cons, afterL_nil]
  after_reads_simp
  rfl
set_option maxRecDepth 65536 in
set_option maxHeartbeats 4000000 in
theorem entry_f_5 : entryContents preI m c (Proc.devRef .tc main_v126_5) = (initState m c).main_v126_5 := by
  simp only [entryContents, afterL_cons, afterL_nil]
  after_reads_simp
  rfl
set_option maxRecDepth 65536 in
set_option maxHeartbeats 4000000 in
theorem entry_f_6 : entryContents preI m c (Proc.devRef .tc main_v126_6) = (initState m c).main_v126_6 := by
  simp only [entryContents, afterL_cons, afterL_nil]
  after_reads_simp
  rfl
set_option maxRecDepth 65536 in
set_option maxHeartbeats 4000000 in
theorem entry_n_7 : entryContents preI m c (Proc.devRef .tc main_v126_7) = constantI S_ 32 (BitVec.ofNat 32 0) := by
  simp only [entryContents, afterL_cons, afterL_nil]
  after_reads_simp
  rfl

/-- What the operations before the loop leave: the set-up values, number 0, the first state. -/
theorem entry_holds : Holds (entryContents preI m c) (initState m c) 0 where
  f_8 := entry_f_8 m c
  f_9 := entry_f_9 m c
  f_0 := entry_f_0 m c
  f_1 := entry_f_1 m c
  f_2 := entry_f_2 m c
  f_3 := entry_f_3 m c
  f_4 := entry_f_4 m c
  f_5 := entry_f_5 m c
  f_6 := entry_f_6 m c
  n_7 := entry_n_7 m c

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `RetBwdRefIdeal` terminates with each result at its field of state
    number 66 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v163) = Cert.RetBwdRefIdeal.Step.R_main_v163 (it c 66) (m ((c.tc : Thread nD τ).loc main_arg0)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 66
    ⟨(h c).1.trans (out_main_v163_holds hk (iter_main_arg0 m c 66) (iter_main_arg4 m c 66) (iter_main_arg5 m c 66)), (h c).2.1, (h c).2.2.1, (h c).2.2.2.1, (h c).2.2.2.2.1, (h c).2.2.2.2.2.1, (h c).2.2.2.2.2.2⟩) (Value.run m ρ)

end Cert.RetBwdRefIdeal.StepRun

end
-- ==== Proof.RetBack.lean ====
module

public import proofs.«01_k».proof.Proof.RetShared

@[expose] public section

set_option maxRecDepth 16384

noncomputable section

/-!
Retention backwards in time.

Backwards, position `t` of a chunk reads the positions `s` after it, and the chunks are met from the last to the first:
first the context's two, then the latents' 64.  Read in the turned order of positions this is retention forwards, because
position `t` counted from the other end has number `127 - t`.  The backward result is added to the forward one, normed
over a head's 256 columns, and gated.
-/

namespace Cert.Ret

open Idealize.ShloMosaic

/-! Backwards: position `t` reads position `s` at distance `s - t`. -/

def bwdD (lg : EReal) (t s : Fin 128) : EReal := decayOver lg (num s - num t)
def bwdQ (lg : EReal) (t : Fin 128) : EReal := Ideal.exp ((Ideal.ofBits .f32 1124073472#32 - num t) * lg)
def bwdK (lg : EReal) (t : Fin 128) : EReal := Ideal.exp (num t * lg)

/-- The chunk met at step `j`: the context's two, the later first, then the latents', the last first. -/
def met (j : ℕ) : ℕ := if j < 2 then 1 - j else 67 - j

theorem met_lt (j : ℕ) (hj : j < 66) : met j < 66 := by
  unfold met
  split_ifs <;> omega
theorem met_met (j : ℕ) (hj : j < 66) : met (met j) = j := by
  unfold met
  split_ifs <;> omega

/-- The backward state before step `j`, and the results of the chunk met there. -/
def bwdState (p : Proj) (cos sin : Table) (lg : EReal) (b : Fin 2) (h : Fin 4) (j : ℕ) : Vals :=
  state (fun j => chunkK p cos sin b h (met j)) (fun j => chunkV p b h (met j)) (decayChunk lg) (bwdK lg) j
def bwd (p : Proj) (cos sin : Table) (lg : EReal) (b : Fin 2) (h : Fin 4) (j : ℕ) (t : Fin 128) (w : Fin 256) : EReal :=
  out (chunkQ p cos sin b h (met j)) (chunkK p cos sin b h (met j)) (chunkV p b h (met j)) (bwdState p cos sin lg b h j) (bwdD lg) (bwdQ lg) t w

/-- The mean of a head's columns, the norm over them with its gain, and the gate. -/
def mean (o : Fin 256 → EReal) : EReal := Ideal.div (∑ w, o w) (Ideal.ofBits .f32 0x43800000#32)
def normed (o : Fin 256 → EReal) (gain : EReal) (w : Fin 256) : EReal :=
  (o w - mean o) * Ideal.rsqrt (mean (fun w => (o w - mean o) * (o w - mean o)) + Ideal.ofBits .f32 0x358637BD#32) * gain
def gated (o : Fin 256 → EReal) (gain g : EReal) (w : Fin 256) : EReal := g * Ideal.logistic g * normed o gain w

/-- Column `w` of head `h` of the gate. -/
def gateCol (h : Fin 4) (w : Fin 256) : Fin 10368 := ⟨2048 + (valCol h w).val, by have := (valCol h w).isLt; omega⟩

/-- Both directions together, for the chunk met at step `j`: the backward result with the forward one `fo` added, normed and
gated. -/
def both (p : Proj) (cos sin : Table) (lg : EReal) (fo : Fin 16896 → Fin 1024 → EReal) (gain : Fin 1024 → EReal) (b : Fin 2) (h : Fin 4)
    (j : ℕ) (t : Fin 128) (w : Fin 256) : EReal :=
  gated (fun w => bwd p cos sin lg b h j t w + fo (row b (met j) t) (valCol h w)) (gain (valCol h w)) (p (row b (met j) t) (gateCol h w)) w

/-! The turned order of positions. -/

/-- A chunk's rows in the turned order. -/
def flip {n : ℕ} (x : Fin 128 → Fin n → EReal) : Fin 128 → Fin n → EReal := fun t => x (Fin.rev t)

theorem num_eq (t : Fin 128) : num t = ((t.val : ℝ) : EReal) := by
  have h : ∀ t : Fin 128, (BitVec.ofNat 32 t.val).toInt = (t.val : ℤ) := by decide
  show (((BitVec.ofNat 32 t.val).toInt : ℝ) : EReal) = _
  rw [h]
  norm_cast

theorem ofBits_127 : Ideal.ofBits .f32 1123942400#32 = ((127 : ℝ) : EReal) := by
  simp [Ideal.ofBits, Ideal.ieee, -EReal.coe_mul]
  norm_num
theorem ofBits_128 : Ideal.ofBits .f32 1124073472#32 = ((128 : ℝ) : EReal) := by
  simp [Ideal.ofBits, Ideal.ieee, -EReal.coe_mul]
  norm_num

theorem num_rev (t : Fin 128) : num (Fin.rev t) = ((127 - t.val : ℝ) : EReal) := by
  rw [num_eq, Fin.val_rev]
  have := t.isLt
  rw [show (128 - (t.val + 1) : ℕ) = 127 - t.val by omega, Nat.cast_sub (by omega)]
  norm_num

theorem fwdD_rev (lg : EReal) (t s : Fin 128) : fwdD lg (Fin.rev t) (Fin.rev s) = bwdD lg t s := by
  unfold fwdD bwdD
  rw [num_rev, num_rev, num_eq, num_eq, ← EReal.coe_sub, ← EReal.coe_sub]
  congr 2
  ring
theorem fwdQ_rev (lg : EReal) (t : Fin 128) : fwdQ lg (Fin.rev t) = bwdQ lg t := by
  unfold fwdQ bwdQ
  rw [num_rev, num_eq, ofBits_128, ← EReal.coe_sub, show (1 : EReal) = ((1 : ℝ) : EReal) from rfl, ← EReal.coe_add]
  congr 3
  ring
theorem fwdK_rev (lg : EReal) (t : Fin 128) : fwdK lg (Fin.rev t) = bwdK lg t := by
  unfold fwdK bwdK
  rw [num_rev, num_eq, ofBits_127, ← EReal.coe_sub]
  congr 3
  ring

theorem sum_rev (f : Fin 128 → EReal) : ∑ s, f (Fin.rev s) = ∑ s, f s := Equiv.sum_comp Fin.revPerm f

/-! The joined turned sequence: its place for position `t` of step `j` holds position `127 - t` of the chunk met there. -/

theorem met_ctx (j : ℕ) (hj : j < 66) : met j < 2 ↔ j < 2 := by
  unfold met
  split_ifs <;> omega
theorem back_ctx (j : Fin 66) (b : Fin 2) (t : Fin 128) (hj : j.val < 2) (hb : (place j t).val < 256)
    (hr : 16384 + (b.val * 256 + (Fin.rev (⟨(place j t).val, hb⟩ : Fin 256)).val) < 16896) :
    (⟨16384 + (b.val * 256 + (Fin.rev (⟨(place j t).val, hb⟩ : Fin 256)).val), hr⟩ : Fin 16896) = row b (met j.val) (Fin.rev t) := by
  refine Fin.ext ?_
  rw [row_val _ _ (met_lt _ j.isLt), if_pos ((met_ctx _ j.isLt).mpr hj)]
  simp only [Fin.val_rev, place_val]
  have := t.isLt
  unfold met
  rw [if_pos hj]
  omega
theorem back_pos (j : Fin 66) (t : Fin 128) (hj : ¬j.val < 2) (hb : (place j t).val - 256 < 8192) :
    Fin.rev (⟨(place j t).val - 256, hb⟩ : Fin 8192) = pos (met j.val) (Fin.rev t) := by
  refine Fin.ext ?_
  rw [pos_val _ (met_lt _ j.isLt)]
  simp only [Fin.val_rev, place_val]
  have := t.isLt
  have := j.isLt
  unfold met
  rw [if_neg hj]
  omega
theorem back_row (j : Fin 66) (b : Fin 2) (t : Fin 128) (hj : ¬j.val < 2) (hb : b.val * 8192 + (pos (met j.val) t).val < 16896) :
    (⟨b.val * 8192 + (pos (met j.val) t).val, hb⟩ : Fin 16896) = row b (met j.val) t :=
  lat_row ⟨met j.val, met_lt _ j.isLt⟩ b t (mt (met_ctx _ j.isLt).mp hj) hb

/-- Forwards over turned rows is backwards. -/
theorem out_flip (q k : Keys) (v S : Vals) (lg : EReal) (t : Fin 128) (w : Fin 256) :
    out (flip q) (flip k) (flip v) S (fwdD lg) (fwdQ lg) (Fin.rev t) w = out q k v S (bwdD lg) (bwdQ lg) t w := by
  unfold out
  rw [← sum_rev (fun s => ((∑ d, flip q (Fin.rev t) d * flip k s d) * fwdD lg (Fin.rev t) s) * flip v s w)]
  simp only [flip, Fin.rev_rev, fwdD_rev, fwdQ_rev]
theorem next_flip (k : Keys) (v S : Vals) (dc lg : EReal) (d : Fin 128) (w : Fin 256) :
    next (flip k) (flip v) S dc (fwdK lg) d w = next k v S dc (bwdK lg) d w := by
  unfold next
  rw [← sum_rev (fun s => (flip k s d * fwdK lg s) * flip v s w)]
  simp only [flip, Fin.rev_rev, fwdK_rev]

end Cert.Ret

end
-- ==== Proof.RetBwdStep.lean ====
module

public import proofs.«01_k».proof.Proof.Gen.RetBwdIdeal.Value
public import proofs.«01_k».proof.Proof.RetBack
public import Idealize.ShloMosaic.Lib.Pipeline.ValueKit
public import Idealize.ShloMosaic.Lib.Pipeline.ReadBack
public import Idealize.ShloMosaic.Lib.Pointwise

@[expose] public section

set_option maxRecDepth 16384

noncomputable section

/-!
What one grid point of the backward retention call leaves behind, as a function of what its windows hold.

A point works on one chunk of one batch, all four heads.  It adds each head's result to the forward one, norms and gates
it, writes the heads beside each other and carries the four states on.  At the first chunk of a batch the states start from zero.
-/

namespace Cert.RetBwdIdeal.Step

open Cert.RetBwdIdeal Cert.RetBwdIdeal.Gen Idealize.ShloMosaic Idealize.ShloMosaic.TcCoe Idealize.SL.Sem

/-- A head's part of what the windows hold. -/
def headK (x : Vec Ideal S128x512 .f32) (h : Fin 4) : Ret.Keys := fun t d => x (ix2 t (Ret.keyCol h d))
def headV (x : Vec Ideal S128x1024 .f32) (h : Fin 4) : Ret.Vals := fun s w => x (ix2 s (Ret.valCol h w))
def headG (x : Vec Ideal S1x1024 .f32) (h : Fin 4) : Fin 256 → EReal := fun w => x (ix2 0 (Ret.valCol h w))
def headS (x : Vec Ideal S4x128x256 .f32) (h : Fin 4) : Ret.Vals := fun d w => x (ix3 h d w)
def table (x : Vec Ideal S128x128 .f32) : Ret.Keys := fun t d => x (ix2 t d)

/-- One head's result and next state, from its logit, its rows, the two tables and its state; the result with the forward
one added, normed and gated. -/
def backHead (a : EReal) (q k : Ret.Keys) (v : Ret.Vals) (cs sn : Ret.Keys) (S : Ret.Vals) (t : Fin 128) (w : Fin 256) : EReal :=
  Ret.out (Ret.turn q cs sn) (fun s d => Ret.turn k cs sn s d * Ret.keyScale) v S (Ret.bwdD (Ret.logDecay a)) (Ret.bwdQ (Ret.logDecay a)) t w
def outHead (a : EReal) (q k : Ret.Keys) (v : Ret.Vals) (cs sn : Ret.Keys) (S fo : Ret.Vals) (gn : Fin 256 → EReal) (ga : Ret.Vals) (t : Fin 128) (w : Fin 256) : EReal :=
  Ret.gated (fun w => backHead a q k v cs sn S t w + fo t w) (gn w) (ga t w) w
def nextHead (a : EReal) (k : Ret.Keys) (v : Ret.Vals) (cs sn : Ret.Keys) (S : Ret.Vals) (d : Fin 128) (w : Fin 256) : EReal :=
  Ret.next (fun s d => Ret.turn k cs sn s d * Ret.keyScale) v S (Ret.decayChunk (Ret.logDecay a)) (Ret.bwdK (Ret.logDecay a)) d w

section heads
variable (a : EReal) (q k : Vec Ideal S128x128 .f32) (v : Vec Ideal S128x256 .f32) (x4 x5 : Vec Ideal S128x128 .f32) (s : Vec Ideal S1x128x256 .f32)
  (fo : Vec Ideal S128x256 .f32) (gn : Vec Ideal S1x256 .f32) (ga : Vec Ideal S128x256 .f32)

theorem out3 (t : Fin 128) (w : Fin 256) : k0_pay1 (k0_pay58 (k0_pay49 k0_pay5 (k0_pay46 a) (k0_pay47 a)) (k0_pay52 v) (k0_pay53 (k0_pay3 x4) (k0_pay4 x5) q) (k0_pay55 (k0_pay3 x4) (k0_pay4 x5) k0_pay6 (k0_pay45 a) q k) s fo gn) ga (ix2 t w)
    = outHead a (table q) (table k) (fun s w => v (ix2 s w)) (table x4) (table x5) (fun d w => s (ix3 0 d w))
        (fun t w => fo (ix2 t w)) (fun w => gn (ix2 0 w)) (fun t w => ga (ix2 t w)) t w := by
  pointwise [k0_pay1, k0_pay58, k0_pay49, k0_pay52, k0_pay53, k0_pay55, k0_pay45, k0_pay46, k0_pay47, k0_pay48, k0_pay54, k0_pay56, k0_pay3, k0_pay4, k0_pay5, k0_pay6]
  rfl
theorem out2 (t : Fin 128) (w : Fin 256) : k0_pay44 (k0_pay42 (k0_pay3 x4) (k0_pay4 x5) (k0_pay35 k0_pay6 a) (k0_pay36 k0_pay5 a) q k v s) fo gn ga (ix2 t w)
    = outHead a (table q) (table k) (fun s w => v (ix2 s w)) (table x4) (table x5) (fun d w => s (ix3 0 d w))
        (fun t w => fo (ix2 t w)) (fun w => gn (ix2 0 w)) (fun t w => ga (ix2 t w)) t w := by
  pointwise [k0_pay44, k0_pay42, k0_pay35, k0_pay36, k0_pay34, k0_pay39, k0_pay40, k0_pay41, k0_pay3, k0_pay4, k0_pay5, k0_pay6]
  rfl
theorem out1 (t : Fin 128) (w : Fin 256) : k0_pay33 (k0_pay32 (k0_pay21 k0_pay6 (k0_pay18 a) (k0_pay19 a)) (k0_pay22 k0_pay5 a) (k0_pay25 v) (k0_pay26 (k0_pay3 x4) (k0_pay4 x5) q) (k0_pay27 (k0_pay3 x4) (k0_pay4 x5) k) k0_pay28 s fo) gn ga (ix2 t w)
    = outHead a (table q) (table k) (fun s w => v (ix2 s w)) (table x4) (table x5) (fun d w => s (ix3 0 d w))
        (fun t w => fo (ix2 t w)) (fun w => gn (ix2 0 w)) (fun t w => ga (ix2 t w)) t w := by
  pointwise [k0_pay33, k0_pay32, k0_pay21, k0_pay18, k0_pay19, k0_pay17, k0_pay22, k0_pay20, k0_pay25, k0_pay26, k0_pay27, k0_pay28, k0_pay29, k0_pay30, k0_pay3, k0_pay4, k0_pay5, k0_pay6]
  rfl
theorem out0 (t : Fin 128) (w : Fin 256) : k0_pay16 (k0_pay12 (k0_pay3 x4) (k0_pay4 x5) k0_pay5 (k0_pay7 a) (k0_pay8 a) q k v s) fo gn ga (ix2 t w)
    = outHead a (table q) (table k) (fun s w => v (ix2 s w)) (table x4) (table x5) (fun d w => s (ix3 0 d w))
        (fun t w => fo (ix2 t w)) (fun w => gn (ix2 0 w)) (fun t w => ga (ix2 t w)) t w := by
  pointwise [k0_pay16, k0_pay12, k0_pay7, k0_pay8, k0_pay9, k0_pay10, k0_pay11, k0_pay3, k0_pay4, k0_pay5, k0_pay6]
  rfl
theorem next3 (d : Fin 128) (w : Fin 256) : k0_pay57 (k0_pay50 k0_pay5 (k0_pay46 a) (k0_pay47 a)) (k0_pay51 (k0_pay46 a) (k0_pay47 a)) (k0_pay52 v) (k0_pay54 (k0_pay3 x4) (k0_pay4 x5) k) s (ix3 0 d w)
    = nextHead a (table k) (fun s w => v (ix2 s w)) (table x4) (table x5) (fun d w => s (ix3 0 d w)) d w := by
  pointwise [k0_pay57, k0_pay50, k0_pay51, k0_pay52, k0_pay54, k0_pay46, k0_pay47, k0_pay48, k0_pay56, k0_pay3, k0_pay4, k0_pay5, k0_pay6]
  rfl
theorem next2 (d : Fin 128) (w : Fin 256) : k0_pay43 (k0_pay3 x4) (k0_pay4 x5) (k0_pay37 k0_pay5 a) (k0_pay38 a) k v s (ix3 0 d w)
    = nextHead a (table k) (fun s w => v (ix2 s w)) (table x4) (table x5) (fun d w => s (ix3 0 d w)) d w := by
  pointwise [k0_pay43, k0_pay37, k0_pay38, k0_pay34, k0_pay39, k0_pay40, k0_pay41, k0_pay3, k0_pay4, k0_pay5, k0_pay6]
  rfl
theorem next1 (d : Fin 128) (w : Fin 256) : k0_pay31 (k0_pay23 k0_pay5 a) (k0_pay24 a) (k0_pay25 v) (k0_pay27 (k0_pay3 x4) (k0_pay4 x5) k) k0_pay28 s (ix3 0 d w)
    = nextHead a (table k) (fun s w => v (ix2 s w)) (table x4) (table x5) (fun d w => s (ix3 0 d w)) d w := by
  pointwise [k0_pay31, k0_pay23, k0_pay24, k0_pay20, k0_pay25, k0_pay27, k0_pay28, k0_pay29, k0_pay30, k0_pay3, k0_pay4, k0_pay5, k0_pay6]
  rfl
theorem next0 (d : Fin 128) (w : Fin 256) : k0_pay15 (k0_pay13 (k0_pay7 a) s) (k0_pay14 (k0_pay3 x4) (k0_pay4 x5) k0_pay5 (k0_pay7 a) k v) (ix3 0 d w)
    = nextHead a (table k) (fun s w => v (ix2 s w)) (table x4) (table x5) (fun d w => s (ix3 0 d w)) d w := by
  pointwise [k0_pay15, k0_pay13, k0_pay14, k0_pay7, k0_pay9, k0_pay10, k0_pay11, k0_pay3, k0_pay4, k0_pay5, k0_pay6]
  rfl
end heads

/-! What a window's piece of one head is. -/

section loads
variable (x0 : Vec Ideal S4 .f32) (x1 : Vec Ideal S128x512 .f32) (x3 : Vec Ideal S128x1024 .f32) (x8 : Vec Ideal S1x1024 .f32) (xs0 : Vec Ideal S4x128x256 .f32)

theorem logit0 : View.ld x0 (Rect.unit (s := S4) ![0] ![1] inb_S4_S1_0) (Shape.Idx.first (by decide)) = x0 (ix1 0) :=
  congrArg x0 (funext fun a => Fin.ext (by
    match a with
    | ⟨0, _⟩ => rfl))
theorem keys0 : table (View.ld x1 (Rect.unit (s := S128x512) ![0, 0] ![128, 128] inb_S128x512_S128x128_0_0)) = headK x1 0 :=
  funext fun t => funext fun d => congrArg x1 (funext fun a => Fin.ext (by
    match a with
    | ⟨0, _⟩ => show 0 + 1 * t.val = t.val; omega
    | ⟨1, _⟩ => show 0 + 1 * d.val = 0 * 128 + d.val; omega))
theorem vals0 : (fun s w => View.ld x3 (Rect.unit (s := S128x1024) ![0, 0] ![128, 256] inb_S128x1024_S128x256_0_0) (ix2 s w)) = headV x3 0 :=
  funext fun t => funext fun d => congrArg x3 (funext fun a => Fin.ext (by
    match a with
    | ⟨0, _⟩ => show 0 + 1 * t.val = t.val; omega
    | ⟨1, _⟩ => show 0 + 1 * d.val = 0 * 256 + d.val; omega))
theorem carried0 : (fun d w => View.ld xs0 (Rect.unit (s := S4x128x256) ![0, 0, 0] ![1, 128, 256] inb_S4x128x256_S1x128x256_0_0_0) (ix3 0 d w)) = headS xs0 0 :=
  funext fun d => funext fun w => congrArg xs0 (funext fun a => Fin.ext (by
    match a with
    | ⟨0, _⟩ => show 0 + 1 * 0 = 0; omega
    | ⟨1, _⟩ => show 0 + 1 * d.val = d.val; omega
    | ⟨2, _⟩ => show 0 + 1 * w.val = w.val; omega))

theorem logit1 : View.ld x0 (Rect.unit (s := S4) ![1] ![1] inb_S4_S1_1) (Shape.Idx.first (by decide)) = x0 (ix1 1) :=
  congrArg x0 (funext fun a => Fin.ext (by
    match a with
    | ⟨0, _⟩ => rfl))
theorem keys1 : table (View.ld x1 (Rect.unit (s := S128x512) ![0, 128] ![128, 128] inb_S128x512_S128x128_0_128)) = headK x1 1 :=
  funext fun t => funext fun d => congrArg x1 (funext fun a => Fin.ext (by
    match a with
    | ⟨0, _⟩ => show 0 + 1 * t.val = t.val; omega
    | ⟨1, _⟩ => show 128 + 1 * d.val = 1 * 128 + d.val; omega))
theorem vals1 : (fun s w => View.ld x3 (Rect.unit (s := S128x1024) ![0, 256] ![128, 256] inb_S128x1024_S128x256_0_256) (ix2 s w)) = headV x3 1 :=
  funext fun t => funext fun d => congrArg x3 (funext fun a => Fin.ext (by
    match a with
    | ⟨0, _⟩ => show 0 + 1 * t.val = t.val; omega
    | ⟨1, _⟩ => show 256 + 1 * d.val = 1 * 256 + d.val; omega))
theorem carried1 : (fun d w => View.ld xs0 (Rect.unit (s := S4x128x256) ![1, 0, 0] ![1, 128, 256] inb_S4x128x256_S1x128x256_1_0_0) (ix3 0 d w)) = headS xs0 1 :=
  funext fun d => funext fun w => congrArg xs0 (funext fun a => Fin.ext (by
    match a with
    | ⟨0, _⟩ => show 1 + 1 * 0 = 1; omega
    | ⟨1, _⟩ => show 0 + 1 * d.val = d.val; omega
    | ⟨2, _⟩ => show 0 + 1 * w.val = w.val; omega))

theorem logit2 : View.ld x0 (Rect.unit (s := S4) ![2] ![1] inb_S4_S1_2) (Shape.Idx.first (by decide)) = x0 (ix1 2) :=
  congrArg x0 (funext fun a => Fin.ext (by
    match a with
    | ⟨0, _⟩ => rfl))
theorem keys2 : table (View.ld x1 (Rect.unit (s := S128x512) ![0, 256] ![128, 128] inb_S128x512_S128x128_0_256)) = headK x1 2 :=
  funext fun t => funext fun d => congrArg x1 (funext fun a => Fin.ext (by
    match a with
    | ⟨0, _⟩ => show 0 + 1 * t.val = t.val; omega
    | ⟨1, _⟩ => show 256 + 1 * d.val = 2 * 128 + d.val; omega))
theorem vals2 : (fun s w => View.ld x3 (Rect.unit (s := S128x1024) ![0, 512] ![128, 256] inb_S128x1024_S128x256_0_512) (ix2 s w)) = headV x3 2 :=
  funext fun t => funext fun d => congrArg x3 (funext fun a => Fin.ext (by
    match a with
    | ⟨0, _⟩ => show 0 + 1 * t.val = t.val; omega
    | ⟨1, _⟩ => show 512 + 1 * d.val = 2 * 256 + d.val; omega))
theorem carried2 : (fun d w => View.ld xs0 (Rect.unit (s := S4x128x256) ![2, 0, 0] ![1, 128, 256] inb_S4x128x256_S1x128x256_2_0_0) (ix3 0 d w)) = headS xs0 2 :=
  funext fun d => funext fun w => congrArg xs0 (funext fun a => Fin.ext (by
    match a with
    | ⟨0, _⟩ => show 2 + 1 * 0 = 2; omega
    | ⟨1, _⟩ => show 0 + 1 * d.val = d.val; omega
    | ⟨2, _⟩ => show 0 + 1 * w.val = w.val; omega))

theorem logit3 : View.ld x0 (Rect.unit (s := S4) ![3] ![1] inb_S4_S1_3) (Shape.Idx.first (by decide)) = x0 (ix1 3) :=
  congrArg x0 (funext fun a => Fin.ext (by
    match a with
    | ⟨0, _⟩ => rfl))
theorem keys3 : table (View.ld x1 (Rect.unit (s := S128x512) ![0, 384] ![128, 128] inb_S128x512_S128x128_0_384)) = headK x1 3 :=
  funext fun t => funext fun d => congrArg x1 (funext fun a => Fin.ext (by
    match a with
    | ⟨0, _⟩ => show 0 + 1 * t.val = t.val; omega
    | ⟨1, _⟩ => show 384 + 1 * d.val = 3 * 128 + d.val; omega))
theorem vals3 : (fun s w => View.ld x3 (Rect.unit (s := S128x1024) ![0, 768] ![128, 256] inb_S128x1024_S128x256_0_768) (ix2 s w)) = headV x3 3 :=
  funext fun t => funext fun d => congrArg x3 (funext fun a => Fin.ext (by
    match a with
    | ⟨0, _⟩ => show 0 + 1 * t.val = t.val; omega
    | ⟨1, _⟩ => show 768 + 1 * d.val = 3 * 256 + d.val; omega))
theorem carried3 : (fun d w => View.ld xs0 (Rect.unit (s := S4x128x256) ![3, 0, 0] ![1, 128, 256] inb_S4x128x256_S1x128x256_3_0_0) (ix3 0 d w)) = headS xs0 3 :=
  funext fun d => funext fun w => congrArg xs0 (funext fun a => Fin.ext (by
    match a with
    | ⟨0, _⟩ => show 3 + 1 * 0 = 3; omega
    | ⟨1, _⟩ => show 0 + 1 * d.val = d.val; omega
    | ⟨2, _⟩ => show 0 + 1 * w.val = w.val; omega))
theorem gains0 : (fun w => View.ld x8 (Rect.unit (s := S1x1024) ![0, 0] ![1, 256] inb_S1x1024_S1x256_0_0) (ix2 0 w)) = headG x8 0 :=
  funext fun w => congrArg x8 (funext fun a => Fin.ext (by
    match a with
    | ⟨0, _⟩ => rfl
    | ⟨1, _⟩ => show 0 + 1 * w.val = 0 * 256 + w.val; omega))
theorem gains1 : (fun w => View.ld x8 (Rect.unit (s := S1x1024) ![0, 256] ![1, 256] inb_S1x1024_S1x256_0_256) (ix2 0 w)) = headG x8 1 :=
  funext fun w => congrArg x8 (funext fun a => Fin.ext (by
    match a with
    | ⟨0, _⟩ => rfl
    | ⟨1, _⟩ => show 256 + 1 * w.val = 1 * 256 + w.val; omega))
theorem gains2 : (fun w => View.ld x8 (Rect.unit (s := S1x1024) ![0, 512] ![1, 256] inb_S1x1024_S1x256_0_512) (ix2 0 w)) = headG x8 2 :=
  funext fun w => congrArg x8 (funext fun a => Fin.ext (by
    match a with
    | ⟨0, _⟩ => rfl
    | ⟨1, _⟩ => show 512 + 1 * w.val = 2 * 256 + w.val; omega))
theorem gains3 : (fun w => View.ld x8 (Rect.unit (s := S1x1024) ![0, 768] ![1, 256] inb_S1x1024_S1x256_0_768) (ix2 0 w)) = headG x8 3 :=
  funext fun w => congrArg x8 (funext fun a => Fin.ext (by
    match a with
    | ⟨0, _⟩ => rfl
    | ⟨1, _⟩ => show 768 + 1 * w.val = 3 * 256 + w.val; omega))
end loads

/-- The states start from zero. -/
def zeros : Vec Ideal S4x128x256 .f32 := fun _ => 0
theorem pay2 : k0_pay2 (F := Ideal) = zeros := by
  funext y
  rw [eq_ix3 y]
  pointwise [k0_pay2]
  rfl

/-- The four heads' results side by side, and the four next states. -/
def outAll (x0 : Vec Ideal S4 .f32) (x1 x2 : Vec Ideal S128x512 .f32) (x3 : Vec Ideal S128x1024 .f32) (x4 x5 : Vec Ideal S128x128 .f32)
    (x6 x7 : Vec Ideal S128x1024 .f32) (x8 : Vec Ideal S1x1024 .f32) (xs0 : Vec Ideal S4x128x256 .f32) : Vec Ideal S128x1024 .f32 := fun y =>
  outHead (x0 (ix1 (Ret.headOf (y 1)))) (headK x1 (Ret.headOf (y 1))) (headK x2 (Ret.headOf (y 1))) (headV x3 (Ret.headOf (y 1)))
    (table x4) (table x5) (headS xs0 (Ret.headOf (y 1))) (headV x6 (Ret.headOf (y 1))) (headG x8 (Ret.headOf (y 1))) (headV x7 (Ret.headOf (y 1))) (y 0) (Ret.inHead (y 1))
def nextAll (x0 : Vec Ideal S4 .f32) (x2 : Vec Ideal S128x512 .f32) (x3 : Vec Ideal S128x1024 .f32) (x4 x5 : Vec Ideal S128x128 .f32)
    (xs0 : Vec Ideal S4x128x256 .f32) : Vec Ideal S4x128x256 .f32 := fun y =>
  nextHead (x0 (ix1 (y 0))) (headK x2 (y 0)) (headV x3 (y 0)) (table x4) (table x5) (headS xs0 (y 0)) (y 1) (y 2)

section
variable (c : Dev nD) (t : Fin cfg0.N) (x0 : Vec Ideal S4 .f32) (x1 x2 : Vec Ideal S128x512 .f32) (x3 : Vec Ideal S128x1024 .f32)
  (x4 x5 : Vec Ideal S128x128 .f32) (x6 x7 : Vec Ideal S128x1024 .f32) (x8 : Vec Ideal S1x1024 .f32) (xs0 : Vec Ideal S4x128x256 .f32)

theorem outAll_at (h : Fin 4) (r : Fin 128) (w : Fin 256) (y : S128x1024.Idx) (hr : (y 0).val = r.val) (hw : (y 1).val = h.val * 256 + w.val) :
    outAll x0 x1 x2 x3 x4 x5 x6 x7 x8 xs0 y
    = outHead (x0 (ix1 h)) (headK x1 h) (headK x2 h) (headV x3 h) (table x4) (table x5) (headS xs0 h) (headV x6 h) (headG x8 h) (headV x7 h) r w := by
  have e0 : y 0 = r := Fin.ext hr
  have e1 : y 1 = Ret.valCol h w := Fin.ext hw
  unfold outAll
  rw [e0, e1, Ret.headOf_valCol, Ret.inHead_valCol]

theorem nextAll_at (h : Fin 4) (d : Fin 128) (w : Fin 256) (y : S4x128x256.Idx) (hh : (y 0).val = h.val) (hd : (y 1).val = d.val) (hw : (y 2).val = w.val) :
    nextAll x0 x2 x3 x4 x5 xs0 y
    = nextHead (x0 (ix1 h)) (headK x2 h) (headV x3 h) (table x4) (table x5) (headS xs0 h) d w := by
  have e0 : y 0 = h := Fin.ext hh
  have e1 : y 1 = d := Fin.ext hd
  have e2 : y 2 = w := Fin.ext hw
  unfold nextAll
  rw [e0, e1, e2]

theorem out_first (hc : cond0_0 (grid0.coords t)) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) hc x0 x1 x2 x3 x4 x5 x6 x7 x8 = outAll x0 x1 x2 x3 x4 x5 x6 x7 x8 zeros := by
  frame_open
  simp (disch := decide) only [↓ View.readCov_skip, ↓ View.readCov_cons_toLoadRect, ↓ View.readCov_fill]
  frame_out
  funext y
  canon_tiles x h
  · obtain ⟨r, w, rfl⟩ : ∃ (r : Fin 128) (w : Fin 256), x = ix2 r w := ⟨x 0, x 1, eq_ix2 x⟩
    rw [outAll_at _ _ _ _ _ _ _ _ _ _ 3 r w y (by simpa using h0) (by simpa using h1), pay2, out3, logit3, keys3, keys3, vals3, carried3, vals3, vals3, gains3]
  · obtain ⟨r, w, rfl⟩ : ∃ (r : Fin 128) (w : Fin 256), x = ix2 r w := ⟨x 0, x 1, eq_ix2 x⟩
    rw [outAll_at _ _ _ _ _ _ _ _ _ _ 2 r w y (by simpa using h0) (by simpa using h1), pay2, out2, logit2, keys2, keys2, vals2, carried2, vals2, vals2, gains2]
  · obtain ⟨r, w, rfl⟩ : ∃ (r : Fin 128) (w : Fin 256), x = ix2 r w := ⟨x 0, x 1, eq_ix2 x⟩
    rw [outAll_at _ _ _ _ _ _ _ _ _ _ 1 r w y (by simpa using h0) (by simpa using h1), pay2, out1, logit1, keys1, keys1, vals1, carried1, vals1, vals1, gains1]
  · obtain ⟨r, w, rfl⟩ : ∃ (r : Fin 128) (w : Fin 256), x = ix2 r w := ⟨x 0, x 1, eq_ix2 x⟩
    rw [outAll_at _ _ _ _ _ _ _ _ _ _ 0 r w y (by simpa using h0) (by simpa using h1), pay2, out0, logit0, keys0, keys0, vals0, carried0, vals0, vals0, gains0]

theorem out_rest (hc : ¬cond0_0 (grid0.coords t)) :
    out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) hc x0 x1 x2 x3 x4 x5 x6 x7 x8 xs0 = outAll x0 x1 x2 x3 x4 x5 x6 x7 x8 xs0 := by
  frame_open
  simp (disch := decide) only [↓ View.readCov_skip, ↓ View.readCov_cons_toLoadRect, ↓ View.readCov_fill]
  frame_out
  funext y
  canon_tiles x h
  · obtain ⟨r, w, rfl⟩ : ∃ (r : Fin 128) (w : Fin 256), x = ix2 r w := ⟨x 0, x 1, eq_ix2 x⟩
    rw [outAll_at _ _ _ _ _ _ _ _ _ _ 3 r w y (by simpa using h0) (by simpa using h1), (Memref.isWhole_whole cc0_scratch0).read_unread, out3, logit3, keys3, keys3, vals3, carried3, vals3, vals3, gains3]
  · obtain ⟨r, w, rfl⟩ : ∃ (r : Fin 128) (w : Fin 256), x = ix2 r w := ⟨x 0, x 1, eq_ix2 x⟩
    rw [outAll_at _ _ _ _ _ _ _ _ _ _ 2 r w y (by simpa using h0) (by simpa using h1), (Memref.isWhole_whole cc0_scratch0).read_unread, out2, logit2, keys2, keys2, vals2, carried2, vals2, vals2, gains2]
  · obtain ⟨r, w, rfl⟩ : ∃ (r : Fin 128) (w : Fin 256), x = ix2 r w := ⟨x 0, x 1, eq_ix2 x⟩
    rw [outAll_at _ _ _ _ _ _ _ _ _ _ 1 r w y (by simpa using h0) (by simpa using h1), (Memref.isWhole_whole cc0_scratch0).read_unread, out1, logit1, keys1, keys1, vals1, carried1, vals1, vals1, gains1]
  · obtain ⟨r, w, rfl⟩ : ∃ (r : Fin 128) (w : Fin 256), x = ix2 r w := ⟨x 0, x 1, eq_ix2 x⟩
    rw [outAll_at _ _ _ _ _ _ _ _ _ _ 0 r w y (by simpa using h0) (by simpa using h1), (Memref.isWhole_whole cc0_scratch0).read_unread, out0, logit0, keys0, keys0, vals0, carried0, vals0, vals0, gains0]

theorem next_rest (hc : ¬cond0_0 (grid0.coords t)) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) hc x0 x1 x2 x3 x4 x5 x6 x7 x8 xs0 = nextAll x0 x2 x3 x4 x5 xs0 := by
  frame_open
  simp (disch := decide) only [↓ View.readCov_skip, ↓ View.readCov_cons_toLoadRect, ↓ View.readCov_fill]
  frame_out
  funext y
  canon_tiles x h
  · obtain ⟨z, d, w, rfl⟩ : ∃ (z : Fin 1) (d : Fin 128) (w : Fin 256), x = ix3 z d w := ⟨x 0, x 1, x 2, eq_ix3 x⟩
    obtain rfl := Subsingleton.elim z 0
    rw [nextAll_at _ _ _ _ _ _ 3 d w y (by simpa using h0) (by simpa using h1) (by simpa using h2), (Memref.isWhole_whole cc0_scratch0).read_unread, next3, logit3, keys3, vals3, carried3]
  · obtain ⟨z, d, w, rfl⟩ : ∃ (z : Fin 1) (d : Fin 128) (w : Fin 256), x = ix3 z d w := ⟨x 0, x 1, x 2, eq_ix3 x⟩
    obtain rfl := Subsingleton.elim z 0
    rw [nextAll_at _ _ _ _ _ _ 2 d w y (by simpa using h0) (by simpa using h1) (by simpa using h2), (Memref.isWhole_whole cc0_scratch0).read_unread, next2, logit2, keys2, vals2, carried2]
  · obtain ⟨z, d, w, rfl⟩ : ∃ (z : Fin 1) (d : Fin 128) (w : Fin 256), x = ix3 z d w := ⟨x 0, x 1, x 2, eq_ix3 x⟩
    obtain rfl := Subsingleton.elim z 0
    rw [nextAll_at _ _ _ _ _ _ 1 d w y (by simpa using h0) (by simpa using h1) (by simpa using h2), (Memref.isWhole_whole cc0_scratch0).read_unread, next1, logit1, keys1, vals1, carried1]
  · obtain ⟨z, d, w, rfl⟩ : ∃ (z : Fin 1) (d : Fin 128) (w : Fin 256), x = ix3 z d w := ⟨x 0, x 1, x 2, eq_ix3 x⟩
    obtain rfl := Subsingleton.elim z 0
    rw [nextAll_at _ _ _ _ _ _ 0 d w y (by simpa using h0) (by simpa using h1) (by simpa using h2), (Memref.isWhole_whole cc0_scratch0).read_unread, next0, logit0, keys0, vals0, carried0]

theorem next_first (hc : cond0_0 (grid0.coords t)) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) hc x0 x1 x2 x3 x4 x5 x6 x7 x8 = nextAll x0 x2 x3 x4 x5 zeros := by
  frame_open
  simp (disch := decide) only [↓ View.readCov_skip, ↓ View.readCov_cons_toLoadRect, ↓ View.readCov_fill]
  frame_out
  funext y
  refine View.canon_append_of_piecesOf (nextAll x0 x2 x3 x4 x5 zeros) [_] [_, _, _, _] ⟨?_, ?_, ?_, ?_, trivial⟩ y ?_
  · intro x
    obtain ⟨z, d, w, rfl⟩ : ∃ (z : Fin 1) (d : Fin 128) (w : Fin 256), x = ix3 z d w := ⟨x 0, x 1, x 2, eq_ix3 x⟩
    obtain rfl := Subsingleton.elim z 0
    rw [nextAll_at _ _ _ _ _ _ 3 d w _ (show 3 + 1 * 0 = 3 by omega) (show 0 + 1 * d.val = d.val by omega) (show 0 + 1 * w.val = w.val by omega)]
    dsimp only
    rw [pay2, next3, logit3, keys3, vals3, carried3]
  · intro x
    obtain ⟨z, d, w, rfl⟩ : ∃ (z : Fin 1) (d : Fin 128) (w : Fin 256), x = ix3 z d w := ⟨x 0, x 1, x 2, eq_ix3 x⟩
    obtain rfl := Subsingleton.elim z 0
    rw [nextAll_at _ _ _ _ _ _ 2 d w _ (show 2 + 1 * 0 = 2 by omega) (show 0 + 1 * d.val = d.val by omega) (show 0 + 1 * w.val = w.val by omega)]
    dsimp only
    rw [pay2, next2, logit2, keys2, vals2, carried2]
  · intro x
    obtain ⟨z, d, w, rfl⟩ : ∃ (z : Fin 1) (d : Fin 128) (w : Fin 256), x = ix3 z d w := ⟨x 0, x 1, x 2, eq_ix3 x⟩
    obtain rfl := Subsingleton.elim z 0
    rw [nextAll_at _ _ _ _ _ _ 1 d w _ (show 1 + 1 * 0 = 1 by omega) (show 0 + 1 * d.val = d.val by omega) (show 0 + 1 * w.val = w.val by omega)]
    dsimp only
    rw [pay2, next1, logit1, keys1, vals1, carried1]
  · intro x
    obtain ⟨z, d, w, rfl⟩ : ∃ (z : Fin 1) (d : Fin 128) (w : Fin 256), x = ix3 z d w := ⟨x 0, x 1, x 2, eq_ix3 x⟩
    obtain rfl := Subsingleton.elim z 0
    rw [nextAll_at _ _ _ _ _ _ 0 d w _ (show 0 + 1 * 0 = 0 by omega) (show 0 + 1 * d.val = d.val by omega) (show 0 + 1 * w.val = w.val by omega)]
    dsimp only
    rw [pay2, next0, logit0, keys0, vals0, carried0]
  · have b0 : (y 0).val < 4 := (y 0).isLt
    have b1 : (y 1).val < 128 := (y 1).isLt
    have b2 : (y 2).val < 256 := (y 2).isLt
    have hh : (y 0).val = 3 ∨ (y 0).val = 2 ∨ (y 0).val = 1 ∨ (y 0).val = 0 := by omega
    rcases hh with h | h | h | h
    · exact ⟨_, .head _, (Rect.mem_set_unit (inb := inb_S4x128x256_S1x128x256_3_0_0)).mpr fun a => by
        match a with
        | ⟨0, _⟩ => show 3 ≤ (y 0).val ∧ (y 0).val < 3 + 1; omega
        | ⟨1, _⟩ => show 0 ≤ (y 1).val ∧ (y 1).val < 0 + 128; omega
        | ⟨2, _⟩ => show 0 ≤ (y 2).val ∧ (y 2).val < 0 + 256; omega⟩
    · exact ⟨_, .tail _ (.head _), (Rect.mem_set_unit (inb := inb_S4x128x256_S1x128x256_2_0_0)).mpr fun a => by
        match a with
        | ⟨0, _⟩ => show 2 ≤ (y 0).val ∧ (y 0).val < 2 + 1; omega
        | ⟨1, _⟩ => show 0 ≤ (y 1).val ∧ (y 1).val < 0 + 128; omega
        | ⟨2, _⟩ => show 0 ≤ (y 2).val ∧ (y 2).val < 0 + 256; omega⟩
    · exact ⟨_, .tail _ (.tail _ (.head _)), (Rect.mem_set_unit (inb := inb_S4x128x256_S1x128x256_1_0_0)).mpr fun a => by
        match a with
        | ⟨0, _⟩ => show 1 ≤ (y 0).val ∧ (y 0).val < 1 + 1; omega
        | ⟨1, _⟩ => show 0 ≤ (y 1).val ∧ (y 1).val < 0 + 128; omega
        | ⟨2, _⟩ => show 0 ≤ (y 2).val ∧ (y 2).val < 0 + 256; omega⟩
    · exact ⟨_, .tail _ (.tail _ (.tail _ (.head _))), (Rect.mem_set_unit (inb := inb_S4x128x256_S1x128x256_0_0_0)).mpr fun a => by
        match a with
        | ⟨0, _⟩ => show 0 ≤ (y 0).val ∧ (y 0).val < 0 + 1; omega
        | ⟨1, _⟩ => show 0 ≤ (y 1).val ∧ (y 1).val < 0 + 128; omega
        | ⟨2, _⟩ => show 0 ≤ (y 2).val ∧ (y 2).val < 0 + 256; omega⟩
end

end Cert.RetBwdIdeal.Step

end
-- ==== Proof.RetBwdWindow.lean ====
module

public import proofs.«01_k».proof.Proof.Gen.RetBwdIdeal.Value
public import proofs.«01_k».proof.Proof.RetBack
public import Idealize.ShloMosaic.Lib.Pointwise

@[expose] public section

set_option maxRecDepth 16384

noncomputable section

/-!
What the backward retention call's windows hold at a grid point: point `t` works on the chunk met at step `t % 66` of
batch `t / 66`.
The two rotary tables are laid out before the call, once for each batch's latents and without a turn for the context.
-/

namespace Cert.RetBwdIdeal.Window

open Cert.RetBwdIdeal Cert.RetBwdIdeal.Gen Idealize.ShloMosaic Idealize.ShloMosaic.TcCoe Idealize.SL.Sem

variable (m : (ℓ : Loc nD τ sig) → Buf (Elt Ideal) ℓ) (c : Dev nD) (t : Fin cfg0.N)

/-- The arguments, as arrays of extended reals. -/
abbrev argP : Vec Ideal S16896x10368 .f32 := m ((c : Thread nD τ).loc main_arg0)
abbrev argCos : Vec Ideal S8192x64 .f32 := m ((c : Thread nD τ).loc main_arg1)
abbrev argSin : Vec Ideal S8192x64 .f32 := m ((c : Thread nD τ).loc main_arg2)
abbrev argLogit : Vec Ideal S2x4 .f32 := m ((c : Thread nD τ).loc main_arg3)
abbrev argFwd : Vec Ideal S16896x1024 .f32 := m ((c : Thread nD τ).loc main_arg4)
abbrev argGain : Vec Ideal S1024 .f32 := m ((c : Thread nD τ).loc main_arg5)

/-- The batch a point works on. -/
def batchOf : Fin 2 := ⟨t.val / 66, by have h := lt_of_lt_of_eq t.isLt (show cfg0.N = 132 from N_0); omega⟩

/-- The block of 128 rows a point works on. -/
def blockOf (n : ℕ) : ℕ := if n % 66 < 2 then 128 + n / 66 * 2 + (1 - n % 66) else n / 66 * 64 + (65 - n % 66)

/-- The chunk a point works on. -/
abbrev chunkOf (t : Fin cfg0.N) : ℕ := Ret.met (t.val % 66)

theorem chunk_lt (t : Fin cfg0.N) : chunkOf t < 66 := Ret.met_lt _ (Nat.mod_lt _ (by omega))

theorem row_of_block (r : Fin 128) : blockOf t.val * 128 + 1 * r.val = (Ret.row (batchOf t) (chunkOf t) r).val := by
  rw [Ret.row_val _ _ (chunk_lt t)]
  have h66 : t.val % 66 < 66 := Nat.mod_lt _ (by omega)
  show _ = if chunkOf t < 2 then 16384 + t.val / 66 * 256 + chunkOf t * 128 + r.val else t.val / 66 * 8192 + (chunkOf t - 2) * 128 + r.val
  unfold blockOf chunkOf Ret.met
  split_ifs <;> omega

theorem index1 : ∀ t : Fin cfg0.N, win0_1.index t 0 = blockOf t.val ∧ win0_1.index t 1 = 0 := by decide +kernel
theorem index2 : ∀ t : Fin cfg0.N, win0_2.index t 0 = blockOf t.val ∧ win0_2.index t 1 = 1 := by decide +kernel
theorem index3 : ∀ t : Fin cfg0.N, win0_3.index t 0 = blockOf t.val ∧ win0_3.index t 1 = 1 := by decide +kernel
theorem index4 : ∀ t : Fin cfg0.N, win0_4.index t 0 = blockOf t.val ∧ win0_4.index t 1 = 0 := by decide +kernel
theorem index5 : ∀ t : Fin cfg0.N, win0_5.index t 0 = blockOf t.val ∧ win0_5.index t 1 = 0 := by decide +kernel
theorem index6 : ∀ t : Fin cfg0.N, win0_6.index t 0 = blockOf t.val ∧ win0_6.index t 1 = 0 := by decide +kernel
theorem index7 : ∀ t : Fin cfg0.N, win0_7.index t 0 = blockOf t.val ∧ win0_7.index t 1 = 2 := by decide +kernel
theorem index8 : ∀ t : Fin cfg0.N, win0_8.index t 0 = 0 ∧ win0_8.index t 1 = 0 := by decide +kernel
theorem index9 : ∀ t : Fin cfg0.N, win0_9.index t 0 = blockOf t.val ∧ win0_9.index t 1 = 0 := by decide +kernel
theorem index0 : ∀ t : Fin cfg0.N, win0_0.index t 0 = 0 := by decide +kernel

/-- The tables the call reads. -/
def cosRows (x : Vec Ideal S8192x64 .f32) : Vec Ideal S16896x128 .f32 :=
  concatenate S16896x128 0 [⟨S8192x128, concatenate S8192x128 1 [⟨S8192x64, x⟩, ⟨S8192x64, x⟩] concatenates_S8192x64_S8192x64_S8192x128_d1⟩,
    ⟨S8192x128, concatenate S8192x128 1 [⟨S8192x64, x⟩, ⟨S8192x64, x⟩] concatenates_S8192x64_S8192x64_S8192x128_d1⟩,
    ⟨S512x128, broadcastInDim S512x128 ![] bcast_S_S512x128 (constant (F := Ideal) S_ .f32 0x3F800000#32)⟩] concatenates_S8192x128_S8192x128_S512x128_S16896x128_d0
def sinRows (x : Vec Ideal S8192x64 .f32) : Vec Ideal S16896x128 .f32 :=
  concatenate S16896x128 0 [⟨S8192x128, concatenate S8192x128 1 [⟨S8192x64, Host.negf (F := Ideal) (φ := .f32) x⟩, ⟨S8192x64, x⟩] concatenates_S8192x64_S8192x64_S8192x128_d1⟩,
    ⟨S8192x128, concatenate S8192x128 1 [⟨S8192x64, Host.negf (F := Ideal) (φ := .f32) x⟩, ⟨S8192x64, x⟩] concatenates_S8192x64_S8192x64_S8192x128_d1⟩,
    ⟨S512x128, broadcastInDim S512x128 ![] bcast_S_S512x128 (constant (F := Ideal) S_ .f32 0x00000000#32)⟩] concatenates_S8192x128_S8192x128_S512x128_S16896x128_d0
theorem V_cos : (V m c main_v4 : Vec Ideal S16896x128 .f32) = cosRows (argCos m c) := rfl
theorem V_sin : (V m c main_v6 : Vec Ideal S16896x128 .f32) = sinRows (argSin m c) := rfl
theorem V_logit : (V m c main_v8 : Vec Ideal S4 .f32)
    = shapeCast S4 (extractStridedSlice S1x4 ![1, 0] (argLogit m c) slices_S2x4_S1x4_1_0) shapeCasts_S1x4_S4 := rfl

theorem V_gain : (V m c main_v9 : Vec Ideal S1x1024 .f32) = shapeCast S1x1024 (argGain m c) shapeCasts_S1024_S1x1024 := rfl

theorem cosRows_row (x : Vec Ideal S8192x64 .f32) (b : Fin 2) (n : ℕ) (hn : n < 66) (r d : Fin 128) :
    cosRows x (ix2 (Ret.row b n r) d) = Ret.cosAt (fun i j => x (ix2 i j)) n r d := by
  pointwise [cosRows]
  have hr := Ret.row_val b n hn r
  have hp := Ret.pos_val n hn r
  have hb := b.isLt
  have hd := d.isLt
  have ht := r.isLt
  have hh : (Ret.half d).val = d.val % 64 := rfl
  unfold Ret.cosAt
  have key : ∀ (A : Fin 8192) (B : Fin 64), A.val = (Ret.pos n r).val → B.val = (Ret.half d).val →
      x (ix2 A B) = x (ix2 (Ret.pos n r) (Ret.half d)) := fun A B hA hB => by rw [Fin.ext hA, Fin.ext hB]
  by_cases h2 : n < 2
  · rw [if_pos h2] at hr ⊢
    rw [dif_neg (by omega), dif_neg (by omega)]
  · rw [if_neg h2] at hr ⊢
    split_ifs <;> first | (exfalso; omega) | exact key _ _ (by dsimp only; omega) (by dsimp only; omega)
theorem sinRows_row (x : Vec Ideal S8192x64 .f32) (b : Fin 2) (n : ℕ) (hn : n < 66) (r d : Fin 128) :
    sinRows x (ix2 (Ret.row b n r) d) = Ret.sinAt (fun i j => x (ix2 i j)) n r d := by
  pointwise [sinRows]
  have hr := Ret.row_val b n hn r
  have hp := Ret.pos_val n hn r
  have hb := b.isLt
  have hd := d.isLt
  have ht := r.isLt
  have hh : (Ret.half d).val = d.val % 64 := rfl
  unfold Ret.sinAt
  have key : ∀ (A : Fin 8192) (B : Fin 64), A.val = (Ret.pos n r).val → B.val = (Ret.half d).val →
      x (ix2 A B) = x (ix2 (Ret.pos n r) (Ret.half d)) := fun A B hA hB => by rw [Fin.ext hA, Fin.ext hB]
  by_cases h2 : n < 2
  · rw [if_pos h2] at hr ⊢
    rw [dif_neg (by omega), dif_neg (by omega)]
  · rw [if_neg h2] at hr ⊢
    split_ifs <;> first | (exfalso; omega) | exact key _ _ (by dsimp only; omega) (by dsimp only; omega) | exact congrArg (fun z => -z) (key _ _ (by dsimp only; omega) (by dsimp only; omega))

theorem blk_q (r : Fin 128) (k : Fin 512) : (X0_1 m c t : Vec Ideal S128x512 .f32) (ix2 r k) = argP m c (ix2 (Ret.row (batchOf t) (chunkOf t) r) ⟨0 + k.val, by omega⟩) := by
  unfold X0_1 Pipeline.Window.fill
  rw [dif_pos (moved0_1 t _)]
  unfold iblk
  rw [View.read_apply]
  show (V m c main_arg0 : Vec Ideal S16896x10368 .f32) _ = _
  rw [V_main_arg0]
  refine congrArg (argP m c) (funext fun a => Fin.ext ?_)
  match a with
  | ⟨0, _⟩ => show win0_1.index t 0 * 128 + 1 * r.val = _; rw [(index1 t).1]; exact row_of_block t r
  | ⟨1, _⟩ => show win0_1.index t 1 * 512 + 1 * k.val = 0 + k.val; rw [(index1 t).2]; omega

theorem blk_k (r : Fin 128) (k : Fin 512) : (X0_2 m c t : Vec Ideal S128x512 .f32) (ix2 r k) = argP m c (ix2 (Ret.row (batchOf t) (chunkOf t) r) ⟨512 + k.val, by omega⟩) := by
  unfold X0_2 Pipeline.Window.fill
  rw [dif_pos (moved0_2 t _)]
  unfold iblk
  rw [View.read_apply]
  show (V m c main_arg0 : Vec Ideal S16896x10368 .f32) _ = _
  rw [V_main_arg0]
  refine congrArg (argP m c) (funext fun a => Fin.ext ?_)
  match a with
  | ⟨0, _⟩ => show win0_2.index t 0 * 128 + 1 * r.val = _; rw [(index2 t).1]; exact row_of_block t r
  | ⟨1, _⟩ => show win0_2.index t 1 * 512 + 1 * k.val = 512 + k.val; rw [(index2 t).2]; omega

theorem blk_v (r : Fin 128) (k : Fin 1024) : (X0_3 m c t : Vec Ideal S128x1024 .f32) (ix2 r k) = argP m c (ix2 (Ret.row (batchOf t) (chunkOf t) r) ⟨1024 + k.val, by omega⟩) := by
  unfold X0_3 Pipeline.Window.fill
  rw [dif_pos (moved0_3 t _)]
  unfold iblk
  rw [View.read_apply]
  show (V m c main_arg0 : Vec Ideal S16896x10368 .f32) _ = _
  rw [V_main_arg0]
  refine congrArg (argP m c) (funext fun a => Fin.ext ?_)
  match a with
  | ⟨0, _⟩ => show win0_3.index t 0 * 128 + 1 * r.val = _; rw [(index3 t).1]; exact row_of_block t r
  | ⟨1, _⟩ => show win0_3.index t 1 * 1024 + 1 * k.val = 1024 + k.val; rw [(index3 t).2]; omega

theorem blk_cos (r d : Fin 128) : (iblk m c 4 t : Vec Ideal S128x128 .f32) (ix2 r d)
    = Ret.cosAt (fun i j => argCos m c (ix2 i j)) (chunkOf t) r d := by
  unfold iblk
  rw [View.read_apply]
  show (V m c main_v4 : Vec Ideal S16896x128 .f32) _ = _
  rw [V_cos]
  refine Eq.trans (congrArg (cosRows (argCos m c)) (funext fun a => Fin.ext ?_ : _ = ix2 (Ret.row (batchOf t) (chunkOf t) r) d)) (cosRows_row (argCos m c) _ _ (chunk_lt t) r d)
  match a with
  | ⟨0, _⟩ => show win0_4.index t 0 * 128 + 1 * r.val = _; rw [(index4 t).1]; exact row_of_block t r
  | ⟨1, _⟩ => show win0_4.index t 1 * 128 + 1 * d.val = d.val; rw [(index4 t).2]; omega

theorem blk_sin (r d : Fin 128) : (iblk m c 5 t : Vec Ideal S128x128 .f32) (ix2 r d)
    = Ret.sinAt (fun i j => argSin m c (ix2 i j)) (chunkOf t) r d := by
  unfold iblk
  rw [View.read_apply]
  show (V m c main_v6 : Vec Ideal S16896x128 .f32) _ = _
  rw [V_sin]
  refine Eq.trans (congrArg (sinRows (argSin m c)) (funext fun a => Fin.ext ?_ : _ = ix2 (Ret.row (batchOf t) (chunkOf t) r) d)) (sinRows_row (argSin m c) _ _ (chunk_lt t) r d)
  match a with
  | ⟨0, _⟩ => show win0_5.index t 0 * 128 + 1 * r.val = _; rw [(index5 t).1]; exact row_of_block t r
  | ⟨1, _⟩ => show win0_5.index t 1 * 128 + 1 * d.val = d.val; rw [(index5 t).2]; omega

theorem blk_logit (h : Fin 4) : (iblk m c 0 t : Vec Ideal S4 .f32) (ix1 h) = argLogit m c (ix2 1 h) := by
  unfold iblk
  rw [View.read_apply]
  show (V m c main_v8 : Vec Ideal S4 .f32) _ = _
  rw [V_logit]
  refine Eq.trans (congrArg _ (funext fun a => Fin.ext ?_ : _ = ix1 h)) (?_ : shapeCast S4 (extractStridedSlice S1x4 ![1, 0] (argLogit m c) slices_S2x4_S1x4_1_0) shapeCasts_S1x4_S4 (ix1 h) = _)
  · match a with
    | ⟨0, _⟩ => show win0_0.index t 0 * 4 + 1 * h.val = h.val; rw [index0 t]; omega
  · pointwise []

theorem blk_gate (r : Fin 128) (k : Fin 1024) : (X0_7 m c t : Vec Ideal S128x1024 .f32) (ix2 r k) = argP m c (ix2 (Ret.row (batchOf t) (chunkOf t) r) ⟨2048 + k.val, by omega⟩) := by
  unfold X0_7 Pipeline.Window.fill
  rw [dif_pos (moved0_7 t _)]
  unfold iblk
  rw [View.read_apply]
  show (V m c main_arg0 : Vec Ideal S16896x10368 .f32) _ = _
  rw [V_main_arg0]
  refine congrArg (argP m c) (funext fun a => Fin.ext ?_)
  match a with
  | ⟨0, _⟩ => show win0_7.index t 0 * 128 + 1 * r.val = _; rw [(index7 t).1]; exact row_of_block t r
  | ⟨1, _⟩ => show win0_7.index t 1 * 1024 + 1 * k.val = 2048 + k.val; rw [(index7 t).2]; omega

theorem blk_fwd (r : Fin 128) (k : Fin 1024) : (iblk m c 6 t : Vec Ideal S128x1024 .f32) (ix2 r k) = argFwd m c (ix2 (Ret.row (batchOf t) (chunkOf t) r) k) := by
  unfold iblk
  rw [View.read_apply]
  show (V m c main_arg4 : Vec Ideal S16896x1024 .f32) _ = _
  rw [V_main_arg4]
  refine congrArg (argFwd m c) (funext fun a => Fin.ext ?_)
  match a with
  | ⟨0, _⟩ => show win0_6.index t 0 * 128 + 1 * r.val = _; rw [(index6 t).1]; exact row_of_block t r
  | ⟨1, _⟩ => show win0_6.index t 1 * 1024 + 1 * k.val = k.val; rw [(index6 t).2]; omega

theorem blk_gain (k : Fin 1024) : (iblk m c 8 t : Vec Ideal S1x1024 .f32) (ix2 0 k) = argGain m c (ix1 k) := by
  unfold iblk
  rw [View.read_apply]
  show (V m c main_v9 : Vec Ideal S1x1024 .f32) _ = _
  rw [V_gain]
  refine Eq.trans (congrArg _ (funext fun a => Fin.ext ?_ : _ = ix2 (0 : Fin 1) k)) (?_ : shapeCast S1x1024 (argGain m c) shapeCasts_S1024_S1x1024 (ix2 0 k) = _)
  · match a with
    | ⟨0, _⟩ => show win0_8.index t 0 * 1 + 1 * 0 = 0; rw [(index8 t).1]
    | ⟨1, _⟩ => show win0_8.index t 1 * 1024 + 1 * k.val = k.val; rw [(index8 t).2]; omega
  · pointwise []

end Cert.RetBwdIdeal.Window

end
-- ==== Proof.RetBwdFold.lean ====
module

public import proofs.«01_k».proof.Proof.RetBwdStep
public import proofs.«01_k».proof.Proof.RetBwdWindow

@[expose] public section

set_option maxRecDepth 16384

noncomputable section

/-!
Backward retention after every grid point, by induction on the point: the scratch holds the four heads' states after the
point's chunk, and the block holds the chunk's results, added to the forward ones, normed and gated.  The array the call leaves is made up of these blocks.
-/

namespace Cert.RetBwdIdeal.Fold

open Cert.RetBwdIdeal Cert.RetBwdIdeal.Gen Cert.RetBwdIdeal.Window Idealize.ShloMosaic Idealize.ShloMosaic.TcCoe Idealize.SL.Sem

variable (m : (ℓ : Loc nD τ sig) → Buf (Elt Ideal) ℓ) (c : Dev nD)

/-- The projected rows, the rotary tables and a head's decay. -/
abbrev proj : Ret.Proj := fun i j => argP m c (ix2 i j)
abbrev cosT : Ret.Table := fun i j => argCos m c (ix2 i j)
abbrev sinT : Ret.Table := fun i j => argSin m c (ix2 i j)
abbrev decay (h : Fin 4) : EReal := Ret.logDecay (argLogit m c (ix2 1 h))

abbrev stateAt (b : Fin 2) (h : Fin 4) (n : ℕ) : Ret.Vals := Ret.bwdState (proj m c) (cosT m c) (sinT m c) (decay m c h) b h n
abbrev outAt (b : Fin 2) (h : Fin 4) (n : ℕ) : Ret.Vals :=
  Ret.both (proj m c) (cosT m c) (sinT m c) (decay m c h) (fun i j => argFwd m c (ix2 i j)) (fun j => argGain m c (ix1 j)) b h n

section
variable (t : Fin cfg0.N)

theorem queries (h : Fin 4) : Step.headK (X0_1 m c t) h = Ret.rawQ (proj m c) (batchOf t) h (chunkOf t) :=
  funext fun r => funext fun d => (blk_q m c t r (Ret.keyCol h d)).trans
    (congrArg (fun k => argP m c (ix2 _ k)) (Fin.ext (show 0 + (h.val * 128 + d.val) = h.val * 128 + d.val by omega)))
theorem keys (h : Fin 4) : Step.headK (X0_2 m c t) h = Ret.rawK (proj m c) (batchOf t) h (chunkOf t) :=
  funext fun r => funext fun d => blk_k m c t r (Ret.keyCol h d)
theorem values (h : Fin 4) : Step.headV (X0_3 m c t) h = Ret.chunkV (proj m c) (batchOf t) h (chunkOf t) :=
  funext fun r => funext fun w => blk_v m c t r (Ret.valCol h w)
theorem forwards (h : Fin 4) : Step.headV (iblk m c 6 t) h = fun r w => argFwd m c (ix2 (Ret.row (batchOf t) (chunkOf t) r) (Ret.valCol h w)) :=
  funext fun r => funext fun w => blk_fwd m c t r (Ret.valCol h w)
theorem gates (h : Fin 4) : Step.headV (X0_7 m c t) h = fun r w => argP m c (ix2 (Ret.row (batchOf t) (chunkOf t) r) (Ret.gateCol h w)) :=
  funext fun r => funext fun w => blk_gate m c t r (Ret.valCol h w)
theorem gains (h : Fin 4) : Step.headG (iblk m c 8 t) h = fun w => argGain m c (ix1 (Ret.valCol h w)) :=
  funext fun w => blk_gain m c t (Ret.valCol h w)
theorem cosines : Step.table (iblk m c 4 t) = Ret.cosAt (cosT m c) (chunkOf t) := funext fun r => funext fun d => blk_cos m c t r d
theorem sines : Step.table (iblk m c 5 t) = Ret.sinAt (sinT m c) (chunkOf t) := funext fun r => funext fun d => blk_sin m c t r d

variable (S : Vec Ideal S4x128x256 .f32) (hS : ∀ h, Step.headS S h = stateAt m c (batchOf t) h (t.val % 66))

include hS in
theorem out_eq (h : Fin 4) (r : Fin 128) (w : Fin 256) :
    Step.outAll (iblk m c 0 t) (X0_1 m c t) (X0_2 m c t) (X0_3 m c t) (iblk m c 4 t) (iblk m c 5 t) (iblk m c 6 t) (X0_7 m c t) (iblk m c 8 t) S (ix2 r (Ret.valCol h w))
      = outAt m c (batchOf t) h (t.val % 66) r w := by
  rw [Step.outAll_at _ _ _ _ _ _ _ _ _ _ h r w _ rfl rfl, queries, keys, values, forwards, gates, gains, cosines, sines, hS, blk_logit]
  rfl

include hS in
theorem next_eq (h : Fin 4) : Step.headS (Step.nextAll (iblk m c 0 t) (X0_2 m c t) (X0_3 m c t) (iblk m c 4 t) (iblk m c 5 t) S) h
      = stateAt m c (batchOf t) h (t.val % 66 + 1) := by
  funext d w
  show Step.nextAll _ _ _ _ _ _ (ix3 h d w) = _
  rw [Step.nextAll_at _ _ _ _ _ _ h d w _ rfl rfl rfl, keys, values, cosines, sines, hS, blk_logit]
  rfl
end

/-- What the block and the scratch hold after a point. -/
def Holds (t : Fin cfg0.N) (st : Vec Ideal S128x1024 .f32 × Vec Ideal S4x128x256 .f32) : Prop :=
  (∀ h, Step.headS st.2 h = stateAt m c (batchOf t) h (t.val % 66 + 1))
    ∧ ∀ h r w, st.1 (ix2 r (Ret.valCol h w)) = outAt m c (batchOf t) h (t.val % 66) r w

theorem first (t : Fin cfg0.N) (h0 : t.val % 66 = 0) : Holds m c t (outsAt0 m c t.val t.isLt) := by
  have hS : ∀ h, Step.headS Step.zeros h = stateAt m c (batchOf t) h (t.val % 66) := fun h => by rw [h0]; rfl
  rw [outsAt0_A m c t h0]
  refine ⟨fun h => ?_, fun h r w => ?_⟩
  · dsimp only
    rw [Step.next_first]
    exact next_eq m c t _ hS h
  · dsimp only
    rw [Step.out_first]
    exact out_eq m c t _ hS h r w

theorem holds : ∀ (n : ℕ) (hn : n < cfg0.N), Holds m c ⟨n, hn⟩ (outsAt0 m c n hn)
  | 0, hn => first m c ⟨0, hn⟩ rfl
  | n + 1, hn => by
    by_cases h0 : (n + 1) % 66 = 0
    · exact first m c ⟨n + 1, hn⟩ h0
    obtain ⟨hx, -⟩ := holds n (Nat.lt_of_succ_lt hn)
    have hb : batchOf ⟨n, Nat.lt_of_succ_lt hn⟩ = batchOf ⟨n + 1, hn⟩ := Fin.ext (show n / 66 = (n + 1) / 66 by omega)
    have hS : ∀ h, Step.headS (outsAt0 m c n (Nat.lt_of_succ_lt hn)).2 h = stateAt m c (batchOf ⟨n + 1, hn⟩) h ((n + 1) % 66) :=
      fun h => by rw [hx, hb, show n % 66 + 1 = (n + 1) % 66 by omega]
    rw [outsAt0_B m c ⟨n + 1, hn⟩ h0]
    refine ⟨fun h => ?_, fun h r w => ?_⟩
    · dsimp only
      rw [Step.next_rest]
      exact next_eq m c ⟨n + 1, hn⟩ _ hS h
    · dsimp only
      rw [Step.out_rest]
      exact out_eq m c ⟨n + 1, hn⟩ _ hS h r w

/-- Every point writes its block back. -/
theorem writes : ∀ t : Fin cfg0.N, (cfg0.win 9).flush t = true := by decide +kernel

/-- The array the call leaves, at position `r` of the chunk met at step `n` of batch `b` and column `w` of head `h`. -/
theorem result (b : Fin 2) (n : ℕ) (hn : n < 66) (r : Fin 128) (h : Fin 4) (w : Fin 256) :
    ((dats m 0 c).arrAt 9 cfg0.N : Vec Ideal S16896x1024 .f32) (ix2 (Ret.row b (Ret.met n) r) (Ret.valCol h w)) = outAt m c b h n r w := by
  have hb := b.isLt
  let t : Fin cfg0.N := ⟨b.val * 66 + n, lt_of_lt_of_eq (by omega) (show cfg0.N = 132 from N_0).symm⟩
  have hm : t.val % 66 = n := by show (b.val * 66 + n) % 66 = n; omega
  have ht : batchOf t = b := Fin.ext (show (b.val * 66 + n) / 66 = b.val by omega)
  have hv := congrFun ((Value.blocks9 m c t (writes t)).trans (Value.flushed9 m c t)) (ix2 r (Ret.valCol h w))
  rw [View.read_apply] at hv
  have hi : (((cfg0.win 9).blk t).view.emb (ix2 r (Ret.valCol h w)) : S16896x1024.Idx) = ix2 (Ret.row b (Ret.met n) r) (Ret.valCol h w) := by
    refine funext fun a => Fin.ext ?_
    match a with
    | ⟨0, _⟩ =>
      show win0_9.index t 0 * 128 + 1 * r.val = (Ret.row b (Ret.met n) r).val
      rw [(index9 t).1, row_of_block t r, chunkOf, hm, ht]
    | ⟨1, _⟩ =>
      show win0_9.index t 1 * 1024 + 1 * (Ret.valCol h w).val = (Ret.valCol h w).val
      rw [(index9 t).2]
      omega
  refine Eq.trans ?_ (hv.trans ?_)
  · exact congrArg ((dats m 0 c).arrAt 9 cfg0.N : Vec Ideal S16896x1024 .f32) hi.symm
  · have := (holds m c t.val t.isLt).2 h r w
    rw [hm, ht] at this
    exact this

end Cert.RetBwdIdeal.Fold

end
-- ==== Proof.RetBwdSetup.lean ====
module

public import proofs.«01_k».proof.Proof.RetBack
public import proofs.«01_k».proof.Proof.Gen.RetBwdRefIdeal.Step
public import Idealize.ShloMosaic.Lib.Pointwise

@[expose] public section

set_option maxRecDepth 16384

noncomputable section

/-!
What the reference of backward retention computes before its loop over the chunks: the decays, and the chunks of the
queries, keys and values of the joined turned sequence.
-/

namespace Cert.RetBwdRefIdeal.Reference

open Cert.RetBwdRefIdeal Cert.RetBwdRefIdeal.Gen Cert.RetBwdRefIdeal.Step Idealize.ShloMosaic Idealize.ShloMosaic.TcCoe Idealize.SL.Sem

variable (p : (⟨S16896x10368, .f32⟩ : BufTy).Contents (Elt Ideal)) (cs sn : (⟨S8192x64, .f32⟩ : BufTy).Contents (Elt Ideal))
  (dl : (⟨S2x4, .f32⟩ : BufTy).Contents (Elt Ideal))

/-- The projected rows, the rotary tables and a head's decay. -/
abbrev proj : Ret.Proj := fun i j => p (ix2 i j)
abbrev table (x : (⟨S8192x64, .f32⟩ : BufTy).Contents (Elt Ideal)) : Ret.Table := fun i j => x (ix2 i j)
abbrev decay (h : Fin 4) : EReal := Ret.logDecay (dl (ix2 1 h))

theorem decay_at (h : Fin 4) : (A_main_v81 p cs sn dl : Vec Ideal S4 .f32) (ix1 h) = decay dl h := by
  pointwise [A_main_v81, A_main_v80, A_main_v69, A_main_v68, A_main_v60, A_main_v62, A_main_v67, A_main_v66, A_main_v65, A_main_v64, A_main_v63, A_main_v59, A_main_v57, A_main_v55, K_main_v56, K_main_v58, K_main_v61, K_main_cst_1]
  rw [if_neg (by simp)]
  exact Ret.logAddExp_eq _
theorem intra_at (h : Fin 4) (t s : Fin 128) : (A_main_v99 p cs sn dl : Vec Ideal S4x128x128 .f32) (ix3 h t s) = Ret.fwdD (decay dl h) t s := by
  pointwise [A_main_v99, A_main_v98, A_main_v97, A_main_v95, A_main_v91, K_main_call6_v1, K_main_call6_v2, K_main_call6_v0, K_main_cst_5, K_main_v96, K_main_v94, K_main_v93, K_main_v92, K_main_cst_4, K_main_v90, K_main_v89, K_main_cst_3, K_main_v88, K_main_v87, K_main_v86, K_main_v85, K_main_v84, K_main_v83, K_main_v82]
  rw [decay_at, show (id (constant (F := Ideal) S_ .f32 0#32) ix0 : EReal) = 0 by rw [id]; pointwise]
  rfl
theorem query_at (h : Fin 4) (t : Fin 128) : (A_main_v107 p cs sn dl : Vec Ideal S128x4 .f32) (ix2 t h) = Ret.fwdQ (decay dl h) t := by
  pointwise [A_main_v107, A_main_v106, A_main_v105, A_main_v103, K_main_v104, K_main_v102, K_main_v101, K_main_v100, K_main_cst_6, K_main_v83, K_main_v82]
  rw [decay_at]
  rfl
theorem whole_at (h : Fin 4) : (A_main_v118 p cs sn dl : Vec Ideal S4 .f32) (ix1 h) = Ret.decayChunk (decay dl h) := by
  pointwise [A_main_v118, A_main_v117, K_main_v116, K_main_cst_8]
  rw [decay_at]
  rfl
theorem key_at (h : Fin 4) (t : Fin 128) : (A_main_v115 p cs sn dl : Vec Ideal S128x4 .f32) (ix2 t h) = Ret.fwdK (decay dl h) t := by
  pointwise [A_main_v115, A_main_v114, A_main_v113, A_main_v111, K_main_v112, K_main_v110, K_main_v109, K_main_v108, K_main_cst_7, K_main_v83, K_main_v82]
  rw [decay_at]
  rfl

/-! The joined sequence, cut into chunks. -/

theorem swapV (x : Vec Ideal S2x66x128x4x256 .f32) (n : Fin 66) (b : Fin 2) (t : Fin 128) (h : Fin 4) (w : Fin 256) :
    transpose S66x2x128x4x256 [1, 0, 2, 3, 4] x transposes_S2x66x128x4x256_S66x2x128x4x256_1_0_2_3_4 (ix5 n b t h w) = x (ix5 b n t h w) := by
  pointwise
theorem swapK (x : Vec Ideal S2x66x128x4x128 .f32) (n : Fin 66) (b : Fin 2) (t : Fin 128) (h : Fin 4) (w : Fin 128) :
    transpose S66x2x128x4x128 [1, 0, 2, 3, 4] x transposes_S2x66x128x4x128_S66x2x128x4x128_1_0_2_3_4 (ix5 n b t h w) = x (ix5 b n t h w) := by
  pointwise
theorem cutV (x : Vec Ideal S2x8448x4x256 .f32) (n : Fin 66) (b : Fin 2) (t : Fin 128) (h : Fin 4) (w : Fin 256) :
    shapeCast S2x66x128x4x256 x shapeCasts_S2x8448x4x256_S2x66x128x4x256 (ix5 b n t h w) = x (ix4 b (Ret.place n t) h w) := by
  refine shapeCast_apply _ _ _ _ ?_
  rw [Shape.rowMajor_val_five, Shape.rowMajor_val_four]
  show ((b.val * 8448 + (n.val * 128 + t.val)) * 4 + h.val) * 256 + w.val = (((b.val * 66 + n.val) * 128 + t.val) * 4 + h.val) * 256 + w.val
  omega
theorem cutK (x : Vec Ideal S2x8448x4x128 .f32) (n : Fin 66) (b : Fin 2) (t : Fin 128) (h : Fin 4) (w : Fin 128) :
    shapeCast S2x66x128x4x128 x shapeCasts_S2x8448x4x128_S2x66x128x4x128 (ix5 b n t h w) = x (ix4 b (Ret.place n t) h w) := by
  refine shapeCast_apply _ _ _ _ ?_
  rw [Shape.rowMajor_val_five, Shape.rowMajor_val_four]
  show ((b.val * 8448 + (n.val * 128 + t.val)) * 4 + h.val) * 128 + w.val = (((b.val * 66 + n.val) * 128 + t.val) * 4 + h.val) * 128 + w.val
  omega

theorem turnCtx (x : Vec Ideal S2x256x4x256 .f32) (b : Fin 2) (l : Fin 256) (h : Fin 4) (w : Fin 256) :
    Host.reverse [1] x (ix4 b l h w) = x (ix4 b (Fin.rev l) h w) := by
  pointwise
  rfl
theorem turnLat (x : Vec Ideal S2x8192x4x256 .f32) (b : Fin 2) (l : Fin 8192) (h : Fin 4) (w : Fin 256) :
    Host.reverse [1] x (ix4 b l h w) = x (ix4 b (Fin.rev l) h w) := by
  pointwise
  rfl
theorem turnCtxK (x : Vec Ideal S2x256x4x128 .f32) (b : Fin 2) (l : Fin 256) (h : Fin 4) (w : Fin 128) :
    Host.reverse [1] x (ix4 b l h w) = x (ix4 b (Fin.rev l) h w) := by
  pointwise
  rfl
theorem turnLatK (x : Vec Ideal S2x8192x4x128 .f32) (b : Fin 2) (l : Fin 8192) (h : Fin 4) (w : Fin 128) :
    Host.reverse [1] x (ix4 b l h w) = x (ix4 b (Fin.rev l) h w) := by
  pointwise
  rfl

theorem joinV (l : Fin 8448) (b : Fin 2) (h : Fin 4) (w : Fin 256) : (A_main_v78 p cs sn dl : Vec Ideal S2x8448x4x256 .f32) (ix4 b l h w)
    = if hl : l.val < 256 then (A_main_v76 p cs sn dl : Vec Ideal S2x256x4x256 .f32) (ix4 b ⟨l.val, hl⟩ h w)
      else (A_main_v77 p cs sn dl : Vec Ideal S2x8192x4x256 .f32) (ix4 b ⟨l.val - 256, by omega⟩ h w) := by
  pointwise [A_main_v78]
theorem ctxV (l : Fin 256) (b : Fin 2) (h : Fin 4) (w : Fin 256) : (A_main_v13 p cs sn dl : Vec Ideal S2x256x4x256 .f32) (ix4 b l h w)
    = p (ix2 ⟨16384 + (b.val * 256 + l.val), by omega⟩ ⟨1024 + (h.val * 256 + w.val), by omega⟩) := by
  pointwise [A_main_v13, A_main_v12, A_main_v11, A_main_v2]
theorem latV (l : Fin 8192) (b : Fin 2) (h : Fin 4) (w : Fin 256) : (A_main_v54 p cs sn dl : Vec Ideal S2x8192x4x256 .f32) (ix4 b l h w)
    = p (ix2 ⟨b.val * 8192 + l.val, by omega⟩ ⟨1024 + (h.val * 256 + w.val), by omega⟩) := by
  pointwise [A_main_v54, A_main_v53, A_main_v52, A_main_v2]

/-- The values of step `n`: the chunk met there, in the turned order. -/
theorem values_at (n : Fin 66) (b : Fin 2) (t : Fin 128) (h : Fin 4) (w : Fin 256) :
    (A_main_v124 p cs sn dl : Vec Ideal S66x2x128x4x256 .f32) (ix5 n b t h w) = Ret.chunkV (proj p) b h (Ret.met n.val) (Fin.rev t) w := by
  unfold A_main_v124
  rw [swapV]
  unfold A_main_v123
  rw [cutV, joinV]
  by_cases hn : n.val < 2
  · rw [dif_pos ((Ret.place_ctx n t).mpr hn), A_main_v76, turnCtx, ctxV]
    exact congrArg (fun r => p (ix2 r _)) (Ret.back_ctx n b t hn _ _)
  · rw [dif_neg (mt (Ret.place_ctx n t).mp hn), A_main_v77, turnLat, Ret.back_pos n t hn, latV]
    exact congrArg (fun r => p (ix2 r _)) (Ret.back_row n b _ hn _)

theorem joinQ (l : Fin 8448) (b : Fin 2) (h : Fin 4) (d : Fin 128) : (A_main_v72 p cs sn dl : Vec Ideal S2x8448x4x128 .f32) (ix4 b l h d)
    = if hl : l.val < 256 then (A_main_v70 p cs sn dl : Vec Ideal S2x256x4x128 .f32) (ix4 b ⟨l.val, hl⟩ h d)
      else (A_main_v71 p cs sn dl : Vec Ideal S2x8192x4x128 .f32) (ix4 b ⟨l.val - 256, by omega⟩ h d) := by
  pointwise [A_main_v72]
theorem ctxQ (l : Fin 256) (b : Fin 2) (h : Fin 4) (d : Fin 128) : (A_main_v5 p cs sn dl : Vec Ideal S2x256x4x128 .f32) (ix4 b l h d)
    = p (ix2 ⟨16384 + (b.val * 256 + l.val), by omega⟩ ⟨h.val * 128 + d.val, by omega⟩) := by
  pointwise [A_main_v5, A_main_v4, A_main_v3, A_main_v0]
theorem latQ (l : Fin 8192) (b : Fin 2) (h : Fin 4) (d : Fin 128) : (A_main_v31 p cs sn dl : Vec Ideal S2x8192x4x128 .f32) (ix4 b l h d)
    = Ret.ropeRow (fun d => p (ix2 ⟨b.val * 8192 + l.val, by omega⟩ ⟨h.val * 128 + d.val, by omega⟩)) (fun e => cs (ix2 l e)) (fun e => sn (ix2 l e)) d := by
  pointwise [A_main_v31, A_main_v25, A_main_v22, A_main_v17, A_main_v16, A_main_v15, A_main_v14, A_main_v0, A_main_v21, A_main_v19, A_main_v24, A_main_v18, A_main_v23, A_main_v20, A_main_v30, A_main_v27, A_main_v26, A_main_v29, A_main_v28]
  rfl
theorem joinK (l : Fin 8448) (b : Fin 2) (h : Fin 4) (d : Fin 128) : (A_main_v75 p cs sn dl : Vec Ideal S2x8448x4x128 .f32) (ix4 b l h d)
    = if hl : l.val < 256 then (A_main_v73 p cs sn dl : Vec Ideal S2x256x4x128 .f32) (ix4 b ⟨l.val, hl⟩ h d)
      else (A_main_v74 p cs sn dl : Vec Ideal S2x8192x4x128 .f32) (ix4 b ⟨l.val - 256, by omega⟩ h d) := by
  pointwise [A_main_v75]
theorem ctxK (l : Fin 256) (b : Fin 2) (h : Fin 4) (d : Fin 128) : (A_main_v10 p cs sn dl : Vec Ideal S2x256x4x128 .f32) (ix4 b l h d)
    = p (ix2 ⟨16384 + (b.val * 256 + l.val), by omega⟩ ⟨512 + (h.val * 128 + d.val), by omega⟩) * Ret.keyScale := by
  pointwise [A_main_v10, A_main_v8, A_main_v7, A_main_v6, A_main_v1, K_main_v9, K_main_cst]
  rfl
theorem latK (l : Fin 8192) (b : Fin 2) (h : Fin 4) (d : Fin 128) : (A_main_v51 p cs sn dl : Vec Ideal S2x8192x4x128 .f32) (ix4 b l h d)
    = Ret.ropeRow (fun d => p (ix2 ⟨b.val * 8192 + l.val, by omega⟩ ⟨512 + (h.val * 128 + d.val), by omega⟩)) (fun e => cs (ix2 l e)) (fun e => sn (ix2 l e)) d * Ret.keyScale := by
  pointwise [A_main_v51, K_main_v50, K_main_cst_0, A_main_v49, A_main_v43, A_main_v40, A_main_v35, A_main_v34, A_main_v33, A_main_v32, A_main_v1, A_main_v39, A_main_v37, A_main_v42, A_main_v36, A_main_v41, A_main_v38, A_main_v48, A_main_v45, A_main_v44, A_main_v47, A_main_v46]
  rfl

/-- The queries and the keys of step `n`: the chunk met there, in the turned order. -/
theorem queries_at (n : Fin 66) (b : Fin 2) (t : Fin 128) (h : Fin 4) (d : Fin 128) :
    (A_main_v120 p cs sn dl : Vec Ideal S66x2x128x4x128 .f32) (ix5 n b t h d) = Ret.chunkQ (proj p) (table cs) (table sn) b h (Ret.met n.val) (Fin.rev t) d := by
  unfold A_main_v120
  rw [swapK]
  unfold A_main_v119 Ret.chunkQ
  rw [cutK, joinQ, Ret.turn_eq]
  by_cases hn : n.val < 2
  · rw [dif_pos ((Ret.place_ctx n t).mpr hn), A_main_v70, turnCtxK, ctxQ, if_pos ((Ret.met_ctx _ n.isLt).mpr hn)]
    exact congrArg (fun r => p (ix2 r _)) (Ret.back_ctx n b t hn _ _)
  · rw [dif_neg (mt (Ret.place_ctx n t).mp hn), A_main_v71, turnLatK, Ret.back_pos n t hn, latQ, if_neg (mt (Ret.met_ctx _ n.isLt).mp hn), Ret.back_row n b _ hn, ← Ret.ropeRow_eq]
    rfl
theorem keys_at (n : Fin 66) (b : Fin 2) (t : Fin 128) (h : Fin 4) (d : Fin 128) :
    (A_main_v122 p cs sn dl : Vec Ideal S66x2x128x4x128 .f32) (ix5 n b t h d) = Ret.chunkK (proj p) (table cs) (table sn) b h (Ret.met n.val) (Fin.rev t) d := by
  unfold A_main_v122
  rw [swapK]
  unfold A_main_v121 Ret.chunkK
  rw [cutK, joinK, Ret.turn_eq]
  by_cases hn : n.val < 2
  · rw [dif_pos ((Ret.place_ctx n t).mpr hn), A_main_v73, turnCtxK, ctxK, if_pos ((Ret.met_ctx _ n.isLt).mpr hn)]
    exact congrArg (fun r => p (ix2 r _) * Ret.keyScale) (Ret.back_ctx n b t hn _ _)
  · rw [dif_neg (mt (Ret.place_ctx n t).mp hn), A_main_v74, turnLatK, Ret.back_pos n t hn, latK, if_neg (mt (Ret.met_ctx _ n.isLt).mp hn), Ret.back_row n b _ hn, ← Ret.ropeRow_eq]
    rfl

end Cert.RetBwdRefIdeal.Reference

end
-- ==== Proof.RetBwdReference.lean ====
module

public import proofs.«01_k».proof.Proof.RetBwdSetup
public import Idealize.ShloMosaic.Lib.DynamicIndex

@[expose] public section

set_option maxRecDepth 16384

noncomputable section

/-!
The reference's loop over the chunks: the state it carries is the backward retention state, and the results of step `n`
land at place `n` of the array it collects them in.  Afterwards they are turned back, added to the forward ones, normed and
gated.
-/

namespace Cert.RetBwdRefIdeal.Reference

open Cert.RetBwdRefIdeal Cert.RetBwdRefIdeal.Gen Cert.RetBwdRefIdeal.Step Idealize.ShloMosaic Idealize.ShloMosaic.TcCoe Idealize.SL.Sem

section trip
variable (j : ℕ) (hj : j < 66) (s : State Ideal)

theorem start_eq : ∀ j : Fin 66, (BitVec.ofNat 32 j.val).toInt = (j.val : ℤ) := by decide

/-- What one trip reads of the three arrays of chunks. -/
abbrev sq (b : Fin 2) (h : Fin 4) : Ret.Keys := fun t d => (s.main_v126_0 : Vec Ideal S66x2x128x4x128 .f32) (ix5 ⟨j, hj⟩ b t h d)
abbrev sk (b : Fin 2) (h : Fin 4) : Ret.Keys := fun t d => (s.main_v126_1 : Vec Ideal S66x2x128x4x128 .f32) (ix5 ⟨j, hj⟩ b t h d)
abbrev sv (b : Fin 2) (h : Fin 4) : Ret.Vals := fun t w => (s.main_v126_2 : Vec Ideal S66x2x128x4x256 .f32) (ix5 ⟨j, hj⟩ b t h w)
abbrev sS (b : Fin 2) (h : Fin 4) : Ret.Vals := fun d w => (s.main_v126_8 : Vec Ideal S2x4x128x256 .f32) (ix4 b h d w)

include hj in
theorem fits : S66x2x128x4x128.Slices ![j, 0, 0, 0, 0] S1x2x128x4x128 := ⟨rfl, fun a => by
  match a with
  | ⟨0, _⟩ => show j + 1 ≤ 66; omega
  | ⟨1, _⟩ => show 0 + 2 ≤ 2; omega
  | ⟨2, _⟩ => show 0 + 128 ≤ 128; omega
  | ⟨3, _⟩ => show 0 + 4 ≤ 4; omega
  | ⟨4, _⟩ => show 0 + 128 ≤ 128; omega⟩
include hj in
theorem fitsV : S66x2x128x4x256.Slices ![j, 0, 0, 0, 0] S1x2x128x4x256 := ⟨rfl, fun a => by
  match a with
  | ⟨0, _⟩ => show j + 1 ≤ 66; omega
  | ⟨1, _⟩ => show 0 + 2 ≤ 2; omega
  | ⟨2, _⟩ => show 0 + 128 ≤ 128; omega
  | ⟨3, _⟩ => show 0 + 4 ≤ 4; omega
  | ⟨4, _⟩ => show 0 + 256 ≤ 256; omega⟩

theorem slice_q : b4 j s = extractStridedSlice S1x2x128x4x128 ![j, 0, 0, 0, 0] (s.main_v126_0 : Vec Ideal S66x2x128x4x128 .f32) (fits j hj) := by
  unfold b4
  refine Host.dynamicSlice_eq_extractStridedSlice _ _ _ _ _ (fits j hj) (fun a => ?_)
  match a with
  | ⟨0, _⟩ => exact start_eq ⟨j, hj⟩
  | ⟨1, _⟩ => rfl
  | ⟨2, _⟩ => rfl
  | ⟨3, _⟩ => rfl
  | ⟨4, _⟩ => rfl
theorem slice_k : b10 j s = extractStridedSlice S1x2x128x4x128 ![j, 0, 0, 0, 0] (s.main_v126_1 : Vec Ideal S66x2x128x4x128 .f32) (fits j hj) := by
  unfold b10
  refine Host.dynamicSlice_eq_extractStridedSlice _ _ _ _ _ (fits j hj) (fun a => ?_)
  match a with
  | ⟨0, _⟩ => exact start_eq ⟨j, hj⟩
  | ⟨1, _⟩ => rfl
  | ⟨2, _⟩ => rfl
  | ⟨3, _⟩ => rfl
  | ⟨4, _⟩ => rfl
theorem slice_v : b16 j s = extractStridedSlice S1x2x128x4x256 ![j, 0, 0, 0, 0] (s.main_v126_2 : Vec Ideal S66x2x128x4x256 .f32) (fitsV j hj) := by
  unfold b16
  refine Host.dynamicSlice_eq_extractStridedSlice _ _ _ _ _ (fitsV j hj) (fun a => ?_)
  match a with
  | ⟨0, _⟩ => exact start_eq ⟨j, hj⟩
  | ⟨1, _⟩ => rfl
  | ⟨2, _⟩ => rfl
  | ⟨3, _⟩ => rfl
  | ⟨4, _⟩ => rfl

theorem read_q (b : Fin 2) (t : Fin 128) (h : Fin 4) (d : Fin 128) : (b5 j s : Vec Ideal S2x128x4x128 .f32) (ix4 b t h d) = sq j hj s b h t d := by
  unfold b5
  rw [slice_q j hj]
  refine (shapeCast_apply _ _ _ (ix5 (0 : Fin 1) b t h d) ?_).trans (congrArg (s.main_v126_0 : Vec Ideal S66x2x128x4x128 .f32) (funext fun a => Fin.ext ?_))
  · rw [Shape.rowMajor_val_five, Shape.rowMajor_val_four]
    show (((0 * 2 + b.val) * 128 + t.val) * 4 + h.val) * 128 + d.val = ((b.val * 128 + t.val) * 4 + h.val) * 128 + d.val
    omega
  · match a with
    | ⟨0, _⟩ => rfl
    | ⟨1, _⟩ => exact Nat.zero_add _
    | ⟨2, _⟩ => exact Nat.zero_add _
    | ⟨3, _⟩ => exact Nat.zero_add _
    | ⟨4, _⟩ => exact Nat.zero_add _
theorem read_k (b : Fin 2) (t : Fin 128) (h : Fin 4) (d : Fin 128) : (b11 j s : Vec Ideal S2x128x4x128 .f32) (ix4 b t h d) = sk j hj s b h t d := by
  unfold b11
  rw [slice_k j hj]
  refine (shapeCast_apply _ _ _ (ix5 (0 : Fin 1) b t h d) ?_).trans (congrArg (s.main_v126_1 : Vec Ideal S66x2x128x4x128 .f32) (funext fun a => Fin.ext ?_))
  · rw [Shape.rowMajor_val_five, Shape.rowMajor_val_four]
    show (((0 * 2 + b.val) * 128 + t.val) * 4 + h.val) * 128 + d.val = ((b.val * 128 + t.val) * 4 + h.val) * 128 + d.val
    omega
  · match a with
    | ⟨0, _⟩ => rfl
    | ⟨1, _⟩ => exact Nat.zero_add _
    | ⟨2, _⟩ => exact Nat.zero_add _
    | ⟨3, _⟩ => exact Nat.zero_add _
    | ⟨4, _⟩ => exact Nat.zero_add _
theorem read_v (b : Fin 2) (t : Fin 128) (h : Fin 4) (w : Fin 256) : (b17 j s : Vec Ideal S2x128x4x256 .f32) (ix4 b t h w) = sv j hj s b h t w := by
  unfold b17
  rw [slice_v j hj]
  refine (shapeCast_apply _ _ _ (ix5 (0 : Fin 1) b t h w) ?_).trans (congrArg (s.main_v126_2 : Vec Ideal S66x2x128x4x256 .f32) (funext fun a => Fin.ext ?_))
  · rw [Shape.rowMajor_val_five, Shape.rowMajor_val_four]
    show (((0 * 2 + b.val) * 128 + t.val) * 4 + h.val) * 256 + w.val = ((b.val * 128 + t.val) * 4 + h.val) * 256 + w.val
    omega
  · match a with
    | ⟨0, _⟩ => rfl
    | ⟨1, _⟩ => exact Nat.zero_add _
    | ⟨2, _⟩ => exact Nat.zero_add _
    | ⟨3, _⟩ => exact Nat.zero_add _
    | ⟨4, _⟩ => exact Nat.zero_add _

/-- One trip's results, and the state after it. -/
theorem result_at (b : Fin 2) (t : Fin 128) (h : Fin 4) (w : Fin 256) : (b29 j s : Vec Ideal S2x128x4x256 .f32) (ix4 b t h w)
    = Ret.out (sq j hj s b h) (sk j hj s b h) (sv j hj s b h) (sS s b h) (fun t u => (s.main_v126_3 : Vec Ideal S4x128x128 .f32) (ix3 h t u))
        (fun t => (s.main_v126_4 : Vec Ideal S128x4 .f32) (ix2 t h)) t w := by
  pointwise [b29, b28, b27, b26, b25, b24, b23, b22, b21, b20, b19, b18]
  simp only [read_q j hj, read_k j hj, read_v j hj]
  unfold Ret.out
  congr 1 <;> exact Finset.sum_congr rfl fun _ _ => mul_comm _ _
theorem state_at (b : Fin 2) (h : Fin 4) (d : Fin 128) (w : Fin 256) : (b37 j s : Vec Ideal S2x4x128x256 .f32) (ix4 b h d w)
    = Ret.next (sk j hj s b h) (sv j hj s b h) (sS s b h) ((s.main_v126_5 : Vec Ideal S4 .f32) (ix1 h))
        (fun t => (s.main_v126_6 : Vec Ideal S128x4 .f32) (ix2 t h)) d w := by
  pointwise [b37, b36, b35, b34, b33, b32, b31, b30]
  simp only [read_k j hj, read_v j hj]
  rfl

theorem update : b43 j s = updateSlice (s.main_v126_9 : Vec Ideal S66x2x128x4x256 .f32) (b38 j s) ![j, 0, 0, 0, 0] (fitsV j hj) := by
  unfold b43
  refine Host.dynamicUpdateSlice_eq_updateSlice _ _ _ _ _ (fun a => ?_) (fitsV j hj)
  match a with
  | ⟨0, _⟩ =>
    show (min (max (BitVec.ofNat 32 j).toInt 0) ((66 - 1 : ℕ) : ℤ)).toNat = j
    rw [start_eq ⟨j, hj⟩]
    show (min (max (j : ℤ) 0) ((66 - 1 : ℕ) : ℤ)).toNat = j
    omega
  | ⟨1, _⟩ => rfl
  | ⟨2, _⟩ => rfl
  | ⟨3, _⟩ => rfl
  | ⟨4, _⟩ => rfl
theorem collect_new (b : Fin 2) (t : Fin 128) (h : Fin 4) (w : Fin 256) : (b43 j s : Vec Ideal S66x2x128x4x256 .f32) (ix5 ⟨j, hj⟩ b t h w)
    = (b29 j s : Vec Ideal S2x128x4x256 .f32) (ix4 b t h w) := by
  rw [update j hj]
  unfold updateSlice
  rw [dif_pos (fun a => by
    match a with
    | ⟨0, _⟩ => exact ⟨le_refl j, Nat.lt_succ_self j⟩
    | ⟨1, _⟩ => exact ⟨Nat.zero_le _, by show b.val < 0 + 2; omega⟩
    | ⟨2, _⟩ => exact ⟨Nat.zero_le _, by show t.val < 0 + 128; omega⟩
    | ⟨3, _⟩ => exact ⟨Nat.zero_le _, by show h.val < 0 + 4; omega⟩
    | ⟨4, _⟩ => exact ⟨Nat.zero_le _, by show w.val < 0 + 256; omega⟩)]
  unfold b38
  generalize (b29 j s : Vec Ideal S2x128x4x256 .f32) = y
  refine Eq.trans (congrArg _ (funext fun a => Fin.ext ?_ : _ = ix5 (0 : Fin 1) b t h w)) ?_
  · match a with
    | ⟨0, _⟩ => exact Nat.sub_self j
    | ⟨1, _⟩ => rfl
    | ⟨2, _⟩ => rfl
    | ⟨3, _⟩ => rfl
    | ⟨4, _⟩ => rfl
  · pointwise
include hj in
theorem collect_old (n : Fin 66) (hn : n.val ≠ j) (b : Fin 2) (t : Fin 128) (h : Fin 4) (w : Fin 256) :
    (b43 j s : Vec Ideal S66x2x128x4x256 .f32) (ix5 n b t h w) = (s.main_v126_9 : Vec Ideal S66x2x128x4x256 .f32) (ix5 n b t h w) := by
  rw [update j hj]
  unfold updateSlice
  refine dif_neg fun hin => hn ?_
  have h0 := hin ⟨0, by decide⟩
  have h1 : j ≤ n.val := h0.1
  have h2 : n.val < j + 1 := h0.2
  omega
end trip

section loop
variable (p : (⟨S16896x10368, .f32⟩ : BufTy).Contents (Elt Ideal)) (cs sn : (⟨S8192x64, .f32⟩ : BufTy).Contents (Elt Ideal))
  (dl : (⟨S2x4, .f32⟩ : BufTy).Contents (Elt Ideal))

/-- What the loop carries before trip `n`. -/
def iter : ℕ → State Ideal
  | 0 => init p cs sn dl
  | n + 1 => step n (iter n)

/-- The arrays the loop only reads are the ones it starts with. -/
structure Kept (s : State Ideal) : Prop where
  q : s.main_v126_0 = A_main_v120 p cs sn dl
  k : s.main_v126_1 = A_main_v122 p cs sn dl
  v : s.main_v126_2 = A_main_v124 p cs sn dl
  intra : s.main_v126_3 = A_main_v99 p cs sn dl
  query : s.main_v126_4 = A_main_v107 p cs sn dl
  whole : s.main_v126_5 = A_main_v118 p cs sn dl
  key : s.main_v126_6 = A_main_v115 p cs sn dl

theorem kept : ∀ n, Kept p cs sn dl (iter p cs sn dl n)
  | 0 => ⟨rfl, rfl, rfl, rfl, rfl, rfl, rfl⟩
  | n + 1 => ⟨(kept n).q, (kept n).k, (kept n).v, (kept n).intra, (kept n).query, (kept n).whole, (kept n).key⟩

theorem chunk_q (n : ℕ) (hn : n < 66) (s : State Ideal) (hs : Kept p cs sn dl s) (b : Fin 2) (h : Fin 4) :
    sq n hn s b h = Ret.flip (Ret.chunkQ (proj p) (table cs) (table sn) b h (Ret.met n)) := by
  funext t d
  show s.main_v126_0 _ = _
  rw [hs.q]
  exact queries_at p cs sn dl ⟨n, hn⟩ b t h d
theorem chunk_k (n : ℕ) (hn : n < 66) (s : State Ideal) (hs : Kept p cs sn dl s) (b : Fin 2) (h : Fin 4) :
    sk n hn s b h = Ret.flip (Ret.chunkK (proj p) (table cs) (table sn) b h (Ret.met n)) := by
  funext t d
  show s.main_v126_1 _ = _
  rw [hs.k]
  exact keys_at p cs sn dl ⟨n, hn⟩ b t h d
theorem chunk_v (n : ℕ) (hn : n < 66) (s : State Ideal) (hs : Kept p cs sn dl s) (b : Fin 2) (h : Fin 4) :
    sv n hn s b h = Ret.flip (Ret.chunkV (proj p) b h (Ret.met n)) := by
  funext t w
  show s.main_v126_2 _ = _
  rw [hs.v]
  exact values_at p cs sn dl ⟨n, hn⟩ b t h w

/-- The carried state is the retention state. -/
theorem carried (b : Fin 2) (h : Fin 4) : ∀ n, n ≤ 66 →
    sS (iter p cs sn dl n) b h = Ret.bwdState (proj p) (table cs) (table sn) (decay dl h) b h n
  | 0, _ => by
    funext d w
    show (K_main_v79 (F := Ideal) : Vec Ideal S2x4x128x256 .f32) (ix4 b h d w) = 0
    pointwise [K_main_v79, K_main_cst_2]
  | n + 1, hn => by
    have hs := kept p cs sn dl n
    funext d w
    show (b37 n (iter p cs sn dl n) : Vec Ideal S2x4x128x256 .f32) (ix4 b h d w) = _
    rw [state_at n (by omega), carried b h n (by omega), chunk_k p cs sn dl n _ _ hs, chunk_v p cs sn dl n _ _ hs, hs.whole, hs.key, whole_at]
    simp only [key_at]
    exact Ret.next_flip ..

/-- The results of a chunk stay where they were put. -/
theorem collected (n : Fin 66) (b : Fin 2) (t : Fin 128) (h : Fin 4) (w : Fin 256) : ∀ k, n.val < k → k ≤ 66 →
    ((iter p cs sn dl k).main_v126_9 : Vec Ideal S66x2x128x4x256 .f32) (ix5 n b t h w)
      = Ret.bwd (proj p) (table cs) (table sn) (decay dl h) b h n.val (Fin.rev t) w
  | 0, hk, _ => absurd hk (Nat.not_lt_zero _)
  | k + 1, hk, hle => by
    show (b43 k (iter p cs sn dl k) : Vec Ideal S66x2x128x4x256 .f32) (ix5 n b t h w) = _
    by_cases e : n.val = k
    · subst e
      have hs := kept p cs sn dl n.val
      rw [collect_new n.val n.isLt, result_at n.val n.isLt, carried p cs sn dl b h n.val (by omega), chunk_q p cs sn dl _ _ _ hs,
        chunk_k p cs sn dl _ _ _ hs, chunk_v p cs sn dl _ _ _ hs, hs.intra, hs.query]
      simp only [intra_at, query_at]
      refine Eq.trans ?_ (Ret.out_flip ..)
      rw [Fin.rev_rev]
    · rw [collect_old k (by omega) _ n e]
      exact collected n b t h w k (by omega) (by omega)

/-- The collected chunks, put back into one sequence. -/
theorem joined (x : Vec Ideal S66x2x128x4x256 .f32) (n : Fin 66) (b : Fin 2) (t : Fin 128) (h : Fin 4) (w : Fin 256) :
    shapeCast S2x8448x4x256 (transpose S2x66x128x4x256 [1, 0, 2, 3, 4] x transposes_S66x2x128x4x256_S2x66x128x4x256_1_0_2_3_4)
      shapeCasts_S2x66x128x4x256_S2x8448x4x256 (ix4 b (Ret.place n t) h w) = x (ix5 n b t h w) := by
  refine (shapeCast_apply _ _ _ (ix5 b n t h w) ?_).trans ?_
  · rw [Shape.rowMajor_val_five, Shape.rowMajor_val_four]
    show (((b.val * 66 + n.val) * 128 + t.val) * 4 + h.val) * 256 + w.val = ((b.val * 8448 + (n.val * 128 + t.val)) * 4 + h.val) * 256 + w.val
    omega
  · pointwise

theorem stack (a : Vec Ideal S16384x4x256 .f32) (c : Vec Ideal S512x4x256 .f32) (R : Fin 16896) (h : Fin 4) (w : Fin 256) :
    concatenate S16896x4x256 0 [⟨S16384x4x256, a⟩, ⟨S512x4x256, c⟩] concatenates_S16384x4x256_S512x4x256_S16896x4x256_d0 (ix3 R h w)
      = if hR : R.val < 16384 then a (ix3 ⟨R.val, hR⟩ h w) else c (ix3 ⟨R.val - 16384, by omega⟩ h w) := by
  pointwise
theorem flatLat (z : Vec Ideal S2x8192x4x256 .f32) (b : Fin 2) (l : Fin 8192) (h : Fin 4) (w : Fin 256) (r : Fin 16384) (hr : r.val = b.val * 8192 + l.val) :
    shapeCast S16384x4x256 z shapeCasts_S2x8192x4x256_S16384x4x256 (ix3 r h w) = z (ix4 b l h w) := by
  refine shapeCast_apply _ _ _ _ ?_
  rw [Shape.rowMajor_val_three, Shape.rowMajor_val_four]
  show ((b.val * 8192 + l.val) * 4 + h.val) * 256 + w.val = (r.val * 4 + h.val) * 256 + w.val
  rw [hr]
theorem flatCtx (z : Vec Ideal S2x256x4x256 .f32) (b : Fin 2) (l : Fin 256) (h : Fin 4) (w : Fin 256) (r : Fin 512) (hr : r.val = b.val * 256 + l.val) :
    shapeCast S512x4x256 z shapeCasts_S2x256x4x256_S512x4x256 (ix3 r h w) = z (ix4 b l h w) := by
  refine shapeCast_apply _ _ _ _ ?_
  rw [Shape.rowMajor_val_three, Shape.rowMajor_val_four]
  show ((b.val * 256 + l.val) * 4 + h.val) * 256 + w.val = (r.val * 4 + h.val) * 256 + w.val
  rw [hr]
theorem cutLat (y : Vec Ideal S2x8448x4x256 .f32) (b : Fin 2) (l : Fin 8192) (h : Fin 4) (w : Fin 256) :
    extractStridedSlice S2x8192x4x256 ![0, 256, 0, 0] y slices_S2x8448x4x256_S2x8192x4x256_0_256_0_0 (ix4 b l h w) = y (ix4 b ⟨256 + l.val, by omega⟩ h w) := by
  pointwise
theorem cutCtx (y : Vec Ideal S2x8448x4x256 .f32) (b : Fin 2) (l : Fin 256) (h : Fin 4) (w : Fin 256) :
    extractStridedSlice S2x256x4x256 ![0, 0, 0, 0] y slices_S2x8448x4x256_S2x256x4x256_0_0_0_0 (ix4 b l h w) = y (ix4 b ⟨l.val, by omega⟩ h w) := by
  pointwise

/-- The two parts of the sequence, turned back and laid out by rows. -/
theorem laid (y : Vec Ideal S2x8448x4x256 .f32) (n : Fin 66) (b : Fin 2) (t : Fin 128) (h : Fin 4) (w : Fin 256) :
    concatenate S16896x4x256 0 [⟨S16384x4x256, shapeCast _ (Host.reverse [1] (extractStridedSlice S2x8192x4x256 ![0, 256, 0, 0] y slices_S2x8448x4x256_S2x8192x4x256_0_256_0_0)) shapeCasts_S2x8192x4x256_S16384x4x256⟩,
        ⟨S512x4x256, shapeCast _ (Host.reverse [1] (extractStridedSlice S2x256x4x256 ![0, 0, 0, 0] y slices_S2x8448x4x256_S2x256x4x256_0_0_0_0)) shapeCasts_S2x256x4x256_S512x4x256⟩]
      concatenates_S16384x4x256_S512x4x256_S16896x4x256_d0 (ix3 (Ret.row b (Ret.met n.val) t) h w) = y (ix4 b (Ret.place n (Fin.rev t)) h w) := by
  have hr := Ret.row_val b (Ret.met n.val) (Ret.met_lt _ n.isLt) t
  have hb := b.isLt
  have hn := n.isLt
  have ht := t.isLt
  have hm : Ret.met n.val = if n.val < 2 then 1 - n.val else 67 - n.val := rfl
  rw [stack]
  by_cases h2 : n.val < 2
  · rw [if_pos h2] at hm
    rw [if_pos (by omega)] at hr
    rw [dif_neg (by omega), flatCtx _ b ⟨Ret.met n.val * 128 + t.val, by omega⟩ h w _ (by show (Ret.row b (Ret.met n.val) t).val - 16384 = b.val * 256 + (Ret.met n.val * 128 + t.val); omega), turnCtx, cutCtx]
    refine congrArg (fun l => y (ix4 b l h w)) (Fin.ext ?_)
    simp only [Fin.val_rev, Ret.place_val]
    omega
  · rw [if_neg h2] at hm
    rw [if_neg (by omega)] at hr
    rw [dif_pos (by omega), flatLat _ b ⟨(Ret.met n.val - 2) * 128 + t.val, by omega⟩ h w _ (hr.trans (Nat.add_assoc _ _ _)), turnLat, cutLat]
    refine congrArg (fun l => y (ix4 b l h w)) (Fin.ext ?_)
    simp only [Fin.val_rev, Ret.place_val]
    omega

theorem flat (z : Vec Ideal S16896x4x256 .f32) (R : Fin 16896) (h : Fin 4) (w : Fin 256) :
    shapeCast S16896x1024 z shapeCasts_S16896x4x256_S16896x1024 (ix2 R (Ret.valCol h w)) = z (ix3 R h w) := by
  refine shapeCast_apply _ _ _ _ ?_
  rw [Shape.rowMajor_val_two, Shape.rowMajor_val_three]
  show (R.val * 4 + h.val) * 256 + w.val = R.val * 1024 + (h.val * 256 + w.val)
  omega
theorem spread (x : Vec Ideal S16896x1024 .f32) (R : Fin 16896) (h : Fin 4) (w : Fin 256) :
    shapeCast S16896x4x256 x shapeCasts_S16896x1024_S16896x4x256 (ix3 R h w) = x (ix2 R (Ret.valCol h w)) := by
  refine shapeCast_apply _ _ _ _ ?_
  rw [Shape.rowMajor_val_two, Shape.rowMajor_val_three]
  show R.val * 1024 + (h.val * 256 + w.val) = (R.val * 4 + h.val) * 256 + w.val
  omega
theorem gains (x : Vec Ideal S1024 .f32) (h : Fin 4) (w : Fin 256) :
    shapeCast S4x256 x shapeCasts_S1024_S4x256 (ix2 h w) = x (ix1 (Ret.valCol h w)) := by
  refine shapeCast_apply _ _ _ _ ?_
  rw [Shape.rowMajor_val_two, Shape.rowMajor_val_one]
  rfl

section ends
variable (fo : Vec Ideal S16896x1024 .f32) (gain : Vec Ideal S1024 .f32)

/-- The reference's result at position `t` of the chunk met at step `n` of batch `b` and column `w` of head `h`. -/
theorem result (n : Fin 66) (b : Fin 2) (t : Fin 128) (h : Fin 4) (w : Fin 256) :
    (R_main_v163 (iter p cs sn dl 66) p fo gain : Vec Ideal S16896x1024 .f32) (ix2 (Ret.row b (Ret.met n.val) t) (Ret.valCol h w))
      = Ret.both (proj p) (table cs) (table sn) (decay dl h) (fun i j => fo (ix2 i j)) (fun j => gain (ix1 j)) b h n.val t w := by
  unfold R_main_v163
  generalize hy : concatenate S16896x4x256 0 [⟨S16384x4x256, (shapeCast _ (Host.reverse [1] (extractStridedSlice S2x8192x4x256 ![0, 256, 0, 0] (shapeCast _ (transpose S2x66x128x4x256 [1, 0, 2, 3, 4] ((iter p cs sn dl 66).main_v126_9) transposes_S66x2x128x4x256_S2x66x128x4x256_1_0_2_3_4) shapeCasts_S2x66x128x4x256_S2x8448x4x256) slices_S2x8448x4x256_S2x8192x4x256_0_256_0_0)) shapeCasts_S2x8192x4x256_S16384x4x256)⟩, ⟨S512x4x256, (shapeCast _ (Host.reverse [1] (extractStridedSlice S2x256x4x256 ![0, 0, 0, 0] (shapeCast _ (transpose S2x66x128x4x256 [1, 0, 2, 3, 4] ((iter p cs sn dl 66).main_v126_9) transposes_S66x2x128x4x256_S2x66x128x4x256_1_0_2_3_4) shapeCasts_S2x66x128x4x256_S2x8448x4x256) slices_S2x8448x4x256_S2x256x4x256_0_0_0_0)) shapeCasts_S2x256x4x256_S512x4x256)⟩] concatenates_S16384x4x256_S512x4x256_S16896x4x256_d0 = Y
  have hY : ∀ w, Y (ix3 (Ret.row b (Ret.met n.val) t) h w) = Ret.bwd (proj p) (table cs) (table sn) (decay dl h) b h n.val t w := fun w => by
    rw [← hy, laid, joined, collected p cs sn dl n b (Fin.rev t) h w 66 n.isLt (le_refl _), Fin.rev_rev]
  generalize hf : shapeCast S16896x4x256 fo shapeCasts_S16896x1024_S16896x4x256 = X
  have hX : ∀ R w, X (ix3 R h w) = fo (ix2 R (Ret.valCol h w)) := fun R w => by rw [← hf, spread]
  generalize hg : shapeCast S4x256 gain shapeCasts_S1024_S4x256 = G
  have hG : G (ix2 h w) = gain (ix1 (Ret.valCol h w)) := by rw [← hg, gains]
  unfold Ret.both
  generalize Ret.row b (Ret.met n.val) t = R at hY ⊢
  have hXY : ∀ w, X (ix3 R h w) + Y (ix3 R h w) = Ret.bwd (proj p) (table cs) (table sn) (decay dl h) b h n.val t w + fo (ix2 R (Ret.valCol h w)) :=
    fun w => by rw [hX, hY, add_comm]
  refine Eq.trans (congrArg (fun z : EReal => _ * z) (flat _ R h w)) ?_
  pointwise []
  simp only [hXY, hG]
  rfl
end ends
end loop

end Cert.RetBwdRefIdeal.Reference

end
-- ==== Proof.RetBwdEquation.lean ====
module

public import proofs.«01_k».proof.Proof.RetBwdFold
public import proofs.«01_k».proof.Proof.RetBwdReference

@[expose] public section

set_option maxRecDepth 16384

noncomputable section

/-!
Backward retention: on the same arguments the call and the plain formula give the same array.
-/

namespace Cert.Equation

open Idealize.ShloMosaic Idealize.ShloMosaic.TcCoe Idealize.SL.Sem

theorem retBwd (m : (ℓ : Loc RetBwdIdeal.nD RetBwdIdeal.τ RetBwdIdeal.sig) → Buf (Elt Ideal) ℓ)
    (m' : (ℓ : Loc RetBwdRefIdeal.nD RetBwdRefIdeal.τ RetBwdRefIdeal.sig) → Buf (Elt Ideal) ℓ) (c : Dev RetBwdIdeal.nD)
    (e0 : m' ((c : Thread RetBwdRefIdeal.nD RetBwdRefIdeal.τ).loc RetBwdRefIdeal.main_arg0) = m ((c : Thread RetBwdIdeal.nD RetBwdIdeal.τ).loc RetBwdIdeal.main_arg0))
    (e1 : m' ((c : Thread RetBwdRefIdeal.nD RetBwdRefIdeal.τ).loc RetBwdRefIdeal.main_arg1) = m ((c : Thread RetBwdIdeal.nD RetBwdIdeal.τ).loc RetBwdIdeal.main_arg1))
    (e2 : m' ((c : Thread RetBwdRefIdeal.nD RetBwdRefIdeal.τ).loc RetBwdRefIdeal.main_arg2) = m ((c : Thread RetBwdIdeal.nD RetBwdIdeal.τ).loc RetBwdIdeal.main_arg2))
    (e3 : m' ((c : Thread RetBwdRefIdeal.nD RetBwdRefIdeal.τ).loc RetBwdRefIdeal.main_arg3) = m ((c : Thread RetBwdIdeal.nD RetBwdIdeal.τ).loc RetBwdIdeal.main_arg3))
    (e4 : m' ((c : Thread RetBwdRefIdeal.nD RetBwdRefIdeal.τ).loc RetBwdRefIdeal.main_arg4) = m ((c : Thread RetBwdIdeal.nD RetBwdIdeal.τ).loc RetBwdIdeal.main_arg4))
    (e5 : m' ((c : Thread RetBwdRefIdeal.nD RetBwdRefIdeal.τ).loc RetBwdRefIdeal.main_arg5) = m ((c : Thread RetBwdIdeal.nD RetBwdIdeal.τ).loc RetBwdIdeal.main_arg5)) :
    RetBwdRefIdeal.Step.R_main_v163 (F := Ideal) (RetBwdRefIdeal.Reference.iter (m' ((c : Thread RetBwdRefIdeal.nD RetBwdRefIdeal.τ).loc RetBwdRefIdeal.main_arg0)) (m' ((c : Thread RetBwdRefIdeal.nD RetBwdRefIdeal.τ).loc RetBwdRefIdeal.main_arg1)) (m' ((c : Thread RetBwdRefIdeal.nD RetBwdRefIdeal.τ).loc RetBwdRefIdeal.main_arg2)) (m' ((c : Thread RetBwdRefIdeal.nD RetBwdRefIdeal.τ).loc RetBwdRefIdeal.main_arg3)) 66) (m' ((c : Thread RetBwdRefIdeal.nD RetBwdRefIdeal.τ).loc RetBwdRefIdeal.main_arg0)) (m' ((c : Thread RetBwdRefIdeal.nD RetBwdRefIdeal.τ).loc RetBwdRefIdeal.main_arg4)) (m' ((c : Thread RetBwdRefIdeal.nD RetBwdRefIdeal.τ).loc RetBwdRefIdeal.main_arg5)) = (RetBwdIdeal.Gen.dats m 0 c).arrAt 9 RetBwdIdeal.cfg0.N := by
  rw [e0, e1, e2, e3, e4, e5]
  funext i
  obtain ⟨R, k, rfl⟩ : ∃ (R : Fin 16896) (k : Fin 1024), i = ix2 R k := ⟨i 0, i 1, eq_ix2 i⟩
  obtain ⟨n, b, r, rfl⟩ := Ret.row_surj R
  rw [← Ret.valCol_headOf k, ← Ret.met_met n.val n.isLt]
  exact (RetBwdRefIdeal.Reference.result _ _ _ _ _ _ ⟨Ret.met n.val, Ret.met_lt _ n.isLt⟩ b r _ _).trans (RetBwdIdeal.Fold.result m c b (Ret.met n.val) (Ret.met_lt _ n.isLt) r _ _).symm

end Cert.Equation

end
-- ==== Proof.S5OutWindow.lean ====
module

public import proofs.«01_k».proof.Proof.Gen.S5OutIdeal.Value
public import Idealize.ShloMosaic.Lib.Pointwise

@[expose] public section

set_option maxRecDepth 16384

noncomputable section

/-!
What the windows of the state space branch's output call hold at a grid point: point `t` works on row tile `t`.
-/

namespace Cert.S5OutIdeal.Window

open Cert.S5OutIdeal Cert.S5OutIdeal.Gen Idealize.ShloMosaic Idealize.ShloMosaic.TcCoe Idealize.SL.Sem

variable (m : (ℓ : Loc nD τ sig) → Buf (Elt Ideal) ℓ) (c : Dev nD) (t : Fin cfg0.N)

/-- The arguments, as arrays of extended reals. -/
abbrev argF : Vec Ideal S16896x1024 .f32 := m ((c : Thread nD τ).loc main_arg0)
abbrev argB : Vec Ideal S16896x1024 .f32 := m ((c : Thread nD τ).loc main_arg1)
abbrev argP : Vec Ideal S16896x10368 .f32 := m ((c : Thread nD τ).loc main_arg2)
abbrev argD : Vec Ideal S1024 .f32 := m ((c : Thread nD τ).loc main_arg3)
abbrev argW : Vec Ideal S1024x1024 .f32 := m ((c : Thread nD τ).loc main_arg4)
abbrev argBias : Vec Ideal S1024 .f32 := m ((c : Thread nD τ).loc main_arg5)

/-- The row of the array that row `r` of the point's tile is. -/
def rowOf (r : Fin 512) : Fin 16896 :=
  ⟨t.val * 512 + r.val, by have h := lt_of_lt_of_eq t.isLt (show cfg0.N = 33 from N_0); have := r.isLt; omega⟩

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 3 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = t.val ∧ win0_6.index t 1 = 0 := by decide +kernel

/-! The host code before the call: two vectors as rows of an array, and the weight's cast, which over the extended reals
leaves it as it is. -/
theorem V_d : (V m c main_v0 : Vec Ideal S1x1024 .f32) = shapeCast S1x1024 (argD m c) shapeCasts_S1024_S1x1024 := rfl
theorem V_w : (V m c main_v1 : Vec Ideal S1024x1024 .bf16) = argW m c := rfl
theorem V_bias : (V m c main_v2 : Vec Ideal S1x1024 .f32) = shapeCast S1x1024 (argBias m c) shapeCasts_S1024_S1x1024 := rfl
theorem row1 (x : Vec Ideal S1024 .f32) (k : Fin 1024) : shapeCast S1x1024 x shapeCasts_S1024_S1x1024 (ix2 0 k) = x (ix1 k) := by
  pointwise []

theorem blk_fwd (r : Fin 512) (k : Fin 1024) : (iblk m c 0 t : Vec Ideal S512x1024 .f32) (ix2 r k) = argF m c (ix2 (rowOf t r) k) := by
  unfold iblk
  rw [View.read_apply]
  show (V m c main_arg0 : Vec Ideal S16896x1024 .f32) _ = _
  rw [V_main_arg0]
  refine congrArg (argF m c) (funext fun a => Fin.ext ?_)
  match a with
  | ⟨0, _⟩ => show win0_0.index t 0 * 512 + 1 * r.val = t.val * 512 + r.val; rw [(index0 t).1]; omega
  | ⟨1, _⟩ => show win0_0.index t 1 * 1024 + 1 * k.val = k.val; rw [(index0 t).2]; omega

theorem blk_bwd (r : Fin 512) (k : Fin 1024) : (iblk m c 1 t : Vec Ideal S512x1024 .f32) (ix2 r k) = argB m c (ix2 (rowOf t r) k) := by
  unfold iblk
  rw [View.read_apply]
  show (V m c main_arg1 : Vec Ideal S16896x1024 .f32) _ = _
  rw [V_main_arg1]
  refine congrArg (argB m c) (funext fun a => Fin.ext ?_)
  match a with
  | ⟨0, _⟩ => show win0_1.index t 0 * 512 + 1 * r.val = t.val * 512 + r.val; rw [(index1 t).1]; omega
  | ⟨1, _⟩ => show win0_1.index t 1 * 1024 + 1 * k.val = k.val; rw [(index1 t).2]; omega

theorem blk_u (r : Fin 512) (k : Fin 1024) : (X0_2 m c t : Vec Ideal S512x1024 .f32) (ix2 r k) = argP m c (ix2 (rowOf t r) ⟨3072 + k.val, by omega⟩) := by
  unfold X0_2 Pipeline.Window.fill
  rw [dif_pos (moved0_2 t _)]
  unfold iblk
  rw [View.read_apply]
  show (V m c main_arg2 : Vec Ideal S16896x10368 .f32) _ = _
  rw [V_main_arg2]
  refine congrArg (argP m c) (funext fun a => Fin.ext ?_)
  match a with
  | ⟨0, _⟩ => show win0_2.index t 0 * 512 + 1 * r.val = t.val * 512 + r.val; rw [(index2 t).1]; omega
  | ⟨1, _⟩ => show win0_2.index t 1 * 1024 + 1 * k.val = 3072 + k.val; rw [(index2 t).2]; omega

theorem blk_w (j k : Fin 1024) : (iblk m c 4 t : Vec Ideal S1024x1024 .bf16) (ix2 j k) = argW m c (ix2 j k) := by
  unfold iblk
  rw [View.read_apply]
  show (V m c main_v1 : Vec Ideal S1024x1024 .bf16) _ = _
  rw [V_w]
  refine congrArg (argW m c) (funext fun a => Fin.ext ?_)
  match a with
  | ⟨0, _⟩ => show win0_4.index t 0 * 1024 + 1 * j.val = j.val; rw [(index4 t).1]; omega
  | ⟨1, _⟩ => show win0_4.index t 1 * 1024 + 1 * k.val = k.val; rw [(index4 t).2]; omega

theorem blk_d (k : Fin 1024) : (iblk m c 3 t : Vec Ideal S1x1024 .f32) (ix2 0 k) = argD m c (ix1 k) := by
  unfold iblk
  rw [View.read_apply]
  show (V m c main_v0 : Vec Ideal S1x1024 .f32) _ = _
  rw [V_d]
  refine Eq.trans (congrArg _ (funext fun a => Fin.ext ?_ : _ = ix2 (0 : Fin 1) k)) (row1 (argD m c) k)
  match a with
  | ⟨0, _⟩ => show win0_3.index t 0 * 1 + 1 * 0 = 0; rw [(index3 t).1]
  | ⟨1, _⟩ => show win0_3.index t 1 * 1024 + 1 * k.val = k.val; rw [(index3 t).2]; omega

theorem blk_bias (k : Fin 1024) : (iblk m c 5 t : Vec Ideal S1x1024 .f32) (ix2 0 k) = argBias m c (ix1 k) := by
  unfold iblk
  rw [View.read_apply]
  show (V m c main_v2 : Vec Ideal S1x1024 .f32) _ = _
  rw [V_bias]
  refine Eq.trans (congrArg _ (funext fun a => Fin.ext ?_ : _ = ix2 (0 : Fin 1) k)) (row1 (argBias m c) k)
  match a with
  | ⟨0, _⟩ => show win0_5.index t 0 * 1 + 1 * 0 = 0; rw [(index5 t).1]
  | ⟨1, _⟩ => show win0_5.index t 1 * 1024 + 1 * k.val = k.val; rw [(index5 t).2]; omega

end Cert.S5OutIdeal.Window

end
-- ==== Proof.GluMath.lean ====
module

public import Idealize.ShloMosaic.Lib.Pointwise

@[expose] public section

set_option maxRecDepth 16384

noncomputable section

/-!
A row of the state space branch's output: the two scans' results and the direct term summed, the activation in its
hyperbolic tangent form, and the gate made from the activated row.
-/

namespace Cert.Glu

open Idealize.ShloMosaic

/-- The activation. -/
def act (x : EReal) : EReal :=
  x * (Ideal.ofBits .f32 0x3F000000#32 * (1 + Ideal.tanh (Ideal.ofBits .f32 0x3F4C422A#32 * (x + Ideal.ofBits .f32 0x3D372713#32 * (x * x * x)))))

/-- The activated row times its gate. -/
def row (x : Fin 1024 → EReal) (w : Fin 1024 → Fin 1024 → EReal) (b : Fin 1024 → EReal) (k : Fin 1024) : EReal :=
  act (x k) * Ideal.logistic ((∑ j, act (x j) * w j k) + b k)

theorem act_half (x : EReal) : Ideal.ofBits .f32 0x3F000000#32 * x * (1 + Ideal.tanh (Ideal.ofBits .f32 0x3F4C422A#32 * (x + Ideal.ofBits .f32 0x3D372713#32 * (x * x * x))))
    = act x := by
  unfold act
  rw [mul_comm (Ideal.ofBits .f32 0x3F000000#32) x, mul_assoc]

end Cert.Glu

end
-- ==== Proof.S5OutBlock.lean ====
module

public import proofs.«01_k».proof.Proof.S5OutWindow
public import proofs.«01_k».proof.Proof.GluMath
public import Idealize.ShloMosaic.Lib.Pipeline.ValueKit
public import Idealize.ShloMosaic.Lib.Pipeline.ReadBack
public import Idealize.ShloMosaic.Lib.Pointwise

@[expose] public section

set_option maxRecDepth 16384

noncomputable section

/-!
The output call's blocks and the array they make up.  A grid point writes the 512 rows of its tile once, so the array at
row `R` is the block of tile `R / 512` at row `R % 512`.
-/

namespace Cert.S5OutIdeal.Block

open Cert.S5OutIdeal Cert.S5OutIdeal.Gen Cert.S5OutIdeal.Window Idealize.ShloMosaic Idealize.ShloMosaic.TcCoe Idealize.SL.Sem

/-- What a point stores, at an entry. -/
theorem pay_apply (yf yb : Vec Ideal S512x1024 .f32) (d : Vec Ideal S1x1024 .f32) (u : Vec Ideal S512x1024 .f32) (w : Vec Ideal S1024x1024 .bf16)
    (bias : Vec Ideal S1x1024 .f32) (r : Fin 512) (k : Fin 1024) : k0_pay1 yf yb d u w bias (ix2 r k)
    = Glu.row (fun j => yf (ix2 r j) + yb (ix2 r j) + d (ix2 0 j) * u (ix2 r j)) (fun j k => w (ix2 j k)) (fun k => bias (ix2 0 k)) k := by
  pointwise [k0_pay1]
  simp only [Glu.act_half]
  rfl

section
variable (c : Dev nD) (t : Fin cfg0.N) (x0 x1 x2 : Vec Ideal S512x1024 .f32) (x3 : Vec Ideal S1x1024 .f32) (x4 : Vec Ideal S1024x1024 .bf16)
  (x5 : Vec Ideal S1x1024 .f32)

theorem out_eq : out0_A_6 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) x0 x1 x2 x3 x4 x5 = k0_pay1 x0 x1 x3 x2 x4 x5 := by
  frame_open
  frame_out
end

variable (m : (ℓ : Loc nD τ sig) → Buf (Elt Ideal) ℓ) (c : Dev nD)

/-- Every point writes its block back. -/
theorem writes : ∀ t : Fin cfg0.N, (cfg0.win 6).flush t = true := by decide +kernel

/-- The array the call leaves, at row `R` and column `k`. -/
theorem result (R : Fin 16896) (k : Fin 1024) : ((dats m 0 c).arrAt 6 cfg0.N : Vec Ideal S16896x1024 .f32) (ix2 R k)
    = Glu.row (fun j => argF m c (ix2 R j) + argB m c (ix2 R j) + argD m c (ix1 j) * argP m c (ix2 R ⟨3072 + j.val, by omega⟩))
        (fun j k => argW m c (ix2 j k)) (fun k => argBias m c (ix1 k)) k := by
  have hR := R.isLt
  have ht : R.val / 512 < cfg0.N := lt_of_lt_of_eq (by omega) (show cfg0.N = 33 from N_0).symm
  let t : Fin cfg0.N := ⟨R.val / 512, ht⟩
  let r : Fin 512 := ⟨R.val % 512, Nat.mod_lt _ (by decide)⟩
  have hr : rowOf t r = R := Fin.ext (show R.val / 512 * 512 + R.val % 512 = R.val by omega)
  have hb := congrFun ((Value.blocks6 m c t (writes t)).trans (Value.flushed6_A m c t)) (ix2 r k)
  rw [View.read_apply] at hb
  have hi : (((cfg0.win 6).blk t).view.emb (ix2 r k) : S16896x1024.Idx) = ix2 R k := by
    refine funext fun a => Fin.ext ?_
    match a with
    | ⟨0, _⟩ => show win0_6.index t 0 * 512 + 1 * r.val = R.val; rw [(index6 t).1]; show R.val / 512 * 512 + 1 * (R.val % 512) = _; omega
    | ⟨1, _⟩ => show win0_6.index t 1 * 1024 + 1 * k.val = k.val; rw [(index6 t).2]; omega
  refine Eq.trans ?_ (hb.trans ?_)
  · exact congrArg ((dats m 0 c).arrAt 6 cfg0.N : Vec Ideal S16896x1024 .f32) hi.symm
  · rw [out_eq]
    show k0_pay1 (iblk m c 0 t) (iblk m c 1 t) (iblk m c 3 t) (X0_2 m c t) (iblk m c 4 t) (iblk m c 5 t) (ix2 r k) = _
    rw [pay_apply]
    simp only [blk_fwd, blk_bwd, blk_u, blk_d, blk_w, blk_bias, hr]

end Cert.S5OutIdeal.Block

end
-- ==== Proof.S5OutReference.lean ====
module

public import proofs.«01_k».proof.Proof.Gen.S5OutRefIdeal.Read
public import proofs.«01_k».proof.Proof.GluMath
public import Idealize.ShloMosaic.Lib.Pointwise

@[expose] public section

set_option maxRecDepth 16384

noncomputable section

/-!
The reference of the state space branch's output, at a row and a column.
-/

namespace Cert.S5OutRefIdeal.Rows

open Cert.S5OutRefIdeal Cert.S5OutRefIdeal.Read Idealize.ShloMosaic Idealize.ShloMosaic.TcCoe

variable (yf yb : (⟨S16896x1024, .f32⟩ : BufTy).Contents (Elt Ideal)) (p : (⟨S16896x10368, .f32⟩ : BufTy).Contents (Elt Ideal))
  (d : (⟨S1024, .f32⟩ : BufTy).Contents (Elt Ideal)) (w : (⟨S1024x1024, .f32⟩ : BufTy).Contents (Elt Ideal))
  (bias : (⟨S1024, .f32⟩ : BufTy).Contents (Elt Ideal)) (R : Fin 16896) (k : Fin 1024)

theorem sum_apply : val_main_v5 (F := Ideal) yf yb p d (ix2 R k)
    = yf (ix2 R k) + yb (ix2 R k) + d (ix1 k) * p (ix2 R ⟨3072 + k.val, by omega⟩) := by
  pointwise [val_main_v5, val_main_v4, val_main_v3, val_main_v2, val_main_v1, val_main_v0]

theorem act_apply : val_main_v18 (F := Ideal) yf yb p d (ix2 R k) = Cert.Glu.act (val_main_v5 (F := Ideal) yf yb p d (ix2 R k)) := by
  unfold Cert.Glu.act
  pointwise [val_main_v18, val_main_v17, val_main_v16, val_main_v15, val_main_v14, val_main_v13, val_main_v12, val_main_v11, val_main_v10, val_main_v9, val_main_v8,
    val_main_v7, val_main_v6, val_main_cst, val_main_cst_0, val_main_cst_1, val_main_cst_2]

theorem result : val_main_v29 (F := Ideal) yf yb p d w bias (ix2 R k)
    = Cert.Glu.row (fun j => yf (ix2 R j) + yb (ix2 R j) + d (ix1 j) * p (ix2 R ⟨3072 + j.val, by omega⟩))
        (fun j k => w (ix2 j k)) (fun k => bias (ix1 k)) k := by
  unfold Cert.Glu.row Ideal.logistic
  pointwise [val_main_v29, val_main_v28, val_main_v27, val_main_v26, val_main_v25, val_main_v24, val_main_v23, val_main_v22, val_main_v21, val_main_v20, val_main_v19,
    val_main_cst_3, val_main_cst_4]
  simp only [act_apply, sum_apply]

end Cert.S5OutRefIdeal.Rows

end
-- ==== Proof.S5OutEquation.lean ====
module

public import proofs.«01_k».proof.Proof.S5OutBlock
public import proofs.«01_k».proof.Proof.S5OutReference

@[expose] public section

set_option maxRecDepth 16384

noncomputable section

/-!
The state space branch's output: on the same arguments the call and the plain formula give the same array.
-/

namespace Cert.Equation

open Idealize.ShloMosaic Idealize.ShloMosaic.TcCoe Idealize.SL.Sem

theorem s5Out (m : (ℓ : Loc S5OutIdeal.nD S5OutIdeal.τ S5OutIdeal.sig) → Buf (Elt Ideal) ℓ)
    (m' : (ℓ : Loc S5OutRefIdeal.nD S5OutRefIdeal.τ S5OutRefIdeal.sig) → Buf (Elt Ideal) ℓ) (c : Dev S5OutIdeal.nD)
    (e0 : m' ((c : Thread S5OutRefIdeal.nD S5OutRefIdeal.τ).loc S5OutRefIdeal.main_arg0) = m ((c : Thread S5OutIdeal.nD S5OutIdeal.τ).loc S5OutIdeal.main_arg0))
    (e1 : m' ((c : Thread S5OutRefIdeal.nD S5OutRefIdeal.τ).loc S5OutRefIdeal.main_arg1) = m ((c : Thread S5OutIdeal.nD S5OutIdeal.τ).loc S5OutIdeal.main_arg1))
    (e2 : m' ((c : Thread S5OutRefIdeal.nD S5OutRefIdeal.τ).loc S5OutRefIdeal.main_arg2) = m ((c : Thread S5OutIdeal.nD S5OutIdeal.τ).loc S5OutIdeal.main_arg2))
    (e3 : m' ((c : Thread S5OutRefIdeal.nD S5OutRefIdeal.τ).loc S5OutRefIdeal.main_arg3) = m ((c : Thread S5OutIdeal.nD S5OutIdeal.τ).loc S5OutIdeal.main_arg3))
    (e4 : m' ((c : Thread S5OutRefIdeal.nD S5OutRefIdeal.τ).loc S5OutRefIdeal.main_arg4) = m ((c : Thread S5OutIdeal.nD S5OutIdeal.τ).loc S5OutIdeal.main_arg4))
    (e5 : m' ((c : Thread S5OutRefIdeal.nD S5OutRefIdeal.τ).loc S5OutRefIdeal.main_arg5) = m ((c : Thread S5OutIdeal.nD S5OutIdeal.τ).loc S5OutIdeal.main_arg5)) :
    S5OutRefIdeal.Read.val_main_v29 (F := Ideal) (m' ((c : Thread S5OutRefIdeal.nD S5OutRefIdeal.τ).loc S5OutRefIdeal.main_arg0)) (m' ((c : Thread S5OutRefIdeal.nD S5OutRefIdeal.τ).loc S5OutRefIdeal.main_arg1)) (m' ((c : Thread S5OutRefIdeal.nD S5OutRefIdeal.τ).loc S5OutRefIdeal.main_arg2)) (m' ((c : Thread S5OutRefIdeal.nD S5OutRefIdeal.τ).loc S5OutRefIdeal.main_arg3)) (m' ((c : Thread S5OutRefIdeal.nD S5OutRefIdeal.τ).loc S5OutRefIdeal.main_arg4)) (m' ((c : Thread S5OutRefIdeal.nD S5OutRefIdeal.τ).loc S5OutRefIdeal.main_arg5)) = (S5OutIdeal.Gen.dats m 0 c).arrAt 6 S5OutIdeal.cfg0.N := by
  rw [e0, e1, e2, e3, e4, e5]
  funext i
  obtain ⟨R, k, rfl⟩ : ∃ (R : Fin 16896) (k : Fin 1024), i = ix2 R k := ⟨i 0, i 1, eq_ix2 i⟩
  exact (S5OutRefIdeal.Rows.result ..).trans (S5OutIdeal.Block.result m c R k).symm

end Cert.Equation

end
-- ==== Proof.AdaWindow.lean ====
module

public import proofs.«01_k».proof.Proof.Gen.AdaIdeal.Value
public import Idealize.ShloMosaic.Lib.Pointwise

@[expose] public section

set_option maxRecDepth 16384

noncomputable section

/-!
What the windows of the conditioning's projection hold at a grid point: point `t` works on layer `t / 18` and column block
`t % 18`.
-/

namespace Cert.AdaIdeal.Window

open Cert.AdaIdeal Cert.AdaIdeal.Gen Idealize.ShloMosaic Idealize.ShloMosaic.TcCoe Idealize.SL.Sem

variable (m : (ℓ : Loc nD τ sig) → Buf (Elt Ideal) ℓ) (c : Dev nD) (t : Fin cfg0.N)

abbrev argC : Vec Ideal S8x2048 .f32 := m ((c : Thread nD τ).loc main_arg0)
abbrev argW : Vec Ideal S4x2048x18432 .f32 := m ((c : Thread nD τ).loc main_arg1)
abbrev argBias : Vec Ideal S4x18432 .f32 := m ((c : Thread nD τ).loc main_arg2)

theorem lt_points : t.val < 72 := lt_of_lt_of_eq t.isLt (show cfg0.N = 72 from N_0)

/-- The layer of a point, and the column that column `k` of its block is. -/
def layer : Fin 4 := ⟨t.val / 18, by have := lt_points t; omega⟩
def col (k : Fin 1024) : Fin 18432 := ⟨t.val % 18 * 1024 + k.val, by omega⟩

theorem index0 : ∀ t : Fin cfg0.N, win0_0.index t 0 = 0 ∧ win0_0.index t 1 = 0 := by decide +kernel
theorem index1 : ∀ t : Fin cfg0.N, win0_1.index t 0 = t.val / 18 ∧ win0_1.index t 1 = 0 ∧ win0_1.index t 2 = t.val % 18 := by decide +kernel
theorem index2 : ∀ t : Fin cfg0.N, win0_2.index t 0 = t.val / 18 ∧ win0_2.index t 1 = 0 ∧ win0_2.index t 2 = t.val % 18 := by decide +kernel
theorem index3 : ∀ t : Fin cfg0.N, win0_3.index t 0 = t.val / 18 ∧ win0_3.index t 1 = 0 ∧ win0_3.index t 2 = t.val % 18 := by decide +kernel

theorem V_bias : (V m c main_v0 : Vec Ideal S4x1x18432 .f32) = shapeCast S4x1x18432 (argBias m c) shapeCasts_S4x18432_S4x1x18432 := rfl
theorem row1 (x : Vec Ideal S4x18432 .f32) (l : Fin 4) (k : Fin 18432) :
    shapeCast S4x1x18432 x shapeCasts_S4x18432_S4x1x18432 (ix3 l 0 k) = x (ix2 l k) := by
  pointwise []

theorem blk_c (r : Fin 8) (q : Fin 2048) : (iblk m c 0 t : Vec Ideal S8x2048 .f32) (ix2 r q) = argC m c (ix2 r q) := by
  unfold iblk
  rw [View.read_apply]
  show (V m c main_arg0 : Vec Ideal S8x2048 .f32) _ = _
  rw [V_main_arg0]
  refine congrArg (argC m c) (funext fun a => Fin.ext ?_)
  match a with
  | ⟨0, _⟩ => show win0_0.index t 0 * 8 + 1 * r.val = r.val; rw [(index0 t).1]; omega
  | ⟨1, _⟩ => show win0_0.index t 1 * 2048 + 1 * q.val = q.val; rw [(index0 t).2]; omega

theorem blk_w (q : Fin 2048) (k : Fin 1024) : (iblk m c 1 t : Vec Ideal S1x2048x1024 .f32) (ix3 0 q k) = argW m c (ix3 (layer t) q (col t k)) := by
  unfold iblk
  rw [View.read_apply]
  show (V m c main_arg1 : Vec Ideal S4x2048x18432 .f32) _ = _
  rw [V_main_arg1]
  refine congrArg (argW m c) (funext fun a => Fin.ext ?_)
  match a with
  | ⟨0, _⟩ => show win0_1.index t 0 * 1 + 1 * 0 = t.val / 18; rw [(index1 t).1]; omega
  | ⟨1, _⟩ => show win0_1.index t 1 * 2048 + 1 * q.val = q.val; rw [(index1 t).2.1]; omega
  | ⟨2, _⟩ => show win0_1.index t 2 * 1024 + 1 * k.val = t.val % 18 * 1024 + k.val; rw [(index1 t).2.2]; omega

theorem blk_bias (k : Fin 1024) : (iblk m c 2 t : Vec Ideal S1x1x1024 .f32) (ix3 0 0 k) = argBias m c (ix2 (layer t) (col t k)) := by
  unfold iblk
  rw [View.read_apply]
  show (V m c main_v0 : Vec Ideal S4x1x18432 .f32) _ = _
  rw [V_bias]
  refine Eq.trans (congrArg _ (funext fun a => Fin.ext ?_ : _ = ix3 (layer t) (0 : Fin 1) (col t k))) (row1 (argBias m c) (layer t) (col t k))
  match a with
  | ⟨0, _⟩ => show win0_2.index t 0 * 1 + 1 * 0 = t.val / 18; rw [(index2 t).1]; omega
  | ⟨1, _⟩ => show win0_2.index t 1 * 1 + 1 * 0 = 0; rw [(index2 t).2.1]
  | ⟨2, _⟩ => show win0_2.index t 2 * 1024 + 1 * k.val = t.val % 18 * 1024 + k.val; rw [(index2 t).2.2]; omega

end Cert.AdaIdeal.Window

end
-- ==== Proof.ModMath.lean ====
module

public import Idealize.ShloMosaic.Lib.Pointwise

@[expose] public section

set_option maxRecDepth 16384

noncomputable section

/-!
A modulation: the conditioning times its own sigmoid, its product with a weight's column, and the bias.
-/

namespace Cert.Mods

open Idealize.ShloMosaic

def entry (x w : Fin 2048 → EReal) (b : EReal) : EReal := (∑ q, x q * Ideal.logistic (x q) * w q) + b

end Cert.Mods

end
-- ==== Proof.AdaBlock.lean ====
module

public import proofs.«01_k».proof.Proof.AdaWindow
public import proofs.«01_k».proof.Proof.ModMath
public import Idealize.ShloMosaic.Lib.Pipeline.ValueKit
public import Idealize.ShloMosaic.Lib.Pipeline.ReadBack
public import Idealize.ShloMosaic.Lib.Pointwise

@[expose] public section

set_option maxRecDepth 16384

noncomputable section

/-!
The blocks of the conditioning's projection and the array they make up.
-/

namespace Cert.AdaIdeal.Block

open Cert.AdaIdeal Cert.AdaIdeal.Gen Cert.AdaIdeal.Window Idealize.ShloMosaic Idealize.ShloMosaic.TcCoe Idealize.SL.Sem

/-- What a point stores, at an entry. -/
theorem out_apply (x : Vec Ideal S8x2048 .f32) (w : Vec Ideal S1x2048x1024 .f32) (b : Vec Ideal S1x1x1024 .f32) (r : Fin 8) (k : Fin 1024) :
    out0_3 x w b (ix3 0 r k) = Mods.entry (fun q => x (ix2 r q)) (fun q => w (ix3 0 q k)) (b (ix3 0 0 k)) := by
  have z : (![0, 0] : Fin 2 → Nat) = fun _ => 0 := funext fun a => by fin_cases a <;> rfl
  have z3 : (![0, 0, 0] : Fin 3 → Nat) = fun _ => 0 := funext fun a => by fin_cases a <;> rfl
  unfold out0_3
  rw [View.canon_cons_unit_zero (S := S1x8x1024) z3]
  simp only [View.ld_unit_zero (S := S8x2048) z, View.ld_unit_zero (S := S1x2048x1024) z3, View.ld_unit_zero (S := S1x1x1024) z3]
  pointwise [k0_pay1, Mods.entry]

variable (m : (ℓ : Loc nD τ sig) → Buf (Elt Ideal) ℓ) (c : Dev nD)

/-- Every point writes its block back. -/
theorem writes : ∀ t : Fin cfg0.N, (cfg0.win 3).flush t = true := by decide +kernel

/-- The array the call leaves, at layer `l`, row `r` and column `k`. -/
theorem result (l : Fin 4) (r : Fin 8) (k : Fin 18432) : ((dats m 0 c).arrAt 3 cfg0.N : Vec Ideal S4x8x18432 .f32) (ix3 l r k)
    = Mods.entry (fun q => argC m c (ix2 r q)) (fun q => argW m c (ix3 l q k)) (argBias m c (ix2 l k)) := by
  have hl := l.isLt
  have hk := k.isLt
  obtain ⟨t, ht⟩ : ∃ t : Fin cfg0.N, t.val = l.val * 18 + k.val / 1024 :=
    ⟨⟨_, lt_of_lt_of_eq (by omega) (show cfg0.N = 72 from N_0).symm⟩, rfl⟩
  let k' : Fin 1024 := ⟨k.val % 1024, Nat.mod_lt _ (by decide)⟩
  have hcol : col t k' = k := Fin.ext (by show t.val % 18 * 1024 + k.val % 1024 = k.val; omega)
  have hlay : layer t = l := Fin.ext (by show t.val / 18 = l.val; omega)
  have h := congrFun ((Value.blocks3 m c t (writes t)).trans (Value.flushed3 m c t)) (ix3 0 r k')
  rw [View.read_apply] at h
  have hi : (((cfg0.win 3).blk t).view.emb (ix3 0 r k') : S4x8x18432.Idx) = ix3 l r k := by
    refine funext fun a => Fin.ext ?_
    match a with
    | ⟨0, _⟩ => show win0_3.index t 0 * 1 + 1 * 0 = l.val; rw [(index3 t).1]; omega
    | ⟨1, _⟩ => show win0_3.index t 1 * 8 + 1 * r.val = r.val; rw [(index3 t).2.1]; omega
    | ⟨2, _⟩ => show win0_3.index t 2 * 1024 + 1 * (k.val % 1024) = k.val; rw [(index3 t).2.2]; omega
  refine Eq.trans ?_ (h.trans ?_)
  · exact congrArg ((dats m 0 c).arrAt 3 cfg0.N : Vec Ideal S4x8x18432 .f32) hi.symm
  · refine (out_apply (iblk m c 0 t) (iblk m c 1 t) (iblk m c 2 t) r k').trans ?_
    simp only [blk_c, blk_w, blk_bias, hcol, hlay]

end Cert.AdaIdeal.Block

end
-- ==== Proof.AdaReference.lean ====
module

public import proofs.«01_k».proof.Proof.Gen.AdaRefIdeal.Read
public import proofs.«01_k».proof.Proof.ModMath
public import Idealize.ShloMosaic.Lib.Pointwise

@[expose] public section

set_option maxRecDepth 16384

noncomputable section

/-!
The reference of the conditioning's projection, at a layer, a row and a column.
-/

namespace Cert.AdaRefIdeal.Rows

open Cert.AdaRefIdeal Cert.AdaRefIdeal.Read Idealize.ShloMosaic Idealize.ShloMosaic.TcCoe

variable (x : (⟨S8x2048, .f32⟩ : BufTy).Contents (Elt Ideal)) (w : (⟨S4x2048x18432, .f32⟩ : BufTy).Contents (Elt Ideal))
  (b : (⟨S4x18432, .f32⟩ : BufTy).Contents (Elt Ideal)) (l : Fin 4) (r : Fin 8) (k : Fin 18432)

theorem result : val_main_v5 (F := Ideal) x w b (ix3 l r k)
    = Cert.Mods.entry (fun q => x (ix2 r q)) (fun q => w (ix3 l q k)) (b (ix2 l k)) := by
  unfold Cert.Mods.entry Ideal.logistic
  pointwise [val_main_call0_v0, val_main_call0_v1, val_main_call0_cst, val_main_call0_v2, val_main_call0_v3, val_main_call0_cst_0, val_main_call0_v4, val_main_call0_v5, val_main_v0, val_main_v1, val_main_v2, val_main_v3, val_main_v4, val_main_v5]
  simp only [mul_comm]

end Cert.AdaRefIdeal.Rows

end
-- ==== Proof.AdaEquation.lean ====
module

public import proofs.«01_k».proof.Proof.AdaBlock
public import proofs.«01_k».proof.Proof.AdaReference

@[expose] public section

set_option maxRecDepth 16384

noncomputable section

/-!
The conditioning's projection: on the same arguments the call and the plain formula give the same array.
-/

namespace Cert.Equation

open Idealize.ShloMosaic Idealize.ShloMosaic.TcCoe Idealize.SL.Sem

theorem ada (m : (ℓ : Loc AdaIdeal.nD AdaIdeal.τ AdaIdeal.sig) → Buf (Elt Ideal) ℓ)
    (m' : (ℓ : Loc AdaRefIdeal.nD AdaRefIdeal.τ AdaRefIdeal.sig) → Buf (Elt Ideal) ℓ) (c : Dev AdaIdeal.nD)
    (e0 : m' ((c : Thread AdaRefIdeal.nD AdaRefIdeal.τ).loc AdaRefIdeal.main_arg0) = m ((c : Thread AdaIdeal.nD AdaIdeal.τ).loc AdaIdeal.main_arg0))
    (e1 : m' ((c : Thread AdaRefIdeal.nD AdaRefIdeal.τ).loc AdaRefIdeal.main_arg1) = m ((c : Thread AdaIdeal.nD AdaIdeal.τ).loc AdaIdeal.main_arg1))
    (e2 : m' ((c : Thread AdaRefIdeal.nD AdaRefIdeal.τ).loc AdaRefIdeal.main_arg2) = m ((c : Thread AdaIdeal.nD AdaIdeal.τ).loc AdaIdeal.main_arg2)) :
    AdaRefIdeal.Read.val_main_v5 (F := Ideal) (m' ((c : Thread AdaRefIdeal.nD AdaRefIdeal.τ).loc AdaRefIdeal.main_arg0)) (m' ((c : Thread AdaRefIdeal.nD AdaRefIdeal.τ).loc AdaRefIdeal.main_arg1)) (m' ((c : Thread AdaRefIdeal.nD AdaRefIdeal.τ).loc AdaRefIdeal.main_arg2)) = (AdaIdeal.Gen.dats m 0 c).arrAt 3 AdaIdeal.cfg0.N := by
  rw [e0, e1, e2]
  funext i
  obtain ⟨l, r, k, rfl⟩ : ∃ (l : Fin 4) (r : Fin 8) (k : Fin 18432), i = ix3 l r k := ⟨i 0, i 1, i 2, eq_ix3 i⟩
  exact (AdaRefIdeal.Rows.result ..).trans (AdaIdeal.Block.result m c l r k).symm

end Cert.Equation

end
-- ==== Proof.HyLatWindow.lean ====
module

public import proofs.«01_k».proof.Proof.Gen.HyLatIdeal.Value
public import Idealize.ShloMosaic.Lib.Pointwise

@[expose] public section

set_option maxRecDepth 16384

noncomputable section

/-!
What the windows of the short filter's call on the latents hold at a grid point: point `t` works on part `t / 8`, batch `t % 8 / 4`
and column block `t % 4`.
-/

namespace Cert.HyLatIdeal.Window

open Cert.HyLatIdeal Cert.HyLatIdeal.Gen Idealize.ShloMosaic Idealize.ShloMosaic.TcCoe Idealize.SL.Sem

variable (m : (ℓ : Loc nD τ sig) → Buf (Elt Ideal) ℓ) (c : Dev nD) (t : Fin cfg0.N)

abbrev argP : Vec Ideal S16896x10368 .f32 := m ((c : Thread nD τ).loc main_arg0)
abbrev argW : Vec Ideal S3x3072 .f32 := m ((c : Thread nD τ).loc main_arg1)
abbrev argBias : Vec Ideal S3072 .f32 := m ((c : Thread nD τ).loc main_arg2)

theorem lt_points : t.val < 24 := lt_of_lt_of_eq t.isLt (show cfg0.N = 24 from N_0)

/-- The filter's column that column `k` of the point's block is. -/
def col (k : Fin 256) : Fin 3072 := ⟨(t.val / 8 * 4 + t.val % 4) * 256 + k.val, by have := lt_points t; omega⟩

theorem index0 : ∀ t : Fin cfg0.N, win0_0.index t 0 = t.val % 8 / 4 ∧ win0_0.index t 1 = 28 + (t.val / 8 * 4 + t.val % 4) := by decide +kernel
theorem index1 : ∀ t : Fin cfg0.N, win0_1.index t 0 = 0 ∧ win0_1.index t 1 = t.val / 8 * 4 + t.val % 4 := by decide +kernel
theorem index2 : ∀ t : Fin cfg0.N, win0_2.index t 0 = 0 ∧ win0_2.index t 1 = t.val / 8 * 4 + t.val % 4 := by decide +kernel
theorem index3 : ∀ t : Fin cfg0.N, win0_3.index t 0 = t.val / 8 ∧ win0_3.index t 1 = t.val % 8 / 4 ∧ win0_3.index t 2 = 0 ∧ win0_3.index t 3 = t.val % 4 := by
  decide +kernel

theorem V_bias : (V m c main_v0 : Vec Ideal S1x3072 .f32) = shapeCast S1x3072 (argBias m c) shapeCasts_S3072_S1x3072 := rfl
theorem row1 (x : Vec Ideal S3072 .f32) (k : Fin 3072) : shapeCast S1x3072 x shapeCasts_S3072_S1x3072 (ix2 0 k) = x (ix1 k) := by
  pointwise []

theorem blk_p (r : Fin 8192) (k : Fin 256) : (X0_0 m c t : Vec Ideal S8192x256 .f32) (ix2 r k)
    = argP m c (ix2 ⟨0 + t.val % 8 / 4 * 8192 + r.val, by omega⟩ ⟨7168 + (col t k).val, by have := (col t k).isLt; omega⟩) := by
  unfold X0_0 Pipeline.Window.fill
  rw [dif_pos (moved0_0 t _)]
  unfold iblk
  rw [View.read_apply]
  show (V m c main_arg0 : Vec Ideal S16896x10368 .f32) _ = _
  rw [V_main_arg0]
  refine congrArg (argP m c) (funext fun a => Fin.ext ?_)
  match a with
  | ⟨0, _⟩ => show win0_0.index t 0 * 8192 + 1 * r.val = 0 + t.val % 8 / 4 * 8192 + r.val; rw [(index0 t).1]; omega
  | ⟨1, _⟩ => show win0_0.index t 1 * 256 + 1 * k.val = 7168 + ((t.val / 8 * 4 + t.val % 4) * 256 + k.val); rw [(index0 t).2]; omega

theorem blk_w (j : Fin 3) (k : Fin 256) : (iblk m c 1 t : Vec Ideal S3x256 .f32) (ix2 j k) = argW m c (ix2 j (col t k)) := by
  unfold iblk
  rw [View.read_apply]
  show (V m c main_arg1 : Vec Ideal S3x3072 .f32) _ = _
  rw [V_main_arg1]
  refine congrArg (argW m c) (funext fun a => Fin.ext ?_)
  match a with
  | ⟨0, _⟩ => show win0_1.index t 0 * 3 + 1 * j.val = j.val; rw [(index1 t).1]; omega
  | ⟨1, _⟩ => show win0_1.index t 1 * 256 + 1 * k.val = (t.val / 8 * 4 + t.val % 4) * 256 + k.val; rw [(index1 t).2]; omega

theorem blk_bias (k : Fin 256) : (iblk m c 2 t : Vec Ideal S1x256 .f32) (ix2 0 k) = argBias m c (ix1 (col t k)) := by
  unfold iblk
  rw [View.read_apply]
  show (V m c main_v0 : Vec Ideal S1x3072 .f32) _ = _
  rw [V_bias]
  refine Eq.trans (congrArg _ (funext fun a => Fin.ext ?_ : _ = ix2 (0 : Fin 1) (col t k))) (row1 (argBias m c) (col t k))
  match a with
  | ⟨0, _⟩ => show win0_2.index t 0 * 1 + 1 * 0 = 0; rw [(index2 t).1]
  | ⟨1, _⟩ => show win0_2.index t 1 * 256 + 1 * k.val = (t.val / 8 * 4 + t.val % 4) * 256 + k.val; rw [(index2 t).2]; omega

end Cert.HyLatIdeal.Window

end
-- ==== Proof.TapMath.lean ====
module

public import Idealize.ShloMosaic.Lib.Pointwise

@[expose] public section

set_option maxRecDepth 16384

noncomputable section

/-!
Three taps over a sequence: an element, the one before it and the one after it, with zeros beyond both ends.
-/

namespace Cert.Taps

variable {n : Nat}

/-- The element before `t`. -/
def before (x : Fin n → EReal) (t : Fin n) : EReal := if t.val = 0 then 0 else x ⟨t.val - 1, by omega⟩

/-- The element after `t`. -/
def after (x : Fin n → EReal) (t : Fin n) : EReal := if h : t.val + 1 < n then x ⟨t.val + 1, h⟩ else 0

def taps (x : Fin n → EReal) (w0 w1 w2 b : EReal) (t : Fin n) : EReal := w0 * before x t + w1 * x t + w2 * after x t + b

end Cert.Taps

end
-- ==== Proof.HyLatBlock.lean ====
module

public import proofs.«01_k».proof.Proof.HyLatWindow
public import proofs.«01_k».proof.Proof.TapMath
public import Idealize.ShloMosaic.Lib.KernelVsHost
public import Idealize.ShloMosaic.Lib.Pipeline.ValueKit
public import Idealize.ShloMosaic.Lib.Pipeline.ReadBack
public import Idealize.ShloMosaic.Lib.Pointwise

@[expose] public section

set_option maxRecDepth 16384

noncomputable section

/-!
The short filter's blocks on the latents and the array they make up.
-/

namespace Cert.HyLatIdeal.Block

open Cert.HyLatIdeal Cert.HyLatIdeal.Gen Cert.HyLatIdeal.Window Idealize.ShloMosaic Idealize.ShloMosaic.TcCoe Idealize.SL.Sem

theorem rot_back (z : Vec Ideal S8192x256 .f32) (r : Fin 8192) (k : Fin 256) (h : r.val ≠ 0) :
    dynamicRotate 0 1#32 none z rotates_S8192x256_d0 (ix2 r k) = z (ix2 ⟨r.val - 1, by omega⟩ k) := by
  refine dynamicRotate_apply (0 : Fin 2) 1#32 z _ (ix2 r k) (ix2 ⟨r.val - 1, by omega⟩ k) fun b => ?_
  match b with
  | ⟨0, _⟩ => show r.val - 1 = (r.val + 8192 - 1 % 8192) % 8192; omega
  | ⟨1, _⟩ => rfl

theorem rot_on (z : Vec Ideal S8192x256 .f32) (r : Fin 8192) (k : Fin 256) (h : r.val + 1 < 8192) :
    dynamicRotate 0 8191#32 none z rotates_S8192x256_d0 (ix2 r k) = z (ix2 ⟨r.val + 1, h⟩ k) := by
  refine dynamicRotate_apply (0 : Fin 2) 8191#32 z _ (ix2 r k) (ix2 ⟨r.val + 1, h⟩ k) fun b => ?_
  match b with
  | ⟨0, _⟩ => show r.val + 1 = (r.val + 8192 - 8191 % 8192) % 8192; omega
  | ⟨1, _⟩ => rfl

/-- A position's number as a word is a small number's only at that position. -/
theorem word_eq (r : Fin 8192) (a : Nat) (ha : a < 8192) : (BitVec.ofNat 32 r.val = BitVec.ofNat 32 a) ↔ r.val = a := by
  constructor
  · intro h
    have := congrArg BitVec.toNat h
    simp only [BitVec.toNat_ofNat] at this
    omega
  · intro h; rw [h]

theorem pick (r : Fin 8192) (a : Nat) (ha : a < 8192) (x y : EReal) :
    Scalar.select (IntOp.cmpi .eq (BitVec.ofNat 32 r.val) (BitVec.ofNat 32 a)) x y = if r.val = a then x else y := by
  have e := word_eq r a ha
  unfold IntOp.cmpi
  by_cases h : r.val = a
  · rw [if_pos h, h]; simp [Scalar.select]
  · rw [if_neg h]
    have hne : (BitVec.ofNat 32 r.val == BitVec.ofNat 32 a) = false := by
      simpa only [beq_eq_false_iff_ne, ne_eq] using fun hh => h (e.mp hh)
    simp only [hne]
    rfl

/-- What a point stores, at an entry. -/
theorem pay_apply (z : Vec Ideal S8192x256 .f32) (w0 w1 w2 b : Vec Ideal S1x256 .f32) (r : Fin 8192) (k : Fin 256) :
    k0_pay1 z w0 w1 w2 b (ix4 0 0 r k)
      = Taps.taps (fun q => z (ix2 q k)) (w0 (ix2 0 k)) (w1 (ix2 0 k)) (w2 (ix2 0 k)) (b (ix2 0 k)) r := by
  have h1 := rot_back z r k
  have h2 := rot_on z r k
  unfold k0_pay1
  generalize dynamicRotate 0 1#32 none z rotates_S8192x256_d0 = z1 at h1 ⊢
  generalize dynamicRotate 0 8191#32 none z rotates_S8192x256_d0 = z2 at h2 ⊢
  pointwise []
  rw [pick r 0 (by decide), pick r 8191 (by decide)]
  unfold Taps.taps Taps.before Taps.after
  have hr := r.isLt
  by_cases h0 : r.val = 0
  · rw [if_pos h0, if_pos h0, mul_zero, if_neg (by omega), dif_pos (by omega), h2 (by omega)]
  · rw [if_neg h0, if_neg h0, h1 h0]
    by_cases hl : r.val = 8191
    · rw [if_pos hl, dif_neg (by omega), mul_zero]
    · rw [if_neg hl, dif_pos (by omega), h2 (by omega)]

section
variable (c : Dev nD) (t : Fin cfg0.N) (x0 : Vec Ideal S8192x256 .f32) (x1 : Vec Ideal S3x256 .f32) (x2 : Vec Ideal S1x256 .f32)

theorem out_apply (r : Fin 8192) (k : Fin 256) :
    out0_A_3 c (grid0.coords t) (ms0_0 t) (hs0_0 t) (ms0_1 t) (hs0_1 t) (ms0_2 t) (hs0_2 t) (ms0_3 t) (hs0_3 t) x0 x1 x2 (ix4 0 0 r k)
      = Taps.taps (fun q => x0 (ix2 q k)) (x1 (ix2 0 k)) (x1 (ix2 1 k)) (x1 (ix2 2 k)) (x2 (ix2 0 k)) r := by
  frame_open
  frame_out
  rw [pay_apply]
  pointwise []
end

variable (m : (ℓ : Loc nD τ sig) → Buf (Elt Ideal) ℓ) (c : Dev nD)

/-- Every point writes its block back. -/
theorem writes : ∀ t : Fin cfg0.N, (cfg0.win 3).flush t = true := by decide +kernel

/-- The array the call leaves, at part `s`, batch `b`, position `q` and column `k`. -/
theorem result (s : Fin 3) (b : Fin 2) (q : Fin 8192) (k : Fin 1024) : ((dats m 0 c).arrAt 3 cfg0.N : Vec Ideal S3x2x8192x1024 .f32) (ix4 s b q k)
    = Taps.taps (fun q : Fin 8192 => argP m c (ix2 ⟨0 + b.val * 8192 + q.val, by omega⟩ ⟨7168 + (s.val * 1024 + k.val), by omega⟩))
        (argW m c (ix2 0 ⟨s.val * 1024 + k.val, by omega⟩)) (argW m c (ix2 1 ⟨s.val * 1024 + k.val, by omega⟩))
        (argW m c (ix2 2 ⟨s.val * 1024 + k.val, by omega⟩)) (argBias m c (ix1 ⟨s.val * 1024 + k.val, by omega⟩)) q := by
  have hs := s.isLt
  have hb := b.isLt
  have hk := k.isLt
  obtain ⟨t, ht⟩ : ∃ t : Fin cfg0.N, t.val = s.val * 8 + b.val * 4 + k.val / 256 :=
    ⟨⟨_, lt_of_lt_of_eq (by omega) (show cfg0.N = 24 from N_0).symm⟩, rfl⟩
  let k' : Fin 256 := ⟨k.val % 256, Nat.mod_lt _ (by decide)⟩
  have hcol : col t k' = ⟨s.val * 1024 + k.val, by omega⟩ := Fin.ext (by
    show (t.val / 8 * 4 + t.val % 4) * 256 + k.val % 256 = s.val * 1024 + k.val; omega)
  have hbat : t.val % 8 / 4 = b.val := by omega
  have h := congrFun ((Value.blocks3 m c t (writes t)).trans (Value.flushed3_A m c t)) (ix4 0 0 q k')
  rw [View.read_apply] at h
  have hi : (((cfg0.win 3).blk t).view.emb (ix4 0 0 q k') : S3x2x8192x1024.Idx) = ix4 s b q k := by
    refine funext fun a => Fin.ext ?_
    match a with
    | ⟨0, _⟩ => show win0_3.index t 0 * 1 + 1 * 0 = s.val; rw [(index3 t).1]; omega
    | ⟨1, _⟩ => show win0_3.index t 1 * 1 + 1 * 0 = b.val; rw [(index3 t).2.1]; omega
    | ⟨2, _⟩ => show win0_3.index t 2 * 8192 + 1 * q.val = q.val; rw [(index3 t).2.2.1]; omega
    | ⟨3, _⟩ => show win0_3.index t 3 * 256 + 1 * (k.val % 256) = k.val; rw [(index3 t).2.2.2]; omega
  refine Eq.trans ?_ (h.trans ?_)
  · exact congrArg ((dats m 0 c).arrAt 3 cfg0.N : Vec Ideal S3x2x8192x1024 .f32) hi.symm
  · refine (out_apply c t (X0_0 m c t) (iblk m c 1 t) (iblk m c 2 t) q k').trans ?_
    simp only [blk_p, blk_w, blk_bias, hcol, hbat]

end Cert.HyLatIdeal.Block

end
-- ==== Proof.HyLatReference.lean ====
module

public import proofs.«01_k».proof.Proof.Gen.HyLatRefIdeal.Read
public import proofs.«01_k».proof.Proof.TapMath
public import Idealize.ShloMosaic.Lib.KernelVsHost
public import Idealize.ShloMosaic.Lib.Pointwise

@[expose] public section

set_option maxRecDepth 16384

noncomputable section

/-!
The reference of the short filter on the latents, at a part, a batch, a position and a column.
-/

namespace Cert.HyLatRefIdeal.Rows

open Cert.HyLatRefIdeal Cert.HyLatRefIdeal.Gen Cert.HyLatRefIdeal.Read Idealize.ShloMosaic Idealize.ShloMosaic.TcCoe

variable (p : (⟨S16896x10368, .f32⟩ : BufTy).Contents (Elt Ideal)) (w : (⟨S3x3072, .f32⟩ : BufTy).Contents (Elt Ideal))
  (bias : (⟨S3072, .f32⟩ : BufTy).Contents (Elt Ideal)) (b : Fin 2) (q : Fin 8192) (C : Fin 3072)

/-- The sequence that is filtered. -/
def seq : Fin 8192 → EReal := fun q => p (ix2 ⟨0 + b.val * 8192 + q.val, by omega⟩ ⟨7168 + C.val, by omega⟩)

theorem cut_apply (x : Vec Ideal S16384x3072 .f32) : shapeCast S2x8192x3072 x shapeCasts_S16384x3072_S2x8192x3072 (ix3 b q C) = x (ix2 ⟨b.val * 8192 + q.val, by omega⟩ C) := by
  refine shapeCast_apply _ _ _ _ ?_
  rw [Shape.rowMajor_val_three, Shape.rowMajor_val_two]
  show (b.val * 8192 + q.val) * 3072 + C.val = (b.val * 8192 + q.val) * 3072 + C.val
  rfl

theorem seq_apply : val_main_v1 (F := Ideal) p (ix3 b q C) = seq p b C q := by
  unfold val_main_v1 val_main_v0
  rw [cut_apply]
  pointwise [seq]
theorem zero0 (i : S_.Idx) : val_main_call0_v0 (F := Ideal) i = 0 := by
  pointwise [val_main_call0_v0, val_main_c]
  show (((0#32 : BitVec 32).toInt : ℝ) : EReal) = 0
  simp

theorem zero1 (i : S_.Idx) : val_main_call1_v0 (F := Ideal) i = 0 := by
  pointwise [val_main_call1_v0, val_main_c_0]
  show (((0#32 : BitVec 32).toInt : ℝ) : EReal) = 0
  simp

theorem before_apply : val_main_v3 (F := Ideal) p (ix3 b q C) = Cert.Taps.before (seq p b C) q := by
  unfold val_main_v3 Cert.Taps.before
  by_cases h : q.val = 0
  · rw [if_pos h]
    refine (pad_apply_of_not_inside _ _ _ _ _ _ _ (ix3 b q C) (1 : Fin 3) ?_).trans (zero0 _)
    intro hh
    have h1 : 1 ≤ q.val := hh.1
    omega
  · rw [if_neg h]
    refine (pad_apply_of_inside _ _ _ _ _ _ _ (ix3 b q C) (ix3 b ⟨q.val - 1, by omega⟩ C) ?_).trans ?_
    · intro a
      match a with
      | ⟨0, _⟩ => show b.val = 0 + b.val * (0 + 1); omega
      | ⟨1, _⟩ => show q.val = 1 + (q.val - 1) * (0 + 1); omega
      | ⟨2, _⟩ => show C.val = 0 + C.val * (0 + 1); omega
    · rw [← seq_apply]
      pointwise [val_main_v2]

theorem after_apply : val_main_v5 (F := Ideal) p (ix3 b q C) = Cert.Taps.after (seq p b C) q := by
  unfold val_main_v5 Cert.Taps.after
  have hq := q.isLt
  by_cases h : q.val + 1 < 8192
  · rw [dif_pos h]
    refine (pad_apply_of_inside _ _ _ _ _ _ _ (ix3 b q C) (ix3 b ⟨q.val, by omega⟩ C) ?_).trans ?_
    · intro a
      match a with
      | ⟨0, _⟩ => show b.val = 0 + b.val * (0 + 1); omega
      | ⟨1, _⟩ => show q.val = 0 + q.val * (0 + 1); omega
      | ⟨2, _⟩ => show C.val = 0 + C.val * (0 + 1); omega
    · rw [← seq_apply]
      pointwise [val_main_v4]
      exact congrArg (fun i => val_main_v1 (F := Ideal) p (ix3 b i C)) (Fin.ext (Nat.add_comm 1 q.val))
  · rw [dif_neg h]
    refine (pad_apply_of_not_inside _ _ _ _ _ _ _ (ix3 b q C) (1 : Fin 3) ?_).trans (zero1 _)
    intro hh
    have h1 : (q.val - 0) / (0 + 1) < 8191 := hh.2.2
    omega

theorem taps_apply : val_main_v25 (F := Ideal) p w bias (ix3 b q C)
    = Cert.Taps.taps (seq p b C) (w (ix2 0 C)) (w (ix2 1 C)) (w (ix2 2 C)) (bias (ix1 C)) q := by
  have h0 := before_apply p b q C
  have h1 := seq_apply p b q C
  have h2 := after_apply p b q C
  unfold Cert.Taps.taps val_main_v25 val_main_v22 val_main_v16 val_main_v10 val_main_v15 val_main_v21
  rw [← h0, ← h1, ← h2]
  generalize val_main_v3 (F := Ideal) p = x0
  generalize val_main_v5 (F := Ideal) p = x2
  generalize val_main_v1 (F := Ideal) p = x1
  pointwise [val_main_v6, val_main_v7, val_main_v8, val_main_v9, val_main_v11, val_main_v12, val_main_v13, val_main_v14, val_main_v17, val_main_v18, val_main_v19,
    val_main_v20, val_main_v23, val_main_v24]
  simp only [mul_comm]

theorem result (s : Fin 3) (k : Fin 1024) : val_main_v32 (F := Ideal) p w bias (ix4 s b q k)
    = Cert.Taps.taps (seq p b ⟨s.val * 1024 + k.val, by omega⟩) (w (ix2 0 ⟨s.val * 1024 + k.val, by omega⟩)) (w (ix2 1 ⟨s.val * 1024 + k.val, by omega⟩))
        (w (ix2 2 ⟨s.val * 1024 + k.val, by omega⟩)) (bias (ix1 ⟨s.val * 1024 + k.val, by omega⟩)) q := by
  rw [← taps_apply]
  unfold val_main_v32 val_main_v31 val_main_v30 val_main_v29 val_main_v28 val_main_v27 val_main_v26
  generalize val_main_v25 (F := Ideal) p w bias = x
  match s with
  | ⟨0, _⟩ => pointwise []
  | ⟨1, _⟩ => pointwise []
  | ⟨2, _⟩ => pointwise []

end Cert.HyLatRefIdeal.Rows

end
-- ==== Proof.HyLatEquation.lean ====
module

public import proofs.«01_k».proof.Proof.HyLatBlock
public import proofs.«01_k».proof.Proof.HyLatReference

@[expose] public section

set_option maxRecDepth 16384

noncomputable section

/-!
The short filter on the latents: on the same arguments the call and the plain formula give the same array.
-/

namespace Cert.Equation

open Idealize.ShloMosaic Idealize.ShloMosaic.TcCoe Idealize.SL.Sem

theorem hyLat (m : (ℓ : Loc HyLatIdeal.nD HyLatIdeal.τ HyLatIdeal.sig) → Buf (Elt Ideal) ℓ)
    (m' : (ℓ : Loc HyLatRefIdeal.nD HyLatRefIdeal.τ HyLatRefIdeal.sig) → Buf (Elt Ideal) ℓ) (c : Dev HyLatIdeal.nD)
    (e0 : m' ((c : Thread HyLatRefIdeal.nD HyLatRefIdeal.τ).loc HyLatRefIdeal.main_arg0) = m ((c : Thread HyLatIdeal.nD HyLatIdeal.τ).loc HyLatIdeal.main_arg0))
    (e1 : m' ((c : Thread HyLatRefIdeal.nD HyLatRefIdeal.τ).loc HyLatRefIdeal.main_arg1) = m ((c : Thread HyLatIdeal.nD HyLatIdeal.τ).loc HyLatIdeal.main_arg1))
    (e2 : m' ((c : Thread HyLatRefIdeal.nD HyLatRefIdeal.τ).loc HyLatRefIdeal.main_arg2) = m ((c : Thread HyLatIdeal.nD HyLatIdeal.τ).loc HyLatIdeal.main_arg2)) :
    HyLatRefIdeal.Read.val_main_v32 (F := Ideal) (m' ((c : Thread HyLatRefIdeal.nD HyLatRefIdeal.τ).loc HyLatRefIdeal.main_arg0)) (m' ((c : Thread HyLatRefIdeal.nD HyLatRefIdeal.τ).loc HyLatRefIdeal.main_arg1)) (m' ((c : Thread HyLatRefIdeal.nD HyLatRefIdeal.τ).loc HyLatRefIdeal.main_arg2)) = (HyLatIdeal.Gen.dats m 0 c).arrAt 3 HyLatIdeal.cfg0.N := by
  rw [e0, e1, e2]
  funext i
  obtain ⟨s, b, q, k, rfl⟩ : ∃ (s : Fin 3) (b : Fin 2) (q : Fin 8192) (k : Fin 1024), i = ix4 s b q k := ⟨i 0, i 1, i 2, i 3, eq_ix4 i⟩
  exact (HyLatRefIdeal.Rows.result ..).trans (HyLatIdeal.Block.result m c s b q k).symm

end Cert.Equation

end
-- ==== Proof.HyCtxWindow.lean ====
module

public import proofs.«01_k».proof.Proof.Gen.HyCtxIdeal.Value
public import Idealize.ShloMosaic.Lib.Pointwise

@[expose] public section

set_option maxRecDepth 16384

noncomputable section

/-!
What the windows of the short filter's call on the context hold at a grid point: point `t` works on part `t / 8`, batch `t % 8 / 4`
and column block `t % 4`.
-/

namespace Cert.HyCtxIdeal.Window

open Cert.HyCtxIdeal Cert.HyCtxIdeal.Gen Idealize.ShloMosaic Idealize.ShloMosaic.TcCoe Idealize.SL.Sem

variable (m : (ℓ : Loc nD τ sig) → Buf (Elt Ideal) ℓ) (c : Dev nD) (t : Fin cfg0.N)

abbrev argP : Vec Ideal S16896x10368 .f32 := m ((c : Thread nD τ).loc main_arg0)
abbrev argW : Vec Ideal S3x3072 .f32 := m ((c : Thread nD τ).loc main_arg1)
abbrev argBias : Vec Ideal S3072 .f32 := m ((c : Thread nD τ).loc main_arg2)

theorem lt_points : t.val < 24 := lt_of_lt_of_eq t.isLt (show cfg0.N = 24 from N_0)

/-- The filter's column that column `k` of the point's block is. -/
def col (k : Fin 256) : Fin 3072 := ⟨(t.val / 8 * 4 + t.val % 4) * 256 + k.val, by have := lt_points t; omega⟩

theorem index0 : ∀ t : Fin cfg0.N, win0_0.index t 0 = 64 + t.val % 8 / 4 ∧ win0_0.index t 1 = 28 + (t.val / 8 * 4 + t.val % 4) := by decide +kernel
theorem index1 : ∀ t : Fin cfg0.N, win0_1.index t 0 = 0 ∧ win0_1.index t 1 = t.val / 8 * 4 + t.val % 4 := by decide +kernel
theorem index2 : ∀ t : Fin cfg0.N, win0_2.index t 0 = 0 ∧ win0_2.index t 1 = t.val / 8 * 4 + t.val % 4 := by decide +kernel
theorem index3 : ∀ t : Fin cfg0.N, win0_3.index t 0 = t.val / 8 ∧ win0_3.index t 1 = t.val % 8 / 4 ∧ win0_3.index t 2 = 0 ∧ win0_3.index t 3 = t.val % 4 := by
  decide +kernel

theorem V_bias : (V m c main_v0 : Vec Ideal S1x3072 .f32) = shapeCast S1x3072 (argBias m c) shapeCasts_S3072_S1x3072 := rfl
theorem row1 (x : Vec Ideal S3072 .f32) (k : Fin 3072) : shapeCast S1x3072 x shapeCasts_S3072_S1x3072 (ix2 0 k) = x (ix1 k) := by
  pointwise []

theorem blk_p (r : Fin 256) (k : Fin 256) : (X0_0 m c t : Vec Ideal S256x256 .f32) (ix2 r k)
    = argP m c (ix2 ⟨16384 + t.val % 8 / 4 * 256 + r.val, by omega⟩ ⟨7168 + (col t k).val, by have := (col t k).isLt; omega⟩) := by
  unfold X0_0 Pipeline.Window.fill
  rw [dif_pos (moved0_0 t _)]
  unfold iblk
  rw [View.read_apply]
  show (V m c main_arg0 : Vec Ideal S16896x10368 .f32) _ = _
  rw [V_main_arg0]
  refine congrArg (argP m c) (funext fun a => Fin.ext ?_)
  match a with
  | ⟨0, _⟩ => show win0_0.index t 0 * 256 + 1 * r.val = 16384 + t.val % 8 / 4 * 256 + r.val; rw [(index0 t).1]; omega
  | ⟨1, _⟩ => show win0_0.index t 1 * 256 + 1 * k.val = 7168 + ((t.val / 8 * 4 + t.val % 4) * 256 + k.val); rw [(index0 t).2]; omega

theorem blk_w (j : Fin 3) (k : Fin 256) : (iblk m c 1 t : Vec Ideal S3x256 .f32) (ix2 j k) = argW m c (ix2 j (col t k)) := by
  unfold iblk
  rw [View.read_apply]
  show (V m c main_arg1 : Vec Ideal S3x3072 .f32) _ = _
  rw [V_main_arg1]
  refine congrArg (argW m c) (funext fun a => Fin.ext ?_)
  match a with
  | ⟨0, _⟩ => show win0_1.index t 0 * 3 + 1 * j.val = j.val; rw [(index1 t).1]; omega
  | ⟨1, _⟩ => show win0_1.index t 1 * 256 + 1 * k.val = (t.val / 8 * 4 + t.val % 4) * 256 + k.val; rw [(index1 t).2]; omega

theorem blk_bias (k : Fin 256) : (iblk m c 2 t : Vec Ideal S1x256 .f32) (ix2 0 k) = argBias m c (ix1 (col t k)) := by
  unfold iblk
  rw [View.read_apply]
  show (V m c main_v0 : Vec Ideal S1x3072 .f32) _ = _
  rw [V_bias]
  refine Eq.trans (congrArg _ (funext fun a => Fin.ext ?_ : _ = ix2 (0 : Fin 1) (col t k))) (row1 (argBias m c) (col t k))
  match a with
  | ⟨0, _⟩ => show win0_2.index t 0 * 1 + 1 * 0 = 0; rw [(index2 t).1]
  | ⟨1, _⟩ => show win0_2.index t 1 * 256 + 1 * k.val = (t.val / 8 * 4 + t.val % 4) * 256 + k.val; rw [(index2 t).2]; omega

end Cert.HyCtxIdeal.Window

end
-- ==== Proof.HyCtxBlock.lean ====
module

public import proofs.«01_k».proof.Proof.HyCtxWindow
public import proofs.«01_k».proof.Proof.TapMath
public import Idealize.ShloMosaic.Lib.KernelVsHost
public import Idealize.ShloMosaic.Lib.Pipeline.ValueKit
public import Idealize.ShloMosaic.Lib.Pipeline.ReadBack
public import Idealize.ShloMosaic.Lib.Pointwise

@[expose] public section

set_option maxRecDepth 16384

noncomputable section

/-!
The short filter's blocks on the context and the array they make up.
-/

namespace Cert.HyCtxIdeal.Block

open Cert.HyCtxIdeal Cert.HyCtxIdeal.Gen Cert.HyCtxIdeal.Window Idealize.ShloMosaic Idealize.ShloMosaic.TcCoe Idealize.SL.Sem

theorem rot_back (z : Vec Ideal S256x256 .f32) (r : Fin 256) (k : Fin 256) (h : r.val ≠ 0) :
    dynamicRotate 0 1#32 none z rotates_S256x256_d0 (ix2 r k) = z (ix2 ⟨r.val - 1, by omega⟩ k) := by
  refine dynamicRotate_apply (0 : Fin 2) 1#32 z _ (ix2 r k) (ix2 ⟨r.val - 1, by omega⟩ k) fun b => ?_
  match b with
  | ⟨0, _⟩ => show r.val - 1 = (r.val + 256 - 1 % 256) % 256; omega
  | ⟨1, _⟩ => rfl

theorem rot_on (z : Vec Ideal S256x256 .f32) (r : Fin 256) (k : Fin 256) (h : r.val + 1 < 256) :
    dynamicRotate 0 255#32 none z rotates_S256x256_d0 (ix2 r k) = z (ix2 ⟨r.val + 1, h⟩ k) := by
  refine dynamicRotate_apply (0 : Fin 2) 255#32 z _ (ix2 r k) (ix2 ⟨r.val + 1, h⟩ k) fun b => ?_
  match b with
  | ⟨0, _⟩ => show r.val + 1 = (r.val + 256 - 255 % 256) % 256; omega
  | ⟨1, _⟩ => rfl

/-- A position's number as a word is a small number's only at that position. -/
theorem word_eq (r : Fin 256) (a : Nat) (ha : a < 256) : (BitVec.ofNat 32 r.val = BitVec.ofNat 32 a) ↔ r.val = a := by
  constructor
  · intro h
    have := congrArg BitVec.toNat h
    simp only [BitVec.toNat_ofNat] at this
    omega
  · intro h; rw [h]

theorem pick (r : Fin 256) (a : Nat) (ha : a < 256) (x y : EReal) :
    Scalar.select (IntOp.cmpi .eq (BitVec.ofNat 32 r.val) (BitVec.ofNat 32 a)) x y = if r.val = a then x else y := by
  have e := word_eq r a ha
  unfold IntOp.cmpi
  by_cases h : r.val = a
  · rw [if_pos h, h]; simp [Scalar.select]
  · rw [if_neg h]
    have hne : (BitVec.ofNat 32 r.val == BitVec.ofNat 32 a) = false := by
      simpa only [beq_eq_false_iff_ne, ne_eq] using fun hh => h (e.mp hh)
    simp only [hne]
    rfl

/-- What a point stores, at an entry. -/
theorem pay_apply (z : Vec Ideal S256x256 .f32) (w0 w1 w2 b : Vec Ideal S1x256 .f32) (r : Fin 256) (k : Fin 256) :
    k0_pay1 z w0 w1 w2 b (ix4 0 0 r k)
      = Taps.taps (fun q => z (ix2 q k)) (w0 (ix2 0 k)) (w1 (ix2 0 k)) (w2 (ix2 0 k)) (b (ix2 0 k)) r := by
  have h1 := rot_back z r k
  have h2 := rot_on z r k
  unfold k0_pay1
  generalize dynamicRotate 0 1#32 none z rotates_S256x256_d0 = z1 at h1 ⊢
  generalize dynamicRotate 0 255#32 none z rotates_S256x256_d0 = z2 at h2 ⊢
  pointwise []
  rw [pick r 0 (by decide), pick r 255 (by decide)]
  unfold Taps.taps Taps.before Taps.after
  have hr := r.isLt
  by_cases h0 : r.val = 0
  · rw [if_pos h0, if_pos h0, mul_zero, if_neg (by omega), dif_pos (by omega), h2 (by omega)]
  · rw [if_neg h0, if_neg h0, h1 h0]
    by_cases hl : r.val = 255
    · rw [if_pos hl, dif_neg (by omega), mul_zero]
    · rw [if_neg hl, dif_pos (by omega), h2 (by omega)]

section
variable (c : Dev nD) (t : Fin cfg0.N) (x0 : Vec Ideal S256x256 .f32) (x1 : Vec Ideal S3x256 .f32) (x2 : Vec Ideal S1x256 .f32)

theorem out_apply (r : Fin 256) (k : Fin 256) :
    out0_A_3 c (grid0.coords t) (ms0_0 t) (hs0_0 t) (ms0_1 t) (hs0_1 t) (ms0_2 t) (hs0_2 t) (ms0_3 t) (hs0_3 t) x0 x1 x2 (ix4 0 0 r k)
      = Taps.taps (fun q => x0 (ix2 q k)) (x1 (ix2 0 k)) (x1 (ix2 1 k)) (x1 (ix2 2 k)) (x2 (ix2 0 k)) r := by
  frame_open
  frame_out
  rw [pay_apply]
  pointwise []
end

variable (m : (ℓ : Loc nD τ sig) → Buf (Elt Ideal) ℓ) (c : Dev nD)

/-- Every point writes its block back. -/
theorem writes : ∀ t : Fin cfg0.N, (cfg0.win 3).flush t = true := by decide +kernel

/-- The array the call leaves, at part `s`, batch `b`, position `q` and column `k`. -/
theorem result (s : Fin 3) (b : Fin 2) (q : Fin 256) (k : Fin 1024) : ((dats m 0 c).arrAt 3 cfg0.N : Vec Ideal S3x2x256x1024 .f32) (ix4 s b q k)
    = Taps.taps (fun q : Fin 256 => argP m c (ix2 ⟨16384 + b.val * 256 + q.val, by omega⟩ ⟨7168 + (s.val * 1024 + k.val), by omega⟩))
        (argW m c (ix2 0 ⟨s.val * 1024 + k.val, by omega⟩)) (argW m c (ix2 1 ⟨s.val * 1024 + k.val, by omega⟩))
        (argW m c (ix2 2 ⟨s.val * 1024 + k.val, by omega⟩)) (argBias m c (ix1 ⟨s.val * 1024 + k.val, by omega⟩)) q := by
  have hs := s.isLt
  have hb := b.isLt
  have hk := k.isLt
  obtain ⟨t, ht⟩ : ∃ t : Fin cfg0.N, t.val = s.val * 8 + b.val * 4 + k.val / 256 :=
    ⟨⟨_, lt_of_lt_of_eq (by omega) (show cfg0.N = 24 from N_0).symm⟩, rfl⟩
  let k' : Fin 256 := ⟨k.val % 256, Nat.mod_lt _ (by decide)⟩
  have hcol : col t k' = ⟨s.val * 1024 + k.val, by omega⟩ := Fin.ext (by
    show (t.val / 8 * 4 + t.val % 4) * 256 + k.val % 256 = s.val * 1024 + k.val; omega)
  have hbat : t.val % 8 / 4 = b.val := by omega
  have h := congrFun ((Value.blocks3 m c t (writes t)).trans (Value.flushed3_A m c t)) (ix4 0 0 q k')
  rw [View.read_apply] at h
  have hi : (((cfg0.win 3).blk t).view.emb (ix4 0 0 q k') : S3x2x256x1024.Idx) = ix4 s b q k := by
    refine funext fun a => Fin.ext ?_
    match a with
    | ⟨0, _⟩ => show win0_3.index t 0 * 1 + 1 * 0 = s.val; rw [(index3 t).1]; omega
    | ⟨1, _⟩ => show win0_3.index t 1 * 1 + 1 * 0 = b.val; rw [(index3 t).2.1]; omega
    | ⟨2, _⟩ => show win0_3.index t 2 * 256 + 1 * q.val = q.val; rw [(index3 t).2.2.1]; omega
    | ⟨3, _⟩ => show win0_3.index t 3 * 256 + 1 * (k.val % 256) = k.val; rw [(index3 t).2.2.2]; omega
  refine Eq.trans ?_ (h.trans ?_)
  · exact congrArg ((dats m 0 c).arrAt 3 cfg0.N : Vec Ideal S3x2x256x1024 .f32) hi.symm
  · refine (out_apply c t (X0_0 m c t) (iblk m c 1 t) (iblk m c 2 t) q k').trans ?_
    simp only [blk_p, blk_w, blk_bias, hcol, hbat]

end Cert.HyCtxIdeal.Block

end
-- ==== Proof.HyCtxReference.lean ====
module

public import proofs.«01_k».proof.Proof.Gen.HyCtxRefIdeal.Read
public import proofs.«01_k».proof.Proof.TapMath
public import Idealize.ShloMosaic.Lib.KernelVsHost
public import Idealize.ShloMosaic.Lib.Pointwise

@[expose] public section

set_option maxRecDepth 16384

noncomputable section

/-!
The reference of the short filter on the context, at a part, a batch, a position and a column.
-/

namespace Cert.HyCtxRefIdeal.Rows

open Cert.HyCtxRefIdeal Cert.HyCtxRefIdeal.Gen Cert.HyCtxRefIdeal.Read Idealize.ShloMosaic Idealize.ShloMosaic.TcCoe

variable (p : (⟨S16896x10368, .f32⟩ : BufTy).Contents (Elt Ideal)) (w : (⟨S3x3072, .f32⟩ : BufTy).Contents (Elt Ideal))
  (bias : (⟨S3072, .f32⟩ : BufTy).Contents (Elt Ideal)) (b : Fin 2) (q : Fin 256) (C : Fin 3072)

/-- The sequence that is filtered. -/
def seq : Fin 256 → EReal := fun q => p (ix2 ⟨16384 + b.val * 256 + q.val, by omega⟩ ⟨7168 + C.val, by omega⟩)

theorem cut_apply (x : Vec Ideal S512x3072 .f32) : shapeCast S2x256x3072 x shapeCasts_S512x3072_S2x256x3072 (ix3 b q C) = x (ix2 ⟨b.val * 256 + q.val, by omega⟩ C) := by
  refine shapeCast_apply _ _ _ _ ?_
  rw [Shape.rowMajor_val_three, Shape.rowMajor_val_two]
  show (b.val * 256 + q.val) * 3072 + C.val = (b.val * 256 + q.val) * 3072 + C.val
  rfl

theorem seq_apply : val_main_v1 (F := Ideal) p (ix3 b q C) = seq p b C q := by
  unfold val_main_v1 val_main_v0
  rw [cut_apply]
  pointwise [seq]
  exact congrArg (fun i => p (ix2 i ⟨7168 + C.val, by omega⟩)) (Fin.ext (Nat.add_assoc 16384 (b.val * 256) q.val).symm)
theorem zero0 (i : S_.Idx) : val_main_call0_v0 (F := Ideal) i = 0 := by
  pointwise [val_main_call0_v0, val_main_c]
  show (((0#32 : BitVec 32).toInt : ℝ) : EReal) = 0
  simp

theorem zero1 (i : S_.Idx) : val_main_call1_v0 (F := Ideal) i = 0 := by
  pointwise [val_main_call1_v0, val_main_c_0]
  show (((0#32 : BitVec 32).toInt : ℝ) : EReal) = 0
  simp

theorem before_apply : val_main_v3 (F := Ideal) p (ix3 b q C) = Cert.Taps.before (seq p b C) q := by
  unfold val_main_v3 Cert.Taps.before
  by_cases h : q.val = 0
  · rw [if_pos h]
    refine (pad_apply_of_not_inside _ _ _ _ _ _ _ (ix3 b q C) (1 : Fin 3) ?_).trans (zero0 _)
    intro hh
    have h1 : 1 ≤ q.val := hh.1
    omega
  · rw [if_neg h]
    refine (pad_apply_of_inside _ _ _ _ _ _ _ (ix3 b q C) (ix3 b ⟨q.val - 1, by omega⟩ C) ?_).trans ?_
    · intro a
      match a with
      | ⟨0, _⟩ => show b.val = 0 + b.val * (0 + 1); omega
      | ⟨1, _⟩ => show q.val = 1 + (q.val - 1) * (0 + 1); omega
      | ⟨2, _⟩ => show C.val = 0 + C.val * (0 + 1); omega
    · rw [← seq_apply]
      pointwise [val_main_v2]

theorem after_apply : val_main_v5 (F := Ideal) p (ix3 b q C) = Cert.Taps.after (seq p b C) q := by
  unfold val_main_v5 Cert.Taps.after
  have hq := q.isLt
  by_cases h : q.val + 1 < 256
  · rw [dif_pos h]
    refine (pad_apply_of_inside _ _ _ _ _ _ _ (ix3 b q C) (ix3 b ⟨q.val, by omega⟩ C) ?_).trans ?_
    · intro a
      match a with
      | ⟨0, _⟩ => show b.val = 0 + b.val * (0 + 1); omega
      | ⟨1, _⟩ => show q.val = 0 + q.val * (0 + 1); omega
      | ⟨2, _⟩ => show C.val = 0 + C.val * (0 + 1); omega
    · rw [← seq_apply]
      pointwise [val_main_v4]
      exact congrArg (fun i => val_main_v1 (F := Ideal) p (ix3 b i C)) (Fin.ext (Nat.add_comm 1 q.val))
  · rw [dif_neg h]
    refine (pad_apply_of_not_inside _ _ _ _ _ _ _ (ix3 b q C) (1 : Fin 3) ?_).trans (zero1 _)
    intro hh
    have h1 : (q.val - 0) / (0 + 1) < 255 := hh.2.2
    omega

theorem taps_apply : val_main_v25 (F := Ideal) p w bias (ix3 b q C)
    = Cert.Taps.taps (seq p b C) (w (ix2 0 C)) (w (ix2 1 C)) (w (ix2 2 C)) (bias (ix1 C)) q := by
  have h0 := before_apply p b q C
  have h1 := seq_apply p b q C
  have h2 := after_apply p b q C
  unfold Cert.Taps.taps val_main_v25 val_main_v22 val_main_v16 val_main_v10 val_main_v15 val_main_v21
  rw [← h0, ← h1, ← h2]
  generalize val_main_v3 (F := Ideal) p = x0
  generalize val_main_v5 (F := Ideal) p = x2
  generalize val_main_v1 (F := Ideal) p = x1
  pointwise [val_main_v6, val_main_v7, val_main_v8, val_main_v9, val_main_v11, val_main_v12, val_main_v13, val_main_v14, val_main_v17, val_main_v18, val_main_v19,
    val_main_v20, val_main_v23, val_main_v24]
  simp only [mul_comm]

theorem result (s : Fin 3) (k : Fin 1024) : val_main_v32 (F := Ideal) p w bias (ix4 s b q k)
    = Cert.Taps.taps (seq p b ⟨s.val * 1024 + k.val, by omega⟩) (w (ix2 0 ⟨s.val * 1024 + k.val, by omega⟩)) (w (ix2 1 ⟨s.val * 1024 + k.val, by omega⟩))
        (w (ix2 2 ⟨s.val * 1024 + k.val, by omega⟩)) (bias (ix1 ⟨s.val * 1024 + k.val, by omega⟩)) q := by
  rw [← taps_apply]
  unfold val_main_v32 val_main_v31 val_main_v30 val_main_v29 val_main_v28 val_main_v27 val_main_v26
  generalize val_main_v25 (F := Ideal) p w bias = x
  match s with
  | ⟨0, _⟩ => pointwise []
  | ⟨1, _⟩ => pointwise []
  | ⟨2, _⟩ => pointwise []

end Cert.HyCtxRefIdeal.Rows

end
-- ==== Proof.HyCtxEquation.lean ====
module

public import proofs.«01_k».proof.Proof.HyCtxBlock
public import proofs.«01_k».proof.Proof.HyCtxReference

@[expose] public section

set_option maxRecDepth 16384

noncomputable section

/-!
The short filter on the context: on the same arguments the call and the plain formula give the same array.
-/

namespace Cert.Equation

open Idealize.ShloMosaic Idealize.ShloMosaic.TcCoe Idealize.SL.Sem

theorem hyCtx (m : (ℓ : Loc HyCtxIdeal.nD HyCtxIdeal.τ HyCtxIdeal.sig) → Buf (Elt Ideal) ℓ)
    (m' : (ℓ : Loc HyCtxRefIdeal.nD HyCtxRefIdeal.τ HyCtxRefIdeal.sig) → Buf (Elt Ideal) ℓ) (c : Dev HyCtxIdeal.nD)
    (e0 : m' ((c : Thread HyCtxRefIdeal.nD HyCtxRefIdeal.τ).loc HyCtxRefIdeal.main_arg0) = m ((c : Thread HyCtxIdeal.nD HyCtxIdeal.τ).loc HyCtxIdeal.main_arg0))
    (e1 : m' ((c : Thread HyCtxRefIdeal.nD HyCtxRefIdeal.τ).loc HyCtxRefIdeal.main_arg1) = m ((c : Thread HyCtxIdeal.nD HyCtxIdeal.τ).loc HyCtxIdeal.main_arg1))
    (e2 : m' ((c : Thread HyCtxRefIdeal.nD HyCtxRefIdeal.τ).loc HyCtxRefIdeal.main_arg2) = m ((c : Thread HyCtxIdeal.nD HyCtxIdeal.τ).loc HyCtxIdeal.main_arg2)) :
    HyCtxRefIdeal.Read.val_main_v32 (F := Ideal) (m' ((c : Thread HyCtxRefIdeal.nD HyCtxRefIdeal.τ).loc HyCtxRefIdeal.main_arg0)) (m' ((c : Thread HyCtxRefIdeal.nD HyCtxRefIdeal.τ).loc HyCtxRefIdeal.main_arg1)) (m' ((c : Thread HyCtxRefIdeal.nD HyCtxRefIdeal.τ).loc HyCtxRefIdeal.main_arg2)) = (HyCtxIdeal.Gen.dats m 0 c).arrAt 3 HyCtxIdeal.cfg0.N := by
  rw [e0, e1, e2]
  funext i
  obtain ⟨s, b, q, k, rfl⟩ : ∃ (s : Fin 3) (b : Fin 2) (q : Fin 256) (k : Fin 1024), i = ix4 s b q k := ⟨i 0, i 1, i 2, i 3, eq_ix4 i⟩
  exact (HyCtxRefIdeal.Rows.result ..).trans (HyCtxIdeal.Block.result m c s b q k).symm

end Cert.Equation

end
-- ==== Proof.lean ====
/-
  The proof of the claims: every frame by its generated run, every `preserves` because the idealization rewrote
  nothing, and every `algebraic` claim by running both programs on memories that agree on the arguments and then by the
  equation of the two result arrays, which the module named after the call proves.
-/
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.FfnEquation
public import proofs.«01_k».proof.Proof.Gen.Inproj.Frame
public import proofs.«01_k».proof.Proof.Gen.InprojIdeal.Value
public import proofs.«01_k».proof.Proof.Gen.InprojRefIdeal.Run
public import proofs.«01_k».proof.Proof.Gen.InprojRefIdeal.Read
public import proofs.«01_k».proof.Proof.InprojEquation
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.MergeEquation
public import proofs.«01_k».proof.Proof.Gen.Outproj.Frame
public import proofs.«01_k».proof.Proof.Gen.OutprojIdeal.Value
public import proofs.«01_k».proof.Proof.Gen.OutprojRefIdeal.Run
public import proofs.«01_k».proof.Proof.Gen.OutprojRefIdeal.Read
public import proofs.«01_k».proof.Proof.OutprojEquation
public import proofs.«01_k».proof.Proof.Gen.RetFwd.Frame
public import proofs.«01_k».proof.Proof.Gen.RetFwdIdeal.Value
public import proofs.«01_k».proof.Proof.RetFwdRun
public import proofs.«01_k».proof.Proof.RetFwdEquation
public import proofs.«01_k».proof.Proof.Gen.RetBwd.Frame
public import proofs.«01_k».proof.Proof.Gen.RetBwdIdeal.Value
public import proofs.«01_k».proof.Proof.RetBwdRun
public import proofs.«01_k».proof.Proof.RetBwdEquation
public import proofs.«01_k».proof.Proof.Gen.S5Out.Frame
public import proofs.«01_k».proof.Proof.Gen.S5OutIdeal.Value
public import proofs.«01_k».proof.Proof.Gen.S5OutRefIdeal.Run
public import proofs.«01_k».proof.Proof.Gen.S5OutRefIdeal.Read
public import proofs.«01_k».proof.Proof.S5OutEquation
public import proofs.«01_k».proof.Proof.Gen.Ada.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.AdaEquation
public import proofs.«01_k».proof.Proof.Gen.HyLat.Frame
public import proofs.«01_k».proof.Proof.Gen.HyLatIdeal.Value
public import proofs.«01_k».proof.Proof.Gen.HyLatRefIdeal.Run
public import proofs.«01_k».proof.Proof.Gen.HyLatRefIdeal.Read
public import proofs.«01_k».proof.Proof.HyLatEquation
public import proofs.«01_k».proof.Proof.Gen.HyCtx.Frame
public import proofs.«01_k».proof.Proof.Gen.HyCtxIdeal.Value
public import proofs.«01_k».proof.Proof.Gen.HyCtxRefIdeal.Run
public import proofs.«01_k».proof.Proof.Gen.HyCtxRefIdeal.Read
public import proofs.«01_k».proof.Proof.HyCtxEquation
public import Idealize.ShloMosaic.Adequacy
public import Idealize.ShloMosaic.Init
public import Idealize.ShloMosaic.Lib.Quiescent

@[expose] public section

noncomputable section

namespace Cert.Proof

open Idealize.ShloMosaic Idealize.SL.Sem

theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem algebraic_FfnIdeal_FfnRefIdeal : algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  rw [(h c).1]
  obtain ⟨e0, e1, e2, e3, e4, e5⟩ := hagree c
  exact Cert.Equation.ffn m m' c e0 e1 e2 e3 e4 e5

theorem quiescent_InprojRefIdeal : quiescent_InprojRefIdeal := fun m ρ _ =>
  (θ_run Cert.InprojRefIdeal.defs _ _).mono (fun r h => ⟨fun c => (h c).2, sem_eq_zero_of_no_sems (by decide) r.2⟩)
    (Cert.InprojRefIdeal.Value.run (F := Ideal) m ρ)

theorem algebraic_InprojIdeal_InprojRefIdeal : algebraic_InprojIdeal_InprojRefIdeal := by
  intro m ρ m' ρ' _ hagree
  refine ⟨_, Cert.InprojIdeal.Value.run (F := Ideal) m ρ, ?_⟩
  refine (θ_run Cert.InprojRefIdeal.defs _ _).mono (fun _ h c => ⟨?_, (h c).2⟩) (Cert.InprojRefIdeal.Value.run (F := Ideal) m' ρ')
  rw [(h c).1]
  obtain ⟨e0, e1, e2, e3⟩ := hagree c
  exact (Cert.InprojRefIdeal.Read.val_main_v39_eq ..).trans (Cert.Equation.inproj m m' c e0 e1 e2 e3)

theorem quiescent_MergeRefIdeal : quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem algebraic_MergeIdeal_MergeRefIdeal : algebraic_MergeIdeal_MergeRefIdeal := by
  intro m ρ m' ρ' _ hagree
  refine ⟨_, Cert.MergeIdeal.Value.run (F := Ideal) m ρ, ?_⟩
  refine (θ_run Cert.MergeRefIdeal.defs _ _).mono (fun _ h c => ⟨?_, (h c).2⟩) (Cert.MergeRefIdeal.Value.run (F := Ideal) m' ρ')
  rw [(h c).1]
  obtain ⟨e0, e1, e2, e3, e4, e5, e6⟩ := hagree c
  exact Cert.Equation.merge m m' c e0 e1 e2 e3 e4 e5 e6

theorem quiescent_OutprojRefIdeal : quiescent_OutprojRefIdeal := fun m ρ _ =>
  (θ_run Cert.OutprojRefIdeal.defs _ _).mono (fun r h => ⟨fun c => (h c).2, sem_eq_zero_of_no_sems (by decide) r.2⟩)
    (Cert.OutprojRefIdeal.Value.run (F := Ideal) m ρ)

theorem algebraic_OutprojIdeal_OutprojRefIdeal : algebraic_OutprojIdeal_OutprojRefIdeal := by
  intro m ρ m' ρ' _ hagree
  refine ⟨_, Cert.OutprojIdeal.Value.run_blocks (F := Ideal) m ρ, ?_⟩
  refine (θ_run Cert.OutprojRefIdeal.defs _ _).mono (fun _ h c => ⟨?_, (h c).2⟩) (Cert.OutprojRefIdeal.Value.run (F := Ideal) m' ρ')
  rw [(h c).1]
  obtain ⟨e0, e1, e2, e3, e4⟩ := hagree c
  exact (Cert.OutprojRefIdeal.Read.val_main_v27_eq ..).trans (Cert.Equation.outproj m m' c e0 e1 e2 e3 e4)

theorem quiescent_RetFwdRefIdeal : quiescent_RetFwdRefIdeal := fun m ρ _ =>
  (θ_run Cert.RetFwdRefIdeal.defs _ _).mono (fun r h => ⟨fun c => (h c).2, sem_eq_zero_of_no_sems (by decide) r.2⟩)
    (Cert.RetFwdRefIdeal.Value.run (F := Ideal) m ρ)

theorem algebraic_RetFwdIdeal_RetFwdRefIdeal : algebraic_RetFwdIdeal_RetFwdRefIdeal := by
  intro m ρ m' ρ' _ hagree
  refine ⟨_, Cert.RetFwdIdeal.Value.run_blocks (F := Ideal) m ρ, ?_⟩
  refine (θ_run Cert.RetFwdRefIdeal.defs _ _).mono (fun _ h c => ⟨?_, (h c).2⟩) (Cert.RetFwdRefIdeal.StepRun.run_iter (F := Ideal) m' ρ' (fun c => Cert.RetFwdRefIdeal.Reference.iter (m' ((c.tc : Thread Cert.RetFwdRefIdeal.nD Cert.RetFwdRefIdeal.τ).loc Cert.RetFwdRefIdeal.main_arg0)) (m' ((c.tc : Thread Cert.RetFwdRefIdeal.nD Cert.RetFwdRefIdeal.τ).loc Cert.RetFwdRefIdeal.main_arg1)) (m' ((c.tc : Thread Cert.RetFwdRefIdeal.nD Cert.RetFwdRefIdeal.τ).loc Cert.RetFwdRefIdeal.main_arg2)) (m' ((c.tc : Thread Cert.RetFwdRefIdeal.nD Cert.RetFwdRefIdeal.τ).loc Cert.RetFwdRefIdeal.main_arg3))) (fun _ => rfl) (fun _ _ => rfl))
  rw [(h c).1]
  obtain ⟨e0, e1, e2, e3⟩ := hagree c
  exact Cert.Equation.retFwd m m' c e0 e1 e2 e3

theorem quiescent_RetBwdRefIdeal : quiescent_RetBwdRefIdeal := fun m ρ _ =>
  (θ_run Cert.RetBwdRefIdeal.defs _ _).mono (fun r h => ⟨fun c => (h c).2, sem_eq_zero_of_no_sems (by decide) r.2⟩)
    (Cert.RetBwdRefIdeal.Value.run (F := Ideal) m ρ)

theorem algebraic_RetBwdIdeal_RetBwdRefIdeal : algebraic_RetBwdIdeal_RetBwdRefIdeal := by
  intro m ρ m' ρ' _ hagree
  refine ⟨_, Cert.RetBwdIdeal.Value.run_blocks (F := Ideal) m ρ, ?_⟩
  refine (θ_run Cert.RetBwdRefIdeal.defs _ _).mono (fun _ h c => ⟨?_, (h c).2⟩) (Cert.RetBwdRefIdeal.StepRun.run_iter (F := Ideal) m' ρ' (fun c => Cert.RetBwdRefIdeal.Reference.iter (m' ((c.tc : Thread Cert.RetBwdRefIdeal.nD Cert.RetBwdRefIdeal.τ).loc Cert.RetBwdRefIdeal.main_arg0)) (m' ((c.tc : Thread Cert.RetBwdRefIdeal.nD Cert.RetBwdRefIdeal.τ).loc Cert.RetBwdRefIdeal.main_arg1)) (m' ((c.tc : Thread Cert.RetBwdRefIdeal.nD Cert.RetBwdRefIdeal.τ).loc Cert.RetBwdRefIdeal.main_arg2)) (m' ((c.tc : Thread Cert.RetBwdRefIdeal.nD Cert.RetBwdRefIdeal.τ).loc Cert.RetBwdRefIdeal.main_arg3))) (fun _ => rfl) (fun _ _ => rfl))
  rw [(h c).1]
  obtain ⟨e0, e1, e2, e3, e4, e5⟩ := hagree c
  exact Cert.Equation.retBwd m m' c e0 e1 e2 e3 e4 e5

theorem quiescent_S5OutRefIdeal : quiescent_S5OutRefIdeal := fun m ρ _ =>
  (θ_run Cert.S5OutRefIdeal.defs _ _).mono (fun r h => ⟨fun c => (h c).2, sem_eq_zero_of_no_sems (by decide) r.2⟩)
    (Cert.S5OutRefIdeal.Value.run (F := Ideal) m ρ)

theorem algebraic_S5OutIdeal_S5OutRefIdeal : algebraic_S5OutIdeal_S5OutRefIdeal := by
  intro m ρ m' ρ' _ hagree
  refine ⟨_, Cert.S5OutIdeal.Value.run_blocks (F := Ideal) m ρ, ?_⟩
  refine (θ_run Cert.S5OutRefIdeal.defs _ _).mono (fun _ h c => ⟨?_, (h c).2⟩) (Cert.S5OutRefIdeal.Value.run (F := Ideal) m' ρ')
  rw [(h c).1]
  obtain ⟨e0, e1, e2, e3, e4, e5⟩ := hagree c
  exact (Cert.S5OutRefIdeal.Read.val_main_v29_eq ..).trans (Cert.Equation.s5Out m m' c e0 e1 e2 e3 e4 e5)

theorem quiescent_AdaRefIdeal : quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

theorem algebraic_AdaIdeal_AdaRefIdeal : algebraic_AdaIdeal_AdaRefIdeal := by
  intro m ρ m' ρ' _ hagree
  refine ⟨_, Cert.AdaIdeal.Value.run_blocks (F := Ideal) m ρ, ?_⟩
  refine (θ_run Cert.AdaRefIdeal.defs _ _).mono (fun _ h c => ⟨?_, (h c).2⟩) (Cert.AdaRefIdeal.Value.run (F := Ideal) m' ρ')
  rw [(h c).1]
  obtain ⟨e0, e1, e2⟩ := hagree c
  exact (Cert.AdaRefIdeal.Read.val_main_v5_eq ..).trans (Cert.Equation.ada m m' c e0 e1 e2)

theorem quiescent_HyLatRefIdeal : quiescent_HyLatRefIdeal := fun m ρ _ =>
  (θ_run Cert.HyLatRefIdeal.defs _ _).mono (fun r h => ⟨fun c => (h c).2, sem_eq_zero_of_no_sems (by decide) r.2⟩)
    (Cert.HyLatRefIdeal.Value.run (F := Ideal) m ρ)

theorem algebraic_HyLatIdeal_HyLatRefIdeal : algebraic_HyLatIdeal_HyLatRefIdeal := by
  intro m ρ m' ρ' _ hagree
  refine ⟨_, Cert.HyLatIdeal.Value.run_blocks (F := Ideal) m ρ, ?_⟩
  refine (θ_run Cert.HyLatRefIdeal.defs _ _).mono (fun _ h c => ⟨?_, (h c).2⟩) (Cert.HyLatRefIdeal.Value.run (F := Ideal) m' ρ')
  rw [(h c).1]
  obtain ⟨e0, e1, e2⟩ := hagree c
  exact (Cert.HyLatRefIdeal.Read.val_main_v32_eq ..).trans (Cert.Equation.hyLat m m' c e0 e1 e2)

theorem quiescent_HyCtxRefIdeal : quiescent_HyCtxRefIdeal := fun m ρ _ =>
  (θ_run Cert.HyCtxRefIdeal.defs _ _).mono (fun r h => ⟨fun c => (h c).2, sem_eq_zero_of_no_sems (by decide) r.2⟩)
    (Cert.HyCtxRefIdeal.Value.run (F := Ideal) m ρ)

theorem algebraic_HyCtxIdeal_HyCtxRefIdeal : algebraic_HyCtxIdeal_HyCtxRefIdeal := by
  intro m ρ m' ρ' _ hagree
  refine ⟨_, Cert.HyCtxIdeal.Value.run_blocks (F := Ideal) m ρ, ?_⟩
  refine (θ_run Cert.HyCtxRefIdeal.defs _ _).mono (fun _ h c => ⟨?_, (h c).2⟩) (Cert.HyCtxRefIdeal.Value.run (F := Ideal) m' ρ')
  rw [(h c).1]
  obtain ⟨e0, e1, e2⟩ := hagree c
  exact (Cert.HyCtxRefIdeal.Read.val_main_v32_eq ..).trans (Cert.Equation.hyCtx m m' c e0 e1 e2)

theorem claim : Cert.Claim := ⟨Cert.Ffn.Gen.facts,
  Cert.FfnIdeal.Gen.facts,
  Cert.FfnRefIdeal.Gen.facts,
  Cert.Inproj.Gen.facts,
  Cert.InprojIdeal.Gen.facts,
  Cert.InprojRefIdeal.Gen.facts,
  Cert.Merge.Gen.facts,
  Cert.MergeIdeal.Gen.facts,
  Cert.MergeRefIdeal.Gen.facts,
  Cert.Outproj.Gen.facts,
  Cert.OutprojIdeal.Gen.facts,
  Cert.OutprojRefIdeal.Gen.facts,
  Cert.RetFwd.Gen.facts,
  Cert.RetFwdIdeal.Gen.facts,
  Cert.RetFwdRefIdeal.Gen.facts,
  Cert.RetBwd.Gen.facts,
  Cert.RetBwdIdeal.Gen.facts,
  Cert.RetBwdRefIdeal.Gen.facts,
  Cert.S5Out.Gen.facts,
  Cert.S5OutIdeal.Gen.facts,
  Cert.S5OutRefIdeal.Gen.facts,
  Cert.Ada.Gen.facts,
  Cert.AdaIdeal.Gen.facts,
  Cert.AdaRefIdeal.Gen.facts,
  Cert.HyLat.Gen.facts,
  Cert.HyLatIdeal.Gen.facts,
  Cert.HyLatRefIdeal.Gen.facts,
  Cert.HyCtx.Gen.facts,
  Cert.HyCtxIdeal.Gen.facts,
  Cert.HyCtxRefIdeal.Gen.facts,
  fun m ρ _ => Cert.Ffn.Gen.frame m ρ,
  fun m ρ _ => Cert.FfnIdeal.Gen.frame m ρ,
  quiescent_FfnRefIdeal,
  fun m ρ _ => Cert.Inproj.Gen.frame m ρ,
  fun m ρ _ => Cert.InprojIdeal.Gen.frame m ρ,
  quiescent_InprojRefIdeal,
  fun m ρ _ => Cert.Merge.Gen.frame m ρ,
  fun m ρ _ => Cert.MergeIdeal.Gen.frame m ρ,
  quiescent_MergeRefIdeal,
  fun m ρ _ => Cert.Outproj.Gen.frame m ρ,
  fun m ρ _ => Cert.OutprojIdeal.Gen.frame m ρ,
  quiescent_OutprojRefIdeal,
  fun m ρ _ => Cert.RetFwd.Gen.frame m ρ,
  fun m ρ _ => Cert.RetFwdIdeal.Gen.frame m ρ,
  quiescent_RetFwdRefIdeal,
  fun m ρ _ => Cert.RetBwd.Gen.frame m ρ,
  fun m ρ _ => Cert.RetBwdIdeal.Gen.frame m ρ,
  quiescent_RetBwdRefIdeal,
  fun m ρ _ => Cert.S5Out.Gen.frame m ρ,
  fun m ρ _ => Cert.S5OutIdeal.Gen.frame m ρ,
  quiescent_S5OutRefIdeal,
  fun m ρ _ => Cert.Ada.Gen.frame m ρ,
  fun m ρ _ => Cert.AdaIdeal.Gen.frame m ρ,
  quiescent_AdaRefIdeal,
  fun m ρ _ => Cert.HyLat.Gen.frame m ρ,
  fun m ρ _ => Cert.HyLatIdeal.Gen.frame m ρ,
  quiescent_HyLatRefIdeal,
  fun m ρ _ => Cert.HyCtx.Gen.frame m ρ,
  fun m ρ _ => Cert.HyCtxIdeal.Gen.frame m ρ,
  quiescent_HyCtxRefIdeal,
  (trivial : preserves_Ffn_FfnIdeal),
  algebraic_FfnIdeal_FfnRefIdeal,
  (trivial : preserves_Inproj_InprojIdeal),
  algebraic_InprojIdeal_InprojRefIdeal,
  (trivial : preserves_Merge_MergeIdeal),
  algebraic_MergeIdeal_MergeRefIdeal,
  (trivial : preserves_Outproj_OutprojIdeal),
  algebraic_OutprojIdeal_OutprojRefIdeal,
  (trivial : preserves_RetFwd_RetFwdIdeal),
  algebraic_RetFwdIdeal_RetFwdRefIdeal,
  (trivial : preserves_RetBwd_RetBwdIdeal),
  algebraic_RetBwdIdeal_RetBwdRefIdeal,
  (trivial : preserves_S5Out_S5OutIdeal),
  algebraic_S5OutIdeal_S5OutRefIdeal,
  (trivial : preserves_Ada_AdaIdeal),
  algebraic_AdaIdeal_AdaRefIdeal,
  (trivial : preserves_HyLat_HyLatIdeal),
  algebraic_HyLatIdeal_HyLatRefIdeal,
  (trivial : preserves_HyCtx_HyCtxIdeal),
  algebraic_HyCtxIdeal_HyCtxRefIdeal⟩

end Cert.Proof

end
